-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)) (v4 : (c : Dev Cert.Kernel3Ideal.nD) → Buf (Elt Ideal) ((c.tc : Thread Cert.Kernel3Ideal.nD Cert.Kernel3Ideal.τ).loc Cert.Kernel3Ideal.main_v23_4)) (v5 : (c : Dev Cert.Kernel3Ideal.nD) → Buf (Elt Ideal) ((c.tc : Thread Cert.Kernel3Ideal.nD Cert.Kernel3Ideal.τ).loc Cert.Kernel3Ideal.main_v23_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_v23_4) = v4 c
          ∧ r.2.mem ((c.tc : Thread Cert.Kernel3Ideal.nD Cert.Kernel3Ideal.τ).loc Cert.Kernel3Ideal.main_v23_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v42) = v3 c
          ∧ r.2.mem ((c.tc : Thread Cert.Reference3Ideal.nD Cert.Reference3Ideal.τ).loc Cert.Reference3Ideal.main_v35) = v4 c
          ∧ r.2.mem ((c.tc : Thread Cert.Reference3Ideal.nD Cert.Reference3Ideal.τ).loc Cert.Reference3Ideal.main_v43) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S8x2048x16x64 : Shape := ⟨4, ![8, 2048, 16, 64]⟩
abbrev S8x2048x2x64 : Shape := ⟨4, ![8, 2048, 2, 64]⟩
abbrev S16 : Shape := ⟨1, ![16]⟩
abbrev S_ : Shape := ⟨0, ![]⟩
abbrev S8x2048x1024 : Shape := ⟨3, ![8, 2048, 1024]⟩
abbrev S8x1024x2048 : Shape := ⟨3, ![8, 1024, 2048]⟩
abbrev S8x2x2048x64 : Shape := ⟨4, ![8, 2, 2048, 64]⟩
abbrev S8x2048x128 : Shape := ⟨3, ![8, 2048, 128]⟩
abbrev S8x2048x256 : Shape := ⟨3, ![8, 2048, 256]⟩
abbrev S8x256x2048 : Shape := ⟨3, ![8, 256, 2048]⟩
abbrev S2x8 : Shape := ⟨2, ![2, 8]⟩
abbrev S2x8x128 : Shape := ⟨3, ![2, 8, 128]⟩
abbrev S2x1024 : Shape := ⟨2, ![2, 1024]⟩
abbrev S2x1x1024 : Shape := ⟨3, ![2, 1, 1024]⟩
abbrev S128 : Shape := ⟨1, ![128]⟩
abbrev S1x128x1 : Shape := ⟨3, ![1, 128, 1]⟩
abbrev S2x128x1024 : Shape := ⟨3, ![2, 128, 1024]⟩
abbrev S1x1024x128 : Shape := ⟨3, ![1, 1024, 128]⟩
abbrev S1x2x2048x64 : Shape := ⟨4, ![1, 2, 2048, 64]⟩
abbrev S1x256x2048 : Shape := ⟨3, ![1, 256, 2048]⟩
abbrev S1x1024 : Shape := ⟨2, ![1, 1024]⟩
abbrev S64x1024 : Shape := ⟨2, ![64, 1024]⟩
abbrev S1x64x128 : Shape := ⟨3, ![1, 64, 128]⟩
abbrev S64x128 : Shape := ⟨2, ![64, 128]⟩
abbrev S1 : Shape := ⟨1, ![1]⟩
abbrev S1x128 : Shape := ⟨2, ![1, 128]⟩
abbrev S1x1x128x64 : Shape := ⟨4, ![1, 1, 128, 64]⟩
abbrev S128x64 : Shape := ⟨2, ![128, 64]⟩
abbrev S128x1024 : Shape := ⟨2, ![128, 1024]⟩
abbrev S1x128x1024 : Shape := ⟨3, ![1, 128, 1024]⟩
abbrev S1024 : Shape := ⟨1, ![1024]⟩

abbrev nBuf : Space → Nat
  | .hbm => 41
  | .vmem => 12
  | .smem => 2
  | _ => 0

abbrev bufTy : (tb : Table) → Fin (tcTables nBuf tb) → BufTy
  | .hbm, ⟨0, _⟩ => ⟨S8x2048x16x64, .f32⟩
  | .hbm, ⟨1, _⟩ => ⟨S8x2048x2x64, .f32⟩
  | .hbm, ⟨2, _⟩ => ⟨S8x2048x2x64, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .bf16⟩
  | .hbm, ⟨23, _⟩ => ⟨S8x1024x2048, .bf16⟩
  | .hbm, ⟨24, _⟩ => ⟨S8x2048x2x64, .bf16⟩
  | .hbm, ⟨25, _⟩ => ⟨S8x2x2048x64, .bf16⟩
  | .hbm, ⟨26, _⟩ => ⟨S8x2048x128, .f32⟩
  | .hbm, ⟨27, _⟩ => ⟨S8x2048x128, .f32⟩
  | .hbm, ⟨28, _⟩ => ⟨S8x2048x256, .f32⟩
  | .hbm, ⟨29, _⟩ => ⟨S8x256x2048, .f32⟩
  | .hbm, ⟨30, _⟩ => ⟨S8x256x2048, .bf16⟩
  | .hbm, ⟨31, _⟩ => ⟨S2x8, .f32⟩
  | .hbm, ⟨32, _⟩ => ⟨S2x8x128, .f32⟩
  | .hbm, ⟨33, _⟩ => ⟨S2x1024, .f32⟩
  | .hbm, ⟨34, _⟩ => ⟨S2x1x1024, .f32⟩
  | .hbm, ⟨35, _⟩ => ⟨S128, .f32⟩
  | .hbm, ⟨36, _⟩ => ⟨S1x128x1, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S8x1024x2048, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x2x2048x64, .bf16⟩
  | .local _ .vmem, ⟨3, _⟩ => ⟨S1x2x2048x64, .bf16⟩
  | .local _ .vmem, ⟨4, _⟩ => ⟨S1x256x2048, .bf16⟩
  | .local _ .vmem, ⟨5, _⟩ => ⟨S1x256x2048, .bf16⟩
  | .local _ .vmem, ⟨6, _⟩ => ⟨S2x128x1024, .f32⟩
  | .local _ .vmem, ⟨7, _⟩ => ⟨S1x1024x128, .bf16⟩
  | .local _ .vmem, ⟨8, _⟩ => ⟨S1x1024x128, .bf16⟩
  | .local _ .vmem, ⟨9, _⟩ => ⟨S1x1024, .f32⟩
  | .local _ .vmem, ⟨10, _⟩ => ⟨S1x1024, .f32⟩
  | .local _ .vmem, ⟨11, _⟩ => ⟨S64x1024, .f32⟩
  | .local _ .smem, ⟨0, _⟩ => ⟨S16, .f32⟩
  | .local _ .smem, ⟨1, _⟩ => ⟨S16, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_34 : BitVec 32 := 0#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let v71 : BitVec 32 := Scalar.subi arg1 v7
  let v72 : BitVec 32 := Scalar.subi v71 c0_i32_34
  let c1_i32_35 : BitVec 32 := 1#32
  let v74 : BitVec 32 := Scalar.divsi v72 c1_i32_35
  let v75 : BitVec 32 := Scalar.muli v74 c1_i32_35
  let v76 : BitVec 32 := Scalar.addi c0_i32_34 v75
  let c1_i32_36 : BitVec 32 := 1#32
  ⟨c0_i32_34, v76, c1_i32_36⟩
def k0_mult1 (i : grid0.Coords) (k0_t1 : Fin (k0_t1_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let c1_i32_36 : BitVec 32 := 1#32
  let arg12 : BitVec 32 := Scf.iv c0_i32_34 c1_i32_36 k0_t1
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off1 (i : grid0.Coords) (k0_t1 : Fin (k0_t1_loop i).trips) : Fin 4 → Nat :=
  let c0_145 : Index := 0#32
  let c0_146 : Index := 0#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let c1_i32_36 : BitVec 32 := 1#32
  let arg12 : BitVec 32 := Scf.iv c0_i32_34 c1_i32_36 k0_t1
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v254 : BitVec 32 := v251
  let v255 : Index := Scalar.indexCast v254
  let c0_147 : Index := 0#32
  ![0, 0, v255.toNat, 0]
def k0_mult2 (i : grid0.Coords) (k0_t1 : Fin (k0_t1_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let c1_i32_36 : BitVec 32 := 1#32
  let arg12 : BitVec 32 := Scf.iv c0_i32_34 c1_i32_36 k0_t1
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off2 (i : grid0.Coords) (k0_t1 : Fin (k0_t1_loop i).trips) : Fin 3 → Nat :=
  let c0_164 : Index := 0#32
  let c128_165 : Index := 128#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let c1_i32_36 : BitVec 32 := 1#32
  let arg12 : BitVec 32 := Scf.iv c0_i32_34 c1_i32_36 k0_t1
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v293 : BitVec 32 := v251
  let v294 : Index := Scalar.indexCast v293
  ![0, 128, v294.toNat]
@[reducible] def k0_t2_loop (i : grid0.Coords) : Scf.Loop 32 :=
  let c0_i32_34 : BitVec 32 := 0#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let v71 : BitVec 32 := Scalar.subi arg1 v7
  let v72 : BitVec 32 := Scalar.subi v71 c0_i32_34
  let c1_i32_35 : BitVec 32 := 1#32
  let v74 : BitVec 32 := Scalar.divsi v72 c1_i32_35
  let v75 : BitVec 32 := Scalar.muli v74 c1_i32_35
  let v76 : BitVec 32 := Scalar.addi c0_i32_34 v75
  let v73 : BitVec 32 := Scalar.addi c0_i32_34 v72
  let c1_i32_37 : BitVec 32 := 1#32
  ⟨v76, v73, c1_i32_37⟩
def k0_mult3 (i : grid0.Coords) (k0_t2 : Fin (k0_t2_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let v71 : BitVec 32 := Scalar.subi arg1 v7
  let v72 : BitVec 32 := Scalar.subi v71 c0_i32_34
  let c1_i32_35 : BitVec 32 := 1#32
  let v74 : BitVec 32 := Scalar.divsi v72 c1_i32_35
  let v75 : BitVec 32 := Scalar.muli v74 c1_i32_35
  let v76 : BitVec 32 := Scalar.addi c0_i32_34 v75
  let c1_i32_37 : BitVec 32 := 1#32
  let arg12 : BitVec 32 := Scf.iv v76 c1_i32_37 k0_t2
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off3 (i : grid0.Coords) (k0_t2 : Fin (k0_t2_loop i).trips) : Fin 4 → Nat :=
  let c0_145 : Index := 0#32
  let c0_146 : Index := 0#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let v71 : BitVec 32 := Scalar.subi arg1 v7
  let v72 : BitVec 32 := Scalar.subi v71 c0_i32_34
  let c1_i32_35 : BitVec 32 := 1#32
  let v74 : BitVec 32 := Scalar.divsi v72 c1_i32_35
  let v75 : BitVec 32 := Scalar.muli v74 c1_i32_35
  let v76 : BitVec 32 := Scalar.addi c0_i32_34 v75
  let c1_i32_37 : BitVec 32 := 1#32
  let arg12 : BitVec 32 := Scf.iv v76 c1_i32_37 k0_t2
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v254 : BitVec 32 := v251
  let v255 : Index := Scalar.indexCast v254
  let c0_147 : Index := 0#32
  ![0, 0, v255.toNat, 0]
def k0_mult4 (i : grid0.Coords) (k0_t2 : Fin (k0_t2_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let v71 : BitVec 32 := Scalar.subi arg1 v7
  let v72 : BitVec 32 := Scalar.subi v71 c0_i32_34
  let c1_i32_35 : BitVec 32 := 1#32
  let v74 : BitVec 32 := Scalar.divsi v72 c1_i32_35
  let v75 : BitVec 32 := Scalar.muli v74 c1_i32_35
  let v76 : BitVec 32 := Scalar.addi c0_i32_34 v75
  let c1_i32_37 : BitVec 32 := 1#32
  let arg12 : BitVec 32 := Scf.iv v76 c1_i32_37 k0_t2
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off4 (i : grid0.Coords) (k0_t2 : Fin (k0_t2_loop i).trips) : Fin 3 → Nat :=
  let c0_164 : Index := 0#32
  let c128_165 : Index := 128#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_34 : BitVec 32 := 0#32
  let v71 : BitVec 32 := Scalar.subi arg1 v7
  let v72 : BitVec 32 := Scalar.subi v71 c0_i32_34
  let c1_i32_35 : BitVec 32 := 1#32
  let v74 : BitVec 32 := Scalar.divsi v72 c1_i32_35
  let v75 : BitVec 32 := Scalar.muli v74 c1_i32_35
  let v76 : BitVec 32 := Scalar.addi c0_i32_34 v75
  let c1_i32_37 : BitVec 32 := 1#32
  let arg12 : BitVec 32 := Scf.iv v76 c1_i32_37 k0_t2
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v293 : BitVec 32 := v251
  let v294 : Index := Scalar.indexCast v293
  ![0, 128, v294.toNat]
@[reducible] def k0_t3_loop (i : grid0.Coords) : Scf.Loop 32 :=
  let c0_i32_39 : BitVec 32 := 0#32
  let arg1 : BitVec 32 := BitVec.ofNat 32 (i 1).val
  let c1_i32_0 : BitVec 32 := 1#32
  let v8 : BitVec 32 := Scalar.addi arg1 c1_i32_0
  let v77 : BitVec 32 := Scalar.subi v8 arg1
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_41 : BitVec 32 := 1#32
  ⟨c0_i32_39, v82, c1_i32_41⟩
def k0_mult5 (i : grid0.Coords) (k0_t3 : Fin (k0_t3_loop i).trips) : BitVec 32 :=
  let arg1 : BitVec 32 := BitVec.ofNat 32 (i 1).val
  let c0_i32_39 : BitVec 32 := 0#32
  let c1_i32_41 : BitVec 32 := 1#32
  let arg12 : BitVec 32 := Scf.iv c0_i32_39 c1_i32_41 k0_t3
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off5 (i : grid0.Coords) (k0_t3 : Fin (k0_t3_loop i).trips) : Fin 4 → Nat :=
  let c0_145 : Index := 0#32
  let c0_146 : Index := 0#32
  let arg1 : BitVec 32 := BitVec.ofNat 32 (i 1).val
  let c0_i32_39 : BitVec 32 := 0#32
  let c1_i32_41 : BitVec 32 := 1#32
  let arg12 : BitVec 32 := Scf.iv c0_i32_39 c1_i32_41 k0_t3
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v254 : BitVec 32 := v251
  let v255 : Index := Scalar.indexCast v254
  let c0_147 : Index := 0#32
  ![0, 0, v255.toNat, 0]
def k0_mult6 (i : grid0.Coords) (k0_t3 : Fin (k0_t3_loop i).trips) : BitVec 32 :=
  let arg1 : BitVec 32 := BitVec.ofNat 32 (i 1).val
  let c0_i32_39 : BitVec 32 := 0#32
  let c1_i32_41 : BitVec 32 := 1#32
  let arg12 : BitVec 32 := Scf.iv c0_i32_39 c1_i32_41 k0_t3
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off6 (i : grid0.Coords) (k0_t3 : Fin (k0_t3_loop i).trips) : Fin 3 → Nat :=
  let c0_164 : Index := 0#32
  let c128_165 : Index := 128#32
  let arg1 : BitVec 32 := BitVec.ofNat 32 (i 1).val
  let c0_i32_39 : BitVec 32 := 0#32
  let c1_i32_41 : BitVec 32 := 1#32
  let arg12 : BitVec 32 := Scf.iv c0_i32_39 c1_i32_41 k0_t3
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v293 : BitVec 32 := v251
  let v294 : Index := Scalar.indexCast v293
  ![0, 128, v294.toNat]
@[reducible] def k0_t4_loop (i : grid0.Coords) : Scf.Loop 32 :=
  let c0_i32_39 : BitVec 32 := 0#32
  let arg1 : BitVec 32 := BitVec.ofNat 32 (i 1).val
  let c1_i32_0 : BitVec 32 := 1#32
  let v8 : BitVec 32 := Scalar.addi arg1 c1_i32_0
  let v77 : BitVec 32 := Scalar.subi v8 arg1
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let v79 : BitVec 32 := Scalar.addi c0_i32_39 v78
  let c1_i32_42 : BitVec 32 := 1#32
  ⟨v82, v79, c1_i32_42⟩
def k0_mult7 (i : grid0.Coords) (k0_t4 : Fin (k0_t4_loop i).trips) : BitVec 32 :=
  let arg1 : BitVec 32 := BitVec.ofNat 32 (i 1).val
  let c0_i32_39 : BitVec 32 := 0#32
  let c1_i32_0 : BitVec 32 := 1#32
  let v8 : BitVec 32 := Scalar.addi arg1 c1_i32_0
  let v77 : BitVec 32 := Scalar.subi v8 arg1
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg12 : BitVec 32 := Scf.iv v82 c1_i32_42 k0_t4
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off7 (i : grid0.Coords) (k0_t4 : Fin (k0_t4_loop i).trips) : Fin 4 → Nat :=
  let c0_145 : Index := 0#32
  let c0_146 : Index := 0#32
  let arg1 : BitVec 32 := BitVec.ofNat 32 (i 1).val
  let c0_i32_39 : BitVec 32 := 0#32
  let c1_i32_0 : BitVec 32 := 1#32
  let v8 : BitVec 32 := Scalar.addi arg1 c1_i32_0
  let v77 : BitVec 32 := Scalar.subi v8 arg1
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg12 : BitVec 32 := Scf.iv v82 c1_i32_42 k0_t4
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v254 : BitVec 32 := v251
  let v255 : Index := Scalar.indexCast v254
  let c0_147 : Index := 0#32
  ![0, 0, v255.toNat, 0]
def k0_mult8 (i : grid0.Coords) (k0_t4 : Fin (k0_t4_loop i).trips) : BitVec 32 :=
  let arg1 : BitVec 32 := BitVec.ofNat 32 (i 1).val
  let c0_i32_39 : BitVec 32 := 0#32
  let c1_i32_0 : BitVec 32 := 1#32
  let v8 : BitVec 32 := Scalar.addi arg1 c1_i32_0
  let v77 : BitVec 32 := Scalar.subi v8 arg1
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg12 : BitVec 32 := Scf.iv v82 c1_i32_42 k0_t4
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off8 (i : grid0.Coords) (k0_t4 : Fin (k0_t4_loop i).trips) : Fin 3 → Nat :=
  let c0_164 : Index := 0#32
  let c128_165 : Index := 128#32
  let arg1 : BitVec 32 := BitVec.ofNat 32 (i 1).val
  let c0_i32_39 : BitVec 32 := 0#32
  let c1_i32_0 : BitVec 32 := 1#32
  let v8 : BitVec 32 := Scalar.addi arg1 c1_i32_0
  let v77 : BitVec 32 := Scalar.subi v8 arg1
  let v78 : BitVec 32 := Scalar.subi v77 c0_i32_39
  let c1_i32_40 : BitVec 32 := 1#32
  let v80 : BitVec 32 := Scalar.divsi v78 c1_i32_40
  let v81 : BitVec 32 := Scalar.muli v80 c1_i32_40
  let v82 : BitVec 32 := Scalar.addi c0_i32_39 v81
  let c1_i32_42 : BitVec 32 := 1#32
  let arg12 : BitVec 32 := Scf.iv v82 c1_i32_42 k0_t4
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v293 : BitVec 32 := v251
  let v294 : Index := Scalar.indexCast v293
  ![0, 128, v294.toNat]
@[reducible] def k0_t5_loop (i : grid0.Coords) : Scf.Loop 32 :=
  let c0_i32_105 : BitVec 32 := 0#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let v191 : BitVec 32 := Scalar.subi arg1 v7
  let v192 : BitVec 32 := Scalar.subi v191 c0_i32_105
  let c1_i32_106 : BitVec 32 := 1#32
  let v194 : BitVec 32 := Scalar.divsi v192 c1_i32_106
  let v195 : BitVec 32 := Scalar.muli v194 c1_i32_106
  let v196 : BitVec 32 := Scalar.addi c0_i32_105 v195
  let c1_i32_107 : BitVec 32 := 1#32
  ⟨c0_i32_105, v196, c1_i32_107⟩
def k0_mult9 (i : grid0.Coords) (k0_t5 : Fin (k0_t5_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let c1_i32_107 : BitVec 32 := 1#32
  let arg12 : BitVec 32 := Scf.iv c0_i32_105 c1_i32_107 k0_t5
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off9 (i : grid0.Coords) (k0_t5 : Fin (k0_t5_loop i).trips) : Fin 4 → Nat :=
  let c0_145 : Index := 0#32
  let c1_146 : Index := 1#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let c1_i32_107 : BitVec 32 := 1#32
  let arg12 : BitVec 32 := Scf.iv c0_i32_105 c1_i32_107 k0_t5
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v254 : BitVec 32 := v251
  let v255 : Index := Scalar.indexCast v254
  let c0_147 : Index := 0#32
  ![0, 1, v255.toNat, 0]
def k0_mult10 (i : grid0.Coords) (k0_t5 : Fin (k0_t5_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let c1_i32_107 : BitVec 32 := 1#32
  let arg12 : BitVec 32 := Scf.iv c0_i32_105 c1_i32_107 k0_t5
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off10 (i : grid0.Coords) (k0_t5 : Fin (k0_t5_loop i).trips) : Fin 3 → Nat :=
  let c0_164 : Index := 0#32
  let c192_165 : Index := 192#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let c1_i32_107 : BitVec 32 := 1#32
  let arg12 : BitVec 32 := Scf.iv c0_i32_105 c1_i32_107 k0_t5
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v293 : BitVec 32 := v251
  let v294 : Index := Scalar.indexCast v293
  ![0, 192, v294.toNat]
@[reducible] def k0_t6_loop (i : grid0.Coords) : Scf.Loop 32 :=
  let c0_i32_105 : BitVec 32 := 0#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let v191 : BitVec 32 := Scalar.subi arg1 v7
  let v192 : BitVec 32 := Scalar.subi v191 c0_i32_105
  let c1_i32_106 : BitVec 32 := 1#32
  let v194 : BitVec 32 := Scalar.divsi v192 c1_i32_106
  let v195 : BitVec 32 := Scalar.muli v194 c1_i32_106
  let v196 : BitVec 32 := Scalar.addi c0_i32_105 v195
  let v193 : BitVec 32 := Scalar.addi c0_i32_105 v192
  let c1_i32_108 : BitVec 32 := 1#32
  ⟨v196, v193, c1_i32_108⟩
def k0_mult11 (i : grid0.Coords) (k0_t6 : Fin (k0_t6_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let v191 : BitVec 32 := Scalar.subi arg1 v7
  let v192 : BitVec 32 := Scalar.subi v191 c0_i32_105
  let c1_i32_106 : BitVec 32 := 1#32
  let v194 : BitVec 32 := Scalar.divsi v192 c1_i32_106
  let v195 : BitVec 32 := Scalar.muli v194 c1_i32_106
  let v196 : BitVec 32 := Scalar.addi c0_i32_105 v195
  let c1_i32_108 : BitVec 32 := 1#32
  let arg12 : BitVec 32 := Scf.iv v196 c1_i32_108 k0_t6
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off11 (i : grid0.Coords) (k0_t6 : Fin (k0_t6_loop i).trips) : Fin 4 → Nat :=
  let c0_145 : Index := 0#32
  let c1_146 : Index := 1#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let v191 : BitVec 32 := Scalar.subi arg1 v7
  let v192 : BitVec 32 := Scalar.subi v191 c0_i32_105
  let c1_i32_106 : BitVec 32 := 1#32
  let v194 : BitVec 32 := Scalar.divsi v192 c1_i32_106
  let v195 : BitVec 32 := Scalar.muli v194 c1_i32_106
  let v196 : BitVec 32 := Scalar.addi c0_i32_105 v195
  let c1_i32_108 : BitVec 32 := 1#32
  let arg12 : BitVec 32 := Scf.iv v196 c1_i32_108 k0_t6
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v254 : BitVec 32 := v251
  let v255 : Index := Scalar.indexCast v254
  let c0_147 : Index := 0#32
  ![0, 1, v255.toNat, 0]
def k0_mult12 (i : grid0.Coords) (k0_t6 : Fin (k0_t6_loop i).trips) : BitVec 32 :=
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let v191 : BitVec 32 := Scalar.subi arg1 v7
  let v192 : BitVec 32 := Scalar.subi v191 c0_i32_105
  let c1_i32_106 : BitVec 32 := 1#32
  let v194 : BitVec 32 := Scalar.divsi v192 c1_i32_106
  let v195 : BitVec 32 := Scalar.muli v194 c1_i32_106
  let v196 : BitVec 32 := Scalar.addi c0_i32_105 v195
  let c1_i32_108 : BitVec 32 := 1#32
  let arg12 : BitVec 32 := Scf.iv v196 c1_i32_108 k0_t6
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  v251
def k0_off12 (i : grid0.Coords) (k0_t6 : Fin (k0_t6_loop i).trips) : Fin 3 → Nat :=
  let c0_164 : Index := 0#32
  let c192_165 : Index := 192#32
  let arg1 : BitVec 32 := BitVec.ofNat 32 (i 1).val
  let c1_i32 : BitVec 32 := 1#32
  let v6 : BitVec 32 := Scalar.subi arg1 c1_i32
  let c0_i32 : BitVec 32 := 0#32
  let v7 : BitVec 32 := Scalar.maxsi v6 c0_i32
  let c0_i32_105 : BitVec 32 := 0#32
  let v191 : BitVec 32 := Scalar.subi arg1 v7
  let v192 : BitVec 32 := Scalar.subi v191 c0_i32_105
  let c1_i32_106 : BitVec 32 := 1#32
  let v194 : BitVec 32 := Scalar.divsi v192 c1_i32_106
  let v195 : BitVec 32 := Scalar.muli v194 c1_i32_106
  let v196 : BitVec 32 := Scalar.addi c0_i32_105 v195
  let c1_i32_108 : BitVec 32 := 1#32
  let arg12 : BitVec 32 := Scf.iv v196 c1_i32_108 k0_t6
  let c1_i32_143 : BitVec 32 := 1#32
  let v249 : BitVec 32 := Scalar.muli arg12 c1_i32_143
  let v250 : BitVec 32 := Scalar.addi v7 v249
  let c128_i32_144 : BitVec 32 := 128#32
  let v251 : BitVec 32 := Scalar.muli v250 c128_i32_144
  let v293 : BitVec 32 := v251
  let v294 : Index := Scalar.indexCast v293
  ![0, 192, v294.toNat]
@[reducible] def k0_t7_loop (i : grid0.Coords) : Scf.Loop 32 :=
  let c0_i32_110 : BitVec 32 := 0#32
  let arg1 : BitVec 32 := BitVec.ofNat 32 (i 1).val
  let c1_i32_0 : BitVec 32 := 1#32
  let v8 : BitVec 32 := Scalar.addi arg1 c1_i32_0
  let v197 : BitVec 32 := Scalar.subi v8 arg1
  let v198 : BitVec 32 := Scalar.subi v197 c0_i32_110
  let c1_i32_111 : BitVec 32 := 1#32
  let v200 : BitVec 32 := Scalar.divsi v198 c1_i32_111
  let v201 : BitVec 32 := Scalar.muli v200 c1_i32_111
  let v202 : BitVec 32 := Scalar.addi c0_i32_110 v201
  let c1_i32_112 : BitVec 32 := 1#32
  ⟨c0_i32_110, v202, c1_i32_112⟩
def k0_mult13 (i : grid0.Coords) (k0_t7 : Fin (k0_t7_loop i).trips) : BitVec 32 :=
  let arg1 : BitVec 32 := BitVec.ofNat 32 (i 1).val
  let c0_i32_110 : BitVec 32 := 0#32
  let c1_i32_112 : BitVec 32 := 1#32
  let arg12 : BitVec 32 := Scf.iv c0_i32_110 c1_i32_112 k0_t7
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off13 (i : grid0.Coords) (k0_t7 : Fin (k0_t7_loop i).trips) : Fin 4 → Nat :=
  let c0_145 : Index := 0#32
  let c1_146 : Index := 1#32
  let arg1 : BitVec 32 := BitVec.ofNat 32 (i 1).val
  let c0_i32_110 : BitVec 32 := 0#32
  let c1_i32_112 : BitVec 32 := 1#32
  let arg12 : BitVec 32 := Scf.iv c0_i32_110 c1_i32_112 k0_t7
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v254 : BitVec 32 := v251
  let v255 : Index := Scalar.indexCast v254
  let c0_147 : Index := 0#32
  ![0, 1, v255.toNat, 0]
def k0_mult14 (i : grid0.Coords) (k0_t7 : Fin (k0_t7_loop i).trips) : BitVec 32 :=
  let arg1 : BitVec 32 := BitVec.ofNat 32 (i 1).val
  let c0_i32_110 : BitVec 32 := 0#32
  let c1_i32_112 : BitVec 32 := 1#32
  let arg12 : BitVec 32 := Scf.iv c0_i32_110 c1_i32_112 k0_t7
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off14 (i : grid0.Coords) (k0_t7 : Fin (k0_t7_loop i).trips) : Fin 3 → Nat :=
  let c0_164 : Index := 0#32
  let c192_165 : Index := 192#32
  let arg1 : BitVec 32 := BitVec.ofNat 32 (i 1).val
  let c0_i32_110 : BitVec 32 := 0#32
  let c1_i32_112 : BitVec 32 := 1#32
  let arg12 : BitVec 32 := Scf.iv c0_i32_110 c1_i32_112 k0_t7
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v293 : BitVec 32 := v251
  let v294 : Index := Scalar.indexCast v293
  ![0, 192, v294.toNat]
@[reducible] def k0_t8_loop (i : grid0.Coords) : Scf.Loop 32 :=
  let c0_i32_110 : BitVec 32 := 0#32
  let arg1 : BitVec 32 := BitVec.ofNat 32 (i 1).val
  let c1_i32_0 : BitVec 32 := 1#32
  let v8 : BitVec 32 := Scalar.addi arg1 c1_i32_0
  let v197 : BitVec 32 := Scalar.subi v8 arg1
  let v198 : BitVec 32 := Scalar.subi v197 c0_i32_110
  let c1_i32_111 : BitVec 32 := 1#32
  let v200 : BitVec 32 := Scalar.divsi v198 c1_i32_111
  let v201 : BitVec 32 := Scalar.muli v200 c1_i32_111
  let v202 : BitVec 32 := Scalar.addi c0_i32_110 v201
  let v199 : BitVec 32 := Scalar.addi c0_i32_110 v198
  let c1_i32_113 : BitVec 32 := 1#32
  ⟨v202, v199, c1_i32_113⟩
def k0_mult15 (i : grid0.Coords) (k0_t8 : Fin (k0_t8_loop i).trips) : BitVec 32 :=
  let arg1 : BitVec 32 := BitVec.ofNat 32 (i 1).val
  let c0_i32_110 : BitVec 32 := 0#32
  let c1_i32_0 : BitVec 32 := 1#32
  let v8 : BitVec 32 := Scalar.addi arg1 c1_i32_0
  let v197 : BitVec 32 := Scalar.subi v8 arg1
  let v198 : BitVec 32 := Scalar.subi v197 c0_i32_110
  let c1_i32_111 : BitVec 32 := 1#32
  let v200 : BitVec 32 := Scalar.divsi v198 c1_i32_111
  let v201 : BitVec 32 := Scalar.muli v200 c1_i32_111
  let v202 : BitVec 32 := Scalar.addi c0_i32_110 v201
  let c1_i32_113 : BitVec 32 := 1#32
  let arg12 : BitVec 32 := Scf.iv v202 c1_i32_113 k0_t8
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off15 (i : grid0.Coords) (k0_t8 : Fin (k0_t8_loop i).trips) : Fin 4 → Nat :=
  let c0_145 : Index := 0#32
  let c1_146 : Index := 1#32
  let arg1 : BitVec 32 := BitVec.ofNat 32 (i 1).val
  let c0_i32_110 : BitVec 32 := 0#32
  let c1_i32_0 : BitVec 32 := 1#32
  let v8 : BitVec 32 := Scalar.addi arg1 c1_i32_0
  let v197 : BitVec 32 := Scalar.subi v8 arg1
  let v198 : BitVec 32 := Scalar.subi v197 c0_i32_110
  let c1_i32_111 : BitVec 32 := 1#32
  let v200 : BitVec 32 := Scalar.divsi v198 c1_i32_111
  let v201 : BitVec 32 := Scalar.muli v200 c1_i32_111
  let v202 : BitVec 32 := Scalar.addi c0_i32_110 v201
  let c1_i32_113 : BitVec 32 := 1#32
  let arg12 : BitVec 32 := Scf.iv v202 c1_i32_113 k0_t8
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v254 : BitVec 32 := v251
  let v255 : Index := Scalar.indexCast v254
  let c0_147 : Index := 0#32
  ![0, 1, v255.toNat, 0]
def k0_mult16 (i : grid0.Coords) (k0_t8 : Fin (k0_t8_loop i).trips) : BitVec 32 :=
  let arg1 : BitVec 32 := BitVec.ofNat 32 (i 1).val
  let c0_i32_110 : BitVec 32 := 0#32
  let c1_i32_0 : BitVec 32 := 1#32
  let v8 : BitVec 32 := Scalar.addi arg1 c1_i32_0
  let v197 : BitVec 32 := Scalar.subi v8 arg1
  let v198 : BitVec 32 := Scalar.subi v197 c0_i32_110
  let c1_i32_111 : BitVec 32 := 1#32
  let v200 : BitVec 32 := Scalar.divsi v198 c1_i32_111
  let v201 : BitVec 32 := Scalar.muli v200 c1_i32_111
  let v202 : BitVec 32 := Scalar.addi c0_i32_110 v201
  let c1_i32_113 : BitVec 32 := 1#32
  let arg12 : BitVec 32 := Scf.iv v202 c1_i32_113 k0_t8
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  v251
def k0_off16 (i : grid0.Coords) (k0_t8 : Fin (k0_t8_loop i).trips) : Fin 3 → Nat :=
  let c0_164 : Index := 0#32
  let c192_165 : Index := 192#32
  let arg1 : BitVec 32 := BitVec.ofNat 32 (i 1).val
  let c0_i32_110 : BitVec 32 := 0#32
  let c1_i32_0 : BitVec 32 := 1#32
  let v8 : BitVec 32 := Scalar.addi arg1 c1_i32_0
  let v197 : BitVec 32 := Scalar.subi v8 arg1
  let v198 : BitVec 32 := Scalar.subi v197 c0_i32_110
  let c1_i32_111 : BitVec 32 := 1#32
  let v200 : BitVec 32 := Scalar.divsi v198 c1_i32_111
  let v201 : BitVec 32 := Scalar.muli v200 c1_i32_111
  let v202 : BitVec 32 := Scalar.addi c0_i32_110 v201
  let c1_i32_113 : BitVec 32 := 1#32
  let arg12 : BitVec 32 := Scf.iv v202 c1_i32_113 k0_t8
  let c1_i32_143 : BitVec 32 := 1#32
  let v249 : BitVec 32 := Scalar.muli arg12 c1_i32_143
  let v250 : BitVec 32 := Scalar.addi arg1 v249
  let c128_i32_144 : BitVec 32 := 128#32
  let v251 : BitVec 32 := Scalar.muli v250 c128_i32_144
  let v293 : BitVec 32 := v251
  let v294 : Index := Scalar.indexCast v293
  ![0, 192, v294.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x16x64 : Shape := ⟨4, ![8, 2048, 16, 64]⟩
abbrev S8x2048x2x64 : Shape := ⟨4, ![8, 2048, 2, 64]⟩
abbrev S16 : Shape := ⟨1, ![16]⟩
abbrev S_ : Shape := ⟨0, ![]⟩
abbrev S2048 : Shape := ⟨1, ![2048]⟩
abbrev S8x2048x2x8x64 : Shape := ⟨5, ![8, 2048, 2, 8, 64]⟩
abbrev S8x2x2048x2048x8 : Shape := ⟨5, ![8, 2, 2048, 2048, 8]⟩
abbrev S8x2x8x2048x2048 : Shape := ⟨5, ![8, 2, 8, 2048, 2048]⟩
abbrev S2048x1 : Shape := ⟨2, ![2048, 1]⟩
abbrev S1x2048 : Shape := ⟨2, ![1, 2048]⟩
abbrev S2048x2048 : Shape := ⟨2, ![2048, 2048]⟩
abbrev S2x8 : Shape := ⟨2, ![2, 8]⟩
abbrev S2x8x1x1 : Shape := ⟨4, ![2, 8, 1, 1]⟩
abbrev S1x1x2048x2048 : Shape := ⟨4, ![1, 1, 2048, 2048]⟩
abbrev S2x8x2048x2048 : Shape := ⟨4, ![2, 8, 2048, 2048]⟩
abbrev S1x2x8x2048x2048 : Shape := ⟨5, ![1, 2, 8, 2048, 2048]⟩
abbrev S8x2x8x2048 : Shape := ⟨4, ![8, 2, 8, 2048]⟩
abbrev S8x2x8x2048x1 : Shape := ⟨5, ![8, 2, 8, 2048, 1]⟩
abbrev S1x2x8x1x1 : Shape := ⟨5, ![1, 2, 8, 1, 1]⟩
abbrev S8x2x64x8x2048 : Shape := ⟨5, ![8, 2, 64, 8, 2048]⟩
abbrev S8x2048x1024 : Shape := ⟨3, ![8, 2048, 1024]⟩
abbrev S8x1024x2048 : Shape := ⟨3, ![8, 1024, 2048]⟩

abbrev nBuf : Space → Nat
  | .hbm => 89
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x2x64, .f32⟩
  | .hbm, ⟨2, _⟩ => ⟨S8x2048x2x64, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S2048, .i32⟩
  | .hbm, ⟨19, _⟩ => ⟨S8x2048x2x8x64, .f32⟩
  | .hbm, ⟨20, _⟩ => ⟨S8x2x2048x2048x8, .f32⟩
  | .hbm, ⟨21, _⟩ => ⟨S8x2x8x2048x2048, .f32⟩
  | .hbm, ⟨22, _⟩ => ⟨S_, .f32⟩
  | .hbm, ⟨23, _⟩ => ⟨S8x2x8x2048x2048, .f32⟩
  | .hbm, ⟨24, _⟩ => ⟨S8x2x8x2048x2048, .f32⟩
  | .hbm, ⟨25, _⟩ => ⟨S2048x1, .i32⟩
  | .hbm, ⟨26, _⟩ => ⟨S1x2048, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i1⟩
  | .hbm, ⟨33, _⟩ => ⟨S_, .i32⟩
  | .hbm, ⟨34, _⟩ => ⟨S2048x2048, .i32⟩
  | .hbm, ⟨35, _⟩ => ⟨S2048x2048, .i1⟩
  | .hbm, ⟨36, _⟩ => ⟨S2048x2048, .i1⟩
  | .hbm, ⟨37, _⟩ => ⟨S2x8, .f32⟩
  | .hbm, ⟨38, _⟩ => ⟨S2x8x1x1, .f32⟩
  | .hbm, ⟨39, _⟩ => ⟨S2048x2048, .f32⟩
  | .hbm, ⟨40, _⟩ => ⟨S1x1x2048x2048, .f32⟩
  | .hbm, ⟨41, _⟩ => ⟨S2x8x2048x2048, .f32⟩
  | .hbm, ⟨42, _⟩ => ⟨S2x8x2048x2048, .f32⟩
  | .hbm, ⟨43, _⟩ => ⟨S2x8x2048x2048, .f32⟩
  | .hbm, ⟨44, _⟩ => ⟨S1x2x8x2048x2048, .f32⟩
  | .hbm, ⟨45, _⟩ => ⟨S8x2x8x2048x2048, .f32⟩
  | .hbm, ⟨46, _⟩ => ⟨S8x2x8x2048x2048, .f32⟩
  | .hbm, ⟨47, _⟩ => ⟨S2x8, .f32⟩
  | .hbm, ⟨48, _⟩ => ⟨S2x8x1x1, .f32⟩
  | .hbm, ⟨49, _⟩ => ⟨S_, .f32⟩
  | .hbm, ⟨50, _⟩ => ⟨S_, .f32⟩
  | .hbm, ⟨51, _⟩ => ⟨S8x2x8x2048x2048, .i1⟩
  | .hbm, ⟨52, _⟩ => ⟨S8x2x8x2048x2048, .f32⟩
  | .hbm, ⟨53, _⟩ => ⟨S8x2x8x2048x2048, .f32⟩
  | .hbm, ⟨54, _⟩ => ⟨S_, .f32⟩
  | .hbm, ⟨55, _⟩ => ⟨S8x2x8x2048, .f32⟩
  | .hbm, ⟨56, _⟩ => ⟨S8x2x8x2048x1, .f32⟩
  | .hbm, ⟨57, _⟩ => ⟨S1x2x8x1x1, .f32⟩
  | .hbm, ⟨58, _⟩ => ⟨S8x2x8x2048x1, .f32⟩
  | .hbm, ⟨59, _⟩ => ⟨S8x2x8x2048x1, .f32⟩
  | .hbm, ⟨60, _⟩ => ⟨S8x2x8x2048x1, .f32⟩
  | .hbm, ⟨61, _⟩ => ⟨S_, .f32⟩
  | .hbm, ⟨62, _⟩ => ⟨S8x2x8x2048x1, .f32⟩
  | .hbm, ⟨63, _⟩ => ⟨S8x2x8x2048x1, .i1⟩
  | .hbm, ⟨64, _⟩ => ⟨S_, .f32⟩
  | .hbm, ⟨65, _⟩ => ⟨S_, .f32⟩
  | .hbm, ⟨66, _⟩ => ⟨S8x2x8x2048x1, .f32⟩
  | .hbm, ⟨67, _⟩ => ⟨S8x2x8x2048x1, .f32⟩
  | .hbm, ⟨68, _⟩ => ⟨S8x2x8x2048x2048, .f32⟩
  | .hbm, ⟨69, _⟩ => ⟨S8x2x8x2048x2048, .f32⟩
  | .hbm, ⟨70, _⟩ => ⟨S8x2x8x2048x2048, .f32⟩
  | .hbm, ⟨71, _⟩ => ⟨S_, .f32⟩
  | .hbm, ⟨72, _⟩ => ⟨S8x2x8x2048, .f32⟩
  | .hbm, ⟨73, _⟩ => ⟨S8x2x8x2048x1, .f32⟩
  | .hbm, ⟨74, _⟩ => ⟨S1x2x8x1x1, .f32⟩
  | .hbm, ⟨75, _⟩ => ⟨S8x2x8x2048x1, .f32⟩
  | .hbm, ⟨76, _⟩ => ⟨S8x2x8x2048x1, .f32⟩
  | .hbm, ⟨77, _⟩ => ⟨S8x2x8x2048x1, .f32⟩
  | .hbm, ⟨78, _⟩ => ⟨S8x2x8x2048x1, .f32⟩
  | .hbm, ⟨79, _⟩ => ⟨S_, .f32⟩
  | .hbm, ⟨80, _⟩ => ⟨S8x2x8x2048x1, .f32⟩
  | .hbm, ⟨81, _⟩ => ⟨S8x2x8x2048x1, .f32⟩
  | .hbm, ⟨82, _⟩ => ⟨S8x2x8x2048x2048, .f32⟩
  | .hbm, ⟨83, _⟩ => ⟨S8x2x8x2048x2048, .f32⟩
  | .hbm, ⟨84, _⟩ => ⟨S8x2x64x8x2048, .f32⟩
  | .hbm, ⟨85, _⟩ => ⟨S8x2048x2x8x64, .f32⟩
  | .hbm, ⟨86, _⟩ => ⟨S8x2048x1024, .f32⟩
  | .hbm, ⟨87, _⟩ => ⟨S8x1024x2048, .f32⟩
  | .hbm, ⟨88, _⟩ => ⟨S8x1024x2048, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x1840 : Shape := ⟨2, ![1024, 1840]⟩
abbrev S1024x1024 : Shape := ⟨2, ![1024, 1024]⟩
abbrev S1024x768 : Shape := ⟨2, ![1024, 768]⟩
abbrev S768x1024 : Shape := ⟨2, ![768, 1024]⟩
abbrev S1024x64 : Shape := ⟨2, ![1024, 64]⟩
abbrev S1x1024x64 : Shape := ⟨3, ![1, 1024, 64]⟩
abbrev S4x1024x64 : Shape := ⟨3, ![4, 1024, 64]⟩
abbrev S1x1024 : Shape := ⟨2, ![1, 1024]⟩
abbrev S1024x48 : Shape := ⟨2, ![1024, 48]⟩
abbrev S_ : Shape := ⟨0, ![]⟩
abbrev S1024x128 : Shape := ⟨2, ![1024, 128]⟩
abbrev S128x1024 : Shape := ⟨2, ![128, 1024]⟩
abbrev S1024x256 : Shape := ⟨2, ![1024, 256]⟩
abbrev S8x1024x2048 : Shape := ⟨3, ![8, 1024, 2048]⟩
abbrev S8x768x2048 : Shape := ⟨3, ![8, 768, 2048]⟩
abbrev S8x4x2048x64 : Shape := ⟨4, ![8, 4, 2048, 64]⟩
abbrev S8x2048x256 : Shape := ⟨3, ![8, 2048, 256]⟩
abbrev S8x128x2048 : Shape := ⟨3, ![8, 128, 2048]⟩
abbrev S1x128x1024 : Shape := ⟨3, ![1, 128, 1024]⟩
abbrev S1x1024x128 : Shape := ⟨3, ![1, 1024, 128]⟩
abbrev S1x768x128 : Shape := ⟨3, ![1, 768, 128]⟩
abbrev S1x4x128x64 : Shape := ⟨4, ![1, 4, 128, 64]⟩
abbrev S1x128x256 : Shape := ⟨3, ![1, 128, 256]⟩
abbrev S1x128x128 : Shape := ⟨3, ![1, 128, 128]⟩
abbrev S128 : Shape := ⟨1, ![128]⟩
abbrev S128x1 : Shape := ⟨2, ![128, 1]⟩
abbrev S768x128 : Shape := ⟨2, ![768, 128]⟩
abbrev S128x64 : Shape := ⟨2, ![128, 64]⟩
abbrev S1x1x128x64 : Shape := ⟨4, ![1, 1, 128, 64]⟩
abbrev S128x256 : Shape := ⟨2, ![128, 256]⟩
abbrev S128x128 : Shape := ⟨2, ![128, 128]⟩

abbrev nBuf : Space → Nat
  | .hbm => 34
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1840, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x768, .f32⟩
  | .hbm, ⟨7, _⟩ => ⟨S768x1024, .f32⟩
  | .hbm, ⟨8, _⟩ => ⟨S768x1024, .bf16⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1x1024x64, .f32⟩
  | .hbm, ⟨14, _⟩ => ⟨S1x1024x64, .f32⟩
  | .hbm, ⟨15, _⟩ => ⟨S1x1024x64, .f32⟩
  | .hbm, ⟨16, _⟩ => ⟨S1x1024x64, .f32⟩
  | .hbm, ⟨17, _⟩ => ⟨S4x1024x64, .f32⟩
  | .hbm, ⟨18, _⟩ => ⟨S4x1024x64, .bf16⟩
  | .hbm, ⟨19, _⟩ => ⟨S1x1024, .f32⟩
  | .hbm, ⟨20, _⟩ => ⟨S1024x48, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S128x1024, .f32⟩
  | .hbm, ⟨25, _⟩ => ⟨S128x1024, .bf16⟩
  | .hbm, ⟨26, _⟩ => ⟨S1024x256, .f32⟩
  | .hbm, ⟨27, _⟩ => ⟨S1024x256, .bf16⟩
  | .hbm, ⟨28, _⟩ => ⟨S8x1024x2048, .bf16⟩
  | .hbm, ⟨29, _⟩ => ⟨S8x768x2048, .f32⟩
  | .hbm, ⟨30, _⟩ => ⟨S8x768x2048, .bf16⟩
  | .hbm, ⟨31, _⟩ => ⟨S8x4x2048x64, .bf16⟩
  | .hbm, ⟨32, _⟩ => ⟨S8x2048x256, .f32⟩
  | .hbm, ⟨33, _⟩ => ⟨S8x128x2048, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1024x1024, .bf16⟩
  | .local _ .vmem, ⟨4, _⟩ => ⟨S768x1024, .bf16⟩
  | .local _ .vmem, ⟨5, _⟩ => ⟨S4x1024x64, .bf16⟩
  | .local _ .vmem, ⟨6, _⟩ => ⟨S1024x256, .bf16⟩
  | .local _ .vmem, ⟨7, _⟩ => ⟨S128x1024, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x768x128, .f32⟩
  | .local _ .vmem, ⟨11, _⟩ => ⟨S1x768x128, .f32⟩
  | .local _ .vmem, ⟨12, _⟩ => ⟨S1x768x128, .bf16⟩
  | .local _ .vmem, ⟨13, _⟩ => ⟨S1x768x128, .bf16⟩
  | .local _ .vmem, ⟨14, _⟩ => ⟨S1x4x128x64, .bf16⟩
  | .local _ .vmem, ⟨15, _⟩ => ⟨S1x4x128x64, .bf16⟩
  | .local _ .vmem, ⟨16, _⟩ => ⟨S1x128x256, .f32⟩
  | .local _ .vmem, ⟨17, _⟩ => ⟨S1x128x256, .f32⟩
  | .local _ .vmem, ⟨18, _⟩ => ⟨S1x128x128, .f32⟩
  | .local _ .vmem, ⟨19, _⟩ => ⟨S1x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev main_v23_4 : Ref sig .tc := ⟨.hbm, 32, rfl⟩
abbrev main_v23_5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x768x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x2048x1024 : Shape := ⟨3, ![8, 2048, 1024]⟩
abbrev S1024 : Shape := ⟨1, ![1024]⟩
abbrev S1024x1840 : Shape := ⟨2, ![1024, 1840]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1840 : Shape := ⟨3, ![8, 2048, 1840]⟩
abbrev S8x2048x16x64 : Shape := ⟨4, ![8, 2048, 16, 64]⟩
abbrev S8x2048x768 : Shape := ⟨3, ![8, 2048, 768]⟩
abbrev S8x2048x6x2x64 : Shape := ⟨5, ![8, 2048, 6, 2, 64]⟩
abbrev S8x2048x48 : Shape := ⟨3, ![8, 2048, 48]⟩
abbrev S8x2048x128 : Shape := ⟨3, ![8, 2048, 128]⟩
abbrev S8x768x2048 : Shape := ⟨3, ![8, 768, 2048]⟩
abbrev S8x2048x1x2x64 : Shape := ⟨5, ![8, 2048, 1, 2, 64]⟩
abbrev S8x2048x2x64 : Shape := ⟨4, ![8, 2048, 2, 64]⟩
abbrev S8x2048x4x64 : Shape := ⟨4, ![8, 2048, 4, 64]⟩
abbrev S8x4x2048x64 : Shape := ⟨4, ![8, 4, 2048, 64]⟩
abbrev S8x2048x2x2x64 : Shape := ⟨5, ![8, 2048, 2, 2, 64]⟩
abbrev S8x2048x256 : Shape := ⟨3, ![8, 2048, 256]⟩
abbrev S8x1024x2048 : Shape := ⟨3, ![8, 1024, 2048]⟩
abbrev S8x128x2048 : Shape := ⟨3, ![8, 128, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1840, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1840, .f32⟩
  | .hbm, ⟨20, _⟩ => ⟨S8x2048x1024, .f32⟩
  | .hbm, ⟨21, _⟩ => ⟨S8x2048x16x64, .f32⟩
  | .hbm, ⟨22, _⟩ => ⟨S8x2048x768, .f32⟩
  | .hbm, ⟨23, _⟩ => ⟨S8x2048x6x2x64, .f32⟩
  | .hbm, ⟨24, _⟩ => ⟨S8x2048x48, .f32⟩
  | .hbm, ⟨25, _⟩ => ⟨S_, .i32⟩
  | .hbm, ⟨26, _⟩ => ⟨S_, .f32⟩
  | .hbm, ⟨27, _⟩ => ⟨S8x2048x128, .f32⟩
  | .hbm, ⟨28, _⟩ => ⟨S8x2048x128, .f32⟩
  | .hbm, ⟨29, _⟩ => ⟨S8x2048x128, .f32⟩
  | .hbm, ⟨30, _⟩ => ⟨S_, .f32⟩
  | .hbm, ⟨31, _⟩ => ⟨S8x2048x128, .f32⟩
  | .hbm, ⟨32, _⟩ => ⟨S8x2048x128, .f32⟩
  | .hbm, ⟨33, _⟩ => ⟨S_, .f32⟩
  | .hbm, ⟨34, _⟩ => ⟨S8x2048x128, .f32⟩
  | .hbm, ⟨35, _⟩ => ⟨S8x2048x128, .f32⟩
  | .hbm, ⟨36, _⟩ => ⟨S8x2048x768, .f32⟩
  | .hbm, ⟨37, _⟩ => ⟨S8x768x2048, .f32⟩
  | .hbm, ⟨38, _⟩ => ⟨S8x2048x1x2x64, .f32⟩
  | .hbm, ⟨39, _⟩ => ⟨S8x2048x2x64, .f32⟩
  | .hbm, ⟨40, _⟩ => ⟨S8x2048x1x2x64, .f32⟩
  | .hbm, ⟨41, _⟩ => ⟨S8x2048x2x64, .f32⟩
  | .hbm, ⟨42, _⟩ => ⟨S8x2048x4x64, .f32⟩
  | .hbm, ⟨43, _⟩ => ⟨S8x4x2048x64, .f32⟩
  | .hbm, ⟨44, _⟩ => ⟨S8x2048x2x2x64, .f32⟩
  | .hbm, ⟨45, _⟩ => ⟨S8x2048x256, .f32⟩
  | .hbm, ⟨46, _⟩ => ⟨S_, .f32⟩
  | .hbm, ⟨47, _⟩ => ⟨S8x2048x16x64, .f32⟩
  | .hbm, ⟨48, _⟩ => ⟨S8x2048x16x64, .f32⟩
  | .hbm, ⟨49, _⟩ => ⟨S8x2048x1024, .f32⟩
  | .hbm, ⟨50, _⟩ => ⟨S8x1024x2048, .f32⟩
  | .hbm, ⟨51, _⟩ => ⟨S8x1024x2048, .bf16⟩
  | .hbm, ⟨52, _⟩ => ⟨S8x768x2048, .bf16⟩
  | .hbm, ⟨53, _⟩ => ⟨S8x4x2048x64, .bf16⟩
  | .hbm, ⟨54, _⟩ => ⟨S8x128x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x1536 : Shape := ⟨2, ![1024, 1536]⟩
abbrev S1024x1024 : Shape := ⟨2, ![1024, 1024]⟩
abbrev S1024x512 : Shape := ⟨2, ![1024, 512]⟩
abbrev S512x1024 : Shape := ⟨2, ![512, 1024]⟩
abbrev S1024x64 : Shape := ⟨2, ![1024, 64]⟩
abbrev S1x1024x64 : Shape := ⟨3, ![1, 1024, 64]⟩
abbrev S4x1024x64 : Shape := ⟨3, ![4, 1024, 64]⟩
abbrev S1x1024 : Shape := ⟨2, ![1, 1024]⟩
abbrev S8x1024x2048 : Shape := ⟨3, ![8, 1024, 2048]⟩
abbrev S8x512x2048 : Shape := ⟨3, ![8, 512, 2048]⟩
abbrev S8x4x2048x64 : Shape := ⟨4, ![8, 4, 2048, 64]⟩
abbrev S1x128x1024 : Shape := ⟨3, ![1, 128, 1024]⟩
abbrev S1x1024x128 : Shape := ⟨3, ![1, 1024, 128]⟩
abbrev S1x512x128 : Shape := ⟨3, ![1, 512, 128]⟩
abbrev S1x4x128x64 : Shape := ⟨4, ![1, 4, 128, 64]⟩
abbrev S128x1024 : Shape := ⟨2, ![128, 1024]⟩
abbrev S128 : Shape := ⟨1, ![128]⟩
abbrev S128x1 : Shape := ⟨2, ![128, 1]⟩
abbrev S1024x128 : Shape := ⟨2, ![1024, 128]⟩
abbrev S512x128 : Shape := ⟨2, ![512, 128]⟩
abbrev S128x64 : Shape := ⟨2, ![128, 64]⟩
abbrev S1x1x128x64 : Shape := ⟨4, ![1, 1, 128, 64]⟩

abbrev nBuf : Space → Nat
  | .hbm => 24
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1536, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x512, .f32⟩
  | .hbm, ⟨7, _⟩ => ⟨S512x1024, .f32⟩
  | .hbm, ⟨8, _⟩ => ⟨S512x1024, .bf16⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1x1024x64, .f32⟩
  | .hbm, ⟨14, _⟩ => ⟨S1x1024x64, .f32⟩
  | .hbm, ⟨15, _⟩ => ⟨S1x1024x64, .f32⟩
  | .hbm, ⟨16, _⟩ => ⟨S1x1024x64, .f32⟩
  | .hbm, ⟨17, _⟩ => ⟨S4x1024x64, .f32⟩
  | .hbm, ⟨18, _⟩ => ⟨S4x1024x64, .bf16⟩
  | .hbm, ⟨19, _⟩ => ⟨S1x1024, .f32⟩
  | .hbm, ⟨20, _⟩ => ⟨S8x1024x2048, .bf16⟩
  | .hbm, ⟨21, _⟩ => ⟨S8x512x2048, .f32⟩
  | .hbm, ⟨22, _⟩ => ⟨S8x512x2048, .bf16⟩
  | .hbm, ⟨23, _⟩ => ⟨S8x4x2048x64, .bf16⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S4x1024x64, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .bf16⟩
  | .local _ .vmem, ⟨11, _⟩ => ⟨S1x512x128, .bf16⟩
  | .local _ .vmem, ⟨12, _⟩ => ⟨S1x4x128x64, .bf16⟩
  | .local _ .vmem, ⟨13, _⟩ => ⟨S1x4x128x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v17_2 : Ref sig .tc := ⟨.hbm, 22, rfl⟩
abbrev main_v17_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x2048x1024 : Shape := ⟨3, ![8, 2048, 1024]⟩
abbrev S1024 : Shape := ⟨1, ![1024]⟩
abbrev S1024x1536 : Shape := ⟨2, ![1024, 1536]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1536 : Shape := ⟨3, ![8, 2048, 1536]⟩
abbrev S8x2048x16x64 : Shape := ⟨4, ![8, 2048, 16, 64]⟩
abbrev S8x2048x512 : Shape := ⟨3, ![8, 2048, 512]⟩
abbrev S8x2048x2x4x64 : Shape := ⟨5, ![8, 2048, 2, 4, 64]⟩
abbrev S8x512x2048 : Shape := ⟨3, ![8, 512, 2048]⟩
abbrev S8x2048x1x4x64 : Shape := ⟨5, ![8, 2048, 1, 4, 64]⟩
abbrev S8x2048x4x64 : Shape := ⟨4, ![8, 2048, 4, 64]⟩
abbrev S8x4x2048x64 : Shape := ⟨4, ![8, 4, 2048, 64]⟩
abbrev S8x1024x2048 : Shape := ⟨3, ![8, 1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1536, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1536, .f32⟩
  | .hbm, ⟨20, _⟩ => ⟨S8x2048x1024, .f32⟩
  | .hbm, ⟨21, _⟩ => ⟨S8x2048x16x64, .f32⟩
  | .hbm, ⟨22, _⟩ => ⟨S8x2048x512, .f32⟩
  | .hbm, ⟨23, _⟩ => ⟨S8x2048x2x4x64, .f32⟩
  | .hbm, ⟨24, _⟩ => ⟨S8x2048x512, .f32⟩
  | .hbm, ⟨25, _⟩ => ⟨S8x512x2048, .f32⟩
  | .hbm, ⟨26, _⟩ => ⟨S8x2048x1x4x64, .f32⟩
  | .hbm, ⟨27, _⟩ => ⟨S8x2048x4x64, .f32⟩
  | .hbm, ⟨28, _⟩ => ⟨S8x4x2048x64, .f32⟩
  | .hbm, ⟨29, _⟩ => ⟨S_, .f32⟩
  | .hbm, ⟨30, _⟩ => ⟨S8x2048x16x64, .f32⟩
  | .hbm, ⟨31, _⟩ => ⟨S8x2048x16x64, .f32⟩
  | .hbm, ⟨32, _⟩ => ⟨S8x2048x1024, .f32⟩
  | .hbm, ⟨33, _⟩ => ⟨S8x1024x2048, .f32⟩
  | .hbm, ⟨34, _⟩ => ⟨S8x1024x2048, .bf16⟩
  | .hbm, ⟨35, _⟩ => ⟨S8x512x2048, .bf16⟩
  | .hbm, ⟨36, _⟩ => ⟨S8x4x2048x64, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x1280 : Shape := ⟨2, ![1024, 1280]⟩
abbrev S1024x1024 : Shape := ⟨2, ![1024, 1024]⟩
abbrev S1024x256 : Shape := ⟨2, ![1024, 256]⟩
abbrev S256x1024 : Shape := ⟨2, ![256, 1024]⟩
abbrev S1024x64 : Shape := ⟨2, ![1024, 64]⟩
abbrev S1x1024x64 : Shape := ⟨3, ![1, 1024, 64]⟩
abbrev S2x1024x64 : Shape := ⟨3, ![2, 1024, 64]⟩
abbrev S1x1024 : Shape := ⟨2, ![1, 1024]⟩
abbrev S8x1024x2048 : Shape := ⟨3, ![8, 1024, 2048]⟩
abbrev S8x256x2048 : Shape := ⟨3, ![8, 256, 2048]⟩
abbrev S8x2x2048x64 : Shape := ⟨4, ![8, 2, 2048, 64]⟩
abbrev S1x128x1024 : Shape := ⟨3, ![1, 128, 1024]⟩
abbrev S1x1024x128 : Shape := ⟨3, ![1, 1024, 128]⟩
abbrev S1x256x128 : Shape := ⟨3, ![1, 256, 128]⟩
abbrev S1x2x128x64 : Shape := ⟨4, ![1, 2, 128, 64]⟩
abbrev S128x1024 : Shape := ⟨2, ![128, 1024]⟩
abbrev S128 : Shape := ⟨1, ![128]⟩
abbrev S128x1 : Shape := ⟨2, ![128, 1]⟩
abbrev S1024x128 : Shape := ⟨2, ![1024, 128]⟩
abbrev S256x128 : Shape := ⟨2, ![256, 128]⟩
abbrev S128x64 : Shape := ⟨2, ![128, 64]⟩
abbrev S1x1x128x64 : Shape := ⟨4, ![1, 1, 128, 64]⟩

abbrev nBuf : Space → Nat
  | .hbm => 20
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1280, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x256, .f32⟩
  | .hbm, ⟨7, _⟩ => ⟨S256x1024, .f32⟩
  | .hbm, ⟨8, _⟩ => ⟨S256x1024, .bf16⟩
  | .hbm, ⟨9, _⟩ => ⟨S1024x64, .f32⟩
  | .hbm, ⟨10, _⟩ => ⟨S1024x64, .f32⟩
  | .hbm, ⟨11, _⟩ => ⟨S1x1024x64, .f32⟩
  | .hbm, ⟨12, _⟩ => ⟨S1x1024x64, .f32⟩
  | .hbm, ⟨13, _⟩ => ⟨S2x1024x64, .f32⟩
  | .hbm, ⟨14, _⟩ => ⟨S2x1024x64, .bf16⟩
  | .hbm, ⟨15, _⟩ => ⟨S1x1024, .f32⟩
  | .hbm, ⟨16, _⟩ => ⟨S8x1024x2048, .bf16⟩
  | .hbm, ⟨17, _⟩ => ⟨S8x256x2048, .f32⟩
  | .hbm, ⟨18, _⟩ => ⟨S8x256x2048, .bf16⟩
  | .hbm, ⟨19, _⟩ => ⟨S8x2x2048x64, .bf16⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S2x1024x64, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x256x128, .f32⟩
  | .local _ .vmem, ⟨9, _⟩ => ⟨S1x256x128, .f32⟩
  | .local _ .vmem, ⟨10, _⟩ => ⟨S1x256x128, .bf16⟩
  | .local _ .vmem, ⟨11, _⟩ => ⟨S1x256x128, .bf16⟩
  | .local _ .vmem, ⟨12, _⟩ => ⟨S1x2x128x64, .bf16⟩
  | .local _ .vmem, ⟨13, _⟩ => ⟨S1x2x128x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x2048x1024 : Shape := ⟨3, ![8, 2048, 1024]⟩
abbrev S1024 : Shape := ⟨1, ![1024]⟩
abbrev S1024x1280 : Shape := ⟨2, ![1024, 1280]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1280 : Shape := ⟨3, ![8, 2048, 1280]⟩
abbrev S8x2048x16x64 : Shape := ⟨4, ![8, 2048, 16, 64]⟩
abbrev S8x2048x256 : Shape := ⟨3, ![8, 2048, 256]⟩
abbrev S8x2048x2x2x64 : Shape := ⟨5, ![8, 2048, 2, 2, 64]⟩
abbrev S8x256x2048 : Shape := ⟨3, ![8, 256, 2048]⟩
abbrev S8x2048x1x2x64 : Shape := ⟨5, ![8, 2048, 1, 2, 64]⟩
abbrev S8x2048x2x64 : Shape := ⟨4, ![8, 2048, 2, 64]⟩
abbrev S8x2x2048x64 : Shape := ⟨4, ![8, 2, 2048, 64]⟩
abbrev S8x1024x2048 : Shape := ⟨3, ![8, 1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1280, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1280, .f32⟩
  | .hbm, ⟨20, _⟩ => ⟨S8x2048x1024, .f32⟩
  | .hbm, ⟨21, _⟩ => ⟨S8x2048x16x64, .f32⟩
  | .hbm, ⟨22, _⟩ => ⟨S8x2048x256, .f32⟩
  | .hbm, ⟨23, _⟩ => ⟨S8x2048x2x2x64, .f32⟩
  | .hbm, ⟨24, _⟩ => ⟨S8x2048x256, .f32⟩
  | .hbm, ⟨25, _⟩ => ⟨S8x256x2048, .f32⟩
  | .hbm, ⟨26, _⟩ => ⟨S8x2048x1x2x64, .f32⟩
  | .hbm, ⟨27, _⟩ => ⟨S8x2048x2x64, .f32⟩
  | .hbm, ⟨28, _⟩ => ⟨S8x2x2048x64, .f32⟩
  | .hbm, ⟨29, _⟩ => ⟨S_, .f32⟩
  | .hbm, ⟨30, _⟩ => ⟨S8x2048x16x64, .f32⟩
  | .hbm, ⟨31, _⟩ => ⟨S8x2048x16x64, .f32⟩
  | .hbm, ⟨32, _⟩ => ⟨S8x2048x1024, .f32⟩
  | .hbm, ⟨33, _⟩ => ⟨S8x1024x2048, .f32⟩
  | .hbm, ⟨34, _⟩ => ⟨S8x1024x2048, .bf16⟩
  | .hbm, ⟨35, _⟩ => ⟨S8x256x2048, .bf16⟩
  | .hbm, ⟨36, _⟩ => ⟨S8x2x2048x64, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel6.lean ====
abbrev S128x8x1024 : Shape := ⟨3, ![128, 8, 1024]⟩
abbrev S1024 : Shape := ⟨1, ![1024]⟩
abbrev S1024x1840 : Shape := ⟨2, ![1024, 1840]⟩
abbrev S1024x1024 : Shape := ⟨2, ![1024, 1024]⟩
abbrev S1x1024 : Shape := ⟨2, ![1, 1024]⟩
abbrev S1024x768 : Shape := ⟨2, ![1024, 768]⟩
abbrev S1024x48 : Shape := ⟨2, ![1024, 48]⟩
abbrev S_ : Shape := ⟨0, ![]⟩
abbrev S1024x128 : Shape := ⟨2, ![1024, 128]⟩
abbrev S512x1024 : Shape := ⟨2, ![512, 1024]⟩
abbrev S512x768 : Shape := ⟨2, ![512, 768]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1840, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1024x768, .f32⟩
  | .hbm, ⟨8, _⟩ => ⟨S1024x768, .bf16⟩
  | .hbm, ⟨9, _⟩ => ⟨S1024x48, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x1024, .bf16⟩
  | .hbm, ⟨15, _⟩ => ⟨S1024x768, .f32⟩
  | .hbm, ⟨16, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x768, .bf16⟩
  | .local _ .vmem, ⟨5, _⟩ => ⟨S1024x128, .bf16⟩
  | .local _ .vmem, ⟨6, _⟩ => ⟨S512x1024, .bf16⟩
  | .local _ .vmem, ⟨7, _⟩ => ⟨S512x1024, .bf16⟩
  | .local _ .vmem, ⟨8, _⟩ => ⟨S512x768, .f32⟩
  | .local _ .vmem, ⟨9, _⟩ => ⟨S512x768, .f32⟩
  | .local _ .vmem, ⟨10, _⟩ => ⟨S512x128, .f32⟩
  | .local _ .vmem, ⟨11, _⟩ => ⟨S512x128, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S128x8x1024 : Shape := ⟨3, ![128, 8, 1024]⟩
abbrev S1024 : Shape := ⟨1, ![1024]⟩
abbrev S1024x1840 : Shape := ⟨2, ![1024, 1840]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x1840 : Shape := ⟨3, ![128, 8, 1840]⟩
abbrev S128x8x16x64 : Shape := ⟨4, ![128, 8, 16, 64]⟩
abbrev S128x8x768 : Shape := ⟨3, ![128, 8, 768]⟩
abbrev S128x8x6x2x64 : Shape := ⟨5, ![128, 8, 6, 2, 64]⟩
abbrev S128x8x48 : Shape := ⟨3, ![128, 8, 48]⟩
abbrev S128x8x128 : Shape := ⟨3, ![128, 8, 128]⟩
abbrev S1024x1024 : Shape := ⟨2, ![1024, 1024]⟩
abbrev S1024x768 : Shape := ⟨2, ![1024, 768]⟩
abbrev S1024x128 : Shape := ⟨2, ![1024, 128]⟩

abbrev nBuf : Space → Nat
  | .hbm => 43
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1840, .f32⟩
  | .hbm, ⟨3, _⟩ => ⟨S128x8x1024, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S1x1x1024, .f32⟩
  | .hbm, ⟨17, _⟩ => ⟨S128x8x1024, .f32⟩
  | .hbm, ⟨18, _⟩ => ⟨S128x8x1024, .f32⟩
  | .hbm, ⟨19, _⟩ => ⟨S128x8x1840, .f32⟩
  | .hbm, ⟨20, _⟩ => ⟨S128x8x1024, .f32⟩
  | .hbm, ⟨21, _⟩ => ⟨S128x8x16x64, .f32⟩
  | .hbm, ⟨22, _⟩ => ⟨S128x8x768, .f32⟩
  | .hbm, ⟨23, _⟩ => ⟨S128x8x6x2x64, .f32⟩
  | .hbm, ⟨24, _⟩ => ⟨S128x8x48, .f32⟩
  | .hbm, ⟨25, _⟩ => ⟨S_, .i32⟩
  | .hbm, ⟨26, _⟩ => ⟨S_, .f32⟩
  | .hbm, ⟨27, _⟩ => ⟨S128x8x128, .f32⟩
  | .hbm, ⟨28, _⟩ => ⟨S128x8x128, .f32⟩
  | .hbm, ⟨29, _⟩ => ⟨S128x8x128, .f32⟩
  | .hbm, ⟨30, _⟩ => ⟨S_, .f32⟩
  | .hbm, ⟨31, _⟩ => ⟨S128x8x128, .f32⟩
  | .hbm, ⟨32, _⟩ => ⟨S128x8x128, .f32⟩
  | .hbm, ⟨33, _⟩ => ⟨S_, .f32⟩
  | .hbm, ⟨34, _⟩ => ⟨S128x8x128, .f32⟩
  | .hbm, ⟨35, _⟩ => ⟨S128x8x128, .f32⟩
  | .hbm, ⟨36, _⟩ => ⟨S_, .f32⟩
  | .hbm, ⟨37, _⟩ => ⟨S128x8x16x64, .f32⟩
  | .hbm, ⟨38, _⟩ => ⟨S128x8x16x64, .f32⟩
  | .hbm, ⟨39, _⟩ => ⟨S1024x1024, .f32⟩
  | .hbm, ⟨40, _⟩ => ⟨S1024x1024, .bf16⟩
  | .hbm, ⟨41, _⟩ => ⟨S1024x768, .f32⟩
  | .hbm, ⟨42, _⟩ => ⟨S1024x128, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel7.lean ====
abbrev S128x8x1024 : Shape := ⟨3, ![128, 8, 1024]⟩
abbrev S1024 : Shape := ⟨1, ![1024]⟩
abbrev S1024x1536 : Shape := ⟨2, ![1024, 1536]⟩
abbrev S1024x1024 : Shape := ⟨2, ![1024, 1024]⟩
abbrev S1x1024 : Shape := ⟨2, ![1, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1536, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1024x512, .f32⟩
  | .hbm, ⟨8, _⟩ => ⟨S1024x512, .bf16⟩
  | .hbm, ⟨9, _⟩ => ⟨S1024x1024, .bf16⟩
  | .hbm, ⟨10, _⟩ => ⟨S1024x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S128x8x1024 : Shape := ⟨3, ![128, 8, 1024]⟩
abbrev S1024 : Shape := ⟨1, ![1024]⟩
abbrev S1024x1536 : Shape := ⟨2, ![1024, 1536]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x1536 : Shape := ⟨3, ![128, 8, 1536]⟩
abbrev S128x8x16x64 : Shape := ⟨4, ![128, 8, 16, 64]⟩
abbrev S128x8x512 : Shape := ⟨3, ![128, 8, 512]⟩
abbrev S128x8x2x4x64 : Shape := ⟨5, ![128, 8, 2, 4, 64]⟩
abbrev S1024x1024 : Shape := ⟨2, ![1024, 1024]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1536, .f32⟩
  | .hbm, ⟨3, _⟩ => ⟨S128x8x1024, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S1x1x1024, .f32⟩
  | .hbm, ⟨17, _⟩ => ⟨S128x8x1024, .f32⟩
  | .hbm, ⟨18, _⟩ => ⟨S128x8x1024, .f32⟩
  | .hbm, ⟨19, _⟩ => ⟨S128x8x1536, .f32⟩
  | .hbm, ⟨20, _⟩ => ⟨S128x8x1024, .f32⟩
  | .hbm, ⟨21, _⟩ => ⟨S128x8x16x64, .f32⟩
  | .hbm, ⟨22, _⟩ => ⟨S128x8x512, .f32⟩
  | .hbm, ⟨23, _⟩ => ⟨S128x8x2x4x64, .f32⟩
  | .hbm, ⟨24, _⟩ => ⟨S_, .f32⟩
  | .hbm, ⟨25, _⟩ => ⟨S128x8x16x64, .f32⟩
  | .hbm, ⟨26, _⟩ => ⟨S128x8x16x64, .f32⟩
  | .hbm, ⟨27, _⟩ => ⟨S1024x1024, .f32⟩
  | .hbm, ⟨28, _⟩ => ⟨S1024x1024, .bf16⟩
  | .hbm, ⟨29, _⟩ => ⟨S1024x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel8.lean ====
abbrev S128x8x1024 : Shape := ⟨3, ![128, 8, 1024]⟩
abbrev S1024 : Shape := ⟨1, ![1024]⟩
abbrev S1024x1280 : Shape := ⟨2, ![1024, 1280]⟩
abbrev S1024x1024 : Shape := ⟨2, ![1024, 1024]⟩
abbrev S1x1024 : Shape := ⟨2, ![1, 1024]⟩
abbrev S1024x256 : Shape := ⟨2, ![1024, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1280, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S1024x1024, .bf16⟩
  | .hbm, ⟨7, _⟩ => ⟨S1024x256, .f32⟩
  | .hbm, ⟨8, _⟩ => ⟨S1024x256, .bf16⟩
  | .hbm, ⟨9, _⟩ => ⟨S1024x1024, .bf16⟩
  | .hbm, ⟨10, _⟩ => ⟨S1024x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x256, .bf16⟩
  | .local _ .vmem, ⟨5, _⟩ => ⟨S512x1024, .bf16⟩
  | .local _ .vmem, ⟨6, _⟩ => ⟨S512x1024, .bf16⟩
  | .local _ .vmem, ⟨7, _⟩ => ⟨S512x256, .f32⟩
  | .local _ .vmem, ⟨8, _⟩ => ⟨S512x256, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S128x8x1024 : Shape := ⟨3, ![128, 8, 1024]⟩
abbrev S1024 : Shape := ⟨1, ![1024]⟩
abbrev S1024x1280 : Shape := ⟨2, ![1024, 1280]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x1280 : Shape := ⟨3, ![128, 8, 1280]⟩
abbrev S128x8x16x64 : Shape := ⟨4, ![128, 8, 16, 64]⟩
abbrev S128x8x256 : Shape := ⟨3, ![128, 8, 256]⟩
abbrev S128x8x2x2x64 : Shape := ⟨5, ![128, 8, 2, 2, 64]⟩
abbrev S1024x1024 : Shape := ⟨2, ![1024, 1024]⟩
abbrev S1024x256 : Shape := ⟨2, ![1024, 256]⟩

abbrev nBuf : Space → Nat
  | .hbm => 30
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x1280, .f32⟩
  | .hbm, ⟨3, _⟩ => ⟨S128x8x1024, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S1x1x1024, .f32⟩
  | .hbm, ⟨17, _⟩ => ⟨S128x8x1024, .f32⟩
  | .hbm, ⟨18, _⟩ => ⟨S128x8x1024, .f32⟩
  | .hbm, ⟨19, _⟩ => ⟨S128x8x1280, .f32⟩
  | .hbm, ⟨20, _⟩ => ⟨S128x8x1024, .f32⟩
  | .hbm, ⟨21, _⟩ => ⟨S128x8x16x64, .f32⟩
  | .hbm, ⟨22, _⟩ => ⟨S128x8x256, .f32⟩
  | .hbm, ⟨23, _⟩ => ⟨S128x8x2x2x64, .f32⟩
  | .hbm, ⟨24, _⟩ => ⟨S_, .f32⟩
  | .hbm, ⟨25, _⟩ => ⟨S128x8x16x64, .f32⟩
  | .hbm, ⟨26, _⟩ => ⟨S128x8x16x64, .f32⟩
  | .hbm, ⟨27, _⟩ => ⟨S1024x1024, .f32⟩
  | .hbm, ⟨28, _⟩ => ⟨S1024x1024, .bf16⟩
  | .hbm, ⟨29, _⟩ => ⟨S1024x256, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel9.lean ====
abbrev S8x1024x2048 : Shape := ⟨3, ![8, 1024, 2048]⟩
abbrev S1024x1024 : Shape := ⟨2, ![1024, 1024]⟩
abbrev S1024 : Shape := ⟨1, ![1024]⟩
abbrev S8x2048x1024 : Shape := ⟨3, ![8, 2048, 1024]⟩
abbrev S1x1024 : Shape := ⟨2, ![1, 1024]⟩
abbrev S1x1024x128 : Shape := ⟨3, ![1, 1024, 128]⟩
abbrev S1x128x1024 : Shape := ⟨3, ![1, 128, 1024]⟩
abbrev S1024x128 : Shape := ⟨2, ![1024, 128]⟩
abbrev S128x1024 : Shape := ⟨2, ![128, 1024]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x2048, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S8x1024x2048, .bf16⟩
  | .hbm, ⟨5, _⟩ => ⟨S1024x1024, .bf16⟩
  | .hbm, ⟨6, _⟩ => ⟨S1x1024, .f32⟩
  | .hbm, ⟨7, _⟩ => ⟨S8x2048x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S1024x1024, .bf16⟩
  | .local _ .vmem, ⟨3, _⟩ => ⟨S1x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8x1024x2048 : Shape := ⟨3, ![8, 1024, 2048]⟩
abbrev S1024x1024 : Shape := ⟨2, ![1024, 1024]⟩
abbrev S1024 : Shape := ⟨1, ![1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.FramesFfn.lean ====
/-
  The feed-forward programs run, leave their arguments as they were and end with every counter at zero.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Claim

@[expose] public section

noncomputable section

namespace Cert.Proof

open Idealize.ShloMosaic Idealize.SL.Sem

theorem frame_Kernel2 : Cert.quiescent_Kernel2 := fun m g _ => Cert.Kernel2.Gen.frame m g
theorem frame_Kernel2Ideal : Cert.quiescent_Kernel2Ideal := fun m g _ => Cert.Kernel2Ideal.Gen.frame m g
theorem frame_Reference2Ideal : Cert.quiescent_Reference2Ideal := by
  intro m g _
  exact (θ_run Cert.Reference2Ideal.defs _ _).mono (fun r h => ⟨fun c => (h c).2,
    sem_eq_zero_of_no_sems (by decide) r.2⟩) (Cert.Reference2Ideal.Value.run (F := Ideal) m g)

end Cert.Proof

end
-- ==== Proof.FfnCases.lean ====
/-
  The feed-forward kernel's three kinds of grid point, each read as a function of the blocks it is given: a point at
  the first hidden tile normalises the rows and starts the sum, a point in the middle adds one hidden tile's share to
  the sum, and a point at the last tile adds its share and writes the rows out.
-/
module

public import proofs.«01_k».proof.Proof.Gen.Kernel2Ideal.Frame
public import Idealize.ShloMosaic.Lib.Pointwise

@[expose] public section

noncomputable section

open Idealize.ShloMosaic Idealize.ShloMosaic.TcCoe Idealize.SL.Sem

namespace Cert.Kernel2Ideal.Ffn

open Cert.Kernel2Ideal Cert.Kernel2Ideal.Gen

variable {F : FTy → Type} [FloatOps F]

theorem zero2 : (![0, 0] : Fin 2 → Nat) = fun _ => 0 := by
  funext a; match a with | ⟨0, _⟩ => rfl | ⟨1, _⟩ => rfl

variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S1x1024 .f32)
  (harg4 : arg4.IsWhole) (arg5 : Memref sig .tc .vmem S1024x256 .bf16) (harg5 : arg5.IsWhole)
  (arg6 : Memref sig .tc .vmem S1024x256 .bf16) (harg6 : arg6.IsWhole) (arg7 : Memref sig .tc .vmem S256x1024 .bf16)
  (harg7 : arg7.IsWhole) (arg8 : Memref sig .tc .vmem S1024x1024 .f32) (harg8 : arg8.IsWhole)
  (arg9 : Memref sig .tc .vmem S1024x1024 .bf16) (harg9 : arg9.IsWhole) (arg10 : Memref sig .tc .vmem S1024x1024 .f32)
  (harg10 : arg10.IsWhole)
  (x0 : Vec F S1024x1024 .f32) (x1 : Vec F S1x1024 .f32) (x2 : Vec F S1x1024 .f32) (x3 : Vec F S1024x256 .bf16)
  (x4 : Vec F S1024x256 .bf16) (x5 : Vec F S256x1024 .bf16) (xs0 : Vec F S1024x1024 .bf16) (xs1 : Vec F S1024x1024 .f32)

/-- At a first tile the normalised rows are stored. -/
theorem rows_A (hc0 : cond0_0 i) (hc1 : ¬cond0_1 i) :
    sout0_A_0 c i arg2 harg2 arg3 harg3 arg4 harg4 arg5 harg5 arg6 harg6 arg7 harg7 arg8 harg8 arg9 harg9 arg10 harg10
      hc0 hc1 x0 x1 x2 x3 x4 x5 = k0_pay1 x0 x1 := by
  unfold sout0_A_0
  rw [View.read_writes_eq_canon _ _ _ (scover0_A_0 c i arg2 harg2 arg3 harg3 arg4 harg4 arg5 harg5 arg6 harg6 arg7
    harg7 arg8 harg8 arg9 harg9 arg10 harg10 hc0 hc1 x0 x1 x2 x3 x4 x5)]
  unfold kernelRun0_A
  dsimp only
  sl_unfold_words
  rw [View.canon_unit_zero zero2]
  simp only [View.readAt_eq_ld, harg2.read_unread, harg3.read_unread, View.ld_unit_zero (S := S1024x1024) zero2,
    View.ld_unit_zero (S := S1x1024) zero2]

/-- At a first tile the sum starts from zero with that tile's share. -/
theorem sum_A (hc0 : cond0_0 i) (hc1 : ¬cond0_1 i) :
    sout0_A_1 c i arg2 harg2 arg3 harg3 arg4 harg4 arg5 harg5 arg6 harg6 arg7 harg7 arg8 harg8 arg9 harg9 arg10 harg10
      hc0 hc1 x0 x1 x2 x3 x4 x5 = k0_pay3 (k0_pay1 x0 x1) x3 x4 k0_pay2 x5 := by
  unfold sout0_A_1
  rw [View.read_writes_eq_canon _ _ _ (scover0_A_1 c i arg2 harg2 arg3 harg3 arg4 harg4 arg5 harg5 arg6 harg6 arg7
    harg7 arg8 harg8 arg9 harg9 arg10 harg10 hc0 hc1 x0 x1 x2 x3 x4 x5)]
  unfold kernelRun0_A
  dsimp only
  sl_unfold_words
  rw [View.canon_cons_unit_zero (S := S1024x1024) zero2]
  simp only [View.readCov_unit_zero (S := S1024x1024) _ zero2]
  simp only [View.readAt_eq_ld, harg2.read_unread, harg3.read_unread, harg5.read_unread, harg6.read_unread,
    harg7.read_unread, View.ld_unit_zero (S := S1024x1024) zero2,
    View.ld_unit_zero (S := S1x1024) zero2, View.ld_unit_zero (S := S1024x256) zero2,
    View.ld_unit_zero (S := S256x1024) zero2]

/-- At a middle tile the tile's share is added. -/
theorem sum_B (hc0 : ¬cond0_0 i) (hc1 : ¬cond0_1 i) :
    sout0_B_1 c i arg2 harg2 arg3 harg3 arg4 harg4 arg5 harg5 arg6 harg6 arg7 harg7 arg8 harg8 arg9 harg9 arg10 harg10
      hc0 hc1 x0 x1 x2 x3 x4 x5 xs0 xs1 = k0_pay3 xs0 x3 x4 xs1 x5 := by
  unfold sout0_B_1
  rw [View.read_writes_eq_canon _ _ _ (scover0_B_1 c i arg2 harg2 arg3 harg3 arg4 harg4 arg5 harg5 arg6 harg6 arg7
    harg7 arg8 harg8 arg9 harg9 arg10 harg10 hc0 hc1 x0 x1 x2 x3 x4 x5 xs0 xs1)]
  unfold kernelRun0_B
  dsimp only
  sl_unfold_words
  rw [View.canon_unit_zero (S := S1024x1024) zero2]
  simp only [View.readAt_eq_ld, harg5.read_unread, harg6.read_unread, harg9.read_unread, harg10.read_unread,
    harg7.read_unread, View.ld_unit_zero (S := S1024x1024) zero2,
    View.ld_unit_zero (S := S1024x256) zero2, View.ld_unit_zero (S := S256x1024) zero2]

/-- At a last tile the tile's share is added. -/
theorem sum_C (hc0 : ¬cond0_0 i) (hc1 : cond0_1 i) :
    sout0_C_1 c i arg2 harg2 arg3 harg3 arg4 harg4 arg5 harg5 arg6 harg6 arg7 harg7 arg8 harg8 arg9 harg9 arg10 harg10
      hc0 hc1 x0 x1 x2 x3 x4 x5 xs0 xs1 = k0_pay3 xs0 x3 x4 xs1 x5 := by
  unfold sout0_C_1
  rw [View.read_writes_eq_canon _ _ _ (scover0_C_1 c i arg2 harg2 arg3 harg3 arg4 harg4 arg5 harg5 arg6 harg6 arg7
    harg7 arg8 harg8 arg9 harg9 arg10 harg10 hc0 hc1 x0 x1 x2 x3 x4 x5 xs0 xs1)]
  unfold kernelRun0_C
  dsimp only
  sl_unfold_words
  rw [View.canon_unit_zero (S := S1024x1024) zero2]
  simp only [View.readAt_eq_ld, harg5.read_unread, harg6.read_unread, harg9.read_unread, harg10.read_unread,
    harg7.read_unread, View.ld_unit_zero (S := S1024x1024) zero2,
    View.ld_unit_zero (S := S1024x256) zero2, View.ld_unit_zero (S := S256x1024) zero2]

/-- At a last tile the rows are written out from the finished sum. -/
theorem out_C (hc0 : ¬cond0_0 i) (hc1 : cond0_1 i) :
    out0_C_6 c i arg2 harg2 arg3 harg3 arg4 harg4 arg5 harg5 arg6 harg6 arg7 harg7 arg8 harg8 arg9 harg9 arg10 harg10
      hc0 hc1 x0 x1 x2 x3 x4 x5 xs0 xs1 = k0_pay4 x0 (k0_pay3 xs0 x3 x4 xs1 x5) x2 := by
  unfold out0_C_6
  rw [View.read_writes_eq_canon _ _ _ (cover0_C_6 c i arg2 harg2 arg3 harg3 arg4 harg4 arg5 harg5 arg6 harg6 arg7
    harg7 arg8 harg8 arg9 harg9 arg10 harg10 hc0 hc1 x0 x1 x2 x3 x4 x5 xs0 xs1)]
  unfold kernelRun0_C
  dsimp only
  sl_unfold_words
  rw [View.canon_unit_zero (S := S1024x1024) zero2]
  simp only [View.readCov_unit_zero (S := S1024x1024) _ zero2]
  simp only [View.readAt_eq_ld, harg2.read_unread, harg4.read_unread, harg5.read_unread, harg6.read_unread,
    harg9.read_unread, harg10.read_unread, harg7.read_unread, View.ld_unit_zero (S := S1024x1024) zero2,
    View.ld_unit_zero (S := S1x1024) zero2, View.ld_unit_zero (S := S1024x256) zero2,
    View.ld_unit_zero (S := S256x1024) zero2]

end Cert.Kernel2Ideal.Ffn

end
-- ==== Proof.FfnMath.lean ====
/-
  The feed-forward half step as a function of its argument arrays over the extended reals: a row of the activations,
  its normalised form, the gated hidden values, the sum over a prefix of the hidden axis, and the row that results.
  The reference's composed term is read down to it.
-/
module

public import proofs.«01_k».proof.Proof.Gen.Reference2Ideal.Run
public import Idealize.ShloMosaic.Lib.Pointwise

@[expose] public section

noncomputable section

open Idealize.ShloMosaic Idealize.ShloMosaic.TcCoe Idealize.SL.Sem

namespace Cert.FfnMath

variable (x : FVec Ideal (⟨3, ![8, 2048, 1024]⟩ : Shape) .f32) (gp gq : FVec Ideal (⟨1, ![1024]⟩ : Shape) .f32)
  (wg wu : FVec Ideal (⟨2, ![1024, 2816]⟩ : Shape) .f32) (wd : FVec Ideal (⟨2, ![2816, 1024]⟩ : Shape) .f32)

/-- Row `R` of the activations, the batch and the tokens counted as one axis. -/
def row (R : ℕ) (k : Fin 1024) : EReal :=
  x (ix3 ⟨R / 2048 % 8, Nat.mod_lt _ (by decide)⟩ ⟨R % 2048, Nat.mod_lt _ (by decide)⟩ k)

/-- Hidden column `f`. -/
def col (f : ℕ) : Fin 2816 := ⟨f % 2816, Nat.mod_lt _ (by decide)⟩

/-- A row over its root mean square, times a gain. -/
def rms (v : Fin 1024 → EReal) (g : FVec Ideal (⟨1, ![1024]⟩ : Shape) .f32) (k : Fin 1024) : EReal :=
  v k * Ideal.rsqrt (Ideal.div (∑ j, v j * v j) (Ideal.ofBits .f32 0x44800000#32) + Ideal.ofBits .f32 0x358637BD#32)
    * g (ix1 k)

/-- The gated hidden value of row `R` at hidden column `f`. -/
def hid (R f : ℕ) : EReal :=
  (∑ k, rms (row x R) gp k * wg (ix2 k (col f))) * Ideal.logistic (∑ k, rms (row x R) gp k * wg (ix2 k (col f)))
    * ∑ k, rms (row x R) gp k * wu (ix2 k (col f))

/-- The down projection summed over the first `n` hidden columns. -/
def part (R n : ℕ) (l : Fin 1024) : EReal := ∑ f ∈ Finset.range n, hid x gp wg wu R f * wd (ix2 (col f) l)

/-- The row that results. -/
def res (R : ℕ) (l : Fin 1024) : EReal :=
  row x R l + Ideal.ofBits .f32 0x3F000000#32 * rms (part x gp wg wu wd R 2816) gq l

/-- A further tile of 256 hidden columns adds its own sum. -/
theorem part_tile (R j : ℕ) (l : Fin 1024) :
    part x gp wg wu wd R (256 * (j + 1)) l
      = part x gp wg wu wd R (256 * j) l + ∑ q : Fin 256, hid x gp wg wu R (256 * j + q.val) * wd (ix2 (col (256 * j + q.val)) l) := by
  unfold part
  rw [show 256 * (j + 1) = 256 * j + 256 from by ring, Finset.sum_range_add]
  rw [Finset.sum_range (fun q => hid x gp wg wu R (256 * j + q) * wd (ix2 (col (256 * j + q)) l))]

theorem part_zero (R : ℕ) (l : Fin 1024) : part x gp wg wu wd R 0 l = 0 := by
  unfold part; rw [Finset.range_zero, Finset.sum_empty]

/-- The whole hidden axis at once. -/
theorem part_all (R : ℕ) (l : Fin 1024) :
    part x gp wg wu wd R 2816 l = ∑ f : Fin 2816, hid x gp wg wu R f.val * wd (ix2 f l) := by
  unfold part
  rw [Finset.sum_range]
  refine Finset.sum_congr rfl fun f _ => ?_
  have : col f.val = f := Fin.ext (Nat.mod_eq_of_lt f.isLt)
  rw [this]

end Cert.FfnMath

namespace Cert.Reference2Ideal.Value

open Cert.Reference2Ideal Cert.Reference2Ideal.Gen Cert.FfnMath

/-- The reference's normalisation of every row of an activation array by its root mean square, with a gain. -/
def normT (v : FVec Ideal S8x2048x1024 .f32) (g : FVec Ideal S1024 .f32) : FVec Ideal S8x2048x1024 .f32 :=
  mulf (mulf v (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf v v) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The reference's up projection. -/
def upT (n : FVec Ideal S8x2048x1024 .f32) (w : FVec Ideal S1024x2816 .f32) : FVec Ideal S8x2048x2816 .f32 :=
  Host.dotGeneral dot_S8x2048x1024_S1024x2816_S8x2048x2816_2_0_01_1_n_n none n w

/-- The reference's gate. -/
def siluT (g : FVec Ideal S8x2048x2816 .f32) : FVec Ideal S8x2048x2816 .f32 :=
  mulf g (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf g))))

/-- The reference's down projection. -/
def downT (h : FVec Ideal S8x2048x2816 .f32) (w : FVec Ideal S2816x1024 .f32) : FVec Ideal S8x2048x1024 .f32 :=
  Host.dotGeneral dot_S8x2048x2816_S2816x1024_S8x2048x1024_2_0_01_1_n_n none h w

/-- The reference's residual half step, its rows counted as one axis. -/
def stepT (v y : FVec Ideal S8x2048x1024 .f32) : FVec Ideal S16384x1024 .f32 :=
  shapeCast _ (addf v (mulf (broadcastInDim S8x2048x1024 ![] bcast_S_S8x2048x1024 (constant S_ .f32 0x3F000000#32)) y)) shapeCasts_S8x2048x1024_S16384x1024

theorem normT_apply (v : FVec Ideal S8x2048x1024 .f32) (g : FVec Ideal S1024 .f32) (b : Fin 8) (s : Fin 2048) (k : Fin 1024) :
    normT v g (ix3 b s k) = rms (fun j => v (ix3 b s j)) g k := by
  unfold rms
  pointwise [normT]

theorem upT_apply (n : FVec Ideal S8x2048x1024 .f32) (w : FVec Ideal S1024x2816 .f32) (b : Fin 8) (s : Fin 2048) (f : Fin 2816) :
    upT n w (ix3 b s f) = ∑ k, n (ix3 b s k) * w (ix2 k f) := by
  pointwise [upT]

theorem siluT_apply (g : FVec Ideal S8x2048x2816 .f32) (b : Fin 8) (s : Fin 2048) (f : Fin 2816) :
    siluT g (ix3 b s f) = g (ix3 b s f) * Ideal.logistic (g (ix3 b s f)) := by
  unfold Ideal.logistic
  pointwise [siluT]

theorem downT_apply (h : FVec Ideal S8x2048x2816 .f32) (w : FVec Ideal S2816x1024 .f32) (b : Fin 8) (s : Fin 2048) (l : Fin 1024) :
    downT h w (ix3 b s l) = ∑ f, h (ix3 b s f) * w (ix2 f l) := by
  pointwise [downT]

theorem stepT_apply (v y : FVec Ideal S8x2048x1024 .f32) (R : Fin 16384) (l : Fin 1024) :
    stepT v y (ix2 R l) = v (ix3 ⟨R.val / 2048, by omega⟩ ⟨R.val % 2048, by omega⟩ l)
      + Ideal.ofBits .f32 0x3F000000#32 * y (ix3 ⟨R.val / 2048, by omega⟩ ⟨R.val % 2048, by omega⟩ l) := by
  pointwise [stepT]

/-- The composed term by its steps. -/
theorem res_steps (m : (ℓ : Loc nD τ sig) → Buf (Elt Ideal) ℓ) (c : Dev nD) :
    res_main_v34 m c
      = stepT (m ((c.tc : Thread nD τ).loc main_arg0))
          (normT (downT (mulf (siluT (upT (normT (m ((c.tc : Thread nD τ).loc main_arg0)) (m ((c.tc : Thread nD τ).loc main_arg1)))
              (m ((c.tc : Thread nD τ).loc main_arg3))))
            (upT (normT (m ((c.tc : Thread nD τ).loc main_arg0)) (m ((c.tc : Thread nD τ).loc main_arg1)))
              (m ((c.tc : Thread nD τ).loc main_arg4)))) (m ((c.tc : Thread nD τ).loc main_arg5)))
            (m ((c.tc : Thread nD τ).loc main_arg2))) := by
  unfold res_main_v34 stepT normT downT siluT upT
  rfl

/-- The reference's result at a row and a column. -/
theorem ref_apply (m : (ℓ : Loc nD τ sig) → Buf (Elt Ideal) ℓ) (c : Dev nD) (R : Fin 16384) (l : Fin 1024) :
    res_main_v34 m c (ix2 R l)
      = res (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) R.val l := by
  rw [res_steps]
  generalize m ((c.tc : Thread nD τ).loc main_arg0) = x
  generalize m ((c.tc : Thread nD τ).loc main_arg1) = gp
  generalize m ((c.tc : Thread nD τ).loc main_arg2) = gq
  generalize m ((c.tc : Thread nD τ).loc main_arg3) = wg
  generalize m ((c.tc : Thread nD τ).loc main_arg4) = wu
  generalize m ((c.tc : Thread nD τ).loc main_arg5) = wd
  have hb : (⟨R.val / 2048, by omega⟩ : Fin 8) = ⟨R.val / 2048 % 8, Nat.mod_lt _ (by decide)⟩ :=
    Fin.ext (Nat.mod_eq_of_lt (by omega)).symm
  rw [stepT_apply, hb, normT_apply]
  unfold res
  congr 2
  refine congrArg (fun v => rms v gq l) (funext fun j => ?_)
  rw [downT_apply, part_all]
  refine Finset.sum_congr rfl fun f _ => ?_
  rw [mulf_apply, siluT_apply, upT_apply, upT_apply]
  have hc : col f.val = f := Fin.ext (Nat.mod_eq_of_lt f.isLt)
  simp only [normT_apply, hid, hc]
  rfl

end Cert.Reference2Ideal.Value

end
-- ==== Proof.FfnValue.lean ====
/-
  The feed-forward kernel's result: what the two carried arrays hold after every grid point, by induction over the
  points, the output array that the last tile of each row block writes, and the claim beside the reference.
-/
module

public import proofs.«01_k».proof.Defs
public import proofs.«01_k».proof.Proof.FfnCases
public import proofs.«01_k».proof.Proof.FfnMath
public import proofs.«01_k».proof.Proof.Gen.Kernel2Ideal.Value

@[expose] public section

noncomputable section

open Idealize.ShloMosaic Idealize.ShloMosaic.TcCoe Idealize.SL.Sem

namespace Cert.Kernel2Ideal.Ffn

open Cert.Kernel2Ideal Cert.Kernel2Ideal.Gen Cert.FfnMath

/-! ## The payloads at an index -/

theorem pay1_apply (x0 : Vec Ideal S1024x1024 .f32) (x1 : Vec Ideal S1x1024 .f32) (r l : Fin 1024) :
    k0_pay1 x0 x1 (ix2 r l) = rms (fun k => x0 (ix2 r k)) (fun j => x1 (ix2 0 (j 0))) l := by
  unfold rms
  pointwise [k0_pay1]

theorem pay2_apply (r l : Fin 1024) : k0_pay2 (F := Ideal) (ix2 r l) = 0 := by
  pointwise [k0_pay2]

theorem pay3_apply (a : Vec Ideal S1024x1024 .bf16) (b e : Vec Ideal S1024x256 .bf16) (s : Vec Ideal S1024x1024 .f32)
    (w : Vec Ideal S256x1024 .bf16) (r l : Fin 1024) :
    k0_pay3 a b e s w (ix2 r l) = s (ix2 r l) + ∑ q : Fin 256,
      ((∑ k, a (ix2 r k) * b (ix2 k q)) * Ideal.logistic (∑ k, a (ix2 r k) * b (ix2 k q))
        * ∑ k, a (ix2 r k) * e (ix2 k q)) * w (ix2 q l) := by
  pointwise [k0_pay3]

theorem pay4_apply (x0 s : Vec Ideal S1024x1024 .f32) (x2 : Vec Ideal S1x1024 .f32) (r l : Fin 1024) :
    k0_pay4 x0 s x2 (ix2 r l) = x0 (ix2 r l) + Ideal.ofBits .f32 0x3F000000#32
      * rms (fun k => s (ix2 r k)) (fun j => x2 (ix2 0 (j 0))) l := by
  unfold rms
  pointwise [k0_pay4]

/-! ## The blocks the points are given -/

variable (m : (ℓ : Loc nD τ sig) → Buf (Elt Ideal) ℓ) (c : Dev nD)

/-- The argument arrays, named. -/
abbrev aX : FVec Ideal S8x2048x1024 .f32 := m ((c : Thread nD τ).loc main_arg0)
abbrev aGp : FVec Ideal S1024 .f32 := m ((c : Thread nD τ).loc main_arg1)
abbrev aGq : FVec Ideal S1024 .f32 := m ((c : Thread nD τ).loc main_arg2)
abbrev aWg : FVec Ideal S1024x2816 .f32 := m ((c : Thread nD τ).loc main_arg3)
abbrev aWu : FVec Ideal S1024x2816 .f32 := m ((c : Thread nD τ).loc main_arg4)
abbrev aWd : FVec Ideal S2816x1024 .f32 := m ((c : Thread nD τ).loc main_arg5)

theorem V0 : V m c main_v0 = shapeCast S16384x1024 (aX m c) shapeCasts_S8x2048x1024_S16384x1024 := by
  unfold_abbrev_sides
  after_results
  rfl
theorem V1 : V m c main_v1 = truncf .bf16 (aWg m c) bitsLt_bf16_f32 := by
  unfold_abbrev_sides
  after_results
theorem V2 : V m c main_v2 = truncf .bf16 (aWu m c) bitsLt_bf16_f32 := by
  unfold_abbrev_sides
  after_results
theorem V3 : V m c main_v3 = truncf .bf16 (aWd m c) bitsLt_bf16_f32 := by
  unfold_abbrev_sides
  after_results
theorem V4 : V m c main_v4 = shapeCast S1x1024 (aGp m c) shapeCasts_S1024_S1x1024 := by
  unfold_abbrev_sides
  after_results
  rfl
theorem V5 : V m c main_v5 = shapeCast S1x1024 (aGq m c) shapeCasts_S1024_S1x1024 := by
  unfold_abbrev_sides
  after_results
  rfl

/-- Which block of each array a grid point is given. -/
theorem where_ : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 11
    ∧ win0_4.index t (0 : Fin 2) = 0 ∧ win0_4.index t (1 : Fin 2) = t.val % 11
    ∧ win0_5.index t (0 : Fin 2) = t.val % 11 ∧ win0_5.index t (1 : Fin 2) = 0 :=
  (by decide +kernel : ∀ t : Fin grid0.N, _)

theorem blk0 (t : Fin cfg0.N) (r k : Fin 1024) :
    (iblk m c 0 t : Vec Ideal S1024x1024 .f32) (ix2 r k) = row (aX m c) (1024 * (t.val / 11) + r.val) k := by
  obtain ⟨h0, h1, -⟩ := where_ t
  have hN : t.val < 176 := lt_of_lt_of_eq t.isLt (show cfg0.N = 176 from N_0)
  have e : (((cfg0.win 0).blk t).view.emb (ix2 r k) : S16384x1024.Idx)
      = ix2 (⟨1024 * (t.val / 11) + r.val, by omega⟩ : Fin 16384) k := by
    funext a; apply Fin.ext
    match a with
    | ⟨0, _⟩ => show win0_0.index t (0 : Fin 2) * 1024 + 1 * r.val = 1024 * (t.val / 11) + r.val; omega
    | ⟨1, _⟩ => show win0_0.index t (1 : Fin 2) * 1024 + 1 * k.val = k.val; omega
  show (V m c main_v0 : FVec Ideal S16384x1024 .f32) (((cfg0.win 0).blk t).view.emb (ix2 r k)) = _
  rw [e, V0]
  unfold row
  have hb : (⟨(1024 * (t.val / 11) + r.val) / 2048 % 8, Nat.mod_lt _ (by decide)⟩ : Fin 8)
      = ⟨(1024 * (t.val / 11) + r.val) / 2048, by omega⟩ := Fin.ext (Nat.mod_eq_of_lt (by omega))
  rw [hb]
  pointwise []

theorem blk1 (t : Fin cfg0.N) (k : Fin 1024) :
    (iblk m c 1 t : Vec Ideal S1x1024 .f32) (ix2 0 k) = aGp m c (ix1 k) := by
  obtain ⟨-, -, h0, h1, -⟩ := where_ t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v4 : FVec Ideal S1x1024 .f32) (((cfg0.win 1).blk t).view.emb (ix2 0 k)) = _
  rw [e, V4]
  pointwise []

theorem blk2 (t : Fin cfg0.N) (k : Fin 1024) :
    (iblk m c 2 t : Vec Ideal S1x1024 .f32) (ix2 0 k) = aGq m c (ix1 k) := by
  obtain ⟨-, -, -, -, h0, h1, -⟩ := where_ t
  have e : (((cfg0.win 2).blk t).view.emb (ix2 0 k) : S1x1024.Idx) = ix2 0 k := by
    funext a; apply Fin.ext
    match a with
    | ⟨0, _⟩ => show win0_2.index t (0 : Fin 2) * 1 + 1 * 0 = 0; omega
    | ⟨1, _⟩ => show win0_2.index t (1 : Fin 2) * 1024 + 1 * k.val = k.val; omega
  show (V m c main_v5 : FVec Ideal S1x1024 .f32) (((cfg0.win 2).blk t).view.emb (ix2 0 k)) = _
  rw [e, V5]
  pointwise []

theorem blk3 (t : Fin cfg0.N) (k : Fin 1024) (q : Fin 256) :
    (iblk m c 3 t : Vec Ideal S1024x256 .bf16) (ix2 k q) = aWg m c (ix2 k (col (256 * (t.val % 11) + q.val))) := by
  obtain ⟨-, -, -, -, -, -, h0, h1, -⟩ := where_ t
  have e : (((cfg0.win 3).blk t).view.emb (ix2 k q) : S1024x2816.Idx) = ix2 k (col (256 * (t.val % 11) + q.val)) := by
    funext a; apply Fin.ext
    match a with
    | ⟨0, _⟩ => show win0_3.index t (0 : Fin 2) * 1024 + 1 * k.val = k.val; omega
    | ⟨1, _⟩ => show win0_3.index t (1 : Fin 2) * 256 + 1 * q.val = (256 * (t.val % 11) + q.val) % 2816; omega
  show (V m c main_v1 : FVec Ideal S1024x2816 .bf16) (((cfg0.win 3).blk t).view.emb (ix2 k q)) = _
  rw [e, V1]
  rfl

theorem blk4 (t : Fin cfg0.N) (k : Fin 1024) (q : Fin 256) :
    (iblk m c 4 t : Vec Ideal S1024x256 .bf16) (ix2 k q) = aWu m c (ix2 k (col (256 * (t.val % 11) + q.val))) := by
  obtain ⟨-, -, -, -, -, -, -, -, h0, h1, -⟩ := where_ t
  have e : (((cfg0.win 4).blk t).view.emb (ix2 k q) : S1024x2816.Idx) = ix2 k (col (256 * (t.val % 11) + q.val)) := by
    funext a; apply Fin.ext
    match a with
    | ⟨0, _⟩ => show win0_4.index t (0 : Fin 2) * 1024 + 1 * k.val = k.val; omega
    | ⟨1, _⟩ => show win0_4.index t (1 : Fin 2) * 256 + 1 * q.val = (256 * (t.val % 11) + q.val) % 2816; omega
  show (V m c main_v2 : FVec Ideal S1024x2816 .bf16) (((cfg0.win 4).blk t).view.emb (ix2 k q)) = _
  rw [e, V2]
  rfl

theorem blk5 (t : Fin cfg0.N) (q : Fin 256) (l : Fin 1024) :
    (iblk m c 5 t : Vec Ideal S256x1024 .bf16) (ix2 q l) = aWd m c (ix2 (col (256 * (t.val % 11) + q.val)) l) := by
  obtain ⟨-, -, -, -, -, -, -, -, -, -, h0, h1⟩ := where_ t
  have e : (((cfg0.win 5).blk t).view.emb (ix2 q l) : S2816x1024.Idx) = ix2 (col (256 * (t.val % 11) + q.val)) l := by
    funext a; apply Fin.ext
    match a with
    | ⟨0, _⟩ => show win0_5.index t (0 : Fin 2) * 256 + 1 * q.val = (256 * (t.val % 11) + q.val) % 2816; omega
    | ⟨1, _⟩ => show win0_5.index t (1 : Fin 2) * 1024 + 1 * l.val = l.val; omega
  show (V m c main_v3 : FVec Ideal S2816x1024 .bf16) (((cfg0.win 5).blk t).view.emb (ix2 q l)) = _
  rw [e, V3]
  rfl

/-! ## The carried arrays after a point -/

/-- The normalised rows of row block `b`. -/
def rowsAt (b : ℕ) : Vec Ideal S1024x1024 .bf16 := fun y => rms (row (aX m c) (1024 * b + (y 0).val)) (aGp m c) (y 1)

/-- The sum over the first `n` hidden columns, for row block `b`. -/
def sumAt (b n : ℕ) : Vec Ideal S1024x1024 .f32 := fun y =>
  part (aX m c) (aGp m c) (aWg m c) (aWu m c) (aWd m c) (1024 * b + (y 0).val) n (y 1)

theorem rows_step (t : Fin cfg0.N) : k0_pay1 (F := Ideal) (iblk m c 0 t) (iblk m c 1 t) = rowsAt m c (t.val / 11) := by
  funext y
  idx_vars y
  rw [pay1_apply]
  simp only [blk0, blk1]
  unfold rowsAt
  refine congrArg (fun g => rms _ g _) (funext fun j => ?_)
  idx_vars j
  exact blk1 m c t j0

theorem sum_step (t : Fin cfg0.N) (s : Vec Ideal S1024x1024 .f32)
    (hs : s = sumAt m c (t.val / 11) (256 * (t.val % 11))) :
    k0_pay3 (F := Ideal) (rowsAt m c (t.val / 11)) (iblk m c 3 t) (iblk m c 4 t) s (iblk m c 5 t)
      = sumAt m c (t.val / 11) (256 * (t.val % 11 + 1)) := by
  funext y
  idx_vars y
  rw [pay3_apply]
  simp only [blk3, blk4, blk5]
  show _ = part (aX m c) (aGp m c) (aWg m c) (aWu m c) (aWd m c) (1024 * (t.val / 11) + y0.val)
    (256 * (t.val % 11 + 1)) y1
  rw [part_tile, hs]
  rfl

theorem carried (n : ℕ) : ∀ hn : n < cfg0.N, (outsAt0 m c n hn).2
    = (rowsAt m c (n / 11), sumAt m c (n / 11) (256 * (n % 11 + 1))) := by
  induction n with
  | zero =>
    intro hn
    rw [outsAt0_A m c ⟨0, hn⟩ (by show 0 % 11 = 0; decide) (by show ¬ 0 % 11 = 10; decide)]
    dsimp only
    rw [rows_A, sum_A, rows_step]
    rw [sum_step m c ⟨0, hn⟩ _ (by
      funext y; idx_vars y; rw [pay2_apply]; unfold sumAt; exact (part_zero _ _ _ _ _ _ _).symm)]
  | succ n ih =>
    intro hn
    have hN : n + 1 < 176 := lt_of_lt_of_eq hn (show cfg0.N = 176 from N_0)
    have ih := ih (Nat.lt_of_succ_lt hn)
    by_cases h0 : (n + 1) % 11 = 0
    · have h1 : ¬ (n + 1) % 11 = 10 := by omega
      rw [outsAt0_A m c ⟨n + 1, hn⟩ h0 h1]
      dsimp only
      rw [rows_A, sum_A, rows_step]
      rw [sum_step m c ⟨n + 1, hn⟩ _ (by
        funext y; idx_vars y; rw [pay2_apply]; unfold sumAt
        dsimp only
        rw [h0]
        exact (part_zero _ _ _ _ _ _ _).symm)]
    · have hd : (n + 1) / 11 = n / 11 := by omega
      have hm : (n + 1) % 11 = n % 11 + 1 := by omega
      by_cases h1 : (n + 1) % 11 = 10
      · rw [outsAt0_C m c ⟨n + 1, hn⟩ h0 h1]
        dsimp only
        rw [sum_C]
        simp only [Nat.add_sub_cancel]
        rw [ih]
        dsimp only
        unfold sout0_C_0
        rw [← hd, sum_step m c ⟨n + 1, hn⟩ _ (by dsimp only; rw [hm])]
      · rw [outsAt0_B m c ⟨n + 1, hn⟩ h0 h1]
        dsimp only
        rw [sum_B]
        simp only [Nat.add_sub_cancel]
        rw [ih]
        dsimp only
        unfold sout0_B_0
        rw [← hd, sum_step m c ⟨n + 1, hn⟩ _ (by dsimp only; rw [hm])]

/-- What a last tile's point writes to the output block. -/
theorem written (t : Fin cfg0.N) (h1 : t.val % 11 = 10) (r l : Fin 1024) :
    (outsAt0 m c t.val t.isLt).1 (ix2 r l)
      = res (aX m c) (aGp m c) (aGq m c) (aWg m c) (aWu m c) (aWd m c) (1024 * (t.val / 11) + r.val) l := by
  have h0 : ¬ t.val % 11 = 0 := by omega
  rw [outsAt0_C m c t h0 h1]
  dsimp only
  rw [out_C]
  have hc := carried m c (t.val - 1) (Nat.lt_of_le_of_lt (Nat.sub_le _ _) t.isLt)
  rw [hc]
  dsimp only
  have hd : (t.val - 1) / 11 = t.val / 11 := by omega
  have hm : (t.val - 1) % 11 + 1 = t.val % 11 := by omega
  rw [hd, hm, sum_step m c t _ rfl, pay4_apply, h1]
  simp only [blk0, blk2]
  unfold res sumAt
  congr 2
  refine congrArg (fun g => rms _ g _) (funext fun j => ?_)
  idx_vars j
  exact blk2 m c t j0

/-- THE OUTPUT ARRAY, at every index. -/
theorem G6_apply (R : Fin 16384) (l : Fin 1024) :
    Value.G6 m c (ix2 R l) = res (aX m c) (aGp m c) (aGq m c) (aWg m c) (aWu m c) (aWd m c) R.val l := by
  have hN : cfg0.N = 176 := N_0
  have hp : Value.pt6Of (ix2 R l) = 11 * (R.val / 1024) + 10 := by
    show 11 * (1 * (R.val / 1024 - 0) + 1 * (l.val / 1024 - 0)) + 10 = _
    omega
  have hlt : Value.pt6Of (ix2 R l) < cfg0.N := by rw [hp, hN]; omega
  unfold Value.G6
  rw [dif_pos hlt, ← Value.outsAt0_sweep m c _ hlt]
  have hloc : Value.loc6Of (ix2 R l) = ix2 (⟨R.val % 1024, Nat.mod_lt _ (by decide)⟩ : Fin 1024) l := by
    funext a; apply Fin.ext
    match a with
    | ⟨0, _⟩ => rfl
    | ⟨1, _⟩ => show l.val % 1024 = l.val; omega
  rw [hloc]
  rw [written m c ⟨_, hlt⟩ (by dsimp only; omega)]
  congr 1
  dsimp only
  omega

end Cert.Kernel2Ideal.Ffn

namespace Cert.Proof

/-- The feed-forward half step: kernel and reference end at one array. -/
theorem ffn_algebraic : Cert.algebraic_Kernel2Ideal_Reference2Ideal := by
  intro m ρ m' ρ' _ hagree
  refine ⟨fun c => Cert.Kernel2Ideal.Value.G6 m c, Cert.Kernel2Ideal.Value.run (F := Ideal) m ρ, ?_⟩
  refine (θ_run _ _ _).mono (fun _ h c => ⟨(h c).1.trans ?_, (h c).2⟩) (Cert.Reference2Ideal.Value.run (F := Ideal) m' ρ')
  funext y
  idx_vars y
  obtain ⟨e0, e1, e2, e3, e4, e5⟩ := hagree c
  rw [Cert.Reference2Ideal.Value.ref_apply, e0, e1, e2, e3, e4, e5]
  exact (Cert.Kernel2Ideal.Ffn.G6_apply m c _ _).symm

end Cert.Proof

end
-- ==== Proof.FramesSwa.lean ====
/-
  The window attention's programs run, leave their arguments as they were and end with every counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim

@[expose] public section

noncomputable section

namespace Cert.Proof

open Idealize.ShloMosaic Idealize.SL.Sem

theorem frame_Kernel : Cert.quiescent_Kernel := fun m g _ => Cert.Kernel.Gen.frame m g
theorem frame_KernelIdeal : Cert.quiescent_KernelIdeal := fun m g _ => Cert.KernelIdeal.Gen.frame m g
theorem frame_ReferenceIdeal : Cert.quiescent_ReferenceIdeal := by
  intro m g _
  exact (θ_run Cert.ReferenceIdeal.defs _ _).mono (fun r h => ⟨fun c => (h c).2,
    sem_eq_zero_of_no_sems (by decide) r.2⟩) (Cert.ReferenceIdeal.Value.run (F := Ideal) m g)

end Cert.Proof

end
-- ==== Proof.SwaLoops.lean ====
module
public import proofs.«01_k».proof.Proof.Gen.KernelIdeal.Frame
public import Idealize.ShloMosaic.Lib.VecWindow
public import Idealize.ShloMosaic.Lib.Pointwise

/-!
What the attention kernel's loops over key blocks leave in the three running arrays

For each of the two groups of heads the kernel runs four loops.  The first walks the key block before the query block,
which is there unless the query block is the first one; the third walks the query block's own keys.  The second and the
fourth are what is left over after grouping the steps, and take no trip.  A trip loads the three running arrays (maximum,
denominator, weighted values), and stores all three whole, so after a trip each holds the value stored last.
-/

@[expose] public section
noncomputable section
open Idealize.ShloMosaic Idealize.ShloMosaic.TcCoe Idealize.SL.Sem
namespace Cert.KernelIdeal.Swa
open Cert.KernelIdeal Cert.KernelIdeal.Gen
variable {F : FTy → Type} [FloatOps F]

/-- The stores `L` leave the value `w` in the whole array, whatever was there before. -/
def Leaves {κ : Kind} {sp : Space} {S : Shape} {e : EltTy} (v : View sig κ sp S e) (L : List (View.Piece (Elt F) S e))
    (w : S.Idx → Elt F e) : Prop := ∀ f, v.read (Elt F) (v.writes (Elt F) f L) = w

/-- A store of the whole array leaves what it stores. -/
theorem leaves_cons {κ : Kind} {sp : Space} {S : Shape} {e : EltTy} (v : View sig κ sp S e) {off : Fin S.rank → ℕ}
    (inb : ∀ a, off a + S.size a ≤ S.size a) (w : (Rect.unit off S.size inb).shape.Idx → Elt F e)
    (L : List (View.Piece (Elt F) S e)) (w' : S.Idx → Elt F e) (h : w = w') :
    Leaves (F := F) v (⟨Rect.unit off S.size inb, w⟩ :: L) w' := fun f => (View.read_writes_full v f inb w L).trans h

/-- A load of the whole array after the stores reads what they left. -/
theorem Leaves.load {κ : Kind} {sp : Space} {S : Shape} {e : EltTy} {v : View sig κ sp S e}
    {L : List (View.Piece (Elt F) S e)} {w : S.Idx → Elt F e} (h : Leaves (F := F) v L w) {off : Fin S.rank → ℕ}
    (inb : ∀ a, off a + S.size a ≤ S.size a) (f) :
    v.readAt (Elt F) (Rect.unit off S.size inb).toLoadRect (v.writes (Elt F) f L) = w := (View.readAt_full v _ inb).trans (h f)

variable (c : Dev nD) (i : grid0.Coords) (arg2 : Memref sig .tc .smem S16 .f32) (harg2 : arg2.IsWhole)
  (arg3 : Memref sig .tc .smem S16 .f32) (harg3 : arg3.IsWhole) (arg4 : Memref sig .tc .vmem S1x1024x128 .bf16)
  (harg4 : arg4.IsWhole) (arg5 : Memref sig .tc .vmem S1x2x2048x64 .bf16) (harg5 : arg5.IsWhole)
  (arg6 : Memref sig .tc .vmem S1x256x2048 .bf16) (harg6 : arg6.IsWhole) (arg7 : Memref sig .tc .vmem S2x128x1024 .f32)
  (harg7 : arg7.IsWhole) (arg8 : Memref sig .tc .vmem S1x1024x128 .bf16) (harg8 : arg8.IsWhole)
  (arg9 : Memref sig .tc .vmem S1x1024 .f32) (harg9 : arg9.IsWhole) (arg10 : Memref sig .tc .vmem S1x1024 .f32)
  (harg10 : arg10.IsWhole) (arg11 : Memref sig .tc .vmem S64x1024 .f32) (harg11 : arg11.IsWhole)

/-- Loop 2 takes no trip and stores nothing. -/
theorem loop2_none (𝒱 : Variants) (bd : Option 𝒱.V) (arg1 : BitVec 32) (v5 : IVec S1x1024 32) (v7 : BitVec 32) (v8 : BitVec 32) (v25 : FVec F S64x1024 .bf16) (v42 : FVec F S1x1024 .f32) (v66 : FVec F S1x1024 .f32) (v76 : BitVec 32)
    (X5 : BufTy.Contents (Elt F) arg5.view.ty) (X6 : BufTy.Contents (Elt F) arg6.view.ty) (X7 : BufTy.Contents (Elt F) arg7.view.ty) (G9 G10 G11)
    (h : Scf.trips (k0_t2_loop i).lb (k0_t2_loop i).ub (k0_t2_loop i).st = 0) :
    pb_k0_t2 (F := F) 𝒱 c bd i arg2 harg2 arg3 harg3 arg4 harg4 arg5 harg5 arg6 harg6 arg7 harg7 arg8 harg8 arg9 harg9 arg10 harg10 arg11 harg11 arg1 v5 v7 v8 v25 v42 v66 v76 X5 X6 X7 G9 G10 G11
      (Scf.trips (k0_t2_loop i).lb (k0_t2_loop i).ub (k0_t2_loop i).st) = ([], [], []) := by
  rw [h]; rfl

/-- Loop 4 takes no trip and stores nothing. -/
theorem loop4_none (𝒱 : Variants) (bd : Option 𝒱.V) (arg1 : BitVec 32) (v5 : IVec S1x1024 32) (v7 : BitVec 32) (v8 : BitVec 32) (v25 : FVec F S64x1024 .bf16) (v42 : FVec F S1x1024 .f32) (v66 : FVec F S1x1024 .f32) (v82 : BitVec 32)
    (X5 : BufTy.Contents (Elt F) arg5.view.ty) (X6 : BufTy.Contents (Elt F) arg6.view.ty) (X7 : BufTy.Contents (Elt F) arg7.view.ty) (G9 G10 G11)
    (h : Scf.trips (k0_t4_loop i).lb (k0_t4_loop i).ub (k0_t4_loop i).st = 0) :
    pb_k0_t4 (F := F) 𝒱 c bd i arg2 harg2 arg3 harg3 arg4 harg4 arg5 harg5 arg6 harg6 arg7 harg7 arg8 harg8 arg9 harg9 arg10 harg10 arg11 harg11 arg1 v5 v7 v8 v25 v42 v66 v82 X5 X6 X7 G9 G10 G11
      (Scf.trips (k0_t4_loop i).lb (k0_t4_loop i).ub (k0_t4_loop i).st) = ([], [], []) := by
  rw [h]; rfl

/-- Loop 6 takes no trip and stores nothing. -/
theorem loop6_none (𝒱 : Variants) (bd : Option 𝒱.V) (arg1 : BitVec 32) (v5 : IVec S1x1024 32) (v7 : BitVec 32) (v8 : BitVec 32) (v145 : FVec F S64x1024 .bf16) (v162 : FVec F S1x1024 .f32) (c0 : BitVec 32) (v196 : BitVec 32)
    (X5 : BufTy.Contents (Elt F) arg5.view.ty) (X6 : BufTy.Contents (Elt F) arg6.view.ty) (X7 : BufTy.Contents (Elt F) arg7.view.ty) (G9 G10 G11)
    (h : Scf.trips (k0_t6_loop i).lb (k0_t6_loop i).ub (k0_t6_loop i).st = 0) :
    pb_k0_t6 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7 G9 G10 G11
      (Scf.trips (k0_t6_loop i).lb (k0_t6_loop i).ub (k0_t6_loop i).st) = ([], [], []) := by
  rw [h]; rfl

/-- Loop 8 takes no trip and stores nothing. -/
theorem loop8_none (𝒱 : Variants) (bd : Option 𝒱.V) (arg1 : BitVec 32) (v5 : IVec S1x1024 32) (v7 : BitVec 32) (v8 : BitVec 32) (v145 : FVec F S64x1024 .bf16) (v162 : FVec F S1x1024 .f32) (c0 : BitVec 32) (v196 : BitVec 32) (v202 : BitVec 32)
    (X5 : BufTy.Contents (Elt F) arg5.view.ty) (X6 : BufTy.Contents (Elt F) arg6.view.ty) (X7 : BufTy.Contents (Elt F) arg7.view.ty) (G9 G10 G11)
    (h : Scf.trips (k0_t8_loop i).lb (k0_t8_loop i).ub (k0_t8_loop i).st = 0) :
    pb_k0_t8 (F := F) 𝒱 c bd i arg2 harg2 arg3 harg3 arg4 harg4 arg5 harg5 arg6 harg6 arg7 harg7 arg8 harg8 arg9 harg9 arg10 harg10 arg11 harg11 arg1 v5 v7 v8 v145 v162 c0 v196 v202 X5 X6 X7 G9 G10 G11
      (Scf.trips (k0_t8_loop i).lb (k0_t8_loop i).ub (k0_t8_loop i).st) = ([], [], []) := by
  rw [h]; rfl

/-- Loop 1 takes no trip and stores nothing at the first query block. -/
theorem loop1_none (𝒱 : Variants) (bd : Option 𝒱.V) (arg1 : BitVec 32) (v5 : IVec S1x1024 32) (v7 : BitVec 32) (v8 : BitVec 32) (v25 : FVec F S64x1024 .bf16) (v42 : FVec F S1x1024 .f32) (v66 : FVec F S1x1024 .f32)
    (X5 : BufTy.Contents (Elt F) arg5.view.ty) (X6 : BufTy.Contents (Elt F) arg6.view.ty) (X7 : BufTy.Contents (Elt F) arg7.view.ty) (G9 G10 G11)
    (h : Scf.trips (k0_t1_loop i).lb (k0_t1_loop i).ub (k0_t1_loop i).st = 0) :
    pb_k0_t1 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7 G9 G10 G11
      (Scf.trips (k0_t1_loop i).lb (k0_t1_loop i).ub (k0_t1_loop i).st) = ([], [], []) := by
  rw [h]; rfl

/-- Loop 5 takes no trip and stores nothing at the first query block. -/
theorem loop5_none (𝒱 : Variants) (bd : Option 𝒱.V) (arg1 : BitVec 32) (v5 : IVec S1x1024 32) (v7 : BitVec 32) (v8 : BitVec 32) (v145 : FVec F S64x1024 .bf16) (v162 : FVec F S1x1024 .f32) (c0 : BitVec 32) (v196 : BitVec 32)
    (X5 : BufTy.Contents (Elt F) arg5.view.ty) (X6 : BufTy.Contents (Elt F) arg6.view.ty) (X7 : BufTy.Contents (Elt F) arg7.view.ty) (G9 G10 G11)
    (h : Scf.trips (k0_t5_loop i).lb (k0_t5_loop i).ub (k0_t5_loop i).st = 0) :
    pb_k0_t5 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7 G9 G10 G11
      (Scf.trips (k0_t5_loop i).lb (k0_t5_loop i).ub (k0_t5_loop i).st) = ([], [], []) := by
  rw [h]; rfl

/-- A trip of loop 1 leaves the new maximum, the new denominator and the new weighted values. -/
theorem loop1_one (𝒱 : Variants) (bd : Option 𝒱.V) (arg1 : BitVec 32) (v5 : IVec S1x1024 32) (v7 : BitVec 32) (v8 : BitVec 32) (v25 : FVec F S64x1024 .bf16) (v42 : FVec F S1x1024 .f32) (v66 : FVec F S1x1024 .f32)
    (X5 : BufTy.Contents (Elt F) arg5.view.ty) (X6 : BufTy.Contents (Elt F) arg6.view.ty) (X7 : BufTy.Contents (Elt F) arg7.view.ty) (k : Fin (k0_t1_loop i).trips) (hk : k.val = 0)
    (h : Scf.trips (k0_t1_loop i).lb (k0_t1_loop i).ub (k0_t1_loop i).st = 1)
    (L9 L10 L11) (m l : FVec F S1x1024 .f32) (acc : FVec F S64x1024 .f32) (H9 : Leaves (F := F) arg9.view L9 m)
    (H10 : Leaves (F := F) arg10.view L10 l) (H11 : Leaves (F := F) arg11.view L11 acc)
    (kb : Vec F S1x1x128x64 .bf16) (hkb : (arg5.view.readAt (Elt F) (Rect.unit (s := S1x2x2048x64) (k0_off1 i k) S1x1x128x64.size (k0_off1_inb i k)).toLoadRect X5) = kb)
    (rb : Vec F S1x128x1024 .f32) (hrb : (arg7.view.readAt (Elt F) (Rect.unit (s := S2x128x1024) ![0, 0, 0] S1x128x1024.size inb_S2x128x1024_S1x128x1024_0_0_0).toLoadRect X7) = rb)
    (vb : Vec F S1x64x128 .bf16) (hvb : (arg6.view.readAt (Elt F) (Rect.unit (s := S1x256x2048) (k0_off2 i k) S1x64x128.size (k0_off2_inb i k)).toLoadRect X6) = vb) :
    Leaves (F := F) arg9.view ((pb_k0_t1 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk L9) (arg10.view.writes (Elt F) arg10.view.junk L10) (arg11.view.writes (Elt F) arg11.view.junk L11)
      (Scf.trips (k0_t1_loop i).lb (k0_t1_loop i).ub (k0_t1_loop i).st)).1 ++ L9) (k0_pay7 i v5 v7 v25 v42 0#32 1#32 k kb rb m)
    ∧ Leaves (F := F) arg10.view ((pb_k0_t1 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk L9) (arg10.view.writes (Elt F) arg10.view.junk L10) (arg11.view.writes (Elt F) arg11.view.junk L11)
      (Scf.trips (k0_t1_loop i).lb (k0_t1_loop i).ub (k0_t1_loop i).st)).2.1 ++ L10) (k0_pay10 i v5 v7 v25 v42 0#32 1#32 k kb rb m l)
    ∧ Leaves (F := F) arg11.view ((pb_k0_t1 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk L9) (arg10.view.writes (Elt F) arg10.view.junk L10) (arg11.view.writes (Elt F) arg11.view.junk L11)
      (Scf.trips (k0_t1_loop i).lb (k0_t1_loop i).ub (k0_t1_loop i).st)).2.2 ++ L11)
        (k0_pay54 (k0_pay8 i v5 v7 v25 v42 0#32 1#32 k kb rb m) (k0_pay9 i v5 v7 v25 v42 0#32 1#32 k kb rb m) acc vb) := by
  subst hkb hrb hvb
  have e9 := H9.load inb_S1x1024_S1x1024_0_0 arg9.view.junk
  have e10 := H10.load inb_S1x1024_S1x1024_0_0 arg10.view.junk
  have e11 := H11.load inb_S64x1024_S64x1024_0_0 arg11.view.junk
  have one := h.trans (show (1 : ℕ) = k.val + 1 by omega)
  rw [one, pb_k0_t1_succ, hk]
  unfold tripL_k0_t1 trip_k0_t1
  dsimp only [pb_k0_t1, View.writes_nil, List.append_nil, List.singleton_append, List.cons_append, List.nil_append]
  refine ⟨leaves_cons _ _ _ _ _ ?_, leaves_cons _ _ _ _ _ ?_, leaves_cons _ _ _ _ _ ?_⟩
  · unfold k0_pay55
    rw [← e9]; exact shapeCast_id _ _
  · unfold k0_pay53
    rw [← e9, ← e10]; exact shapeCast_id _ _
  · rw [← e9, ← e11]; rfl

/-- A trip of loop 3 leaves the new maximum, the new denominator and the new weighted values. -/
theorem loop3_one (𝒱 : Variants) (bd : Option 𝒱.V) (arg1 : BitVec 32) (v5 : IVec S1x1024 32) (v7 : BitVec 32) (v8 : BitVec 32) (v25 : FVec F S64x1024 .bf16) (v42 : FVec F S1x1024 .f32) (v66 : FVec F S1x1024 .f32)
    (X5 : BufTy.Contents (Elt F) arg5.view.ty) (X6 : BufTy.Contents (Elt F) arg6.view.ty) (X7 : BufTy.Contents (Elt F) arg7.view.ty) (k : Fin (k0_t3_loop i).trips) (hk : k.val = 0)
    (h : Scf.trips (k0_t3_loop i).lb (k0_t3_loop i).ub (k0_t3_loop i).st = 1)
    (L9 L10 L11) (m l : FVec F S1x1024 .f32) (acc : FVec F S64x1024 .f32) (H9 : Leaves (F := F) arg9.view L9 m)
    (H10 : Leaves (F := F) arg10.view L10 l) (H11 : Leaves (F := F) arg11.view L11 acc)
    (kb : Vec F S1x1x128x64 .bf16) (hkb : (arg5.view.readAt (Elt F) (Rect.unit (s := S1x2x2048x64) (k0_off5 i k) S1x1x128x64.size (k0_off5_inb i k)).toLoadRect X5) = kb)
    (rb : Vec F S1x128x1024 .f32) (hrb : (arg7.view.readAt (Elt F) (Rect.unit (s := S2x128x1024) ![0, 0, 0] S1x128x1024.size inb_S2x128x1024_S1x128x1024_0_0_0).toLoadRect X7) = rb)
    (vb : Vec F S1x64x128 .bf16) (hvb : (arg6.view.readAt (Elt F) (Rect.unit (s := S1x256x2048) (k0_off6 i k) S1x64x128.size (k0_off6_inb i k)).toLoadRect X6) = vb) :
    Leaves (F := F) arg9.view ((pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk L9) (arg10.view.writes (Elt F) arg10.view.junk L10) (arg11.view.writes (Elt F) arg11.view.junk L11)
      (Scf.trips (k0_t3_loop i).lb (k0_t3_loop i).ub (k0_t3_loop i).st)).1 ++ L9) (k0_pay17 i arg1 v5 v25 v42 0#32 1#32 k kb rb m)
    ∧ Leaves (F := F) arg10.view ((pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk L9) (arg10.view.writes (Elt F) arg10.view.junk L10) (arg11.view.writes (Elt F) arg11.view.junk L11)
      (Scf.trips (k0_t3_loop i).lb (k0_t3_loop i).ub (k0_t3_loop i).st)).2.1 ++ L10) (k0_pay20 i arg1 v5 v25 v42 0#32 1#32 k kb rb m l)
    ∧ Leaves (F := F) arg11.view ((pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk L9) (arg10.view.writes (Elt F) arg10.view.junk L10) (arg11.view.writes (Elt F) arg11.view.junk L11)
      (Scf.trips (k0_t3_loop i).lb (k0_t3_loop i).ub (k0_t3_loop i).st)).2.2 ++ L11)
        (k0_pay60 (k0_pay18 i arg1 v5 v25 v42 0#32 1#32 k kb rb m) (k0_pay19 i arg1 v5 v25 v42 0#32 1#32 k kb rb m) acc vb) := by
  subst hkb hrb hvb
  have e9 := H9.load inb_S1x1024_S1x1024_0_0 arg9.view.junk
  have e10 := H10.load inb_S1x1024_S1x1024_0_0 arg10.view.junk
  have e11 := H11.load inb_S64x1024_S64x1024_0_0 arg11.view.junk
  have one := h.trans (show (1 : ℕ) = k.val + 1 by omega)
  rw [one, pb_k0_t3_succ, hk]
  unfold tripL_k0_t3 trip_k0_t3
  dsimp only [pb_k0_t3, View.writes_nil, List.append_nil, List.singleton_append, List.cons_append, List.nil_append]
  refine ⟨leaves_cons _ _ _ _ _ ?_, leaves_cons _ _ _ _ _ ?_, leaves_cons _ _ _ _ _ ?_⟩
  · unfold k0_pay61
    rw [← e9]; exact shapeCast_id _ _
  · unfold k0_pay59
    rw [← e9, ← e10]; exact shapeCast_id _ _
  · rw [← e9, ← e11]; rfl

/-- A trip of loop 5 leaves the new maximum, the new denominator and the new weighted values. -/
theorem loop5_one (𝒱 : Variants) (bd : Option 𝒱.V) (arg1 : BitVec 32) (v5 : IVec S1x1024 32) (v7 : BitVec 32) (v8 : BitVec 32) (v145 : FVec F S64x1024 .bf16) (v162 : FVec F S1x1024 .f32) (c0 : BitVec 32) (v196 : BitVec 32)
    (X5 : BufTy.Contents (Elt F) arg5.view.ty) (X6 : BufTy.Contents (Elt F) arg6.view.ty) (X7 : BufTy.Contents (Elt F) arg7.view.ty) (k : Fin (k0_t5_loop i).trips) (hk : k.val = 0)
    (h : Scf.trips (k0_t5_loop i).lb (k0_t5_loop i).ub (k0_t5_loop i).st = 1)
    (L9 L10 L11) (m l : FVec F S1x1024 .f32) (acc : FVec F S64x1024 .f32) (H9 : Leaves (F := F) arg9.view L9 m)
    (H10 : Leaves (F := F) arg10.view L10 l) (H11 : Leaves (F := F) arg11.view L11 acc)
    (kb : Vec F S1x1x128x64 .bf16) (hkb : (arg5.view.readAt (Elt F) (Rect.unit (s := S1x2x2048x64) (k0_off9 i k) S1x1x128x64.size (k0_off9_inb i k)).toLoadRect X5) = kb)
    (rb : Vec F S1x128x1024 .f32) (hrb : (arg7.view.readAt (Elt F) (Rect.unit (s := S2x128x1024) ![1, 0, 0] S1x128x1024.size inb_S2x128x1024_S1x128x1024_1_0_0).toLoadRect X7) = rb)
    (vb : Vec F S1x64x128 .bf16) (hvb : (arg6.view.readAt (Elt F) (Rect.unit (s := S1x256x2048) (k0_off10 i k) S1x64x128.size (k0_off10_inb i k)).toLoadRect X6) = vb) :
    Leaves (F := F) arg9.view ((pb_k0_t5 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7
      (arg9.view.writes (Elt F) arg9.view.junk L9) (arg10.view.writes (Elt F) arg10.view.junk L10) (arg11.view.writes (Elt F) arg11.view.junk L11)
      (Scf.trips (k0_t5_loop i).lb (k0_t5_loop i).ub (k0_t5_loop i).st)).1 ++ L9) (k0_pay27 i v5 v7 v145 v162 c0 1#32 k kb rb m)
    ∧ Leaves (F := F) arg10.view ((pb_k0_t5 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7
      (arg9.view.writes (Elt F) arg9.view.junk L9) (arg10.view.writes (Elt F) arg10.view.junk L10) (arg11.view.writes (Elt F) arg11.view.junk L11)
      (Scf.trips (k0_t5_loop i).lb (k0_t5_loop i).ub (k0_t5_loop i).st)).2.1 ++ L10) (k0_pay30 i v5 v7 v145 v162 c0 1#32 k kb rb m l)
    ∧ Leaves (F := F) arg11.view ((pb_k0_t5 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7
      (arg9.view.writes (Elt F) arg9.view.junk L9) (arg10.view.writes (Elt F) arg10.view.junk L10) (arg11.view.writes (Elt F) arg11.view.junk L11)
      (Scf.trips (k0_t5_loop i).lb (k0_t5_loop i).ub (k0_t5_loop i).st)).2.2 ++ L11)
        (k0_pay88 (k0_pay28 i v5 v7 v145 v162 c0 1#32 k kb rb m) (k0_pay29 i v5 v7 v145 v162 c0 1#32 k kb rb m) acc vb) := by
  subst hkb hrb hvb
  have e9 := H9.load inb_S1x1024_S1x1024_0_0 arg9.view.junk
  have e10 := H10.load inb_S1x1024_S1x1024_0_0 arg10.view.junk
  have e11 := H11.load inb_S64x1024_S64x1024_0_0 arg11.view.junk
  have one := h.trans (show (1 : ℕ) = k.val + 1 by omega)
  rw [one, pb_k0_t5_succ, hk]
  unfold tripL_k0_t5 trip_k0_t5
  dsimp only [pb_k0_t5, View.writes_nil, List.append_nil, List.singleton_append, List.cons_append, List.nil_append]
  refine ⟨leaves_cons _ _ _ _ _ ?_, leaves_cons _ _ _ _ _ ?_, leaves_cons _ _ _ _ _ ?_⟩
  · unfold k0_pay89
    rw [← e9]; exact shapeCast_id _ _
  · unfold k0_pay87
    rw [← e9, ← e10]; exact shapeCast_id _ _
  · rw [← e9, ← e11]; rfl

/-- A trip of loop 7 leaves the new maximum, the new denominator and the new weighted values. -/
theorem loop7_one (𝒱 : Variants) (bd : Option 𝒱.V) (arg1 : BitVec 32) (v5 : IVec S1x1024 32) (v7 : BitVec 32) (v8 : BitVec 32) (v145 : FVec F S64x1024 .bf16) (v162 : FVec F S1x1024 .f32) (c0 : BitVec 32) (v196 : BitVec 32)
    (X5 : BufTy.Contents (Elt F) arg5.view.ty) (X6 : BufTy.Contents (Elt F) arg6.view.ty) (X7 : BufTy.Contents (Elt F) arg7.view.ty) (k : Fin (k0_t7_loop i).trips) (hk : k.val = 0)
    (h : Scf.trips (k0_t7_loop i).lb (k0_t7_loop i).ub (k0_t7_loop i).st = 1)
    (L9 L10 L11) (m l : FVec F S1x1024 .f32) (acc : FVec F S64x1024 .f32) (H9 : Leaves (F := F) arg9.view L9 m)
    (H10 : Leaves (F := F) arg10.view L10 l) (H11 : Leaves (F := F) arg11.view L11 acc)
    (kb : Vec F S1x1x128x64 .bf16) (hkb : (arg5.view.readAt (Elt F) (Rect.unit (s := S1x2x2048x64) (k0_off13 i k) S1x1x128x64.size (k0_off13_inb i k)).toLoadRect X5) = kb)
    (rb : Vec F S1x128x1024 .f32) (hrb : (arg7.view.readAt (Elt F) (Rect.unit (s := S2x128x1024) ![1, 0, 0] S1x128x1024.size inb_S2x128x1024_S1x128x1024_1_0_0).toLoadRect X7) = rb)
    (vb : Vec F S1x64x128 .bf16) (hvb : (arg6.view.readAt (Elt F) (Rect.unit (s := S1x256x2048) (k0_off14 i k) S1x64x128.size (k0_off14_inb i k)).toLoadRect X6) = vb) :
    Leaves (F := F) arg9.view ((pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7
      (arg9.view.writes (Elt F) arg9.view.junk L9) (arg10.view.writes (Elt F) arg10.view.junk L10) (arg11.view.writes (Elt F) arg11.view.junk L11)
      (Scf.trips (k0_t7_loop i).lb (k0_t7_loop i).ub (k0_t7_loop i).st)).1 ++ L9) (k0_pay37 i arg1 v5 v145 v162 0#32 1#32 k kb rb m)
    ∧ Leaves (F := F) arg10.view ((pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7
      (arg9.view.writes (Elt F) arg9.view.junk L9) (arg10.view.writes (Elt F) arg10.view.junk L10) (arg11.view.writes (Elt F) arg11.view.junk L11)
      (Scf.trips (k0_t7_loop i).lb (k0_t7_loop i).ub (k0_t7_loop i).st)).2.1 ++ L10) (k0_pay40 i arg1 v5 v145 v162 0#32 1#32 k kb rb m l)
    ∧ Leaves (F := F) arg11.view ((pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 v196 X5 X6 X7
      (arg9.view.writes (Elt F) arg9.view.junk L9) (arg10.view.writes (Elt F) arg10.view.junk L10) (arg11.view.writes (Elt F) arg11.view.junk L11)
      (Scf.trips (k0_t7_loop i).lb (k0_t7_loop i).ub (k0_t7_loop i).st)).2.2 ++ L11)
        (k0_pay94 (k0_pay38 i arg1 v5 v145 v162 0#32 1#32 k kb rb m) (k0_pay39 i arg1 v5 v145 v162 0#32 1#32 k kb rb m) acc vb) := by
  subst hkb hrb hvb
  have e9 := H9.load inb_S1x1024_S1x1024_0_0 arg9.view.junk
  have e10 := H10.load inb_S1x1024_S1x1024_0_0 arg10.view.junk
  have e11 := H11.load inb_S64x1024_S64x1024_0_0 arg11.view.junk
  have one := h.trans (show (1 : ℕ) = k.val + 1 by omega)
  rw [one, pb_k0_t7_succ, hk]
  unfold tripL_k0_t7 trip_k0_t7
  dsimp only [pb_k0_t7, View.writes_nil, List.append_nil, List.singleton_append, List.cons_append, List.nil_append]
  refine ⟨leaves_cons _ _ _ _ _ ?_, leaves_cons _ _ _ _ _ ?_, leaves_cons _ _ _ _ _ ?_⟩
  · unfold k0_pay95
    rw [← e9]; exact shapeCast_id _ _
  · unfold k0_pay93
    rw [← e9, ← e10]; exact shapeCast_id _ _
  · rw [← e9, ← e11]; rfl

end Cert.KernelIdeal.Swa
end
-- ==== Proof.SwaGroups.lean ====
module
public import proofs.«01_k».proof.Proof.SwaLoops

/-!
What the four loops of one group of heads leave together

The stores of the loops of a group in the order they are made, after stores `L9 L10 L11` that leave a maximum `m`, a
denominator `l` and weighted values `acc`.  At the first query block only the query block's own keys are walked; at any
other one the key block before it is walked first.
-/

@[expose] public section
noncomputable section
open Idealize.ShloMosaic Idealize.ShloMosaic.TcCoe Idealize.SL.Sem
namespace Cert.KernelIdeal.Swa
open Cert.KernelIdeal Cert.KernelIdeal.Gen
variable {F : FTy → Type} [FloatOps F]

variable (c : Dev nD) (i : grid0.Coords) (arg2 : Memref sig .tc .smem S16 .f32) (harg2 : arg2.IsWhole)
  (arg3 : Memref sig .tc .smem S16 .f32) (harg3 : arg3.IsWhole) (arg4 : Memref sig .tc .vmem S1x1024x128 .bf16)
  (harg4 : arg4.IsWhole) (arg5 : Memref sig .tc .vmem S1x2x2048x64 .bf16) (harg5 : arg5.IsWhole)
  (arg6 : Memref sig .tc .vmem S1x256x2048 .bf16) (harg6 : arg6.IsWhole) (arg7 : Memref sig .tc .vmem S2x128x1024 .f32)
  (harg7 : arg7.IsWhole) (arg8 : Memref sig .tc .vmem S1x1024x128 .bf16) (harg8 : arg8.IsWhole)
  (arg9 : Memref sig .tc .vmem S1x1024 .f32) (harg9 : arg9.IsWhole) (arg10 : Memref sig .tc .vmem S1x1024 .f32)
  (harg10 : arg10.IsWhole) (arg11 : Memref sig .tc .vmem S64x1024 .f32) (harg11 : arg11.IsWhole)

/-- At the first query block. -/
theorem group0_first (𝒱 : Variants) (bd : Option 𝒱.V) (arg1 : BitVec 32) (v5 : IVec S1x1024 32) (v7 v8 : BitVec 32) (v25 : FVec F S64x1024 .bf16) (v42 : FVec F S1x1024 .f32) (v66 : FVec F S1x1024 .f32) (w2 w4 : BitVec 32)
    (X5 : BufTy.Contents (Elt F) arg5.view.ty) (X6 : BufTy.Contents (Elt F) arg6.view.ty) (X7 : BufTy.Contents (Elt F) arg7.view.ty)
    (L9 L10 L11) (m l : FVec F S1x1024 .f32) (acc : FVec F S64x1024 .f32) (H9 : Leaves (F := F) arg9.view L9 m)
    (H10 : Leaves (F := F) arg10.view L10 l) (H11 : Leaves (F := F) arg11.view L11 acc) (P1 P2 P3 P4)
    (e1 : pb_k0_t1 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk (L9)) (arg10.view.writes (Elt F) arg10.view.junk (L10)) (arg11.view.writes (Elt F) arg11.view.junk (L11))
      (Scf.trips (k0_t1_loop i).lb (k0_t1_loop i).ub (k0_t1_loop i).st) = P1)
    (e2 : pb_k0_t2 (F := F) 𝒱 c bd i arg2 harg2 arg3 harg3 arg4 harg4 arg5 harg5 arg6 harg6 arg7 harg7 arg8 harg8 arg9 harg9 arg10 harg10 arg11 harg11 arg1 v5 v7 v8 v25 v42 v66 w2 X5 X6 X7
      (arg9.view.writes (Elt F) arg9.view.junk (P1.1 ++ (L9))) (arg10.view.writes (Elt F) arg10.view.junk (P1.2.1 ++ (L10))) (arg11.view.writes (Elt F) arg11.view.junk (P1.2.2 ++ (L11)))
      (Scf.trips (k0_t2_loop i).lb (k0_t2_loop i).ub (k0_t2_loop i).st) = P2)
    (e3 : pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk (P2.1 ++ (P1.1 ++ (L9)))) (arg10.view.writes (Elt F) arg10.view.junk (P2.2.1 ++ (P1.2.1 ++ (L10)))) (arg11.view.writes (Elt F) arg11.view.junk (P2.2.2 ++ (P1.2.2 ++ (L11))))
      (Scf.trips (k0_t3_loop i).lb (k0_t3_loop i).ub (k0_t3_loop i).st) = P3)
    (e4 : pb_k0_t4 (F := F) 𝒱 c bd i arg2 harg2 arg3 harg3 arg4 harg4 arg5 harg5 arg6 harg6 arg7 harg7 arg8 harg8 arg9 harg9 arg10 harg10 arg11 harg11 arg1 v5 v7 v8 v25 v42 v66 w4 X5 X6 X7
      (arg9.view.writes (Elt F) arg9.view.junk (P3.1 ++ (P2.1 ++ (P1.1 ++ (L9))))) (arg10.view.writes (Elt F) arg10.view.junk (P3.2.1 ++ (P2.2.1 ++ (P1.2.1 ++ (L10))))) (arg11.view.writes (Elt F) arg11.view.junk (P3.2.2 ++ (P2.2.2 ++ (P1.2.2 ++ (L11)))))
      (Scf.trips (k0_t4_loop i).lb (k0_t4_loop i).ub (k0_t4_loop i).st) = P4)
    (h1 : Scf.trips (k0_t1_loop i).lb (k0_t1_loop i).ub (k0_t1_loop i).st = 0) (h2 : Scf.trips (k0_t2_loop i).lb (k0_t2_loop i).ub (k0_t2_loop i).st = 0) (h3 : Scf.trips (k0_t3_loop i).lb (k0_t3_loop i).ub (k0_t3_loop i).st = 1) (h4 : Scf.trips (k0_t4_loop i).lb (k0_t4_loop i).ub (k0_t4_loop i).st = 0)
    (rb : Vec F S1x128x1024 .f32) (hrb : (arg7.view.readAt (Elt F) (Rect.unit (s := S2x128x1024) ![0, 0, 0] S1x128x1024.size inb_S2x128x1024_S1x128x1024_0_0_0).toLoadRect X7) = rb)
    (k3 : Fin (k0_t3_loop i).trips) (hk3 : k3.val = 0)
    (kb3 : Vec F S1x1x128x64 .bf16) (hkb3 : (arg5.view.readAt (Elt F) (Rect.unit (s := S1x2x2048x64) (k0_off5 i k3) S1x1x128x64.size (k0_off5_inb i k3)).toLoadRect X5) = kb3)
    (vb3 : Vec F S1x64x128 .bf16) (hvb3 : (arg6.view.readAt (Elt F) (Rect.unit (s := S1x256x2048) (k0_off6 i k3) S1x64x128.size (k0_off6_inb i k3)).toLoadRect X6) = vb3)
    : Leaves (F := F) arg10.view (P4.2.1 ++ (P3.2.1 ++ (P2.2.1 ++ (P1.2.1 ++ (L10)))))
      (k0_pay20 i arg1 v5 v25 v42 0#32 1#32 k3 kb3 rb m l)
    ∧ Leaves (F := F) arg11.view (P4.2.2 ++ (P3.2.2 ++ (P2.2.2 ++ (P1.2.2 ++ (L11)))))
      (k0_pay60 (k0_pay18 i arg1 v5 v25 v42 0#32 1#32 k3 kb3 rb m) (k0_pay19 i arg1 v5 v25 v42 0#32 1#32 k3 kb3 rb m)
        acc vb3) := by
  obtain rfl : P1 = ([], [], []) := e1.symm.trans (loop1_none c i arg2 harg2 arg3 harg3 arg4 harg4 arg5 harg5 arg6 harg6 arg7 harg7 arg8 harg8 arg9 harg9 arg10 harg10 arg11 harg11 𝒱 bd arg1 v5 v7 v8 v25 v42 v66 X5 X6 X7 _ _ _  h1)
  obtain rfl : P2 = ([], [], []) := e2.symm.trans (loop2_none c i arg2 harg2 arg3 harg3 arg4 harg4 arg5 harg5 arg6 harg6 arg7 harg7 arg8 harg8 arg9 harg9 arg10 harg10 arg11 harg11 𝒱 bd arg1 v5 v7 v8 v25 v42 v66 w2 X5 X6 X7 _ _ _  h2)
  have T3 := loop3_one c i arg2 harg2 arg3 harg3 arg4 harg4 arg5 harg5 arg6 harg6 arg7 harg7 arg8 harg8 arg9 harg9 arg10 harg10 arg11 harg11 𝒱 bd arg1 v5 v7 v8 v25 v42 v66 X5 X6 X7 k3 hk3 h3 _ _ _ m l
    acc H9 H10 H11 kb3 hkb3 rb hrb vb3 hvb3
  have e3' := e3
  change pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7 (arg9.view.writes (Elt F) arg9.view.junk (L9)) (arg10.view.writes (Elt F) arg10.view.junk (L10)) (arg11.view.writes (Elt F) arg11.view.junk (L11)) (Scf.trips (k0_t3_loop i).lb (k0_t3_loop i).ub (k0_t3_loop i).st) = P3 at e3'
  rw [e3'] at T3
  obtain rfl : P4 = ([], [], []) := e4.symm.trans (loop4_none c i arg2 harg2 arg3 harg3 arg4 harg4 arg5 harg5 arg6 harg6 arg7 harg7 arg8 harg8 arg9 harg9 arg10 harg10 arg11 harg11 𝒱 bd arg1 v5 v7 v8 v25 v42 v66 w4 X5 X6 X7 _ _ _  h4)
  exact ⟨T3.2.1, T3.2.2⟩

/-- At a later query block. -/
theorem group0_later (𝒱 : Variants) (bd : Option 𝒱.V) (arg1 : BitVec 32) (v5 : IVec S1x1024 32) (v7 v8 : BitVec 32) (v25 : FVec F S64x1024 .bf16) (v42 : FVec F S1x1024 .f32) (v66 : FVec F S1x1024 .f32) (w2 w4 : BitVec 32)
    (X5 : BufTy.Contents (Elt F) arg5.view.ty) (X6 : BufTy.Contents (Elt F) arg6.view.ty) (X7 : BufTy.Contents (Elt F) arg7.view.ty)
    (L9 L10 L11) (m l : FVec F S1x1024 .f32) (acc : FVec F S64x1024 .f32) (H9 : Leaves (F := F) arg9.view L9 m)
    (H10 : Leaves (F := F) arg10.view L10 l) (H11 : Leaves (F := F) arg11.view L11 acc) (P1 P2 P3 P4)
    (e1 : pb_k0_t1 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk (L9)) (arg10.view.writes (Elt F) arg10.view.junk (L10)) (arg11.view.writes (Elt F) arg11.view.junk (L11))
      (Scf.trips (k0_t1_loop i).lb (k0_t1_loop i).ub (k0_t1_loop i).st) = P1)
    (e2 : pb_k0_t2 (F := F) 𝒱 c bd i arg2 harg2 arg3 harg3 arg4 harg4 arg5 harg5 arg6 harg6 arg7 harg7 arg8 harg8 arg9 harg9 arg10 harg10 arg11 harg11 arg1 v5 v7 v8 v25 v42 v66 w2 X5 X6 X7
      (arg9.view.writes (Elt F) arg9.view.junk (P1.1 ++ (L9))) (arg10.view.writes (Elt F) arg10.view.junk (P1.2.1 ++ (L10))) (arg11.view.writes (Elt F) arg11.view.junk (P1.2.2 ++ (L11)))
      (Scf.trips (k0_t2_loop i).lb (k0_t2_loop i).ub (k0_t2_loop i).st) = P2)
    (e3 : pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7
      (arg9.view.writes (Elt F) arg9.view.junk (P2.1 ++ (P1.1 ++ (L9)))) (arg10.view.writes (Elt F) arg10.view.junk (P2.2.1 ++ (P1.2.1 ++ (L10)))) (arg11.view.writes (Elt F) arg11.view.junk (P2.2.2 ++ (P1.2.2 ++ (L11))))
      (Scf.trips (k0_t3_loop i).lb (k0_t3_loop i).ub (k0_t3_loop i).st) = P3)
    (e4 : pb_k0_t4 (F := F) 𝒱 c bd i arg2 harg2 arg3 harg3 arg4 harg4 arg5 harg5 arg6 harg6 arg7 harg7 arg8 harg8 arg9 harg9 arg10 harg10 arg11 harg11 arg1 v5 v7 v8 v25 v42 v66 w4 X5 X6 X7
      (arg9.view.writes (Elt F) arg9.view.junk (P3.1 ++ (P2.1 ++ (P1.1 ++ (L9))))) (arg10.view.writes (Elt F) arg10.view.junk (P3.2.1 ++ (P2.2.1 ++ (P1.2.1 ++ (L10))))) (arg11.view.writes (Elt F) arg11.view.junk (P3.2.2 ++ (P2.2.2 ++ (P1.2.2 ++ (L11)))))
      (Scf.trips (k0_t4_loop i).lb (k0_t4_loop i).ub (k0_t4_loop i).st) = P4)
    (h1 : Scf.trips (k0_t1_loop i).lb (k0_t1_loop i).ub (k0_t1_loop i).st = 1) (h2 : Scf.trips (k0_t2_loop i).lb (k0_t2_loop i).ub (k0_t2_loop i).st = 0) (h3 : Scf.trips (k0_t3_loop i).lb (k0_t3_loop i).ub (k0_t3_loop i).st = 1) (h4 : Scf.trips (k0_t4_loop i).lb (k0_t4_loop i).ub (k0_t4_loop i).st = 0)
    (rb : Vec F S1x128x1024 .f32) (hrb : (arg7.view.readAt (Elt F) (Rect.unit (s := S2x128x1024) ![0, 0, 0] S1x128x1024.size inb_S2x128x1024_S1x128x1024_0_0_0).toLoadRect X7) = rb)
    (k1 : Fin (k0_t1_loop i).trips) (hk1 : k1.val = 0)
    (kb1 : Vec F S1x1x128x64 .bf16) (hkb1 : (arg5.view.readAt (Elt F) (Rect.unit (s := S1x2x2048x64) (k0_off1 i k1) S1x1x128x64.size (k0_off1_inb i k1)).toLoadRect X5) = kb1)
    (vb1 : Vec F S1x64x128 .bf16) (hvb1 : (arg6.view.readAt (Elt F) (Rect.unit (s := S1x256x2048) (k0_off2 i k1) S1x64x128.size (k0_off2_inb i k1)).toLoadRect X6) = vb1)
    (k3 : Fin (k0_t3_loop i).trips) (hk3 : k3.val = 0)
    (kb3 : Vec F S1x1x128x64 .bf16) (hkb3 : (arg5.view.readAt (Elt F) (Rect.unit (s := S1x2x2048x64) (k0_off5 i k3) S1x1x128x64.size (k0_off5_inb i k3)).toLoadRect X5) = kb3)
    (vb3 : Vec F S1x64x128 .bf16) (hvb3 : (arg6.view.readAt (Elt F) (Rect.unit (s := S1x256x2048) (k0_off6 i k3) S1x64x128.size (k0_off6_inb i k3)).toLoadRect X6) = vb3)
    : Leaves (F := F) arg10.view (P4.2.1 ++ (P3.2.1 ++ (P2.2.1 ++ (P1.2.1 ++ (L10)))))
      (k0_pay20 i arg1 v5 v25 v42 0#32 1#32 k3 kb3 rb (k0_pay7 i v5 v7 v25 v42 0#32 1#32 k1 kb1 rb m) (k0_pay10 i v5 v7 v25 v42 0#32 1#32 k1 kb1 rb m l))
    ∧ Leaves (F := F) arg11.view (P4.2.2 ++ (P3.2.2 ++ (P2.2.2 ++ (P1.2.2 ++ (L11)))))
      (k0_pay60 (k0_pay18 i arg1 v5 v25 v42 0#32 1#32 k3 kb3 rb (k0_pay7 i v5 v7 v25 v42 0#32 1#32 k1 kb1 rb m)) (k0_pay19 i arg1 v5 v25 v42 0#32 1#32 k3 kb3 rb (k0_pay7 i v5 v7 v25 v42 0#32 1#32 k1 kb1 rb m))
        (k0_pay54 (k0_pay8 i v5 v7 v25 v42 0#32 1#32 k1 kb1 rb m) (k0_pay9 i v5 v7 v25 v42 0#32 1#32 k1 kb1 rb m) acc vb1) vb3) := by
  have T1 := loop1_one c i arg2 harg2 arg3 harg3 arg4 harg4 arg5 harg5 arg6 harg6 arg7 harg7 arg8 harg8 arg9 harg9 arg10 harg10 arg11 harg11 𝒱 bd arg1 v5 v7 v8 v25 v42 v66 X5 X6 X7 k1 hk1 h1 (L9) (L10) (L11) m l acc H9 H10 H11 kb1 hkb1 rb hrb vb1 hvb1
  rw [e1] at T1
  obtain rfl : P2 = ([], [], []) := e2.symm.trans (loop2_none c i arg2 harg2 arg3 harg3 arg4 harg4 arg5 harg5 arg6 harg6 arg7 harg7 arg8 harg8 arg9 harg9 arg10 harg10 arg11 harg11 𝒱 bd arg1 v5 v7 v8 v25 v42 v66 w2 X5 X6 X7 _ _ _  h2)
  have T3 := loop3_one c i arg2 harg2 arg3 harg3 arg4 harg4 arg5 harg5 arg6 harg6 arg7 harg7 arg8 harg8 arg9 harg9 arg10 harg10 arg11 harg11 𝒱 bd arg1 v5 v7 v8 v25 v42 v66 X5 X6 X7 k3 hk3 h3 _ _ _ (k0_pay7 i v5 v7 v25 v42 0#32 1#32 k1 kb1 rb m) (k0_pay10 i v5 v7 v25 v42 0#32 1#32 k1 kb1 rb m l)
    (k0_pay54 (k0_pay8 i v5 v7 v25 v42 0#32 1#32 k1 kb1 rb m) (k0_pay9 i v5 v7 v25 v42 0#32 1#32 k1 kb1 rb m) acc vb1) T1.1 T1.2.1 T1.2.2 kb3 hkb3 rb hrb vb3 hvb3
  have e3' := e3
  change pb_k0_t3 (F := F) 𝒱 c bd i arg2 harg2 arg3 harg3 arg4 harg4 arg5 harg5 arg6 harg6 arg7 harg7 arg8 harg8 arg9 harg9 arg10 harg10 arg11 harg11 arg1 v5 v7 v8 v25 v42 v66 X5 X6 X7 (arg9.view.writes (Elt F) arg9.view.junk (P1.1 ++ L9)) (arg10.view.writes (Elt F) arg10.view.junk (P1.2.1 ++ L10)) (arg11.view.writes (Elt F) arg11.view.junk (P1.2.2 ++ L11)) (Scf.trips (k0_t3_loop i).lb (k0_t3_loop i).ub (k0_t3_loop i).st) = P3 at e3'
  rw [e3'] at T3
  obtain rfl : P4 = ([], [], []) := e4.symm.trans (loop4_none c i arg2 harg2 arg3 harg3 arg4 harg4 arg5 harg5 arg6 harg6 arg7 harg7 arg8 harg8 arg9 harg9 arg10 harg10 arg11 harg11 𝒱 bd arg1 v5 v7 v8 v25 v42 v66 w4 X5 X6 X7 _ _ _  h4)
  exact ⟨T3.2.1, T3.2.2⟩

/-- At the first query block. -/
theorem group1_first (𝒱 : Variants) (bd : Option 𝒱.V) (arg1 : BitVec 32) (v5 : IVec S1x1024 32) (v7 v8 : BitVec 32) (v145 : FVec F S64x1024 .bf16) (v162 : FVec F S1x1024 .f32) (c0 w1 w4 : BitVec 32)
    (X5 : BufTy.Contents (Elt F) arg5.view.ty) (X6 : BufTy.Contents (Elt F) arg6.view.ty) (X7 : BufTy.Contents (Elt F) arg7.view.ty)
    (L9 L10 L11) (m l : FVec F S1x1024 .f32) (acc : FVec F S64x1024 .f32) (H9 : Leaves (F := F) arg9.view L9 m)
    (H10 : Leaves (F := F) arg10.view L10 l) (H11 : Leaves (F := F) arg11.view L11 acc) (P1 P2 P3 P4)
    (e1 : pb_k0_t5 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7
      (arg9.view.writes (Elt F) arg9.view.junk (L9)) (arg10.view.writes (Elt F) arg10.view.junk (L10)) (arg11.view.writes (Elt F) arg11.view.junk (L11))
      (Scf.trips (k0_t5_loop i).lb (k0_t5_loop i).ub (k0_t5_loop i).st) = P1)
    (e2 : pb_k0_t6 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7
      (arg9.view.writes (Elt F) arg9.view.junk (P1.1 ++ (L9))) (arg10.view.writes (Elt F) arg10.view.junk (P1.2.1 ++ (L10))) (arg11.view.writes (Elt F) arg11.view.junk (P1.2.2 ++ (L11)))
      (Scf.trips (k0_t6_loop i).lb (k0_t6_loop i).ub (k0_t6_loop i).st) = P2)
    (e3 : pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7
      (arg9.view.writes (Elt F) arg9.view.junk (P2.1 ++ (P1.1 ++ (L9)))) (arg10.view.writes (Elt F) arg10.view.junk (P2.2.1 ++ (P1.2.1 ++ (L10)))) (arg11.view.writes (Elt F) arg11.view.junk (P2.2.2 ++ (P1.2.2 ++ (L11))))
      (Scf.trips (k0_t7_loop i).lb (k0_t7_loop i).ub (k0_t7_loop i).st) = P3)
    (e4 : pb_k0_t8 (F := F) 𝒱 c bd i arg2 harg2 arg3 harg3 arg4 harg4 arg5 harg5 arg6 harg6 arg7 harg7 arg8 harg8 arg9 harg9 arg10 harg10 arg11 harg11 arg1 v5 v7 v8 v145 v162 c0 w1 w4 X5 X6 X7
      (arg9.view.writes (Elt F) arg9.view.junk (P3.1 ++ (P2.1 ++ (P1.1 ++ (L9))))) (arg10.view.writes (Elt F) arg10.view.junk (P3.2.1 ++ (P2.2.1 ++ (P1.2.1 ++ (L10))))) (arg11.view.writes (Elt F) arg11.view.junk (P3.2.2 ++ (P2.2.2 ++ (P1.2.2 ++ (L11)))))
      (Scf.trips (k0_t8_loop i).lb (k0_t8_loop i).ub (k0_t8_loop i).st) = P4)
    (h1 : Scf.trips (k0_t5_loop i).lb (k0_t5_loop i).ub (k0_t5_loop i).st = 0) (h2 : Scf.trips (k0_t6_loop i).lb (k0_t6_loop i).ub (k0_t6_loop i).st = 0) (h3 : Scf.trips (k0_t7_loop i).lb (k0_t7_loop i).ub (k0_t7_loop i).st = 1) (h4 : Scf.trips (k0_t8_loop i).lb (k0_t8_loop i).ub (k0_t8_loop i).st = 0)
    (rb : Vec F S1x128x1024 .f32) (hrb : (arg7.view.readAt (Elt F) (Rect.unit (s := S2x128x1024) ![1, 0, 0] S1x128x1024.size inb_S2x128x1024_S1x128x1024_1_0_0).toLoadRect X7) = rb)
    (k3 : Fin (k0_t7_loop i).trips) (hk3 : k3.val = 0)
    (kb3 : Vec F S1x1x128x64 .bf16) (hkb3 : (arg5.view.readAt (Elt F) (Rect.unit (s := S1x2x2048x64) (k0_off13 i k3) S1x1x128x64.size (k0_off13_inb i k3)).toLoadRect X5) = kb3)
    (vb3 : Vec F S1x64x128 .bf16) (hvb3 : (arg6.view.readAt (Elt F) (Rect.unit (s := S1x256x2048) (k0_off14 i k3) S1x64x128.size (k0_off14_inb i k3)).toLoadRect X6) = vb3)
    : Leaves (F := F) arg10.view (P4.2.1 ++ (P3.2.1 ++ (P2.2.1 ++ (P1.2.1 ++ (L10)))))
      (k0_pay40 i arg1 v5 v145 v162 0#32 1#32 k3 kb3 rb m l)
    ∧ Leaves (F := F) arg11.view (P4.2.2 ++ (P3.2.2 ++ (P2.2.2 ++ (P1.2.2 ++ (L11)))))
      (k0_pay94 (k0_pay38 i arg1 v5 v145 v162 0#32 1#32 k3 kb3 rb m) (k0_pay39 i arg1 v5 v145 v162 0#32 1#32 k3 kb3 rb m)
        acc vb3) := by
  obtain rfl : P1 = ([], [], []) := e1.symm.trans (loop5_none c i arg2 harg2 arg3 harg3 arg4 harg4 arg5 harg5 arg6 harg6 arg7 harg7 arg8 harg8 arg9 harg9 arg10 harg10 arg11 harg11 𝒱 bd arg1 v5 v7 v8 v145 v162 c0 w1 X5 X6 X7 _ _ _  h1)
  obtain rfl : P2 = ([], [], []) := e2.symm.trans (loop6_none c i arg2 harg2 arg3 harg3 arg4 harg4 arg5 harg5 arg6 harg6 arg7 harg7 arg8 harg8 arg9 harg9 arg10 harg10 arg11 harg11 𝒱 bd arg1 v5 v7 v8 v145 v162 c0 w1 X5 X6 X7 _ _ _  h2)
  have T3 := loop7_one c i arg2 harg2 arg3 harg3 arg4 harg4 arg5 harg5 arg6 harg6 arg7 harg7 arg8 harg8 arg9 harg9 arg10 harg10 arg11 harg11 𝒱 bd arg1 v5 v7 v8 v145 v162 c0 w1 X5 X6 X7 k3 hk3 h3 _ _ _ m l
    acc H9 H10 H11 kb3 hkb3 rb hrb vb3 hvb3
  have e3' := e3
  change pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7 (arg9.view.writes (Elt F) arg9.view.junk (L9)) (arg10.view.writes (Elt F) arg10.view.junk (L10)) (arg11.view.writes (Elt F) arg11.view.junk (L11)) (Scf.trips (k0_t7_loop i).lb (k0_t7_loop i).ub (k0_t7_loop i).st) = P3 at e3'
  rw [e3'] at T3
  obtain rfl : P4 = ([], [], []) := e4.symm.trans (loop8_none c i arg2 harg2 arg3 harg3 arg4 harg4 arg5 harg5 arg6 harg6 arg7 harg7 arg8 harg8 arg9 harg9 arg10 harg10 arg11 harg11 𝒱 bd arg1 v5 v7 v8 v145 v162 c0 w1 w4 X5 X6 X7 _ _ _  h4)
  exact ⟨T3.2.1, T3.2.2⟩

/-- At a later query block. -/
theorem group1_later (𝒱 : Variants) (bd : Option 𝒱.V) (arg1 : BitVec 32) (v5 : IVec S1x1024 32) (v7 v8 : BitVec 32) (v145 : FVec F S64x1024 .bf16) (v162 : FVec F S1x1024 .f32) (c0 w1 w4 : BitVec 32)
    (X5 : BufTy.Contents (Elt F) arg5.view.ty) (X6 : BufTy.Contents (Elt F) arg6.view.ty) (X7 : BufTy.Contents (Elt F) arg7.view.ty)
    (L9 L10 L11) (m l : FVec F S1x1024 .f32) (acc : FVec F S64x1024 .f32) (H9 : Leaves (F := F) arg9.view L9 m)
    (H10 : Leaves (F := F) arg10.view L10 l) (H11 : Leaves (F := F) arg11.view L11 acc) (P1 P2 P3 P4)
    (e1 : pb_k0_t5 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7
      (arg9.view.writes (Elt F) arg9.view.junk (L9)) (arg10.view.writes (Elt F) arg10.view.junk (L10)) (arg11.view.writes (Elt F) arg11.view.junk (L11))
      (Scf.trips (k0_t5_loop i).lb (k0_t5_loop i).ub (k0_t5_loop i).st) = P1)
    (e2 : pb_k0_t6 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7
      (arg9.view.writes (Elt F) arg9.view.junk (P1.1 ++ (L9))) (arg10.view.writes (Elt F) arg10.view.junk (P1.2.1 ++ (L10))) (arg11.view.writes (Elt F) arg11.view.junk (P1.2.2 ++ (L11)))
      (Scf.trips (k0_t6_loop i).lb (k0_t6_loop i).ub (k0_t6_loop i).st) = P2)
    (e3 : pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7
      (arg9.view.writes (Elt F) arg9.view.junk (P2.1 ++ (P1.1 ++ (L9)))) (arg10.view.writes (Elt F) arg10.view.junk (P2.2.1 ++ (P1.2.1 ++ (L10)))) (arg11.view.writes (Elt F) arg11.view.junk (P2.2.2 ++ (P1.2.2 ++ (L11))))
      (Scf.trips (k0_t7_loop i).lb (k0_t7_loop i).ub (k0_t7_loop i).st) = P3)
    (e4 : pb_k0_t8 (F := F) 𝒱 c bd i arg2 harg2 arg3 harg3 arg4 harg4 arg5 harg5 arg6 harg6 arg7 harg7 arg8 harg8 arg9 harg9 arg10 harg10 arg11 harg11 arg1 v5 v7 v8 v145 v162 c0 w1 w4 X5 X6 X7
      (arg9.view.writes (Elt F) arg9.view.junk (P3.1 ++ (P2.1 ++ (P1.1 ++ (L9))))) (arg10.view.writes (Elt F) arg10.view.junk (P3.2.1 ++ (P2.2.1 ++ (P1.2.1 ++ (L10))))) (arg11.view.writes (Elt F) arg11.view.junk (P3.2.2 ++ (P2.2.2 ++ (P1.2.2 ++ (L11)))))
      (Scf.trips (k0_t8_loop i).lb (k0_t8_loop i).ub (k0_t8_loop i).st) = P4)
    (h1 : Scf.trips (k0_t5_loop i).lb (k0_t5_loop i).ub (k0_t5_loop i).st = 1) (h2 : Scf.trips (k0_t6_loop i).lb (k0_t6_loop i).ub (k0_t6_loop i).st = 0) (h3 : Scf.trips (k0_t7_loop i).lb (k0_t7_loop i).ub (k0_t7_loop i).st = 1) (h4 : Scf.trips (k0_t8_loop i).lb (k0_t8_loop i).ub (k0_t8_loop i).st = 0)
    (rb : Vec F S1x128x1024 .f32) (hrb : (arg7.view.readAt (Elt F) (Rect.unit (s := S2x128x1024) ![1, 0, 0] S1x128x1024.size inb_S2x128x1024_S1x128x1024_1_0_0).toLoadRect X7) = rb)
    (k1 : Fin (k0_t5_loop i).trips) (hk1 : k1.val = 0)
    (kb1 : Vec F S1x1x128x64 .bf16) (hkb1 : (arg5.view.readAt (Elt F) (Rect.unit (s := S1x2x2048x64) (k0_off9 i k1) S1x1x128x64.size (k0_off9_inb i k1)).toLoadRect X5) = kb1)
    (vb1 : Vec F S1x64x128 .bf16) (hvb1 : (arg6.view.readAt (Elt F) (Rect.unit (s := S1x256x2048) (k0_off10 i k1) S1x64x128.size (k0_off10_inb i k1)).toLoadRect X6) = vb1)
    (k3 : Fin (k0_t7_loop i).trips) (hk3 : k3.val = 0)
    (kb3 : Vec F S1x1x128x64 .bf16) (hkb3 : (arg5.view.readAt (Elt F) (Rect.unit (s := S1x2x2048x64) (k0_off13 i k3) S1x1x128x64.size (k0_off13_inb i k3)).toLoadRect X5) = kb3)
    (vb3 : Vec F S1x64x128 .bf16) (hvb3 : (arg6.view.readAt (Elt F) (Rect.unit (s := S1x256x2048) (k0_off14 i k3) S1x64x128.size (k0_off14_inb i k3)).toLoadRect X6) = vb3)
    : Leaves (F := F) arg10.view (P4.2.1 ++ (P3.2.1 ++ (P2.2.1 ++ (P1.2.1 ++ (L10)))))
      (k0_pay40 i arg1 v5 v145 v162 0#32 1#32 k3 kb3 rb (k0_pay27 i v5 v7 v145 v162 c0 1#32 k1 kb1 rb m) (k0_pay30 i v5 v7 v145 v162 c0 1#32 k1 kb1 rb m l))
    ∧ Leaves (F := F) arg11.view (P4.2.2 ++ (P3.2.2 ++ (P2.2.2 ++ (P1.2.2 ++ (L11)))))
      (k0_pay94 (k0_pay38 i arg1 v5 v145 v162 0#32 1#32 k3 kb3 rb (k0_pay27 i v5 v7 v145 v162 c0 1#32 k1 kb1 rb m)) (k0_pay39 i arg1 v5 v145 v162 0#32 1#32 k3 kb3 rb (k0_pay27 i v5 v7 v145 v162 c0 1#32 k1 kb1 rb m))
        (k0_pay88 (k0_pay28 i v5 v7 v145 v162 c0 1#32 k1 kb1 rb m) (k0_pay29 i v5 v7 v145 v162 c0 1#32 k1 kb1 rb m) acc vb1) vb3) := by
  have T1 := loop5_one c i arg2 harg2 arg3 harg3 arg4 harg4 arg5 harg5 arg6 harg6 arg7 harg7 arg8 harg8 arg9 harg9 arg10 harg10 arg11 harg11 𝒱 bd arg1 v5 v7 v8 v145 v162 c0 w1 X5 X6 X7 k1 hk1 h1 (L9) (L10) (L11) m l acc H9 H10 H11 kb1 hkb1 rb hrb vb1 hvb1
  rw [e1] at T1
  obtain rfl : P2 = ([], [], []) := e2.symm.trans (loop6_none c i arg2 harg2 arg3 harg3 arg4 harg4 arg5 harg5 arg6 harg6 arg7 harg7 arg8 harg8 arg9 harg9 arg10 harg10 arg11 harg11 𝒱 bd arg1 v5 v7 v8 v145 v162 c0 w1 X5 X6 X7 _ _ _  h2)
  have T3 := loop7_one c i arg2 harg2 arg3 harg3 arg4 harg4 arg5 harg5 arg6 harg6 arg7 harg7 arg8 harg8 arg9 harg9 arg10 harg10 arg11 harg11 𝒱 bd arg1 v5 v7 v8 v145 v162 c0 w1 X5 X6 X7 k3 hk3 h3 _ _ _ (k0_pay27 i v5 v7 v145 v162 c0 1#32 k1 kb1 rb m) (k0_pay30 i v5 v7 v145 v162 c0 1#32 k1 kb1 rb m l)
    (k0_pay88 (k0_pay28 i v5 v7 v145 v162 c0 1#32 k1 kb1 rb m) (k0_pay29 i v5 v7 v145 v162 c0 1#32 k1 kb1 rb m) acc vb1) T1.1 T1.2.1 T1.2.2 kb3 hkb3 rb hrb vb3 hvb3
  have e3' := e3
  change pb_k0_t7 (F := F) 𝒱 c bd i arg2 harg2 arg3 harg3 arg4 harg4 arg5 harg5 arg6 harg6 arg7 harg7 arg8 harg8 arg9 harg9 arg10 harg10 arg11 harg11 arg1 v5 v7 v8 v145 v162 c0 w1 X5 X6 X7 (arg9.view.writes (Elt F) arg9.view.junk (P1.1 ++ L9)) (arg10.view.writes (Elt F) arg10.view.junk (P1.2.1 ++ L10)) (arg11.view.writes (Elt F) arg11.view.junk (P1.2.2 ++ L11)) (Scf.trips (k0_t7_loop i).lb (k0_t7_loop i).ub (k0_t7_loop i).st) = P3 at e3'
  rw [e3'] at T3
  obtain rfl : P4 = ([], [], []) := e4.symm.trans (loop8_none c i arg2 harg2 arg3 harg3 arg4 harg4 arg5 harg5 arg6 harg6 arg7 harg7 arg8 harg8 arg9 harg9 arg10 harg10 arg11 harg11 𝒱 bd arg1 v5 v7 v8 v145 v162 c0 w1 w4 X5 X6 X7 _ _ _  h4)
  exact ⟨T3.2.1, T3.2.2⟩

end Cert.KernelIdeal.Swa
end
-- ==== Proof.SwaCases.lean ====
module
public import proofs.«01_k».proof.Proof.SwaGroups

/-!
What the kernel reads back of its running arrays before it divides

Each group of heads starts from the sink's score, one and zero; the loops over key blocks then leave the denominators and
the weighted values that are read back.
-/

@[expose] public section
noncomputable section
open Idealize.ShloMosaic Idealize.ShloMosaic.TcCoe Idealize.SL.Sem
namespace Cert.KernelIdeal.Swa
open Cert.KernelIdeal Cert.KernelIdeal.Gen
variable {F : FTy → Type} [FloatOps F]

variable (c : Dev nD) (i : grid0.Coords) (arg2 : Memref sig .tc .smem S16 .f32) (harg2 : arg2.IsWhole)
  (arg3 : Memref sig .tc .smem S16 .f32) (harg3 : arg3.IsWhole) (arg4 : Memref sig .tc .vmem S1x1024x128 .bf16)
  (harg4 : arg4.IsWhole) (arg5 : Memref sig .tc .vmem S1x2x2048x64 .bf16) (harg5 : arg5.IsWhole)
  (arg6 : Memref sig .tc .vmem S1x256x2048 .bf16) (harg6 : arg6.IsWhole) (arg7 : Memref sig .tc .vmem S2x128x1024 .f32)
  (harg7 : arg7.IsWhole) (arg8 : Memref sig .tc .vmem S1x1024x128 .bf16) (harg8 : arg8.IsWhole)
  (arg9 : Memref sig .tc .vmem S1x1024 .f32) (harg9 : arg9.IsWhole) (arg10 : Memref sig .tc .vmem S1x1024 .f32)
  (harg10 : arg10.IsWhole) (arg11 : Memref sig .tc .vmem S64x1024 .f32) (harg11 : arg11.IsWhole)

  (x0 : Vec F S16 .f32) (x1 : Vec F S16 .f32) (x2 : Vec F S1x1024x128 .bf16) (x3 : Vec F S1x2x2048x64 .bf16)
  (x4 : Vec F S1x256x2048 .bf16) (x5 : Vec F S2x128x1024 .f32)

/-- Group 0 of heads, at the first query block. -/
theorem reads0_first
    (h1 : Scf.trips (k0_t1_loop i).lb (k0_t1_loop i).ub (k0_t1_loop i).st = 0) (h2 : Scf.trips (k0_t2_loop i).lb (k0_t2_loop i).ub (k0_t2_loop i).st = 0) (h3 : Scf.trips (k0_t3_loop i).lb (k0_t3_loop i).ub (k0_t3_loop i).st = 1) (h4 : Scf.trips (k0_t4_loop i).lb (k0_t4_loop i).ub (k0_t4_loop i).st = 0)
    (rb : Vec F S1x128x1024 .f32) (hrb : (arg7.view.readAt (Elt F) (Rect.unit (s := S2x128x1024) ![0, 0, 0] S1x128x1024.size inb_S2x128x1024_S1x128x1024_0_0_0).toLoadRect (harg7.unread x5)) = rb)
    (k3 : Fin (k0_t3_loop i).trips) (hk3 : k3.val = 0)
    (kb3 : Vec F S1x1x128x64 .bf16) (hkb3 : (arg5.view.readAt (Elt F) (Rect.unit (s := S1x2x2048x64) (k0_off5 i k3) S1x1x128x64.size (k0_off5_inb i k3)).toLoadRect (harg5.unread x3)) = kb3)
    (vb3 : Vec F S1x64x128 .bf16) (hvb3 : (arg6.view.readAt (Elt F) (Rect.unit (s := S1x256x2048) (k0_off6 i k3) S1x64x128.size (k0_off6_inb i k3)).toLoadRect (harg6.unread x4)) = vb3)
    : kernelRun0_A.sl.v84 c i arg2 harg2 arg3 harg3 arg4 harg4 arg5 harg5 arg6 harg6 arg7 harg7 arg8 harg8 arg9 harg9 arg10 harg10 arg11 harg11 x0 x1 x2 x3 x4 x5
      = k0_pay20 i (BitVec.ofNat 32 (i 1).val) (k0_pay46 i) (kernelRun0_A.sl.r_1 c arg4 harg4 x2) (kernelRun0_A.sl.r_18 c arg2 harg2 x0) 0#32 1#32 k3 kb3 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) k0_pay51
    ∧ kernelRun0_A.sl.v83 c i arg2 harg2 arg3 harg3 arg4 harg4 arg5 harg5 arg6 harg6 arg7 harg7 arg8 harg8 arg9 harg9 arg10 harg10 arg11 harg11 x0 x1 x2 x3 x4 x5
      = k0_pay60 (k0_pay18 i (BitVec.ofNat 32 (i 1).val) (k0_pay46 i) (kernelRun0_A.sl.r_1 c arg4 harg4 x2) (kernelRun0_A.sl.r_18 c arg2 harg2 x0) 0#32 1#32 k3 kb3 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1))) (k0_pay19 i (BitVec.ofNat 32 (i 1).val) (k0_pay46 i) (kernelRun0_A.sl.r_1 c arg4 harg4 x2) (kernelRun0_A.sl.r_18 c arg2 harg2 x0) 0#32 1#32 k3 kb3 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)))
        k0_pay52 vb3 := by
  constructor
  · unfold kernelRun0_A.sl.v84 View.readCov
    refine Leaves.load (F := F) ?_ _ _
    exact (group0_first c i arg2 harg2 arg3 harg3 arg4 harg4 arg5 harg5 arg6 harg6 arg7 harg7 arg8 harg8 arg9 harg9 arg10 harg10 arg11 harg11 Variants.none none _ _ _ _ _ _ _ _ _ _ _ _ _ _ _ (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) k0_pay51 k0_pay52
      (leaves_cons _ _ _ _ _ rfl) (leaves_cons _ _ _ _ _ rfl) (leaves_cons _ _ _ _ _ rfl) _ _ _ _ rfl rfl rfl rfl h1 h2 h3 h4 rb hrb k3 hk3 kb3 hkb3 vb3 hvb3).1
  · unfold kernelRun0_A.sl.v83 View.readCov
    refine Leaves.load (F := F) ?_ _ _
    exact (group0_first c i arg2 harg2 arg3 harg3 arg4 harg4 arg5 harg5 arg6 harg6 arg7 harg7 arg8 harg8 arg9 harg9 arg10 harg10 arg11 harg11 Variants.none none _ _ _ _ _ _ _ _ _ _ _ _ _ _ _ (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) k0_pay51 k0_pay52
      (leaves_cons _ _ _ _ _ rfl) (leaves_cons _ _ _ _ _ rfl) (leaves_cons _ _ _ _ _ rfl) _ _ _ _ rfl rfl rfl rfl h1 h2 h3 h4 rb hrb k3 hk3 kb3 hkb3 vb3 hvb3).2

/-- Group 0 of heads, at a later query block. -/
theorem reads0_later
    (h1 : Scf.trips (k0_t1_loop i).lb (k0_t1_loop i).ub (k0_t1_loop i).st = 1) (h2 : Scf.trips (k0_t2_loop i).lb (k0_t2_loop i).ub (k0_t2_loop i).st = 0) (h3 : Scf.trips (k0_t3_loop i).lb (k0_t3_loop i).ub (k0_t3_loop i).st = 1) (h4 : Scf.trips (k0_t4_loop i).lb (k0_t4_loop i).ub (k0_t4_loop i).st = 0)
    (rb : Vec F S1x128x1024 .f32) (hrb : (arg7.view.readAt (Elt F) (Rect.unit (s := S2x128x1024) ![0, 0, 0] S1x128x1024.size inb_S2x128x1024_S1x128x1024_0_0_0).toLoadRect (harg7.unread x5)) = rb)
    (k1 : Fin (k0_t1_loop i).trips) (hk1 : k1.val = 0)
    (kb1 : Vec F S1x1x128x64 .bf16) (hkb1 : (arg5.view.readAt (Elt F) (Rect.unit (s := S1x2x2048x64) (k0_off1 i k1) S1x1x128x64.size (k0_off1_inb i k1)).toLoadRect (harg5.unread x3)) = kb1)
    (vb1 : Vec F S1x64x128 .bf16) (hvb1 : (arg6.view.readAt (Elt F) (Rect.unit (s := S1x256x2048) (k0_off2 i k1) S1x64x128.size (k0_off2_inb i k1)).toLoadRect (harg6.unread x4)) = vb1)
    (k3 : Fin (k0_t3_loop i).trips) (hk3 : k3.val = 0)
    (kb3 : Vec F S1x1x128x64 .bf16) (hkb3 : (arg5.view.readAt (Elt F) (Rect.unit (s := S1x2x2048x64) (k0_off5 i k3) S1x1x128x64.size (k0_off5_inb i k3)).toLoadRect (harg5.unread x3)) = kb3)
    (vb3 : Vec F S1x64x128 .bf16) (hvb3 : (arg6.view.readAt (Elt F) (Rect.unit (s := S1x256x2048) (k0_off6 i k3) S1x64x128.size (k0_off6_inb i k3)).toLoadRect (harg6.unread x4)) = vb3)
    : kernelRun0_A.sl.v84 c i arg2 harg2 arg3 harg3 arg4 harg4 arg5 harg5 arg6 harg6 arg7 harg7 arg8 harg8 arg9 harg9 arg10 harg10 arg11 harg11 x0 x1 x2 x3 x4 x5
      = k0_pay20 i (BitVec.ofNat 32 (i 1).val) (k0_pay46 i) (kernelRun0_A.sl.r_1 c arg4 harg4 x2) (kernelRun0_A.sl.r_18 c arg2 harg2 x0) 0#32 1#32 k3 kb3 rb (k0_pay7 i (k0_pay46 i) (kernelRun0_A.sl.v7 i) (kernelRun0_A.sl.r_1 c arg4 harg4 x2) (kernelRun0_A.sl.r_18 c arg2 harg2 x0) 0#32 1#32 k1 kb1 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1))) (k0_pay10 i (k0_pay46 i) (kernelRun0_A.sl.v7 i) (kernelRun0_A.sl.r_1 c arg4 harg4 x2) (kernelRun0_A.sl.r_18 c arg2 harg2 x0) 0#32 1#32 k1 kb1 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) k0_pay51)
    ∧ kernelRun0_A.sl.v83 c i arg2 harg2 arg3 harg3 arg4 harg4 arg5 harg5 arg6 harg6 arg7 harg7 arg8 harg8 arg9 harg9 arg10 harg10 arg11 harg11 x0 x1 x2 x3 x4 x5
      = k0_pay60 (k0_pay18 i (BitVec.ofNat 32 (i 1).val) (k0_pay46 i) (kernelRun0_A.sl.r_1 c arg4 harg4 x2) (kernelRun0_A.sl.r_18 c arg2 harg2 x0) 0#32 1#32 k3 kb3 rb (k0_pay7 i (k0_pay46 i) (kernelRun0_A.sl.v7 i) (kernelRun0_A.sl.r_1 c arg4 harg4 x2) (kernelRun0_A.sl.r_18 c arg2 harg2 x0) 0#32 1#32 k1 kb1 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)))) (k0_pay19 i (BitVec.ofNat 32 (i 1).val) (k0_pay46 i) (kernelRun0_A.sl.r_1 c arg4 harg4 x2) (kernelRun0_A.sl.r_18 c arg2 harg2 x0) 0#32 1#32 k3 kb3 rb (k0_pay7 i (k0_pay46 i) (kernelRun0_A.sl.v7 i) (kernelRun0_A.sl.r_1 c arg4 harg4 x2) (kernelRun0_A.sl.r_18 c arg2 harg2 x0) 0#32 1#32 k1 kb1 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1))))
        (k0_pay54 (k0_pay8 i (k0_pay46 i) (kernelRun0_A.sl.v7 i) (kernelRun0_A.sl.r_1 c arg4 harg4 x2) (kernelRun0_A.sl.r_18 c arg2 harg2 x0) 0#32 1#32 k1 kb1 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)))
        (k0_pay9 i (k0_pay46 i) (kernelRun0_A.sl.v7 i) (kernelRun0_A.sl.r_1 c arg4 harg4 x2) (kernelRun0_A.sl.r_18 c arg2 harg2 x0) 0#32 1#32 k1 kb1 rb (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1))) k0_pay52 vb1) vb3 := by
  constructor
  · unfold kernelRun0_A.sl.v84 View.readCov
    refine Leaves.load (F := F) ?_ _ _
    exact (group0_later c i arg2 harg2 arg3 harg3 arg4 harg4 arg5 harg5 arg6 harg6 arg7 harg7 arg8 harg8 arg9 harg9 arg10 harg10 arg11 harg11 Variants.none none _ _ _ _ _ _ _ _ _ _ _ _ _ _ _ (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) k0_pay51 k0_pay52
      (leaves_cons _ _ _ _ _ rfl) (leaves_cons _ _ _ _ _ rfl) (leaves_cons _ _ _ _ _ rfl) _ _ _ _ rfl rfl rfl rfl h1 h2 h3 h4 rb hrb k1 hk1 kb1 hkb1 vb1 hvb1 k3 hk3 kb3 hkb3 vb3 hvb3).1
  · unfold kernelRun0_A.sl.v83 View.readCov
    refine Leaves.load (F := F) ?_ _ _
    exact (group0_later c i arg2 harg2 arg3 harg3 arg4 harg4 arg5 harg5 arg6 harg6 arg7 harg7 arg8 harg8 arg9 harg9 arg10 harg10 arg11 harg11 Variants.none none _ _ _ _ _ _ _ _ _ _ _ _ _ _ _ (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) k0_pay51 k0_pay52
      (leaves_cons _ _ _ _ _ rfl) (leaves_cons _ _ _ _ _ rfl) (leaves_cons _ _ _ _ _ rfl) _ _ _ _ rfl rfl rfl rfl h1 h2 h3 h4 rb hrb k1 hk1 kb1 hkb1 vb1 hvb1 k3 hk3 kb3 hkb3 vb3 hvb3).2

/-- Group 1 of heads, at the first query block. -/
theorem reads1_first
    (h1 : Scf.trips (k0_t5_loop i).lb (k0_t5_loop i).ub (k0_t5_loop i).st = 0) (h2 : Scf.trips (k0_t6_loop i).lb (k0_t6_loop i).ub (k0_t6_loop i).st = 0) (h3 : Scf.trips (k0_t7_loop i).lb (k0_t7_loop i).ub (k0_t7_loop i).st = 1) (h4 : Scf.trips (k0_t8_loop i).lb (k0_t8_loop i).ub (k0_t8_loop i).st = 0)
    (rb : Vec F S1x128x1024 .f32) (hrb : (arg7.view.readAt (Elt F) (Rect.unit (s := S2x128x1024) ![1, 0, 0] S1x128x1024.size inb_S2x128x1024_S1x128x1024_1_0_0).toLoadRect (harg7.unread x5)) = rb)
    (k3 : Fin (k0_t7_loop i).trips) (hk3 : k3.val = 0)
    (kb3 : Vec F S1x1x128x64 .bf16) (hkb3 : (arg5.view.readAt (Elt F) (Rect.unit (s := S1x2x2048x64) (k0_off13 i k3) S1x1x128x64.size (k0_off13_inb i k3)).toLoadRect (harg5.unread x3)) = kb3)
    (vb3 : Vec F S1x64x128 .bf16) (hvb3 : (arg6.view.readAt (Elt F) (Rect.unit (s := S1x256x2048) (k0_off14 i k3) S1x64x128.size (k0_off14_inb i k3)).toLoadRect (harg6.unread x4)) = vb3)
    : kernelRun0_A.sl.v204 c i arg2 harg2 arg3 harg3 arg4 harg4 arg5 harg5 arg6 harg6 arg7 harg7 arg8 harg8 arg9 harg9 arg10 harg10 arg11 harg11 x0 x1 x2 x3 x4 x5
      = k0_pay40 i (BitVec.ofNat 32 (i 1).val) (k0_pay46 i) (kernelRun0_A.sl.r_28 c arg4 harg4 x2) (kernelRun0_A.sl.r_45 c arg2 harg2 x0) 0#32 1#32 k3 kb3 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) k0_pay85
    ∧ kernelRun0_A.sl.v203 c i arg2 harg2 arg3 harg3 arg4 harg4 arg5 harg5 arg6 harg6 arg7 harg7 arg8 harg8 arg9 harg9 arg10 harg10 arg11 harg11 x0 x1 x2 x3 x4 x5
      = k0_pay94 (k0_pay38 i (BitVec.ofNat 32 (i 1).val) (k0_pay46 i) (kernelRun0_A.sl.r_28 c arg4 harg4 x2) (kernelRun0_A.sl.r_45 c arg2 harg2 x0) 0#32 1#32 k3 kb3 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1))) (k0_pay39 i (BitVec.ofNat 32 (i 1).val) (k0_pay46 i) (kernelRun0_A.sl.r_28 c arg4 harg4 x2) (kernelRun0_A.sl.r_45 c arg2 harg2 x0) 0#32 1#32 k3 kb3 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)))
        k0_pay86 vb3 := by
  constructor
  · unfold kernelRun0_A.sl.v204 View.readCov
    refine Leaves.load (F := F) ?_ _ _
    exact (group1_first c i arg2 harg2 arg3 harg3 arg4 harg4 arg5 harg5 arg6 harg6 arg7 harg7 arg8 harg8 arg9 harg9 arg10 harg10 arg11 harg11 Variants.none none _ _ _ _ _ _ _ _ _ _ _ _ _ _ _ (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) k0_pay85 k0_pay86
      (leaves_cons _ _ _ _ _ rfl) (leaves_cons _ _ _ _ _ rfl) (leaves_cons _ _ _ _ _ rfl) _ _ _ _ rfl rfl rfl rfl h1 h2 h3 h4 rb hrb k3 hk3 kb3 hkb3 vb3 hvb3).1
  · unfold kernelRun0_A.sl.v203 View.readCov
    refine Leaves.load (F := F) ?_ _ _
    exact (group1_first c i arg2 harg2 arg3 harg3 arg4 harg4 arg5 harg5 arg6 harg6 arg7 harg7 arg8 harg8 arg9 harg9 arg10 harg10 arg11 harg11 Variants.none none _ _ _ _ _ _ _ _ _ _ _ _ _ _ _ (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) k0_pay85 k0_pay86
      (leaves_cons _ _ _ _ _ rfl) (leaves_cons _ _ _ _ _ rfl) (leaves_cons _ _ _ _ _ rfl) _ _ _ _ rfl rfl rfl rfl h1 h2 h3 h4 rb hrb k3 hk3 kb3 hkb3 vb3 hvb3).2

/-- Group 1 of heads, at a later query block. -/
theorem reads1_later
    (h1 : Scf.trips (k0_t5_loop i).lb (k0_t5_loop i).ub (k0_t5_loop i).st = 1) (h2 : Scf.trips (k0_t6_loop i).lb (k0_t6_loop i).ub (k0_t6_loop i).st = 0) (h3 : Scf.trips (k0_t7_loop i).lb (k0_t7_loop i).ub (k0_t7_loop i).st = 1) (h4 : Scf.trips (k0_t8_loop i).lb (k0_t8_loop i).ub (k0_t8_loop i).st = 0)
    (rb : Vec F S1x128x1024 .f32) (hrb : (arg7.view.readAt (Elt F) (Rect.unit (s := S2x128x1024) ![1, 0, 0] S1x128x1024.size inb_S2x128x1024_S1x128x1024_1_0_0).toLoadRect (harg7.unread x5)) = rb)
    (k1 : Fin (k0_t5_loop i).trips) (hk1 : k1.val = 0)
    (kb1 : Vec F S1x1x128x64 .bf16) (hkb1 : (arg5.view.readAt (Elt F) (Rect.unit (s := S1x2x2048x64) (k0_off9 i k1) S1x1x128x64.size (k0_off9_inb i k1)).toLoadRect (harg5.unread x3)) = kb1)
    (vb1 : Vec F S1x64x128 .bf16) (hvb1 : (arg6.view.readAt (Elt F) (Rect.unit (s := S1x256x2048) (k0_off10 i k1) S1x64x128.size (k0_off10_inb i k1)).toLoadRect (harg6.unread x4)) = vb1)
    (k3 : Fin (k0_t7_loop i).trips) (hk3 : k3.val = 0)
    (kb3 : Vec F S1x1x128x64 .bf16) (hkb3 : (arg5.view.readAt (Elt F) (Rect.unit (s := S1x2x2048x64) (k0_off13 i k3) S1x1x128x64.size (k0_off13_inb i k3)).toLoadRect (harg5.unread x3)) = kb3)
    (vb3 : Vec F S1x64x128 .bf16) (hvb3 : (arg6.view.readAt (Elt F) (Rect.unit (s := S1x256x2048) (k0_off14 i k3) S1x64x128.size (k0_off14_inb i k3)).toLoadRect (harg6.unread x4)) = vb3)
    : kernelRun0_A.sl.v204 c i arg2 harg2 arg3 harg3 arg4 harg4 arg5 harg5 arg6 harg6 arg7 harg7 arg8 harg8 arg9 harg9 arg10 harg10 arg11 harg11 x0 x1 x2 x3 x4 x5
      = k0_pay40 i (BitVec.ofNat 32 (i 1).val) (k0_pay46 i) (kernelRun0_A.sl.r_28 c arg4 harg4 x2) (kernelRun0_A.sl.r_45 c arg2 harg2 x0) 0#32 1#32 k3 kb3 rb (k0_pay27 i (k0_pay46 i) (kernelRun0_A.sl.v7 i) (kernelRun0_A.sl.r_28 c arg4 harg4 x2) (kernelRun0_A.sl.r_45 c arg2 harg2 x0) 0#32 1#32 k1 kb1 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1))) (k0_pay30 i (k0_pay46 i) (kernelRun0_A.sl.v7 i) (kernelRun0_A.sl.r_28 c arg4 harg4 x2) (kernelRun0_A.sl.r_45 c arg2 harg2 x0) 0#32 1#32 k1 kb1 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) k0_pay85)
    ∧ kernelRun0_A.sl.v203 c i arg2 harg2 arg3 harg3 arg4 harg4 arg5 harg5 arg6 harg6 arg7 harg7 arg8 harg8 arg9 harg9 arg10 harg10 arg11 harg11 x0 x1 x2 x3 x4 x5
      = k0_pay94 (k0_pay38 i (BitVec.ofNat 32 (i 1).val) (k0_pay46 i) (kernelRun0_A.sl.r_28 c arg4 harg4 x2) (kernelRun0_A.sl.r_45 c arg2 harg2 x0) 0#32 1#32 k3 kb3 rb (k0_pay27 i (k0_pay46 i) (kernelRun0_A.sl.v7 i) (kernelRun0_A.sl.r_28 c arg4 harg4 x2) (kernelRun0_A.sl.r_45 c arg2 harg2 x0) 0#32 1#32 k1 kb1 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)))) (k0_pay39 i (BitVec.ofNat 32 (i 1).val) (k0_pay46 i) (kernelRun0_A.sl.r_28 c arg4 harg4 x2) (kernelRun0_A.sl.r_45 c arg2 harg2 x0) 0#32 1#32 k3 kb3 rb (k0_pay27 i (k0_pay46 i) (kernelRun0_A.sl.v7 i) (kernelRun0_A.sl.r_28 c arg4 harg4 x2) (kernelRun0_A.sl.r_45 c arg2 harg2 x0) 0#32 1#32 k1 kb1 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1))))
        (k0_pay88 (k0_pay28 i (k0_pay46 i) (kernelRun0_A.sl.v7 i) (kernelRun0_A.sl.r_28 c arg4 harg4 x2) (kernelRun0_A.sl.r_45 c arg2 harg2 x0) 0#32 1#32 k1 kb1 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)))
        (k0_pay29 i (k0_pay46 i) (kernelRun0_A.sl.v7 i) (kernelRun0_A.sl.r_28 c arg4 harg4 x2) (kernelRun0_A.sl.r_45 c arg2 harg2 x0) 0#32 1#32 k1 kb1 rb (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1))) k0_pay86 vb1) vb3 := by
  constructor
  · unfold kernelRun0_A.sl.v204 View.readCov
    refine Leaves.load (F := F) ?_ _ _
    exact (group1_later c i arg2 harg2 arg3 harg3 arg4 harg4 arg5 harg5 arg6 harg6 arg7 harg7 arg8 harg8 arg9 harg9 arg10 harg10 arg11 harg11 Variants.none none _ _ _ _ _ _ _ _ _ _ _ _ _ _ _ (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) k0_pay85 k0_pay86
      (leaves_cons _ _ _ _ _ rfl) (leaves_cons _ _ _ _ _ rfl) (leaves_cons _ _ _ _ _ rfl) _ _ _ _ rfl rfl rfl rfl h1 h2 h3 h4 rb hrb k1 hk1 kb1 hkb1 vb1 hvb1 k3 hk3 kb3 hkb3 vb3 hvb3).1
  · unfold kernelRun0_A.sl.v203 View.readCov
    refine Leaves.load (F := F) ?_ _ _
    exact (group1_later c i arg2 harg2 arg3 harg3 arg4 harg4 arg5 harg5 arg6 harg6 arg7 harg7 arg8 harg8 arg9 harg9 arg10 harg10 arg11 harg11 Variants.none none _ _ _ _ _ _ _ _ _ _ _ _ _ _ _ (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) k0_pay85 k0_pay86
      (leaves_cons _ _ _ _ _ rfl) (leaves_cons _ _ _ _ _ rfl) (leaves_cons _ _ _ _ _ rfl) _ _ _ _ rfl rfl rfl rfl h1 h2 h3 h4 rb hrb k1 hk1 kb1 hkb1 vb1 hvb1 k3 hk3 kb3 hkb3 vb3 hvb3).2

end Cert.KernelIdeal.Swa
end
-- ==== Proof.SwaFlash.lean ====
/-
  A softmax over keys that arrive in blocks, against the softmax over all keys at once, over the extended reals.  The
  running state is a maximum, a denominator and a weighted sum, each rescaled when a block raises the maximum.  Nothing
  is assumed finite: a maximum that is an infinity leaves zero on both sides.
-/
module

public import Idealize.ShloMosaic.Lib.Pointwise

@[expose] public section

noncomputable section

open Idealize.ShloMosaic

namespace Cert.SwaFlash

theorem exp_nonneg (x : EReal) : 0 ≤ Ideal.exp x := by
  induction x using EReal.rec with
  | bot => exact le_refl _
  | top => exact le_top
  | coe r => rw [Ideal.exp_coe]; exact_mod_cast (Real.exp_pos r).le

/-- Differences of two numbers below a real bound compose under the exponential. -/
theorem exp_trans (x : EReal) (m M : ℝ) (h : x ≤ m) :
    Ideal.exp ((m : EReal) - M) * Ideal.exp (x - m) = Ideal.exp (x - M) := by
  induction x using EReal.rec with
  | bot => simp [EReal.bot_sub]
  | top => exact absurd h (not_le.mpr (EReal.coe_lt_top m))
  | coe r =>
    rw [← EReal.coe_sub, ← EReal.coe_sub, ← EReal.coe_sub, Ideal.exp_coe, Ideal.exp_coe, Ideal.exp_coe,
      ← EReal.coe_mul, ← Real.exp_add]
    congr 2; ring

theorem coe_mul_add {c : ℝ} (hc : 0 ≤ c) (x y : EReal) : (c : EReal) * (x + y) = c * x + c * y :=
  EReal.left_distrib_of_nonneg_of_ne_top (by exact_mod_cast hc) (EReal.coe_ne_top c) x y

theorem coe_mul_sum {c : ℝ} (hc : 0 ≤ c) {n : ℕ} (f : Fin n → EReal) :
    (c : EReal) * ∑ a, f a = ∑ a, (c : EReal) * f a := by
  classical
  refine Finset.induction_on (Finset.univ : Finset (Fin n)) (by simp) fun a s ha ih => ?_
  rw [Finset.sum_insert ha, Finset.sum_insert ha, coe_mul_add hc, ih]

/-- The greatest of a block of scores. -/
def mx {n : ℕ} (s : Fin n → EReal) : EReal := Finset.univ.fold max ⊥ s

theorem mx_le {n : ℕ} (s : Fin n → EReal) (M : EReal) : mx s ≤ M ↔ ∀ a, s a ≤ M := by
  unfold mx
  rw [Finset.fold_max_le]
  simp

theorem le_mx {n : ℕ} (s : Fin n → EReal) (a : Fin n) : s a ≤ mx s := (mx_le s _).mp (le_refl _) a

/-- The running state `(m, l, a)` of one query and one column, having seen scores with maximum `top` whose exponentials
    below a bound `M` sum to `den M`, and to `num M` when weighted. -/
def Holds (m l a top : EReal) (den num : ℝ → EReal) : Prop :=
  m = top ∧ ∀ M : ℝ, m ≤ M → Ideal.exp (m - M) * l = den M ∧ Ideal.exp (m - M) * a = num M

/-- At the start the sink is the one score seen, with weight zero. -/
theorem holds_start (sink : EReal) : Holds sink 1 0 sink (fun M => Ideal.exp (sink - M)) fun _ => 0 :=
  ⟨rfl, fun M _ => ⟨mul_one _, mul_zero _⟩⟩

/-- The rescaled value of an exponential of a block. -/
theorem scale_exp {m' : EReal} {M : ℝ} (hM : m' ≤ M) (x : EReal) (h : x ≤ m') :
    Ideal.exp (m' - M) * Ideal.exp (x - m') = Ideal.exp (x - M) := by
  induction m' using EReal.rec with
  | bot => rw [le_bot_iff.mp h]; simp [EReal.bot_sub]
  | top => exact absurd hM (not_le.mpr (EReal.coe_lt_top M))
  | coe r => exact exp_trans x r M h

/-- The scale of a state under a real bound is a real number that is not negative. -/
theorem scale_real {m' : EReal} {M : ℝ} (hM : m' ≤ M) : ∃ c : ℝ, 0 ≤ c ∧ Ideal.exp (m' - M) = c := by
  induction m' using EReal.rec with
  | bot => exact ⟨0, le_refl _, by simp [EReal.bot_sub]⟩
  | top => exact absurd hM (not_le.mpr (EReal.coe_lt_top M))
  | coe r => exact ⟨Real.exp (r - M), (Real.exp_pos _).le, by rw [← EReal.coe_sub, Ideal.exp_coe]⟩

/-- A block takes the state on. -/
theorem holds_step {n : ℕ} {m l a top : EReal} {den num : ℝ → EReal} (H : Holds m l a top den num)
    (s v : Fin n → EReal) :
    Holds (max m (mx s)) (Ideal.exp (m - max m (mx s)) * l + ∑ j, Ideal.exp (s j - max m (mx s)))
      (Ideal.exp (m - max m (mx s)) * a + ∑ j, v j * Ideal.exp (s j - max m (mx s))) (max top (mx s))
      (fun M => den M + ∑ j, Ideal.exp (s j - M)) (fun M => num M + ∑ j, v j * Ideal.exp (s j - M)) := by
  refine ⟨by rw [H.1], fun M hM => ?_⟩
  obtain ⟨c, hc, e⟩ := scale_real hM
  have hm : m ≤ M := (le_max_left _ _).trans hM
  have key : ∀ j, Ideal.exp (max m (mx s) - M) * Ideal.exp (s j - max m (mx s)) = Ideal.exp (s j - M) :=
    fun j => scale_exp hM _ ((le_mx s j).trans (le_max_right _ _))
  have key0 := scale_exp hM m (le_max_left m (mx s))
  constructor
  · show _ = den M + _
    rw [← (H.2 M hm).1, ← key0, e, coe_mul_add hc, coe_mul_sum hc, ← mul_assoc]
    congr 1
    refine Finset.sum_congr rfl fun j _ => ?_
    rw [← e]; exact key j
  · show _ = num M + _
    rw [← (H.2 M hm).2, ← key0, e, coe_mul_add hc, coe_mul_sum hc, ← mul_assoc]
    congr 1
    refine Finset.sum_congr rfl fun j _ => ?_
    rw [mul_left_comm, ← e, key j]

/-- A state whose new maximum is an infinity is zero. -/
theorem exp_inf (x m' : EReal) (h : x ≤ m') (hm : m' = ⊥ ∨ m' = ⊤) : Ideal.exp (x - m') = 0 := by
  rcases hm with rfl | rfl
  · rw [le_bot_iff.mp h]; simp [EReal.bot_sub]
  · simp

theorem step_inf {n : ℕ} (m l a : EReal) (s v : Fin n → EReal) (hm : max m (mx s) = ⊥ ∨ max m (mx s) = ⊤) :
    Ideal.exp (m - max m (mx s)) * a + ∑ j, v j * Ideal.exp (s j - max m (mx s)) = 0 := by
  rw [exp_inf m _ (le_max_left _ _) hm, zero_mul, zero_add]
  refine Finset.sum_eq_zero fun j _ => ?_
  rw [exp_inf (s j) _ ((le_mx s j).trans (le_max_right _ _)) hm, mul_zero]

/-- Division by a positive number is multiplication by a real number that is not negative. -/
theorem div_pos_eq (y : EReal) (hy : 0 < y) : ∃ c : ℝ, 0 ≤ c ∧ (∀ x, Ideal.div x y = x * c) ∧ (y = ⊤ → c = 0) := by
  induction y using EReal.rec with
  | bot => exact absurd hy (by simp)
  | top => exact ⟨0, le_refl _, fun x => by simp [Ideal.div], fun _ => rfl⟩
  | coe r =>
    have hr : 0 < r := by exact_mod_cast hy
    exact ⟨1 / r, by positivity, fun x => Ideal.div_coe hr.ne' x, fun h => absurd h (EReal.coe_ne_top r)⟩

/-- The bound a softmax over all scores at once uses: the maximum if it is finite, else zero. -/
def bound (m : EReal) : EReal := if m = ⊥ ∨ m = ⊤ then 0 else m

/-- The softmax over all scores `S` and the sink, weighted by `V`. -/
def soft {N : ℕ} (S V : Fin N → EReal) (sink tiny : EReal) : EReal :=
  ∑ j, V j * Ideal.div (Ideal.exp (S j - bound (max (mx S) sink)))
    (max ((∑ j, Ideal.exp (S j - bound (max (mx S) sink))) + Ideal.exp (sink - bound (max (mx S) sink))) tiny)

/-- A sum of exponentials with one that is infinite is infinite. -/
theorem den_top {N : ℕ} (S : Fin N → EReal) (sink : EReal) (h : max (mx S) sink = ⊤) :
    (∑ j, Ideal.exp (S j - 0)) + Ideal.exp (sink - 0) = ⊤ := by
  have nn : (0 : EReal) ≤ ∑ j, Ideal.exp (S j - 0) := Finset.sum_nonneg fun j _ => exp_nonneg _
  rcases max_choice (mx S) sink with e | e
  · rw [e] at h
    have : ⊤ ≤ ∑ j, Ideal.exp (S j - 0) := by
      by_contra hc
      have hlt := not_le.mp hc
      have : ∀ j, S j < ⊤ := fun j => by
        rw [lt_top_iff_ne_top]
        intro hj
        have h1 := Finset.single_le_sum (f := fun j => Ideal.exp (S j - 0)) (fun j _ => exp_nonneg _) (Finset.mem_univ j)
        simp only [hj, sub_zero, Ideal.exp_top] at h1
        exact hc (by simpa only [sub_zero] using h1)
      have h2 : mx S < ⊤ := by
        unfold mx
        rw [Finset.fold_max_lt]
        exact ⟨bot_lt_top, fun j _ => this j⟩
      exact absurd h h2.ne
    rw [top_le_iff.mp this]
    exact EReal.top_add_of_ne_bot (ne_of_gt (lt_of_lt_of_le EReal.bot_lt_zero (exp_nonneg _)))
  · rw [e] at h
    rw [h, sub_zero, Ideal.exp_top]
    exact EReal.add_top_of_ne_bot (ne_of_gt (lt_of_lt_of_le EReal.bot_lt_zero nn))

/-- The state's quotient is the softmax over all scores at once. -/
theorem flash_soft {N : ℕ} {m l a top : EReal} {den num : ℝ → EReal} (H : Holds m l a top den num)
    (hz : m = ⊥ ∨ m = ⊤ → a = 0) (S V : Fin N → EReal) (sink tiny : EReal) (ht : 0 < tiny)
    (htop : top = max (mx S) sink) (hden : ∀ M : ℝ, den M = (∑ j, Ideal.exp (S j - M)) + Ideal.exp (sink - M))
    (hnum : ∀ M : ℝ, num M = ∑ j, V j * Ideal.exp (S j - M)) :
    Ideal.div a (max l tiny) = soft S V sink tiny := by
  have hm : m = max (mx S) sink := H.1.trans htop
  unfold soft
  rw [← hm]
  by_cases hi : m = ⊥ ∨ m = ⊤
  · rw [hz hi]
    obtain ⟨c, _, hc, _⟩ := div_pos_eq (max l tiny) (ht.trans_le (le_max_right _ _))
    rw [hc, zero_mul]
    have hb : bound m = 0 := if_pos hi
    rw [hb]
    obtain ⟨c', _, hc', hc0⟩ := div_pos_eq
      (max ((∑ j, Ideal.exp (S j - 0)) + Ideal.exp (sink - 0)) tiny) (ht.trans_le (le_max_right _ _))
    refine (Finset.sum_eq_zero fun j _ => ?_).symm
    rw [hc']
    rcases hi with h | h
    · have : S j = ⊥ := le_bot_iff.mp (((le_mx S j).trans (le_max_left _ sink)).trans (hm ▸ h.le))
      rw [this, sub_zero, Ideal.exp_bot, zero_mul, mul_zero]
    · rw [hc0 (by rw [den_top S sink (hm ▸ h)]; exact max_eq_left le_top), EReal.coe_zero, mul_zero, mul_zero]
  · have hb : bound m = m := if_neg hi
    rw [hb]
    induction m using EReal.rec with
    | bot => exact absurd (Or.inl rfl) hi
    | top => exact absurd (Or.inr rfl) hi
    | coe r =>
      have h0 : Ideal.exp ((r : EReal) - r) = 1 := by
        rw [← EReal.coe_sub, sub_self, Ideal.exp_coe, Real.exp_zero, EReal.coe_one]
      obtain ⟨hl, ha⟩ := H.2 r (le_refl _)
      rw [h0, one_mul] at hl ha
      rw [hl, ha, hden r, hnum r]
      obtain ⟨c, hc0, hc, _⟩ := div_pos_eq
        (max ((∑ j, Ideal.exp (S j - r)) + Ideal.exp (sink - r)) tiny) (ht.trans_le (le_max_right _ _))
      rw [hc, mul_comm, coe_mul_sum hc0]
      refine Finset.sum_congr rfl fun j _ => ?_
      rw [hc, mul_comm (c : EReal), mul_assoc]

end Cert.SwaFlash
end
-- ==== Proof.SwaMath.lean ====
/-
  The masked, biased score of a query and a key as words and as numbers, and the softmax over all keys against the one
  or two blocks of keys a query's window meets.
-/
module

public import proofs.«01_k».proof.Proof.SwaFlash
public import Idealize.ShloMosaic.Lib.Pointwise
public import Idealize.ShloMosaic.Lib.WordCmp

@[expose] public section

noncomputable section

open Idealize.ShloMosaic

namespace Cert.SwaFlash

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_eighth : Ideal.ofBits .f32 0x3E000000#32 = ((1 / 8 : ℝ) : EReal) := by
  simp [Ideal.ofBits, Ideal.ieee, -EReal.coe_mul]; norm_num
theorem bits_sixteen : Ideal.ofBits .f32 0x41800000#32 = ((16 : ℝ) : EReal) := by
  simp [Ideal.ofBits, Ideal.ieee, -EReal.coe_mul]; norm_num
theorem bits_minus_eight : Ideal.ofBits .f32 0xC1000000#32 = ((-8 : ℝ) : EReal) := by
  simp [Ideal.ofBits, Ideal.ieee, -EReal.coe_mul]; norm_num
theorem bits_log_two : ∃ r : ℝ, Ideal.ofBits .f32 0x3F317218#32 = (r : EReal) := by
  refine ⟨11629080 / 16777216, ?_⟩
  simp [Ideal.ofBits, Ideal.ieee, -EReal.coe_mul]; norm_num
theorem bits_tiny : 0 < Ideal.ofBits .f32 0x00800000#32 := by
  simp [Ideal.ofBits, Ideal.ieee, -EReal.coe_mul]

/-- The slope of head `h`. -/
def slope (h : Nat) : EReal :=
  Ideal.exp (Ideal.ofBits .f32 0x3F317218#32 * Ideal.div (Ideal.ofBits .f32 0xC1000000#32
    * (1 + FloatOps.sitofp (F := Ideal) .f32 (BitVec.ofNat 32 h))) (Ideal.ofBits .f32 0x41800000#32))

theorem sitofp_eq (b : BitVec 32) : FloatOps.sitofp (F := Ideal) .f32 b = (((b.toInt : ℤ) : ℝ) : EReal) := rfl

theorem slope_real (h : Nat) : ∃ r : ℝ, slope h = (r : EReal) := by
  obtain ⟨c, hc⟩ := bits_log_two
  unfold slope
  rw [sitofp_eq, hc, bits_minus_eight, bits_sixteen, Ideal.div_coe (by norm_num), ← EReal.coe_one, ← EReal.coe_add, ← EReal.coe_mul,
    ← EReal.coe_mul, ← EReal.coe_mul, Ideal.exp_coe]
  exact ⟨_, rfl⟩

/-- The score of key `j` for the query at `t`: scaled, less the slope times the distance; nothing outside the window. -/
def score (dot sl : EReal) (t j : Nat) : EReal :=
  if j ≤ t ∧ t < j + 128 then dot * ((1 / 8 : ℝ) : EReal) - sl * ((((t : ℝ) - (j : ℝ)) : ℝ) : EReal) else ⊥

theorem ofNat_toInt (a : Nat) (ha : a < 8192) : (BitVec.ofNat 32 a).toInt = a := by
  have e : (BitVec.ofNat 32 a).toNat = a := by rw [BitVec.toNat_ofNat]; omega
  rw [BitVec.toInt_eq_toNat_of_lt (by rw [e]; omega), e]

theorem sub_toInt (x : BitVec 32) (a : Nat) (ha : a < 4096) (h0 : -8192 ≤ x.toInt) (h1 : x.toInt ≤ 8192) :
    (IntOp.subi x (BitVec.ofNat 32 a)).toInt = x.toInt - a := by
  show (x - BitVec.ofNat 32 a).toInt = _
  rw [BitVec.toInt_sub, ofNat_toInt a (by omega)]
  apply Int.bmod_eq_of_le <;> omega

/-- The reference's score. -/
theorem ref_score (dot sl : EReal) (t j : Nat) (ht : t < 2048) (hj : j < 2048) :
    Scalar.select (IntOp.andi (IntOp.cmpi .sge (IntOp.subi (BitVec.ofNat 32 t) (BitVec.ofNat 32 j)) 0#32)
        (IntOp.cmpi .slt (IntOp.subi (BitVec.ofNat 32 t) (BitVec.ofNat 32 j)) 128#32))
      (dot * Ideal.ofBits .f32 0x3E000000#32
        - sl * FloatOps.sitofp (F := Ideal) .f32 (IntOp.subi (BitVec.ofNat 32 t) (BitVec.ofNat 32 j)))
      (Ideal.ofBits .f32 0xFF800000#32) = score dot sl t j := by
  have e : (IntOp.subi (BitVec.ofNat 32 t) (BitVec.ofNat 32 j)).toInt = (t : ℤ) - j := by
    have et := ofNat_toInt t (by omega)
    rw [sub_toInt _ _ (by omega) (by omega) (by omega), et]
  rw [bits_bot, bits_eighth, sitofp_eq, WordCmp.cmpi_sge_eq, WordCmp.cmpi_slt_eq, e]
  unfold score Scalar.select IntOp.andi
  have h0 : (0#32 : BitVec 32).toInt = 0 := rfl
  have h1 : (128#32 : BitVec 32).toInt = 128 := rfl
  rw [h0, h1]
  have key : (BitVec.ofBool (decide ((0 : ℤ) ≤ t - j)) &&& BitVec.ofBool (decide ((t : ℤ) - j < 128)) = 1) ↔ (j ≤ t ∧ t < j + 128) := by
    by_cases p : (0 : ℤ) ≤ t - j <;> by_cases q : (t : ℤ) - j < 128 <;> simp only [p, q, decide_true, decide_false]
    · exact iff_of_true rfl (by omega)
    · exact iff_of_false (by decide) (by omega)
    · exact iff_of_false (by decide) (by omega)
    · exact iff_of_false (by decide) (by omega)
  rw [if_congr key rfl rfl]
  push_cast
  rfl

/-- The kernel scales the query before the product, and takes the distance as a difference of two biases. -/
theorem bias_eq (kk qq : Fin 64 → EReal) (sl : ℝ) (row : ℕ) (A t j : ℤ) (h : A - row = t - j) :
    (∑ x, kk x * (qq x * ((1 / 8 : ℝ) : EReal))) + (sl : EReal) * ((((row : ℤ) : ℝ)) : EReal) - (sl : EReal) * (((A : ℤ) : ℝ) : EReal)
      = (∑ x, kk x * qq x) * ((1 / 8 : ℝ) : EReal) - (sl : EReal) * ((((t : ℝ) - (j : ℝ)) : ℝ) : EReal) := by
  have e : (∑ x, kk x * (qq x * ((1 / 8 : ℝ) : EReal))) = (∑ x, kk x * qq x) * ((1 / 8 : ℝ) : EReal) := by
    rw [mul_comm, coe_mul_sum (by norm_num)]
    refine Finset.sum_congr rfl fun x _ => ?_
    rw [← mul_assoc, mul_comm]
  rw [e]
  generalize (∑ x, kk x * qq x) * ((1 / 8 : ℝ) : EReal) = D
  have hr : (A : ℝ) - (row : ℝ) = (t : ℝ) - j := by exact_mod_cast h
  rw [← EReal.coe_mul, ← EReal.coe_mul, ← EReal.coe_mul]
  have : (sl * ((t : ℝ) - j) : ℝ) = sl * A - sl * ((row : ℤ) : ℝ) := by rw [← hr]; push_cast; ring
  rw [this]
  generalize sl * ((row : ℤ) : ℝ) = u
  generalize sl * (A : ℝ) = v
  induction D using EReal.rec with
  | bot => simp [EReal.bot_sub]
  | top => rw [EReal.top_add_coe, EReal.top_sub_coe, EReal.top_sub_coe]
  | coe r => rw [← EReal.coe_add, ← EReal.coe_sub, ← EReal.coe_sub]; congr 1; ring

/-- A key of the query's own block: only the keys behind the query count. -/
theorem own_score (kk qq : Fin 64 → EReal) (h : Nat) (A : BitVec 32) (t B a : Nat) (hA : A.toInt = (t : ℤ) - B * 128)
    (ha : a < 128) (ht : t < 2048) (hB : B * 128 ≤ t) (hB' : t < B * 128 + 128) :
    Scalar.select (IntOp.cmpi .sge (IntOp.subi A (BitVec.ofNat 32 a)) 0#32)
      ((∑ x, kk x * (qq x * Ideal.ofBits .f32 0x3E000000#32)) + slope h * FloatOps.sitofp (F := Ideal) .f32 (BitVec.ofNat 32 a)
        - slope h * FloatOps.sitofp (F := Ideal) .f32 A)
      (Ideal.ofBits .f32 0xFF800000#32) = score (∑ x, kk x * qq x) (slope h) t (B * 128 + a) := by
  obtain ⟨s, hs⟩ := slope_real h
  have e : (IntOp.subi A (BitVec.ofNat 32 a)).toInt = (t : ℤ) - B * 128 - a := by
    rw [sub_toInt _ _ (by omega) (by omega) (by omega), hA]
  rw [bits_bot, bits_eighth, sitofp_eq, sitofp_eq, WordCmp.cmpi_sge_eq, e, hs, ofNat_toInt a (by omega),
    bias_eq kk qq s a A.toInt t ((B * 128 + a : ℕ) : ℤ) (by push_cast; omega)]
  unfold score Scalar.select
  have h0 : (0#32 : BitVec 32).toInt = 0 := rfl
  rw [h0]
  have key : (BitVec.ofBool (decide ((0 : ℤ) ≤ (t : ℤ) - B * 128 - a)) = 1) ↔ (B * 128 + a ≤ t ∧ t < B * 128 + a + 128) := by
    by_cases p : (0 : ℤ) ≤ (t : ℤ) - B * 128 - a <;> simp only [p, decide_true, decide_false]
    · exact iff_of_true rfl (by omega)
    · exact iff_of_false (by decide) (by omega)
  rw [if_congr key rfl rfl]
  push_cast
  rfl

/-- A key of the block before the query's own: only the keys inside the window count. -/
theorem prev_score (kk qq : Fin 64 → EReal) (h : Nat) (A : BitVec 32) (t B a : Nat) (hA : A.toInt = (t : ℤ) - B * 128)
    (ha : a < 128) (ht : t < 2048) (hB : B * 128 + 128 ≤ t) (hB' : t < B * 128 + 256) :
    Scalar.select (IntOp.cmpi .slt (IntOp.subi A (BitVec.ofNat 32 a)) 128#32)
      ((∑ x, kk x * (qq x * Ideal.ofBits .f32 0x3E000000#32)) + slope h * FloatOps.sitofp (F := Ideal) .f32 (BitVec.ofNat 32 a)
        - slope h * FloatOps.sitofp (F := Ideal) .f32 A)
      (Ideal.ofBits .f32 0xFF800000#32) = score (∑ x, kk x * qq x) (slope h) t (B * 128 + a) := by
  obtain ⟨s, hs⟩ := slope_real h
  have e : (IntOp.subi A (BitVec.ofNat 32 a)).toInt = (t : ℤ) - B * 128 - a := by
    rw [sub_toInt _ _ (by omega) (by omega) (by omega), hA]
  rw [bits_bot, bits_eighth, sitofp_eq, sitofp_eq, WordCmp.cmpi_slt_eq, e, hs, ofNat_toInt a (by omega),
    bias_eq kk qq s a A.toInt t ((B * 128 + a : ℕ) : ℤ) (by push_cast; omega)]
  unfold score Scalar.select
  have h0 : (128#32 : BitVec 32).toInt = 128 := rfl
  rw [h0]
  have key : (BitVec.ofBool (decide ((t : ℤ) - B * 128 - a < 128)) = 1) ↔ (B * 128 + a ≤ t ∧ t < B * 128 + a + 128) := by
    by_cases p : (t : ℤ) - B * 128 - a < 128 <;> simp only [p, decide_true, decide_false]
    · exact iff_of_true rfl (by omega)
    · exact iff_of_false (by decide) (by omega)
  rw [if_congr key rfl rfl]
  push_cast
  rfl

theorem bound_eq (m : EReal) : Scalar.select (Ideal.cmp .olt (max m (-m)) (Ideal.ofBits .f32 0x7F800000#32)) m
    (Ideal.ofBits .f32 0x00000000#32) = bound m := by
  rw [bits_top, Ideal.ofBits_zero_f32]
  unfold Scalar.select Ideal.cmp bound
  induction m using EReal.rec with
  | bot => simp
  | top => simp
  | coe r =>
    have : max (r : EReal) (-(r : EReal)) < ⊤ := by
      rw [max_lt_iff, ← EReal.coe_neg]; exact ⟨EReal.coe_lt_top _, EReal.coe_lt_top _⟩
    simp [this]

/-- A step of the running maximum, denominator and sum. -/
def nextL {n : ℕ} (m l : EReal) (s : Fin n → EReal) : EReal :=
  Ideal.exp (m - max m (mx s)) * l + ∑ j, Ideal.exp (s j - max m (mx s))
def nextA {n : ℕ} (m a : EReal) (s v : Fin n → EReal) : EReal :=
  Ideal.exp (m - max m (mx s)) * a + ∑ j, v j * Ideal.exp (s j - max m (mx s))

/-- Over one block that holds every key that counts. -/
theorem one_block {N : ℕ} (S V : Fin N → EReal) (sink tiny : EReal) (ht : 0 < tiny) (e : Fin 128 → Fin N) (he : e.Injective)
    (hS : ∀ j, j ∉ Set.range e → S j = ⊥) :
    Ideal.div (nextA sink 0 (fun a => S (e a)) fun a => V (e a)) (max (nextL sink 1 fun a => S (e a)) tiny) = soft S V sink tiny := by
  refine flash_soft (holds_step (holds_start sink) (fun a => S (e a)) fun a => V (e a)) (fun h => step_inf _ 1 _ _ _ h) S V sink tiny ht ?_ ?_ ?_
  · rw [max_comm]
    congr 1
    refine le_antisymm ((mx_le _ _).mpr fun a => le_mx S (e a)) ((mx_le _ _).mpr fun j => ?_)
    by_cases hj : j ∈ Set.range e
    · obtain ⟨a, rfl⟩ := hj
      exact le_mx (fun a => S (e a)) a
    · rw [hS j hj]; exact bot_le
  · intro M
    rw [add_comm]
    congr 1
    refine Fintype.sum_of_injective e he _ _ (fun j hj => ?_) fun _ => rfl
    rw [hS j hj, EReal.bot_sub, Ideal.exp_bot]
  · intro M
    rw [zero_add]
    refine Fintype.sum_of_injective e he _ _ (fun j hj => ?_) fun _ => rfl
    rw [hS j hj, EReal.bot_sub, Ideal.exp_bot, mul_zero]

/-- Over two blocks that hold every key that counts. -/
theorem two_blocks {N : ℕ} (S V : Fin N → EReal) (sink tiny : EReal) (ht : 0 < tiny) (e : Fin 128 ⊕ Fin 128 → Fin N) (he : e.Injective)
    (hS : ∀ j, j ∉ Set.range e → S j = ⊥) :
    Ideal.div (nextA (max sink (mx fun a => S (e (.inl a)))) (nextA sink 0 (fun a => S (e (.inl a))) fun a => V (e (.inl a)))
        (fun a => S (e (.inr a))) fun a => V (e (.inr a)))
      (max (nextL (max sink (mx fun a => S (e (.inl a)))) (nextL sink 1 fun a => S (e (.inl a))) fun a => S (e (.inr a))) tiny)
      = soft S V sink tiny := by
  refine flash_soft (holds_step (holds_step (holds_start sink) (fun a => S (e (.inl a))) fun a => V (e (.inl a))) (fun a => S (e (.inr a))) fun a => V (e (.inr a)))
    (fun h => step_inf _ 1 _ _ _ h) S V sink tiny ht ?_ ?_ ?_
  · rw [max_assoc, max_comm sink]
    congr 1
    refine le_antisymm (max_le ((mx_le _ _).mpr fun a => le_mx S _) ((mx_le _ _).mpr fun a => le_mx S _)) ((mx_le _ _).mpr fun j => ?_)
    by_cases hj : j ∈ Set.range e
    · obtain ⟨a, rfl⟩ := hj
      rcases a with a | a
      · exact (le_mx (fun a => S (e (.inl a))) a).trans (le_max_left _ _)
      · exact (le_mx (fun a => S (e (.inr a))) a).trans (le_max_right _ _)
    · rw [hS j hj]; exact bot_le
  · intro M
    rw [add_assoc, add_comm]
    congr 1
    rw [← Fintype.sum_of_injective e he (fun a => Ideal.exp (S (e a) - M)) _ (fun j hj => ?_) fun _ => rfl]
    · rw [Fintype.sum_sum_type]
    · rw [hS j hj, EReal.bot_sub, Ideal.exp_bot]
  · intro M
    rw [zero_add, ← Fintype.sum_of_injective e he (fun a => V (e a) * Ideal.exp (S (e a) - M)) _ (fun j hj => ?_) fun _ => rfl]
    · rw [Fintype.sum_sum_type]
    · rw [hS j hj, EReal.bot_sub, Ideal.exp_bot, mul_zero]

end Cert.SwaFlash
end
-- ==== Proof.SwaLanes.lean ====
module
public import proofs.«01_k».proof.Proof.SwaLoops
public import proofs.«01_k».proof.Proof.SwaMath

/-!
One trip of a loop over key blocks, lane by lane

A lane is a head and a query.  The scores of a block, the new maximum, denominator and weighted values of a lane, over the
extended reals.
-/

@[expose] public section
noncomputable section
open Idealize.ShloMosaic Idealize.ShloMosaic.TcCoe Idealize.SL.Sem
namespace Cert.KernelIdeal.Swa
open Cert.KernelIdeal Cert.KernelIdeal.Gen Cert.SwaFlash

/-- The scores of a trip of loop 1. -/
theorem score1_apply (i : grid0.Coords) (v5 : IVec S1x1024 32) (v7 : BitVec 32) (q : FVec Ideal S64x1024 .bf16) (sl : FVec Ideal S1x1024 .f32) (k : Fin (k0_t1_loop i).trips)
    (kb : Vec Ideal S1x1x128x64 .bf16) (rb : Vec Ideal S1x128x1024 .f32) (a : Fin 128) (r : Fin 1024) :
    k0_pay6 i v5 v7 q sl 0#32 1#32 k kb rb (ix2 a r)
      = Scalar.select (IntOp.cmpi .slt (IntOp.subi (IntOp.subi (v5 (ix2 0 r)) (Scalar.muli (Scalar.addi v7 (Scalar.muli (Scf.iv 0#32 1#32 k) 1#32)) 128#32)) (BitVec.ofNat 32 a.val)) 128#32)
          ((∑ x : Fin 64, kb (ix4 0 0 a x) * q (ix2 x r)) + rb (ix3 0 a r) - sl (ix2 0 r) * FloatOps.sitofp (F := Ideal) .f32
            (IntOp.subi (v5 (ix2 0 r)) (Scalar.muli (Scalar.addi v7 (Scalar.muli (Scf.iv 0#32 1#32 k) 1#32)) 128#32))) (Ideal.ofBits .f32 0xFF800000#32) := by
  pointwise [k0_pay6]

theorem max1_apply (i : grid0.Coords) (v5 : IVec S1x1024 32) (v7 : BitVec 32) (q : FVec Ideal S64x1024 .bf16) (sl : FVec Ideal S1x1024 .f32) (k : Fin (k0_t1_loop i).trips)
    (kb : Vec Ideal S1x1x128x64 .bf16) (rb : Vec Ideal S1x128x1024 .f32)
    (m : Vec Ideal S1x1024 .f32) (r : Fin 1024) :
    k0_pay7 i v5 v7 q sl 0#32 1#32 k kb rb m (ix2 0 r) = max (m (ix2 0 r)) (mx fun a : Fin 128 => k0_pay6 i v5 v7 q sl 0#32 1#32 k kb rb (ix2 a r)) := by
  pointwise [k0_pay7]
  unfold mx
  rw [bits_bot]

theorem sum1_apply (i : grid0.Coords) (v5 : IVec S1x1024 32) (v7 : BitVec 32) (q : FVec Ideal S64x1024 .bf16) (sl : FVec Ideal S1x1024 .f32) (k : Fin (k0_t1_loop i).trips)
    (kb : Vec Ideal S1x1x128x64 .bf16) (rb : Vec Ideal S1x128x1024 .f32)
    (m l : Vec Ideal S1x1024 .f32) (r : Fin 1024) :
    k0_pay10 i v5 v7 q sl 0#32 1#32 k kb rb m l (ix2 0 r) = nextL (m (ix2 0 r)) (l (ix2 0 r)) (fun a : Fin 128 => k0_pay6 i v5 v7 q sl 0#32 1#32 k kb rb (ix2 a r)) := by
  unfold nextL
  rw [← max1_apply]
  pointwise [k0_pay10, k0_pay8, k0_pay9]

theorem acc1_apply (i : grid0.Coords) (v5 : IVec S1x1024 32) (v7 : BitVec 32) (q : FVec Ideal S64x1024 .bf16) (sl : FVec Ideal S1x1024 .f32) (k : Fin (k0_t1_loop i).trips)
    (kb : Vec Ideal S1x1x128x64 .bf16) (rb : Vec Ideal S1x128x1024 .f32)
    (m : Vec Ideal S1x1024 .f32) (acc : FVec Ideal S64x1024 .f32) (vb : Vec Ideal S1x64x128 .bf16) (d : Fin 64) (r : Fin 1024) :
    k0_pay54 (k0_pay8 i v5 v7 q sl 0#32 1#32 k kb rb m) (k0_pay9 i v5 v7 q sl 0#32 1#32 k kb rb m) acc vb (ix2 d r)
      = nextA (m (ix2 0 r)) (acc (ix2 d r)) (fun a : Fin 128 => k0_pay6 i v5 v7 q sl 0#32 1#32 k kb rb (ix2 a r)) (fun a => vb (ix3 0 d a)) := by
  unfold nextA
  rw [← max1_apply]
  pointwise [k0_pay54, k0_pay8, k0_pay9]

/-- The scores of a trip of loop 3. -/
theorem score3_apply (i : grid0.Coords) (arg1 : BitVec 32) (v5 : IVec S1x1024 32) (q : FVec Ideal S64x1024 .bf16) (sl : FVec Ideal S1x1024 .f32) (k : Fin (k0_t3_loop i).trips)
    (kb : Vec Ideal S1x1x128x64 .bf16) (rb : Vec Ideal S1x128x1024 .f32) (a : Fin 128) (r : Fin 1024) :
    k0_pay16 i arg1 v5 q sl 0#32 1#32 k kb rb (ix2 a r)
      = Scalar.select (IntOp.cmpi .sge (IntOp.subi (IntOp.subi (v5 (ix2 0 r)) (Scalar.muli (Scalar.addi arg1 (Scalar.muli (Scf.iv 0#32 1#32 k) 1#32)) 128#32)) (BitVec.ofNat 32 a.val)) 0#32)
          ((∑ x : Fin 64, kb (ix4 0 0 a x) * q (ix2 x r)) + rb (ix3 0 a r) - sl (ix2 0 r) * FloatOps.sitofp (F := Ideal) .f32
            (IntOp.subi (v5 (ix2 0 r)) (Scalar.muli (Scalar.addi arg1 (Scalar.muli (Scf.iv 0#32 1#32 k) 1#32)) 128#32))) (Ideal.ofBits .f32 0xFF800000#32) := by
  pointwise [k0_pay16]

theorem max3_apply (i : grid0.Coords) (arg1 : BitVec 32) (v5 : IVec S1x1024 32) (q : FVec Ideal S64x1024 .bf16) (sl : FVec Ideal S1x1024 .f32) (k : Fin (k0_t3_loop i).trips)
    (kb : Vec Ideal S1x1x128x64 .bf16) (rb : Vec Ideal S1x128x1024 .f32)
    (m : Vec Ideal S1x1024 .f32) (r : Fin 1024) :
    k0_pay17 i arg1 v5 q sl 0#32 1#32 k kb rb m (ix2 0 r) = max (m (ix2 0 r)) (mx fun a : Fin 128 => k0_pay16 i arg1 v5 q sl 0#32 1#32 k kb rb (ix2 a r)) := by
  pointwise [k0_pay17]
  unfold mx
  rw [bits_bot]

theorem sum3_apply (i : grid0.Coords) (arg1 : BitVec 32) (v5 : IVec S1x1024 32) (q : FVec Ideal S64x1024 .bf16) (sl : FVec Ideal S1x1024 .f32) (k : Fin (k0_t3_loop i).trips)
    (kb : Vec Ideal S1x1x128x64 .bf16) (rb : Vec Ideal S1x128x1024 .f32)
    (m l : Vec Ideal S1x1024 .f32) (r : Fin 1024) :
    k0_pay20 i arg1 v5 q sl 0#32 1#32 k kb rb m l (ix2 0 r) = nextL (m (ix2 0 r)) (l (ix2 0 r)) (fun a : Fin 128 => k0_pay16 i arg1 v5 q sl 0#32 1#32 k kb rb (ix2 a r)) := by
  unfold nextL
  rw [← max3_apply]
  pointwise [k0_pay20, k0_pay18, k0_pay19]

theorem acc3_apply (i : grid0.Coords) (arg1 : BitVec 32) (v5 : IVec S1x1024 32) (q : FVec Ideal S64x1024 .bf16) (sl : FVec Ideal S1x1024 .f32) (k : Fin (k0_t3_loop i).trips)
    (kb : Vec Ideal S1x1x128x64 .bf16) (rb : Vec Ideal S1x128x1024 .f32)
    (m : Vec Ideal S1x1024 .f32) (acc : FVec Ideal S64x1024 .f32) (vb : Vec Ideal S1x64x128 .bf16) (d : Fin 64) (r : Fin 1024) :
    k0_pay60 (k0_pay18 i arg1 v5 q sl 0#32 1#32 k kb rb m) (k0_pay19 i arg1 v5 q sl 0#32 1#32 k kb rb m) acc vb (ix2 d r)
      = nextA (m (ix2 0 r)) (acc (ix2 d r)) (fun a : Fin 128 => k0_pay16 i arg1 v5 q sl 0#32 1#32 k kb rb (ix2 a r)) (fun a => vb (ix3 0 d a)) := by
  unfold nextA
  rw [← max3_apply]
  pointwise [k0_pay60, k0_pay18, k0_pay19]

/-- The scores of a trip of loop 5. -/
theorem score5_apply (i : grid0.Coords) (v5 : IVec S1x1024 32) (v7 : BitVec 32) (q : FVec Ideal S64x1024 .bf16) (sl : FVec Ideal S1x1024 .f32) (k : Fin (k0_t5_loop i).trips)
    (kb : Vec Ideal S1x1x128x64 .bf16) (rb : Vec Ideal S1x128x1024 .f32) (a : Fin 128) (r : Fin 1024) :
    k0_pay26 i v5 v7 q sl 0#32 1#32 k kb rb (ix2 a r)
      = Scalar.select (IntOp.cmpi .slt (IntOp.subi (IntOp.subi (v5 (ix2 0 r)) (Scalar.muli (Scalar.addi v7 (Scalar.muli (Scf.iv 0#32 1#32 k) 1#32)) 128#32)) (BitVec.ofNat 32 a.val)) 128#32)
          ((∑ x : Fin 64, kb (ix4 0 0 a x) * q (ix2 x r)) + rb (ix3 0 a r) - sl (ix2 0 r) * FloatOps.sitofp (F := Ideal) .f32
            (IntOp.subi (v5 (ix2 0 r)) (Scalar.muli (Scalar.addi v7 (Scalar.muli (Scf.iv 0#32 1#32 k) 1#32)) 128#32))) (Ideal.ofBits .f32 0xFF800000#32) := by
  pointwise [k0_pay26]

theorem max5_apply (i : grid0.Coords) (v5 : IVec S1x1024 32) (v7 : BitVec 32) (q : FVec Ideal S64x1024 .bf16) (sl : FVec Ideal S1x1024 .f32) (k : Fin (k0_t5_loop i).trips)
    (kb : Vec Ideal S1x1x128x64 .bf16) (rb : Vec Ideal S1x128x1024 .f32)
    (m : Vec Ideal S1x1024 .f32) (r : Fin 1024) :
    k0_pay27 i v5 v7 q sl 0#32 1#32 k kb rb m (ix2 0 r) = max (m (ix2 0 r)) (mx fun a : Fin 128 => k0_pay26 i v5 v7 q sl 0#32 1#32 k kb rb (ix2 a r)) := by
  pointwise [k0_pay27]
  unfold mx
  rw [bits_bot]

theorem sum5_apply (i : grid0.Coords) (v5 : IVec S1x1024 32) (v7 : BitVec 32) (q : FVec Ideal S64x1024 .bf16) (sl : FVec Ideal S1x1024 .f32) (k : Fin (k0_t5_loop i).trips)
    (kb : Vec Ideal S1x1x128x64 .bf16) (rb : Vec Ideal S1x128x1024 .f32)
    (m l : Vec Ideal S1x1024 .f32) (r : Fin 1024) :
    k0_pay30 i v5 v7 q sl 0#32 1#32 k kb rb m l (ix2 0 r) = nextL (m (ix2 0 r)) (l (ix2 0 r)) (fun a : Fin 128 => k0_pay26 i v5 v7 q sl 0#32 1#32 k kb rb (ix2 a r)) := by
  unfold nextL
  rw [← max5_apply]
  pointwise [k0_pay30, k0_pay28, k0_pay29]

theorem acc5_apply (i : grid0.Coords) (v5 : IVec S1x1024 32) (v7 : BitVec 32) (q : FVec Ideal S64x1024 .bf16) (sl : FVec Ideal S1x1024 .f32) (k : Fin (k0_t5_loop i).trips)
    (kb : Vec Ideal S1x1x128x64 .bf16) (rb : Vec Ideal S1x128x1024 .f32)
    (m : Vec Ideal S1x1024 .f32) (acc : FVec Ideal S64x1024 .f32) (vb : Vec Ideal S1x64x128 .bf16) (d : Fin 64) (r : Fin 1024) :
    k0_pay88 (k0_pay28 i v5 v7 q sl 0#32 1#32 k kb rb m) (k0_pay29 i v5 v7 q sl 0#32 1#32 k kb rb m) acc vb (ix2 d r)
      = nextA (m (ix2 0 r)) (acc (ix2 d r)) (fun a : Fin 128 => k0_pay26 i v5 v7 q sl 0#32 1#32 k kb rb (ix2 a r)) (fun a => vb (ix3 0 d a)) := by
  unfold nextA
  rw [← max5_apply]
  pointwise [k0_pay88, k0_pay28, k0_pay29]

/-- The scores of a trip of loop 7. -/
theorem score7_apply (i : grid0.Coords) (arg1 : BitVec 32) (v5 : IVec S1x1024 32) (q : FVec Ideal S64x1024 .bf16) (sl : FVec Ideal S1x1024 .f32) (k : Fin (k0_t7_loop i).trips)
    (kb : Vec Ideal S1x1x128x64 .bf16) (rb : Vec Ideal S1x128x1024 .f32) (a : Fin 128) (r : Fin 1024) :
    k0_pay36 i arg1 v5 q sl 0#32 1#32 k kb rb (ix2 a r)
      = Scalar.select (IntOp.cmpi .sge (IntOp.subi (IntOp.subi (v5 (ix2 0 r)) (Scalar.muli (Scalar.addi arg1 (Scalar.muli (Scf.iv 0#32 1#32 k) 1#32)) 128#32)) (BitVec.ofNat 32 a.val)) 0#32)
          ((∑ x : Fin 64, kb (ix4 0 0 a x) * q (ix2 x r)) + rb (ix3 0 a r) - sl (ix2 0 r) * FloatOps.sitofp (F := Ideal) .f32
            (IntOp.subi (v5 (ix2 0 r)) (Scalar.muli (Scalar.addi arg1 (Scalar.muli (Scf.iv 0#32 1#32 k) 1#32)) 128#32))) (Ideal.ofBits .f32 0xFF800000#32) := by
  pointwise [k0_pay36]

theorem max7_apply (i : grid0.Coords) (arg1 : BitVec 32) (v5 : IVec S1x1024 32) (q : FVec Ideal S64x1024 .bf16) (sl : FVec Ideal S1x1024 .f32) (k : Fin (k0_t7_loop i).trips)
    (kb : Vec Ideal S1x1x128x64 .bf16) (rb : Vec Ideal S1x128x1024 .f32)
    (m : Vec Ideal S1x1024 .f32) (r : Fin 1024) :
    k0_pay37 i arg1 v5 q sl 0#32 1#32 k kb rb m (ix2 0 r) = max (m (ix2 0 r)) (mx fun a : Fin 128 => k0_pay36 i arg1 v5 q sl 0#32 1#32 k kb rb (ix2 a r)) := by
  pointwise [k0_pay37]
  unfold mx
  rw [bits_bot]

theorem sum7_apply (i : grid0.Coords) (arg1 : BitVec 32) (v5 : IVec S1x1024 32) (q : FVec Ideal S64x1024 .bf16) (sl : FVec Ideal S1x1024 .f32) (k : Fin (k0_t7_loop i).trips)
    (kb : Vec Ideal S1x1x128x64 .bf16) (rb : Vec Ideal S1x128x1024 .f32)
    (m l : Vec Ideal S1x1024 .f32) (r : Fin 1024) :
    k0_pay40 i arg1 v5 q sl 0#32 1#32 k kb rb m l (ix2 0 r) = nextL (m (ix2 0 r)) (l (ix2 0 r)) (fun a : Fin 128 => k0_pay36 i arg1 v5 q sl 0#32 1#32 k kb rb (ix2 a r)) := by
  unfold nextL
  rw [← max7_apply]
  pointwise [k0_pay40, k0_pay38, k0_pay39]

theorem acc7_apply (i : grid0.Coords) (arg1 : BitVec 32) (v5 : IVec S1x1024 32) (q : FVec Ideal S64x1024 .bf16) (sl : FVec Ideal S1x1024 .f32) (k : Fin (k0_t7_loop i).trips)
    (kb : Vec Ideal S1x1x128x64 .bf16) (rb : Vec Ideal S1x128x1024 .f32)
    (m : Vec Ideal S1x1024 .f32) (acc : FVec Ideal S64x1024 .f32) (vb : Vec Ideal S1x64x128 .bf16) (d : Fin 64) (r : Fin 1024) :
    k0_pay94 (k0_pay38 i arg1 v5 q sl 0#32 1#32 k kb rb m) (k0_pay39 i arg1 v5 q sl 0#32 1#32 k kb rb m) acc vb (ix2 d r)
      = nextA (m (ix2 0 r)) (acc (ix2 d r)) (fun a : Fin 128 => k0_pay36 i arg1 v5 q sl 0#32 1#32 k kb rb (ix2 a r)) (fun a => vb (ix3 0 d a)) := by
  unfold nextA
  rw [← max7_apply]
  pointwise [k0_pay94, k0_pay38, k0_pay39]

end Cert.KernelIdeal.Swa
end
-- ==== Proof.SwaLane.lean ====
module
public import proofs.«01_k».proof.Proof.SwaCases
public import proofs.«01_k».proof.Proof.SwaLanes
public import Idealize.ShloMosaic.Lib.Pipeline.Value

/-!
One lane of a grid point's block

What the kernel divides at a lane is the running state over the key blocks the query's window meets, so the quotient is the
softmax over all keys.
-/

@[expose] public section
noncomputable section
open Idealize.ShloMosaic Idealize.ShloMosaic.TcCoe Idealize.SL.Sem
namespace Cert.KernelIdeal.Swa
open Cert.KernelIdeal Cert.KernelIdeal.Gen Cert.SwaFlash

/-! ## Where the loops start and how often they go round -/

/-- The first row of the key block before the query block. -/
def prevRow (i : grid0.Coords) : BitVec 32 :=
  Scalar.muli (Scalar.addi (kernelRun0_A.sl.v7 i) (Scalar.muli (Scf.iv 0#32 1#32 0) 1#32)) 128#32
/-- The first row of the query block's own keys. -/
def ownRow (i : grid0.Coords) : BitVec 32 :=
  Scalar.muli (Scalar.addi (BitVec.ofNat 32 (i 1).val) (Scalar.muli (Scf.iv 0#32 1#32 0) 1#32)) 128#32

theorem facts : ∀ t : Fin grid0.N, ((grid0.coords t) 1).val = t.val % 16
    ∧ Scf.trips (k0_t1_loop (grid0.coords t)).lb (k0_t1_loop (grid0.coords t)).ub (k0_t1_loop (grid0.coords t)).st = (if t.val % 16 = 0 then 0 else 1)
    ∧ Scf.trips (k0_t2_loop (grid0.coords t)).lb (k0_t2_loop (grid0.coords t)).ub (k0_t2_loop (grid0.coords t)).st = 0
    ∧ Scf.trips (k0_t3_loop (grid0.coords t)).lb (k0_t3_loop (grid0.coords t)).ub (k0_t3_loop (grid0.coords t)).st = 1
    ∧ Scf.trips (k0_t4_loop (grid0.coords t)).lb (k0_t4_loop (grid0.coords t)).ub (k0_t4_loop (grid0.coords t)).st = 0
    ∧ Scf.trips (k0_t5_loop (grid0.coords t)).lb (k0_t5_loop (grid0.coords t)).ub (k0_t5_loop (grid0.coords t)).st = (if t.val % 16 = 0 then 0 else 1)
    ∧ Scf.trips (k0_t6_loop (grid0.coords t)).lb (k0_t6_loop (grid0.coords t)).ub (k0_t6_loop (grid0.coords t)).st = 0
    ∧ Scf.trips (k0_t7_loop (grid0.coords t)).lb (k0_t7_loop (grid0.coords t)).ub (k0_t7_loop (grid0.coords t)).st = 1
    ∧ Scf.trips (k0_t8_loop (grid0.coords t)).lb (k0_t8_loop (grid0.coords t)).ub (k0_t8_loop (grid0.coords t)).st = 0
    ∧ (t.val % 16 = 0 ∨ prevRow (grid0.coords t) = BitVec.ofNat 32 ((t.val % 16 - 1) * 128))
    ∧ ownRow (grid0.coords t) = BitVec.ofNat 32 (t.val % 16 * 128) := by
  decide +kernel

/-- The query position of a lane. -/
theorem pos_toInt (i : grid0.Coords) (q : Nat) (hq : (i 1).val = q) (hq' : q < 16) (H : Fin 8) (r : Fin 128) :
    (k0_pay46 i (ix2 0 (⟨H.val * 128 + r.val, by omega⟩ : Fin 1024))).toInt = ((q * 128 + r.val : Nat) : Int) := by
  have e : k0_pay46 i (ix2 0 (⟨H.val * 128 + r.val, by omega⟩ : Fin 1024))
      = IntOp.addi (Scalar.muli (BitVec.ofNat 32 (i 1).val) 128#32) (IntOp.andi (BitVec.ofNat 32 (H.val * 128 + r.val)) 127#32) := by
    pointwise [k0_pay46]
  have h1 : (IntOp.andi (BitVec.ofNat 32 (H.val * 128 + r.val)) 127#32) = BitVec.ofNat 32 r.val := by
    apply BitVec.eq_of_toNat_eq
    show (BitVec.ofNat 32 (H.val * 128 + r.val) &&& 127#32).toNat = _
    rw [BitVec.toNat_and, BitVec.toNat_ofNat, BitVec.toNat_ofNat, BitVec.toNat_ofNat]
    have e7 : 127 % 2 ^ 32 = 2 ^ 7 - 1 := by decide
    rw [e7, Nat.and_two_pow_sub_one_eq_mod]
    omega
  have h2 : (Scalar.muli (BitVec.ofNat 32 (i 1).val) 128#32) = BitVec.ofNat 32 (q * 128) := by
    rw [hq]
    apply BitVec.eq_of_toNat_eq
    show (BitVec.ofNat 32 q * 128#32).toNat = _
    rw [BitVec.toNat_mul, BitVec.toNat_ofNat, BitVec.toNat_ofNat, BitVec.toNat_ofNat]
    omega
  have h3 : IntOp.addi (BitVec.ofNat 32 (q * 128)) (BitVec.ofNat 32 r.val) = BitVec.ofNat 32 (q * 128 + r.val) := by
    show BitVec.ofNat 32 (q * 128) + BitVec.ofNat 32 r.val = _
    rw [← BitVec.ofNat_add]
  rw [e, h1, h2, h3, ofNat_toInt _ (by omega)]

variable (c : Dev nD) (i : grid0.Coords) (arg2 : Memref sig .tc .smem S16 .f32) (harg2 : arg2.IsWhole)
  (arg3 : Memref sig .tc .smem S16 .f32) (harg3 : arg3.IsWhole) (arg4 : Memref sig .tc .vmem S1x1024x128 .bf16)
  (harg4 : arg4.IsWhole) (arg5 : Memref sig .tc .vmem S1x2x2048x64 .bf16) (harg5 : arg5.IsWhole)
  (arg6 : Memref sig .tc .vmem S1x256x2048 .bf16) (harg6 : arg6.IsWhole) (arg7 : Memref sig .tc .vmem S2x128x1024 .f32)
  (harg7 : arg7.IsWhole) (arg8 : Memref sig .tc .vmem S1x1024x128 .bf16) (harg8 : arg8.IsWhole)
  (arg9 : Memref sig .tc .vmem S1x1024 .f32) (harg9 : arg9.IsWhole) (arg10 : Memref sig .tc .vmem S1x1024 .f32)
  (harg10 : arg10.IsWhole) (arg11 : Memref sig .tc .vmem S64x1024 .f32) (harg11 : arg11.IsWhole)

/-- Rows of the keys. -/
theorem key_read (x3 : Vec Ideal S1x2x2048x64 .bf16) {off : Fin 4 → Nat} (inb) (g B : Nat) (hg : g < 2) (hB : B < 16)
    (h : off = ![0, g, B * 128, 0]) (a : Fin 128) (x : Fin 64) :
    (arg5.view.readAt (Elt Ideal) (Rect.unit (s := S1x2x2048x64) off S1x1x128x64.size inb).toLoadRect (harg5.unread x3) : Vec Ideal S1x1x128x64 .bf16) (ix4 0 0 a x)
      = x3 (ix4 0 ⟨g, hg⟩ ⟨B * 128 + a.val, by omega⟩ x) := by
  subst h
  rw [View.readAt_eq_ld, harg5.read_unread]
  show x3 _ = x3 _
  congr 1
  funext ax; apply Fin.ext
  match ax with
  | ⟨0, _⟩ => rfl
  | ⟨1, _⟩ => show g + 1 * 0 = g; omega
  | ⟨2, _⟩ => show B * 128 + 1 * a.val = B * 128 + a.val; omega
  | ⟨3, _⟩ => show 0 + 1 * x.val = x.val; omega

/-- Columns of the values. -/
theorem val_read (x4 : Vec Ideal S1x256x2048 .bf16) {off : Fin 3 → Nat} (inb) (R B : Nat) (hR : R + 64 ≤ 256) (hB : B < 16)
    (h : off = ![0, R, B * 128]) (d : Fin 64) (a : Fin 128) :
    (arg6.view.readAt (Elt Ideal) (Rect.unit (s := S1x256x2048) off S1x64x128.size inb).toLoadRect (harg6.unread x4) : Vec Ideal S1x64x128 .bf16) (ix3 0 d a)
      = x4 (ix3 0 ⟨R + d.val, by omega⟩ ⟨B * 128 + a.val, by omega⟩) := by
  subst h
  rw [View.readAt_eq_ld, harg6.read_unread]
  show x4 _ = x4 _
  congr 1
  funext ax; apply Fin.ext
  match ax with
  | ⟨0, _⟩ => rfl
  | ⟨1, _⟩ => show R + 1 * d.val = R + d.val; omega
  | ⟨2, _⟩ => show B * 128 + 1 * a.val = B * 128 + a.val; omega

/-- A group's rows of biases. -/
theorem bias_read (x5 : Vec Ideal S2x128x1024 .f32) (g : Nat) (hg : g < 2) (inb) (a : Fin 128) (r : Fin 1024) :
    (arg7.view.readAt (Elt Ideal) (Rect.unit (s := S2x128x1024) ![g, 0, 0] S1x128x1024.size inb).toLoadRect (harg7.unread x5) : Vec Ideal S1x128x1024 .f32) (ix3 0 a r)
      = x5 (ix3 ⟨g, hg⟩ a r) := by
  rw [View.readAt_eq_ld, harg7.read_unread]
  show x5 _ = x5 _
  congr 1
  funext ax; apply Fin.ext
  match ax with
  | ⟨0, _⟩ => show g + 1 * 0 = g; omega
  | ⟨1, _⟩ => show 0 + 1 * a.val = a.val; omega
  | ⟨2, _⟩ => show 0 + 1 * r.val = r.val; omega

/-- The keys of one block. -/
def key (B : Nat) (hB : B < 16) (a : Fin 128) : Fin 2048 := ⟨B * 128 + a.val, by omega⟩

theorem key_inj (B : Nat) (hB : B < 16) : Function.Injective (key B hB) := fun a b h => by
  have := congrArg Fin.val h
  apply Fin.ext
  simp only [key] at this
  omega

/-- Keys of two blocks. -/
def keys (B B' : Nat) (hB : B < 16) (hB' : B' < 16) : Fin 128 ⊕ Fin 128 → Fin 2048 := Sum.elim (key B hB) (key B' hB')

theorem keys_inj (B B' : Nat) (hB : B < 16) (hB' : B' < 16) (hne : B ≠ B') : Function.Injective (keys B B' hB hB') := fun a b h => by
  rcases a with a | a <;> rcases b with b | b <;> have := congrArg Fin.val h <;> simp only [keys, key, Sum.elim_inl, Sum.elim_inr] at this
  · exact congrArg _ (Fin.ext (by omega))
  · omega
  · omega
  · exact congrArg _ (Fin.ext (by omega))

theorem one0 (r : Fin 1024) : k0_pay51 (F := Ideal) (ix2 0 r) = 1 := by pointwise [k0_pay51]
theorem zero0 (d : Fin 64) (r : Fin 1024) : k0_pay52 (F := Ideal) (ix2 d r) = 0 := by pointwise [k0_pay52]

/-- A lane of group 0: the quotient is the softmax over all keys. -/
theorem lane0 (t : Fin grid0.N) (hi : i = grid0.coords t)
    (x0 : Vec Ideal S16 .f32) (x1 : Vec Ideal S16 .f32) (x2 : Vec Ideal S1x1024x128 .bf16) (x3 : Vec Ideal S1x2x2048x64 .bf16)
    (x4 : Vec Ideal S1x256x2048 .bf16) (x5 : Vec Ideal S2x128x1024 .f32) (H : Fin 8) (d : Fin 64) (r : Fin 128)
    (kk : Fin 2048 → Fin 64 → EReal) (qq : Fin 64 → EReal) (vv : Fin 2048 → EReal) (h : Nat) (sink : EReal)
    (hx0 : (kernelRun0_A.sl.r_18 c arg2 harg2 x0) (ix2 0 (⟨H.val * 128 + r.val, by omega⟩ : Fin 1024)) = slope h)
    (hx1 : (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) (ix2 0 (⟨H.val * 128 + r.val, by omega⟩ : Fin 1024)) = sink)
    (hx2 : ∀ x : Fin 64, (kernelRun0_A.sl.r_1 c arg4 harg4 x2) (ix2 x (⟨H.val * 128 + r.val, by omega⟩ : Fin 1024)) = qq x * Ideal.ofBits .f32 0x3E000000#32)
    (hx3 : ∀ j x, x3 (ix4 0 0 j x) = kk j x)
    (hx4 : ∀ j, x4 (ix3 0 (⟨128 + d.val, by omega⟩ : Fin 256) j) = vv j)
    (hx5 : ∀ a : Fin 128, x5 (ix3 0 a (⟨H.val * 128 + r.val, by omega⟩ : Fin 1024)) = slope h * FloatOps.sitofp (F := Ideal) .f32 (BitVec.ofNat 32 a.val)) :
    Ideal.div (kernelRun0_A.sl.v83 c i arg2 harg2 arg3 harg3 arg4 harg4 arg5 harg5 arg6 harg6 arg7 harg7 arg8 harg8 arg9 harg9 arg10 harg10 arg11 harg11 x0 x1 x2 x3 x4 x5 (ix2 d (⟨H.val * 128 + r.val, by omega⟩ : Fin 1024)))
      (max (kernelRun0_A.sl.v84 c i arg2 harg2 arg3 harg3 arg4 harg4 arg5 harg5 arg6 harg6 arg7 harg7 arg8 harg8 arg9 harg9 arg10 harg10 arg11 harg11 x0 x1 x2 x3 x4 x5 (ix2 0 (⟨H.val * 128 + r.val, by omega⟩ : Fin 1024))) (Ideal.ofBits .f32 0x00800000#32))
      = soft (fun j : Fin 2048 => score (∑ x, kk j x * qq x) (slope h) (t.val % 16 * 128 + r.val) j.val) vv sink (Ideal.ofBits .f32 0x00800000#32) := by
  obtain ⟨f0, f1, f2, f3, f4, f5, f6, f7, f8, fp, fo⟩ := facts t
  rw [← hi] at f0 f1 f2 f3 f4 f5 f6 f7 f8 fp fo
  have hq : t.val % 16 < 16 := Nat.mod_lt _ (by decide)
  have pos := pos_toInt i (t.val % 16) f0 hq H r
  have rowO : (BitVec.ofNat 32 (t.val % 16 * 128)).toInt = ((t.val % 16 * 128 : Nat) : Int) := ofNat_toInt _ (by omega)
  let k3 : Fin (k0_t3_loop i).trips := ⟨0, by show 0 < Scf.trips _ _ _; rw [f3]; decide⟩
  have offK3 : k0_off5 i k3 = ![0, 0, t.val % 16 * 128, 0] := by
    have e : k0_off5 i k3 = ![0, 0, (ownRow i).toNat, 0] := rfl
    rw [e, fo, BitVec.toNat_ofNat, Nat.mod_eq_of_lt (by omega)]
  have offV3 : k0_off6 i k3 = ![0, 128, t.val % 16 * 128] := by
    have e : k0_off6 i k3 = ![0, 128, (ownRow i).toNat] := rfl
    rw [e, fo, BitVec.toNat_ofNat, Nat.mod_eq_of_lt (by omega)]
  have own : ∀ a : Fin 128, k0_pay16 i (BitVec.ofNat 32 (i 1).val) (k0_pay46 i) (kernelRun0_A.sl.r_1 c arg4 harg4 x2) (kernelRun0_A.sl.r_18 c arg2 harg2 x0) 0#32 1#32 k3
      (arg5.view.readAt (Elt Ideal) (Rect.unit (s := S1x2x2048x64) (k0_off5 i k3) S1x1x128x64.size (k0_off5_inb i k3)).toLoadRect (harg5.unread x3))
      (arg7.view.readAt (Elt Ideal) (Rect.unit (s := S2x128x1024) ![0, 0, 0] S1x128x1024.size inb_S2x128x1024_S1x128x1024_0_0_0).toLoadRect (harg7.unread x5))
      (ix2 a (⟨H.val * 128 + r.val, by omega⟩ : Fin 1024))
      = score (∑ x, kk (key (t.val % 16) hq a) x * qq x) (slope h) (t.val % 16 * 128 + r.val) (key (t.val % 16) hq a).val := fun a => by
    rw [score3_apply, bias_read arg7 harg7 x5 0 (by decide), hx0]
    have s1 : ∀ x : Fin 64, (arg5.view.readAt (Elt Ideal) (Rect.unit (s := S1x2x2048x64) (k0_off5 i k3) S1x1x128x64.size (k0_off5_inb i k3)).toLoadRect (harg5.unread x3) : Vec Ideal S1x1x128x64 .bf16) (ix4 0 0 a x)
        * (kernelRun0_A.sl.r_1 c arg4 harg4 x2) (ix2 x (⟨H.val * 128 + r.val, by omega⟩ : Fin 1024)) = kk (key (t.val % 16) hq a) x * (qq x * Ideal.ofBits .f32 0x3E000000#32) := fun x => by
      rw [key_read arg5 harg5 x3 _ 0 (t.val % 16) (by decide) hq offK3, hx2]
      exact congrArg (· * _) (hx3 _ _)
    rw [Finset.sum_congr rfl fun x _ => s1 x]
    have hb : x5 (ix3 (⟨0, by decide⟩ : Fin 2) a (⟨H.val * 128 + r.val, by omega⟩ : Fin 1024)) = slope h * FloatOps.sitofp (F := Ideal) .f32 (BitVec.ofNat 32 a.val) := hx5 a
    rw [hb]
    exact own_score _ _ h _ (t.val % 16 * 128 + r.val) (t.val % 16) a.val (by
      show (IntOp.subi _ (ownRow i)).toInt = _
      rw [fo, sub_toInt _ _ (by omega) (by omega) (by omega), pos]; omega) a.isLt (by omega) (by omega) (by omega)
  have ownV : ∀ a : Fin 128, (arg6.view.readAt (Elt Ideal) (Rect.unit (s := S1x256x2048) (k0_off6 i k3) S1x64x128.size (k0_off6_inb i k3)).toLoadRect (harg6.unread x4) : Vec Ideal S1x64x128 .bf16) (ix3 0 d a)
      = vv (key (t.val % 16) hq a) := fun a => by
    rw [val_read arg6 harg6 x4 _ 128 (t.val % 16) (by decide) hq offV3]
    exact hx4 _
  by_cases h0 : t.val % 16 = 0
  · rw [if_pos h0] at f1
    obtain ⟨el, ea⟩ := reads0_first c i arg2 harg2 arg3 harg3 arg4 harg4 arg5 harg5 arg6 harg6 arg7 harg7 arg8 harg8 arg9 harg9 arg10 harg10 arg11 harg11 x0 x1 x2 x3 x4 x5 f1 f2 f3 f4 _ rfl k3 rfl _ rfl _ rfl
    rw [el, ea, sum3_apply, acc3_apply, hx1, one0, zero0]
    simp only [own, ownV]
    refine one_block (fun j : Fin 2048 => score (∑ x, kk j x * qq x) (slope h) (t.val % 16 * 128 + r.val) j.val) vv sink _ bits_tiny
      (key (t.val % 16) hq) (key_inj _ _) fun j hj => ?_
    refine if_neg fun hc => hj ⟨⟨j.val - t.val % 16 * 128, by omega⟩, Fin.ext ?_⟩
    show t.val % 16 * 128 + (j.val - t.val % 16 * 128) = j.val
    omega
  · rw [if_neg h0] at f1
    have fp := fp.resolve_left h0
    have hq1 : t.val % 16 - 1 < 16 := by omega
    let k1 : Fin (k0_t1_loop i).trips := ⟨0, by show 0 < Scf.trips _ _ _; rw [f1]; decide⟩
    have offK1 : k0_off1 i k1 = ![0, 0, (t.val % 16 - 1) * 128, 0] := by
      have e : k0_off1 i k1 = ![0, 0, (prevRow i).toNat, 0] := rfl
      rw [e, fp, BitVec.toNat_ofNat, Nat.mod_eq_of_lt (by omega)]
    have offV1 : k0_off2 i k1 = ![0, 128, (t.val % 16 - 1) * 128] := by
      have e : k0_off2 i k1 = ![0, 128, (prevRow i).toNat] := rfl
      rw [e, fp, BitVec.toNat_ofNat, Nat.mod_eq_of_lt (by omega)]
    have prev : ∀ a : Fin 128, k0_pay6 i (k0_pay46 i) (kernelRun0_A.sl.v7 i) (kernelRun0_A.sl.r_1 c arg4 harg4 x2) (kernelRun0_A.sl.r_18 c arg2 harg2 x0) 0#32 1#32 k1
        (arg5.view.readAt (Elt Ideal) (Rect.unit (s := S1x2x2048x64) (k0_off1 i k1) S1x1x128x64.size (k0_off1_inb i k1)).toLoadRect (harg5.unread x3))
        (arg7.view.readAt (Elt Ideal) (Rect.unit (s := S2x128x1024) ![0, 0, 0] S1x128x1024.size inb_S2x128x1024_S1x128x1024_0_0_0).toLoadRect (harg7.unread x5))
        (ix2 a (⟨H.val * 128 + r.val, by omega⟩ : Fin 1024))
        = score (∑ x, kk (key (t.val % 16 - 1) hq1 a) x * qq x) (slope h) (t.val % 16 * 128 + r.val) (key (t.val % 16 - 1) hq1 a).val := fun a => by
      rw [score1_apply, bias_read arg7 harg7 x5 0 (by decide), hx0]
      have s1 : ∀ x : Fin 64, (arg5.view.readAt (Elt Ideal) (Rect.unit (s := S1x2x2048x64) (k0_off1 i k1) S1x1x128x64.size (k0_off1_inb i k1)).toLoadRect (harg5.unread x3) : Vec Ideal S1x1x128x64 .bf16) (ix4 0 0 a x)
          * (kernelRun0_A.sl.r_1 c arg4 harg4 x2) (ix2 x (⟨H.val * 128 + r.val, by omega⟩ : Fin 1024)) = kk (key (t.val % 16 - 1) hq1 a) x * (qq x * Ideal.ofBits .f32 0x3E000000#32) := fun x => by
        rw [key_read arg5 harg5 x3 _ 0 (t.val % 16 - 1) (by decide) hq1 offK1, hx2]
        exact congrArg (· * _) (hx3 _ _)
      rw [Finset.sum_congr rfl fun x _ => s1 x]
      have hb : x5 (ix3 (⟨0, by decide⟩ : Fin 2) a (⟨H.val * 128 + r.val, by omega⟩ : Fin 1024)) = slope h * FloatOps.sitofp (F := Ideal) .f32 (BitVec.ofNat 32 a.val) := hx5 a
      rw [hb]
      have rowP : (BitVec.ofNat 32 ((t.val % 16 - 1) * 128)).toInt = (((t.val % 16 - 1) * 128 : Nat) : Int) := ofNat_toInt _ (by omega)
      exact prev_score _ _ h _ (t.val % 16 * 128 + r.val) (t.val % 16 - 1) a.val (by
        show (IntOp.subi _ (prevRow i)).toInt = _
        rw [fp, sub_toInt _ _ (by omega) (by omega) (by omega), pos]; omega) a.isLt (by omega) (by omega) (by omega)
    have prevV : ∀ a : Fin 128, (arg6.view.readAt (Elt Ideal) (Rect.unit (s := S1x256x2048) (k0_off2 i k1) S1x64x128.size (k0_off2_inb i k1)).toLoadRect (harg6.unread x4) : Vec Ideal S1x64x128 .bf16) (ix3 0 d a)
        = vv (key (t.val % 16 - 1) hq1 a) := fun a => by
      rw [val_read arg6 harg6 x4 _ 128 (t.val % 16 - 1) (by decide) hq1 offV1]
      exact hx4 _
    obtain ⟨el, ea⟩ := reads0_later c i arg2 harg2 arg3 harg3 arg4 harg4 arg5 harg5 arg6 harg6 arg7 harg7 arg8 harg8 arg9 harg9 arg10 harg10 arg11 harg11 x0 x1 x2 x3 x4 x5 f1 f2 f3 f4 _ rfl k1 rfl _ rfl _ rfl k3 rfl _ rfl _ rfl
    rw [el, ea, sum3_apply, acc3_apply, max1_apply, sum1_apply, acc1_apply, hx1, one0, zero0]
    simp only [own, ownV, prev, prevV]
    refine two_blocks (fun j : Fin 2048 => score (∑ x, kk j x * qq x) (slope h) (t.val % 16 * 128 + r.val) j.val) vv sink _ bits_tiny
      (keys (t.val % 16 - 1) (t.val % 16) hq1 hq) (keys_inj _ _ _ _ (by omega)) fun j hj => ?_
    refine if_neg fun hc => ?_
    by_cases hs : j.val < t.val % 16 * 128
    · refine hj ⟨.inl ⟨j.val - (t.val % 16 - 1) * 128, by omega⟩, Fin.ext ?_⟩
      show (t.val % 16 - 1) * 128 + (j.val - (t.val % 16 - 1) * 128) = j.val
      omega
    · refine hj ⟨.inr ⟨j.val - t.val % 16 * 128, by omega⟩, Fin.ext ?_⟩
      show t.val % 16 * 128 + (j.val - t.val % 16 * 128) = j.val
      omega

theorem one1 (r : Fin 1024) : k0_pay85 (F := Ideal) (ix2 0 r) = 1 := by pointwise [k0_pay85]
theorem zero1 (d : Fin 64) (r : Fin 1024) : k0_pay86 (F := Ideal) (ix2 d r) = 0 := by pointwise [k0_pay86]

/-- A lane of group 1: the quotient is the softmax over all keys. -/
theorem lane1 (t : Fin grid0.N) (hi : i = grid0.coords t)
    (x0 : Vec Ideal S16 .f32) (x1 : Vec Ideal S16 .f32) (x2 : Vec Ideal S1x1024x128 .bf16) (x3 : Vec Ideal S1x2x2048x64 .bf16)
    (x4 : Vec Ideal S1x256x2048 .bf16) (x5 : Vec Ideal S2x128x1024 .f32) (H : Fin 8) (d : Fin 64) (r : Fin 128)
    (kk : Fin 2048 → Fin 64 → EReal) (qq : Fin 64 → EReal) (vv : Fin 2048 → EReal) (h : Nat) (sink : EReal)
    (hx0 : (kernelRun0_A.sl.r_45 c arg2 harg2 x0) (ix2 0 (⟨H.val * 128 + r.val, by omega⟩ : Fin 1024)) = slope h)
    (hx1 : (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) (ix2 0 (⟨H.val * 128 + r.val, by omega⟩ : Fin 1024)) = sink)
    (hx2 : ∀ x : Fin 64, (kernelRun0_A.sl.r_28 c arg4 harg4 x2) (ix2 x (⟨H.val * 128 + r.val, by omega⟩ : Fin 1024)) = qq x * Ideal.ofBits .f32 0x3E000000#32)
    (hx3 : ∀ j x, x3 (ix4 0 1 j x) = kk j x)
    (hx4 : ∀ j, x4 (ix3 0 (⟨192 + d.val, by omega⟩ : Fin 256) j) = vv j)
    (hx5 : ∀ a : Fin 128, x5 (ix3 1 a (⟨H.val * 128 + r.val, by omega⟩ : Fin 1024)) = slope h * FloatOps.sitofp (F := Ideal) .f32 (BitVec.ofNat 32 a.val)) :
    Ideal.div (kernelRun0_A.sl.v203 c i arg2 harg2 arg3 harg3 arg4 harg4 arg5 harg5 arg6 harg6 arg7 harg7 arg8 harg8 arg9 harg9 arg10 harg10 arg11 harg11 x0 x1 x2 x3 x4 x5 (ix2 d (⟨H.val * 128 + r.val, by omega⟩ : Fin 1024)))
      (max (kernelRun0_A.sl.v204 c i arg2 harg2 arg3 harg3 arg4 harg4 arg5 harg5 arg6 harg6 arg7 harg7 arg8 harg8 arg9 harg9 arg10 harg10 arg11 harg11 x0 x1 x2 x3 x4 x5 (ix2 0 (⟨H.val * 128 + r.val, by omega⟩ : Fin 1024))) (Ideal.ofBits .f32 0x00800000#32))
      = soft (fun j : Fin 2048 => score (∑ x, kk j x * qq x) (slope h) (t.val % 16 * 128 + r.val) j.val) vv sink (Ideal.ofBits .f32 0x00800000#32) := by
  obtain ⟨f0, f1, f2, f3, f4, f5, f6, f7, f8, fp, fo⟩ := facts t
  rw [← hi] at f0 f1 f2 f3 f4 f5 f6 f7 f8 fp fo
  have hq : t.val % 16 < 16 := Nat.mod_lt _ (by decide)
  have pos := pos_toInt i (t.val % 16) f0 hq H r
  have rowO : (BitVec.ofNat 32 (t.val % 16 * 128)).toInt = ((t.val % 16 * 128 : Nat) : Int) := ofNat_toInt _ (by omega)
  let k3 : Fin (k0_t7_loop i).trips := ⟨0, by show 0 < Scf.trips _ _ _; rw [f7]; decide⟩
  have offK3 : k0_off13 i k3 = ![0, 1, t.val % 16 * 128, 0] := by
    have e : k0_off13 i k3 = ![0, 1, (ownRow i).toNat, 0] := rfl
    rw [e, fo, BitVec.toNat_ofNat, Nat.mod_eq_of_lt (by omega)]
  have offV3 : k0_off14 i k3 = ![0, 192, t.val % 16 * 128] := by
    have e : k0_off14 i k3 = ![0, 192, (ownRow i).toNat] := rfl
    rw [e, fo, BitVec.toNat_ofNat, Nat.mod_eq_of_lt (by omega)]
  have own : ∀ a : Fin 128, k0_pay36 i (BitVec.ofNat 32 (i 1).val) (k0_pay46 i) (kernelRun0_A.sl.r_28 c arg4 harg4 x2) (kernelRun0_A.sl.r_45 c arg2 harg2 x0) 0#32 1#32 k3
      (arg5.view.readAt (Elt Ideal) (Rect.unit (s := S1x2x2048x64) (k0_off13 i k3) S1x1x128x64.size (k0_off13_inb i k3)).toLoadRect (harg5.unread x3))
      (arg7.view.readAt (Elt Ideal) (Rect.unit (s := S2x128x1024) ![1, 0, 0] S1x128x1024.size inb_S2x128x1024_S1x128x1024_1_0_0).toLoadRect (harg7.unread x5))
      (ix2 a (⟨H.val * 128 + r.val, by omega⟩ : Fin 1024))
      = score (∑ x, kk (key (t.val % 16) hq a) x * qq x) (slope h) (t.val % 16 * 128 + r.val) (key (t.val % 16) hq a).val := fun a => by
    rw [score7_apply, bias_read arg7 harg7 x5 1 (by decide), hx0]
    have s1 : ∀ x : Fin 64, (arg5.view.readAt (Elt Ideal) (Rect.unit (s := S1x2x2048x64) (k0_off13 i k3) S1x1x128x64.size (k0_off13_inb i k3)).toLoadRect (harg5.unread x3) : Vec Ideal S1x1x128x64 .bf16) (ix4 0 0 a x)
        * (kernelRun0_A.sl.r_28 c arg4 harg4 x2) (ix2 x (⟨H.val * 128 + r.val, by omega⟩ : Fin 1024)) = kk (key (t.val % 16) hq a) x * (qq x * Ideal.ofBits .f32 0x3E000000#32) := fun x => by
      rw [key_read arg5 harg5 x3 _ 1 (t.val % 16) (by decide) hq offK3, hx2]
      exact congrArg (· * _) (hx3 _ _)
    rw [Finset.sum_congr rfl fun x _ => s1 x]
    have hb : x5 (ix3 (⟨1, by decide⟩ : Fin 2) a (⟨H.val * 128 + r.val, by omega⟩ : Fin 1024)) = slope h * FloatOps.sitofp (F := Ideal) .f32 (BitVec.ofNat 32 a.val) := hx5 a
    rw [hb]
    exact own_score _ _ h _ (t.val % 16 * 128 + r.val) (t.val % 16) a.val (by
      show (IntOp.subi _ (ownRow i)).toInt = _
      rw [fo, sub_toInt _ _ (by omega) (by omega) (by omega), pos]; omega) a.isLt (by omega) (by omega) (by omega)
  have ownV : ∀ a : Fin 128, (arg6.view.readAt (Elt Ideal) (Rect.unit (s := S1x256x2048) (k0_off14 i k3) S1x64x128.size (k0_off14_inb i k3)).toLoadRect (harg6.unread x4) : Vec Ideal S1x64x128 .bf16) (ix3 0 d a)
      = vv (key (t.val % 16) hq a) := fun a => by
    rw [val_read arg6 harg6 x4 _ 192 (t.val % 16) (by decide) hq offV3]
    exact hx4 _
  by_cases h0 : t.val % 16 = 0
  · rw [if_pos h0] at f5
    obtain ⟨el, ea⟩ := reads1_first c i arg2 harg2 arg3 harg3 arg4 harg4 arg5 harg5 arg6 harg6 arg7 harg7 arg8 harg8 arg9 harg9 arg10 harg10 arg11 harg11 x0 x1 x2 x3 x4 x5 f5 f6 f7 f8 _ rfl k3 rfl _ rfl _ rfl
    rw [el, ea, sum7_apply, acc7_apply, hx1, one1, zero1]
    simp only [own, ownV]
    refine one_block (fun j : Fin 2048 => score (∑ x, kk j x * qq x) (slope h) (t.val % 16 * 128 + r.val) j.val) vv sink _ bits_tiny
      (key (t.val % 16) hq) (key_inj _ _) fun j hj => ?_
    refine if_neg fun hc => hj ⟨⟨j.val - t.val % 16 * 128, by omega⟩, Fin.ext ?_⟩
    show t.val % 16 * 128 + (j.val - t.val % 16 * 128) = j.val
    omega
  · rw [if_neg h0] at f5
    have fp := fp.resolve_left h0
    have hq1 : t.val % 16 - 1 < 16 := by omega
    let k1 : Fin (k0_t5_loop i).trips := ⟨0, by show 0 < Scf.trips _ _ _; rw [f5]; decide⟩
    have offK1 : k0_off9 i k1 = ![0, 1, (t.val % 16 - 1) * 128, 0] := by
      have e : k0_off9 i k1 = ![0, 1, (prevRow i).toNat, 0] := rfl
      rw [e, fp, BitVec.toNat_ofNat, Nat.mod_eq_of_lt (by omega)]
    have offV1 : k0_off10 i k1 = ![0, 192, (t.val % 16 - 1) * 128] := by
      have e : k0_off10 i k1 = ![0, 192, (prevRow i).toNat] := rfl
      rw [e, fp, BitVec.toNat_ofNat, Nat.mod_eq_of_lt (by omega)]
    have prev : ∀ a : Fin 128, k0_pay26 i (k0_pay46 i) (kernelRun0_A.sl.v7 i) (kernelRun0_A.sl.r_28 c arg4 harg4 x2) (kernelRun0_A.sl.r_45 c arg2 harg2 x0) 0#32 1#32 k1
        (arg5.view.readAt (Elt Ideal) (Rect.unit (s := S1x2x2048x64) (k0_off9 i k1) S1x1x128x64.size (k0_off9_inb i k1)).toLoadRect (harg5.unread x3))
        (arg7.view.readAt (Elt Ideal) (Rect.unit (s := S2x128x1024) ![1, 0, 0] S1x128x1024.size inb_S2x128x1024_S1x128x1024_1_0_0).toLoadRect (harg7.unread x5))
        (ix2 a (⟨H.val * 128 + r.val, by omega⟩ : Fin 1024))
        = score (∑ x, kk (key (t.val % 16 - 1) hq1 a) x * qq x) (slope h) (t.val % 16 * 128 + r.val) (key (t.val % 16 - 1) hq1 a).val := fun a => by
      rw [score5_apply, bias_read arg7 harg7 x5 1 (by decide), hx0]
      have s1 : ∀ x : Fin 64, (arg5.view.readAt (Elt Ideal) (Rect.unit (s := S1x2x2048x64) (k0_off9 i k1) S1x1x128x64.size (k0_off9_inb i k1)).toLoadRect (harg5.unread x3) : Vec Ideal S1x1x128x64 .bf16) (ix4 0 0 a x)
          * (kernelRun0_A.sl.r_28 c arg4 harg4 x2) (ix2 x (⟨H.val * 128 + r.val, by omega⟩ : Fin 1024)) = kk (key (t.val % 16 - 1) hq1 a) x * (qq x * Ideal.ofBits .f32 0x3E000000#32) := fun x => by
        rw [key_read arg5 harg5 x3 _ 1 (t.val % 16 - 1) (by decide) hq1 offK1, hx2]
        exact congrArg (· * _) (hx3 _ _)
      rw [Finset.sum_congr rfl fun x _ => s1 x]
      have hb : x5 (ix3 (⟨1, by decide⟩ : Fin 2) a (⟨H.val * 128 + r.val, by omega⟩ : Fin 1024)) = slope h * FloatOps.sitofp (F := Ideal) .f32 (BitVec.ofNat 32 a.val) := hx5 a
      rw [hb]
      have rowP : (BitVec.ofNat 32 ((t.val % 16 - 1) * 128)).toInt = (((t.val % 16 - 1) * 128 : Nat) : Int) := ofNat_toInt _ (by omega)
      exact prev_score _ _ h _ (t.val % 16 * 128 + r.val) (t.val % 16 - 1) a.val (by
        show (IntOp.subi _ (prevRow i)).toInt = _
        rw [fp, sub_toInt _ _ (by omega) (by omega) (by omega), pos]; omega) a.isLt (by omega) (by omega) (by omega)
    have prevV : ∀ a : Fin 128, (arg6.view.readAt (Elt Ideal) (Rect.unit (s := S1x256x2048) (k0_off10 i k1) S1x64x128.size (k0_off10_inb i k1)).toLoadRect (harg6.unread x4) : Vec Ideal S1x64x128 .bf16) (ix3 0 d a)
        = vv (key (t.val % 16 - 1) hq1 a) := fun a => by
      rw [val_read arg6 harg6 x4 _ 192 (t.val % 16 - 1) (by decide) hq1 offV1]
      exact hx4 _
    obtain ⟨el, ea⟩ := reads1_later c i arg2 harg2 arg3 harg3 arg4 harg4 arg5 harg5 arg6 harg6 arg7 harg7 arg8 harg8 arg9 harg9 arg10 harg10 arg11 harg11 x0 x1 x2 x3 x4 x5 f5 f6 f7 f8 _ rfl k1 rfl _ rfl _ rfl k3 rfl _ rfl _ rfl
    rw [el, ea, sum7_apply, acc7_apply, max5_apply, sum5_apply, acc5_apply, hx1, one1, zero1]
    simp only [own, ownV, prev, prevV]
    refine two_blocks (fun j : Fin 2048 => score (∑ x, kk j x * qq x) (slope h) (t.val % 16 * 128 + r.val) j.val) vv sink _ bits_tiny
      (keys (t.val % 16 - 1) (t.val % 16) hq1 hq) (keys_inj _ _ _ _ (by omega)) fun j hj => ?_
    refine if_neg fun hc => ?_
    by_cases hs : j.val < t.val % 16 * 128
    · refine hj ⟨.inl ⟨j.val - (t.val % 16 - 1) * 128, by omega⟩, Fin.ext ?_⟩
      show (t.val % 16 - 1) * 128 + (j.val - (t.val % 16 - 1) * 128) = j.val
      omega
    · refine hj ⟨.inr ⟨j.val - t.val % 16 * 128, by omega⟩, Fin.ext ?_⟩
      show t.val % 16 * 128 + (j.val - t.val % 16 * 128) = j.val
      omega

end Cert.KernelIdeal.Swa
end
-- ==== Proof.SwaBlock.lean ====
module
public import proofs.«01_k».proof.Proof.SwaLane
public import Idealize.ShloMosaic.Lib.Pipeline.Value

/-!
The block a grid point writes

Each group's lanes hold eight heads of 128 queries. Queries, slopes and sinks are laid side by side by head; the sixteen
heads' rows of the output block are cut from the quotients by the same rule.
-/

@[expose] public section
noncomputable section
open Idealize.ShloMosaic Idealize.ShloMosaic.TcCoe Idealize.SL.Sem
namespace Cert.KernelIdeal.Swa
open Cert.KernelIdeal Cert.KernelIdeal.Gen Cert.SwaFlash

variable (c : Dev nD) (i : grid0.Coords) (arg2 : Memref sig .tc .smem S16 .f32) (harg2 : arg2.IsWhole)
  (arg3 : Memref sig .tc .smem S16 .f32) (harg3 : arg3.IsWhole) (arg4 : Memref sig .tc .vmem S1x1024x128 .bf16)
  (harg4 : arg4.IsWhole) (arg5 : Memref sig .tc .vmem S1x2x2048x64 .bf16) (harg5 : arg5.IsWhole)
  (arg6 : Memref sig .tc .vmem S1x256x2048 .bf16) (harg6 : arg6.IsWhole) (arg7 : Memref sig .tc .vmem S2x128x1024 .f32)
  (harg7 : arg7.IsWhole) (arg8 : Memref sig .tc .vmem S1x1024x128 .bf16) (harg8 : arg8.IsWhole)
  (arg9 : Memref sig .tc .vmem S1x1024 .f32) (harg9 : arg9.IsWhole) (arg10 : Memref sig .tc .vmem S1x1024 .f32)
  (harg10 : arg10.IsWhole) (arg11 : Memref sig .tc .vmem S64x1024 .f32) (harg11 : arg11.IsWhole)

theorem query_read (x2 : Vec Ideal S1x1024x128 .bf16) (R : Nat) (hR : R + 64 ≤ 1024) (inb) (x : Fin 64) (r r' : Fin 128) (h : r' = r) :
    (View.readAt (Elt Ideal) arg4.view (Rect.unit (s := S1x1024x128) ![0, R, 0] S1x64x128.size inb).toLoadRect (harg4.unread x2) : Vec Ideal S1x64x128 .bf16) (ix3 0 x r')
      = x2 (ix3 0 ⟨R + x.val, by omega⟩ r) := by
  subst h
  rw [View.readAt_eq_ld, harg4.read_unread]
  show x2 _ = x2 _
  congr 1
  funext ax; apply Fin.ext
  match ax with
  | ⟨0, _⟩ => rfl
  | ⟨1, _⟩ => show R + 1 * x.val = R + x.val; omega
  | ⟨2, _⟩ => show 0 + 1 * r'.val = r'.val; omega

theorem word_read2 (x0 : Vec Ideal S16 .f32) (R : Nat) (hR : R < 16) (inb) (y : S1.Idx) :
    (View.readAt (Elt Ideal) arg2.view (Rect.unit (s := S16) ![R] S1.size inb).toLoadRect (harg2.unread x0) : Vec Ideal S1 .f32) y = x0 (ix1 ⟨R, hR⟩) := by
  rw [View.readAt_eq_ld, harg2.read_unread]
  show x0 _ = x0 _
  congr 1
  funext ax; apply Fin.ext
  match ax with
  | ⟨0, _⟩ =>
    show R + 1 * (y 0).val = R
    have : (y 0).val < 1 := (y 0).isLt
    omega

theorem word_read3 (x1 : Vec Ideal S16 .f32) (R : Nat) (hR : R < 16) (inb) (y : S1.Idx) :
    (View.readAt (Elt Ideal) arg3.view (Rect.unit (s := S16) ![R] S1.size inb).toLoadRect (harg3.unread x1) : Vec Ideal S1 .f32) y = x1 (ix1 ⟨R, hR⟩) := by
  rw [View.readAt_eq_ld, harg3.read_unread]
  show x1 _ = x1 _
  congr 1
  funext ax; apply Fin.ext
  match ax with
  | ⟨0, _⟩ =>
    show R + 1 * (y 0).val = R
    have : (y 0).val < 1 := (y 0).isLt
    omega

/-- Eight heads' queries side by side. -/
theorem heads0 (p0 p1 p2 p3 p4 p5 p6 p7 : Vec Ideal S1x64x128 .bf16) (x : Fin 64) (R : Fin 1024) (z : EReal)
    (hz : z = (![p0, p1, p2, p3, p4, p5, p6, p7] ⟨R.val / 128, by omega⟩) (ix3 0 x ⟨R.val % 128, by omega⟩)) :
    k0_pay47 p0 p1 p2 p3 p4 p5 p6 p7 (ix2 x R) = z := by
  pointwise [k0_pay47]
  split_ifs <;> first
    | (rw [hz, show (⟨R.val / 128, by omega⟩ : Fin 8) = 0 from Fin.ext (by show R.val / 128 = 0; omega)]; refine congrArg _ (congrArg (ix3 0 x) (Fin.ext ?_)); first | omega | (dsimp only; omega))
    | (rw [hz, show (⟨R.val / 128, by omega⟩ : Fin 8) = 1 from Fin.ext (by show R.val / 128 = 1; omega)]; refine congrArg _ (congrArg (ix3 0 x) (Fin.ext ?_)); first | omega | (dsimp only; omega))
    | (rw [hz, show (⟨R.val / 128, by omega⟩ : Fin 8) = 2 from Fin.ext (by show R.val / 128 = 2; omega)]; refine congrArg _ (congrArg (ix3 0 x) (Fin.ext ?_)); first | omega | (dsimp only; omega))
    | (rw [hz, show (⟨R.val / 128, by omega⟩ : Fin 8) = 3 from Fin.ext (by show R.val / 128 = 3; omega)]; refine congrArg _ (congrArg (ix3 0 x) (Fin.ext ?_)); first | omega | (dsimp only; omega))
    | (rw [hz, show (⟨R.val / 128, by omega⟩ : Fin 8) = 4 from Fin.ext (by show R.val / 128 = 4; omega)]; refine congrArg _ (congrArg (ix3 0 x) (Fin.ext ?_)); first | omega | (dsimp only; omega))
    | (rw [hz, show (⟨R.val / 128, by omega⟩ : Fin 8) = 5 from Fin.ext (by show R.val / 128 = 5; omega)]; refine congrArg _ (congrArg (ix3 0 x) (Fin.ext ?_)); first | omega | (dsimp only; omega))
    | (rw [hz, show (⟨R.val / 128, by omega⟩ : Fin 8) = 6 from Fin.ext (by show R.val / 128 = 6; omega)]; refine congrArg _ (congrArg (ix3 0 x) (Fin.ext ?_)); first | omega | (dsimp only; omega))
    | (rw [hz, show (⟨R.val / 128, by omega⟩ : Fin 8) = 7 from Fin.ext (by show R.val / 128 = 7; omega)]; refine congrArg _ (congrArg (ix3 0 x) (Fin.ext ?_)); first | omega | (dsimp only; omega))

/-- Eight heads' slopes side by side. -/
theorem slopesRow0 (p0 p1 p2 p3 p4 p5 p6 p7 : EReal) (R : Fin 1024) (z : EReal) (hz : z = ![p0, p1, p2, p3, p4, p5, p6, p7] ⟨R.val / 128, by omega⟩) :
    k0_pay49 (F := Ideal) (k0_pay48 p0) p1 p2 p3 p4 p5 p6 p7 (ix2 0 R) = z := by
  pointwise [k0_pay49, k0_pay48]
  split_ifs <;> first
    | (rw [hz, show (⟨R.val / 128, by omega⟩ : Fin 8) = 0 from Fin.ext (by show R.val / 128 = 0; omega)]; rfl)
    | (rw [hz, show (⟨R.val / 128, by omega⟩ : Fin 8) = 1 from Fin.ext (by show R.val / 128 = 1; omega)]; rfl)
    | (rw [hz, show (⟨R.val / 128, by omega⟩ : Fin 8) = 2 from Fin.ext (by show R.val / 128 = 2; omega)]; rfl)
    | (rw [hz, show (⟨R.val / 128, by omega⟩ : Fin 8) = 3 from Fin.ext (by show R.val / 128 = 3; omega)]; rfl)
    | (rw [hz, show (⟨R.val / 128, by omega⟩ : Fin 8) = 4 from Fin.ext (by show R.val / 128 = 4; omega)]; rfl)
    | (rw [hz, show (⟨R.val / 128, by omega⟩ : Fin 8) = 5 from Fin.ext (by show R.val / 128 = 5; omega)]; rfl)
    | (rw [hz, show (⟨R.val / 128, by omega⟩ : Fin 8) = 6 from Fin.ext (by show R.val / 128 = 6; omega)]; rfl)
    | (rw [hz, show (⟨R.val / 128, by omega⟩ : Fin 8) = 7 from Fin.ext (by show R.val / 128 = 7; omega)]; rfl)

/-- Eight heads' sinks side by side. -/
theorem sinksRow0 (p0 p1 p2 p3 p4 p5 p6 p7 : EReal) (R : Fin 1024) (z : EReal) (hz : z = ![p0, p1, p2, p3, p4, p5, p6, p7] ⟨R.val / 128, by omega⟩) :
    k0_pay50 (F := Ideal) p0 p1 p2 p3 p4 p5 p6 p7 (ix2 0 R) = z := by
  pointwise [k0_pay50]
  split_ifs <;> first
    | (rw [hz, show (⟨R.val / 128, by omega⟩ : Fin 8) = 0 from Fin.ext (by show R.val / 128 = 0; omega)]; rfl)
    | (rw [hz, show (⟨R.val / 128, by omega⟩ : Fin 8) = 1 from Fin.ext (by show R.val / 128 = 1; omega)]; rfl)
    | (rw [hz, show (⟨R.val / 128, by omega⟩ : Fin 8) = 2 from Fin.ext (by show R.val / 128 = 2; omega)]; rfl)
    | (rw [hz, show (⟨R.val / 128, by omega⟩ : Fin 8) = 3 from Fin.ext (by show R.val / 128 = 3; omega)]; rfl)
    | (rw [hz, show (⟨R.val / 128, by omega⟩ : Fin 8) = 4 from Fin.ext (by show R.val / 128 = 4; omega)]; rfl)
    | (rw [hz, show (⟨R.val / 128, by omega⟩ : Fin 8) = 5 from Fin.ext (by show R.val / 128 = 5; omega)]; rfl)
    | (rw [hz, show (⟨R.val / 128, by omega⟩ : Fin 8) = 6 from Fin.ext (by show R.val / 128 = 6; omega)]; rfl)
    | (rw [hz, show (⟨R.val / 128, by omega⟩ : Fin 8) = 7 from Fin.ext (by show R.val / 128 = 7; omega)]; rfl)

theorem queries0 (x2 : Vec Ideal S1x1024x128 .bf16) (H : Fin 8) (x : Fin 64) (r : Fin 128) :
    kernelRun0_A.sl.r_1 c arg4 harg4 x2 (ix2 x (⟨H.val * 128 + r.val, by omega⟩ : Fin 1024)) = x2 (ix3 0 ⟨H.val * 64 + 0 + x.val, by omega⟩ r) := by
  unfold kernelRun0_A.sl.r_1
  refine heads0 _ _ _ _ _ _ _ _ x _ _ ?_
  rw [show (⟨(H.val * 128 + r.val) / 128, by omega⟩ : Fin 8) = H from Fin.ext (by show (H.val * 128 + r.val) / 128 = H.val; omega),
    show (⟨(H.val * 128 + r.val) % 128, by omega⟩ : Fin 128) = r from Fin.ext (by show (H.val * 128 + r.val) % 128 = r.val; omega)]
  match H with
  | ⟨0, _⟩ => exact (query_read arg4 harg4 x2 0 (by decide) _ x r r rfl).symm
  | ⟨1, _⟩ => exact (query_read arg4 harg4 x2 64 (by decide) _ x r r rfl).symm
  | ⟨2, _⟩ => exact (query_read arg4 harg4 x2 128 (by decide) _ x r r rfl).symm
  | ⟨3, _⟩ => exact (query_read arg4 harg4 x2 192 (by decide) _ x r r rfl).symm
  | ⟨4, _⟩ => exact (query_read arg4 harg4 x2 256 (by decide) _ x r r rfl).symm
  | ⟨5, _⟩ => exact (query_read arg4 harg4 x2 320 (by decide) _ x r r rfl).symm
  | ⟨6, _⟩ => exact (query_read arg4 harg4 x2 384 (by decide) _ x r r rfl).symm
  | ⟨7, _⟩ => exact (query_read arg4 harg4 x2 448 (by decide) _ x r r rfl).symm

theorem slopes0 (x0 : Vec Ideal S16 .f32) (H : Fin 8) (r : Fin 128) :
    kernelRun0_A.sl.r_18 c arg2 harg2 x0 (ix2 0 (⟨H.val * 128 + r.val, by omega⟩ : Fin 1024)) = x0 (ix1 ⟨H.val + 0, by omega⟩) := by
  unfold kernelRun0_A.sl.r_18 kernelRun0_A.sl.r_2 kernelRun0_A.sl.r kernelRun0_A.sl.r_3 kernelRun0_A.sl.r_4 kernelRun0_A.sl.r_5 kernelRun0_A.sl.r_6 kernelRun0_A.sl.r_7 kernelRun0_A.sl.r_8 kernelRun0_A.sl.r_9
  refine slopesRow0 _ _ _ _ _ _ _ _ _ _ ?_
  rw [show (⟨(H.val * 128 + r.val) / 128, by omega⟩ : Fin 8) = H from Fin.ext (by show (H.val * 128 + r.val) / 128 = H.val; omega)]
  match H with
  | ⟨0, _⟩ => exact (word_read2 arg2 harg2 x0 0 (by decide) _ _).symm
  | ⟨1, _⟩ => exact (word_read2 arg2 harg2 x0 1 (by decide) _ _).symm
  | ⟨2, _⟩ => exact (word_read2 arg2 harg2 x0 2 (by decide) _ _).symm
  | ⟨3, _⟩ => exact (word_read2 arg2 harg2 x0 3 (by decide) _ _).symm
  | ⟨4, _⟩ => exact (word_read2 arg2 harg2 x0 4 (by decide) _ _).symm
  | ⟨5, _⟩ => exact (word_read2 arg2 harg2 x0 5 (by decide) _ _).symm
  | ⟨6, _⟩ => exact (word_read2 arg2 harg2 x0 6 (by decide) _ _).symm
  | ⟨7, _⟩ => exact (word_read2 arg2 harg2 x0 7 (by decide) _ _).symm

theorem sinks0 (x1 : Vec Ideal S16 .f32) (H : Fin 8) (r : Fin 128) :
    (k0_pay50 (kernelRun0_A.sl.r_10 c arg3 harg3 x1) (kernelRun0_A.sl.r_11 c arg3 harg3 x1) (kernelRun0_A.sl.r_12 c arg3 harg3 x1) (kernelRun0_A.sl.r_13 c arg3 harg3 x1) (kernelRun0_A.sl.r_14 c arg3 harg3 x1) (kernelRun0_A.sl.r_15 c arg3 harg3 x1) (kernelRun0_A.sl.r_16 c arg3 harg3 x1) (kernelRun0_A.sl.r_17 c arg3 harg3 x1)) (ix2 0 (⟨H.val * 128 + r.val, by omega⟩ : Fin 1024)) = x1 (ix1 ⟨H.val + 0, by omega⟩) := by
  unfold kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17
  refine sinksRow0 _ _ _ _ _ _ _ _ _ _ ?_
  rw [show (⟨(H.val * 128 + r.val) / 128, by omega⟩ : Fin 8) = H from Fin.ext (by show (H.val * 128 + r.val) / 128 = H.val; omega)]
  match H with
  | ⟨0, _⟩ => exact (word_read3 arg3 harg3 x1 0 (by decide) _ _).symm
  | ⟨1, _⟩ => exact (word_read3 arg3 harg3 x1 1 (by decide) _ _).symm
  | ⟨2, _⟩ => exact (word_read3 arg3 harg3 x1 2 (by decide) _ _).symm
  | ⟨3, _⟩ => exact (word_read3 arg3 harg3 x1 3 (by decide) _ _).symm
  | ⟨4, _⟩ => exact (word_read3 arg3 harg3 x1 4 (by decide) _ _).symm
  | ⟨5, _⟩ => exact (word_read3 arg3 harg3 x1 5 (by decide) _ _).symm
  | ⟨6, _⟩ => exact (word_read3 arg3 harg3 x1 6 (by decide) _ _).symm
  | ⟨7, _⟩ => exact (word_read3 arg3 harg3 x1 7 (by decide) _ _).symm

/-- Eight heads' queries side by side. -/
theorem heads1 (p0 p1 p2 p3 p4 p5 p6 p7 : Vec Ideal S1x64x128 .bf16) (x : Fin 64) (R : Fin 1024) (z : EReal)
    (hz : z = (![p0, p1, p2, p3, p4, p5, p6, p7] ⟨R.val / 128, by omega⟩) (ix3 0 x ⟨R.val % 128, by omega⟩)) :
    k0_pay75 p0 p1 p2 p3 p4 p5 p6 p7 (ix2 x R) = z := by
  pointwise [k0_pay75]
  split_ifs <;> first
    | (rw [hz, show (⟨R.val / 128, by omega⟩ : Fin 8) = 0 from Fin.ext (by show R.val / 128 = 0; omega)]; refine congrArg _ (congrArg (ix3 0 x) (Fin.ext ?_)); first | omega | (dsimp only; omega))
    | (rw [hz, show (⟨R.val / 128, by omega⟩ : Fin 8) = 1 from Fin.ext (by show R.val / 128 = 1; omega)]; refine congrArg _ (congrArg (ix3 0 x) (Fin.ext ?_)); first | omega | (dsimp only; omega))
    | (rw [hz, show (⟨R.val / 128, by omega⟩ : Fin 8) = 2 from Fin.ext (by show R.val / 128 = 2; omega)]; refine congrArg _ (congrArg (ix3 0 x) (Fin.ext ?_)); first | omega | (dsimp only; omega))
    | (rw [hz, show (⟨R.val / 128, by omega⟩ : Fin 8) = 3 from Fin.ext (by show R.val / 128 = 3; omega)]; refine congrArg _ (congrArg (ix3 0 x) (Fin.ext ?_)); first | omega | (dsimp only; omega))
    | (rw [hz, show (⟨R.val / 128, by omega⟩ : Fin 8) = 4 from Fin.ext (by show R.val / 128 = 4; omega)]; refine congrArg _ (congrArg (ix3 0 x) (Fin.ext ?_)); first | omega | (dsimp only; omega))
    | (rw [hz, show (⟨R.val / 128, by omega⟩ : Fin 8) = 5 from Fin.ext (by show R.val / 128 = 5; omega)]; refine congrArg _ (congrArg (ix3 0 x) (Fin.ext ?_)); first | omega | (dsimp only; omega))
    | (rw [hz, show (⟨R.val / 128, by omega⟩ : Fin 8) = 6 from Fin.ext (by show R.val / 128 = 6; omega)]; refine congrArg _ (congrArg (ix3 0 x) (Fin.ext ?_)); first | omega | (dsimp only; omega))
    | (rw [hz, show (⟨R.val / 128, by omega⟩ : Fin 8) = 7 from Fin.ext (by show R.val / 128 = 7; omega)]; refine congrArg _ (congrArg (ix3 0 x) (Fin.ext ?_)); first | omega | (dsimp only; omega))

/-- Eight heads' slopes side by side. -/
theorem slopesRow1 (p0 p1 p2 p3 p4 p5 p6 p7 : EReal) (R : Fin 1024) (z : EReal) (hz : z = ![p0, p1, p2, p3, p4, p5, p6, p7] ⟨R.val / 128, by omega⟩) :
    k0_pay83 (F := Ideal) (k0_pay76 p0) (k0_pay77 p1) (k0_pay78 p2) (k0_pay79 p3) (k0_pay80 p4) (k0_pay81 p5) (k0_pay82 p6) p7 (ix2 0 R) = z := by
  pointwise [k0_pay83, k0_pay76, k0_pay77, k0_pay78, k0_pay79, k0_pay80, k0_pay81, k0_pay82]
  split_ifs <;> first
    | (rw [hz, show (⟨R.val / 128, by omega⟩ : Fin 8) = 0 from Fin.ext (by show R.val / 128 = 0; omega)]; rfl)
    | (rw [hz, show (⟨R.val / 128, by omega⟩ : Fin 8) = 1 from Fin.ext (by show R.val / 128 = 1; omega)]; rfl)
    | (rw [hz, show (⟨R.val / 128, by omega⟩ : Fin 8) = 2 from Fin.ext (by show R.val / 128 = 2; omega)]; rfl)
    | (rw [hz, show (⟨R.val / 128, by omega⟩ : Fin 8) = 3 from Fin.ext (by show R.val / 128 = 3; omega)]; rfl)
    | (rw [hz, show (⟨R.val / 128, by omega⟩ : Fin 8) = 4 from Fin.ext (by show R.val / 128 = 4; omega)]; rfl)
    | (rw [hz, show (⟨R.val / 128, by omega⟩ : Fin 8) = 5 from Fin.ext (by show R.val / 128 = 5; omega)]; rfl)
    | (rw [hz, show (⟨R.val / 128, by omega⟩ : Fin 8) = 6 from Fin.ext (by show R.val / 128 = 6; omega)]; rfl)
    | (rw [hz, show (⟨R.val / 128, by omega⟩ : Fin 8) = 7 from Fin.ext (by show R.val / 128 = 7; omega)]; rfl)

/-- Eight heads' sinks side by side. -/
theorem sinksRow1 (p0 p1 p2 p3 p4 p5 p6 p7 : EReal) (R : Fin 1024) (z : EReal) (hz : z = ![p0, p1, p2, p3, p4, p5, p6, p7] ⟨R.val / 128, by omega⟩) :
    k0_pay84 (F := Ideal) p0 p1 p2 p3 p4 p5 p6 p7 (ix2 0 R) = z := by
  pointwise [k0_pay84]
  split_ifs <;> first
    | (rw [hz, show (⟨R.val / 128, by omega⟩ : Fin 8) = 0 from Fin.ext (by show R.val / 128 = 0; omega)]; rfl)
    | (rw [hz, show (⟨R.val / 128, by omega⟩ : Fin 8) = 1 from Fin.ext (by show R.val / 128 = 1; omega)]; rfl)
    | (rw [hz, show (⟨R.val / 128, by omega⟩ : Fin 8) = 2 from Fin.ext (by show R.val / 128 = 2; omega)]; rfl)
    | (rw [hz, show (⟨R.val / 128, by omega⟩ : Fin 8) = 3 from Fin.ext (by show R.val / 128 = 3; omega)]; rfl)
    | (rw [hz, show (⟨R.val / 128, by omega⟩ : Fin 8) = 4 from Fin.ext (by show R.val / 128 = 4; omega)]; rfl)
    | (rw [hz, show (⟨R.val / 128, by omega⟩ : Fin 8) = 5 from Fin.ext (by show R.val / 128 = 5; omega)]; rfl)
    | (rw [hz, show (⟨R.val / 128, by omega⟩ : Fin 8) = 6 from Fin.ext (by show R.val / 128 = 6; omega)]; rfl)
    | (rw [hz, show (⟨R.val / 128, by omega⟩ : Fin 8) = 7 from Fin.ext (by show R.val / 128 = 7; omega)]; rfl)

theorem queries1 (x2 : Vec Ideal S1x1024x128 .bf16) (H : Fin 8) (x : Fin 64) (r : Fin 128) :
    kernelRun0_A.sl.r_28 c arg4 harg4 x2 (ix2 x (⟨H.val * 128 + r.val, by omega⟩ : Fin 1024)) = x2 (ix3 0 ⟨H.val * 64 + 512 + x.val, by omega⟩ r) := by
  unfold kernelRun0_A.sl.r_28
  refine heads1 _ _ _ _ _ _ _ _ x _ _ ?_
  rw [show (⟨(H.val * 128 + r.val) / 128, by omega⟩ : Fin 8) = H from Fin.ext (by show (H.val * 128 + r.val) / 128 = H.val; omega),
    show (⟨(H.val * 128 + r.val) % 128, by omega⟩ : Fin 128) = r from Fin.ext (by show (H.val * 128 + r.val) % 128 = r.val; omega)]
  match H with
  | ⟨0, _⟩ => exact (query_read arg4 harg4 x2 512 (by decide) _ x r r rfl).symm
  | ⟨1, _⟩ => exact (query_read arg4 harg4 x2 576 (by decide) _ x r r rfl).symm
  | ⟨2, _⟩ => exact (query_read arg4 harg4 x2 640 (by decide) _ x r r rfl).symm
  | ⟨3, _⟩ => exact (query_read arg4 harg4 x2 704 (by decide) _ x r r rfl).symm
  | ⟨4, _⟩ => exact (query_read arg4 harg4 x2 768 (by decide) _ x r r rfl).symm
  | ⟨5, _⟩ => exact (query_read arg4 harg4 x2 832 (by decide) _ x r r rfl).symm
  | ⟨6, _⟩ => exact (query_read arg4 harg4 x2 896 (by decide) _ x r r rfl).symm
  | ⟨7, _⟩ => exact (query_read arg4 harg4 x2 960 (by decide) _ x r r rfl).symm

theorem slopes1 (x0 : Vec Ideal S16 .f32) (H : Fin 8) (r : Fin 128) :
    kernelRun0_A.sl.r_45 c arg2 harg2 x0 (ix2 0 (⟨H.val * 128 + r.val, by omega⟩ : Fin 1024)) = x0 (ix1 ⟨H.val + 8, by omega⟩) := by
  unfold kernelRun0_A.sl.r_45 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_36
  refine slopesRow1 _ _ _ _ _ _ _ _ _ _ ?_
  rw [show (⟨(H.val * 128 + r.val) / 128, by omega⟩ : Fin 8) = H from Fin.ext (by show (H.val * 128 + r.val) / 128 = H.val; omega)]
  match H with
  | ⟨0, _⟩ => exact (word_read2 arg2 harg2 x0 8 (by decide) _ _).symm
  | ⟨1, _⟩ => exact (word_read2 arg2 harg2 x0 9 (by decide) _ _).symm
  | ⟨2, _⟩ => exact (word_read2 arg2 harg2 x0 10 (by decide) _ _).symm
  | ⟨3, _⟩ => exact (word_read2 arg2 harg2 x0 11 (by decide) _ _).symm
  | ⟨4, _⟩ => exact (word_read2 arg2 harg2 x0 12 (by decide) _ _).symm
  | ⟨5, _⟩ => exact (word_read2 arg2 harg2 x0 13 (by decide) _ _).symm
  | ⟨6, _⟩ => exact (word_read2 arg2 harg2 x0 14 (by decide) _ _).symm
  | ⟨7, _⟩ => exact (word_read2 arg2 harg2 x0 15 (by decide) _ _).symm

theorem sinks1 (x1 : Vec Ideal S16 .f32) (H : Fin 8) (r : Fin 128) :
    (k0_pay84 (kernelRun0_A.sl.r_37 c arg3 harg3 x1) (kernelRun0_A.sl.r_38 c arg3 harg3 x1) (kernelRun0_A.sl.r_39 c arg3 harg3 x1) (kernelRun0_A.sl.r_40 c arg3 harg3 x1) (kernelRun0_A.sl.r_41 c arg3 harg3 x1) (kernelRun0_A.sl.r_42 c arg3 harg3 x1) (kernelRun0_A.sl.r_43 c arg3 harg3 x1) (kernelRun0_A.sl.r_44 c arg3 harg3 x1)) (ix2 0 (⟨H.val * 128 + r.val, by omega⟩ : Fin 1024)) = x1 (ix1 ⟨H.val + 8, by omega⟩) := by
  unfold kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44
  refine sinksRow1 _ _ _ _ _ _ _ _ _ _ ?_
  rw [show (⟨(H.val * 128 + r.val) / 128, by omega⟩ : Fin 8) = H from Fin.ext (by show (H.val * 128 + r.val) / 128 = H.val; omega)]
  match H with
  | ⟨0, _⟩ => exact (word_read3 arg3 harg3 x1 8 (by decide) _ _).symm
  | ⟨1, _⟩ => exact (word_read3 arg3 harg3 x1 9 (by decide) _ _).symm
  | ⟨2, _⟩ => exact (word_read3 arg3 harg3 x1 10 (by decide) _ _).symm
  | ⟨3, _⟩ => exact (word_read3 arg3 harg3 x1 11 (by decide) _ _).symm
  | ⟨4, _⟩ => exact (word_read3 arg3 harg3 x1 12 (by decide) _ _).symm
  | ⟨5, _⟩ => exact (word_read3 arg3 harg3 x1 13 (by decide) _ _).symm
  | ⟨6, _⟩ => exact (word_read3 arg3 harg3 x1 14 (by decide) _ _).symm
  | ⟨7, _⟩ => exact (word_read3 arg3 harg3 x1 15 (by decide) _ _).symm

end Cert.KernelIdeal.Swa
end
-- ==== Proof.SwaOut.lean ====
module
public import proofs.«01_k».proof.Proof.Gen.KernelIdeal.Value
public import Idealize.ShloMosaic.Lib.Pointwise
public import Idealize.ShloMosaic.Lib.Pipeline.Value

/-!
The sixteen pieces of the output block

Head `h` of a grid point's result is stored at rows `64 * h …` of the block. The two groups' quotients decide every entry.
-/

@[expose] public section
noncomputable section
open Idealize.ShloMosaic Idealize.ShloMosaic.TcCoe Idealize.SL.Sem
namespace Cert.KernelIdeal.Swa
open Cert.KernelIdeal Cert.KernelIdeal.Gen

/-- The quotient stored for a lane. -/
def quot (A : Vec Ideal S64x1024 .f32) (L : Vec Ideal S1x1024 .f32) (d : Fin 64) (r : Fin 1024) : EReal :=
  Ideal.div (A (ix2 d r)) (max (L (ix2 0 r)) (Ideal.ofBits .f32 0x00800000#32))

theorem store0 (A : Vec Ideal S64x1024 .f32) (L : Vec Ideal S1x1024 .f32) (d : Fin 64) (r : Fin 128) :
    k0_pay66 A L (ix3 0 d r) = quot A L d ⟨0 * 128 + r.val, by omega⟩ := by
  have e : quot A L d ⟨0 * 128 + r.val, by omega⟩ = quot A L d ⟨0 + r.val, by omega⟩ := rfl
  rw [e]
  unfold quot
  pointwise [k0_pay66, k0_pay65]

theorem store1 (A : Vec Ideal S64x1024 .f32) (L : Vec Ideal S1x1024 .f32) (d : Fin 64) (r : Fin 128) :
    k0_pay68 (k0_pay67 A L) (ix3 0 d r) = quot A L d ⟨1 * 128 + r.val, by omega⟩ := by
  have e : quot A L d ⟨1 * 128 + r.val, by omega⟩ = quot A L d ⟨128 + r.val, by omega⟩ := rfl
  rw [e]
  unfold quot
  pointwise [k0_pay68, k0_pay67, k0_pay65]

theorem store2 (A : Vec Ideal S64x1024 .f32) (L : Vec Ideal S1x1024 .f32) (d : Fin 64) (r : Fin 128) :
    k0_pay69 (k0_pay65 A L) (ix3 0 d r) = quot A L d ⟨2 * 128 + r.val, by omega⟩ := by
  have e : quot A L d ⟨2 * 128 + r.val, by omega⟩ = quot A L d ⟨256 + r.val, by omega⟩ := rfl
  rw [e]
  unfold quot
  pointwise [k0_pay69, k0_pay65]

theorem store3 (A : Vec Ideal S64x1024 .f32) (L : Vec Ideal S1x1024 .f32) (d : Fin 64) (r : Fin 128) :
    k0_pay70 (k0_pay65 A L) (ix3 0 d r) = quot A L d ⟨3 * 128 + r.val, by omega⟩ := by
  have e : quot A L d ⟨3 * 128 + r.val, by omega⟩ = quot A L d ⟨384 + r.val, by omega⟩ := rfl
  rw [e]
  unfold quot
  pointwise [k0_pay70, k0_pay65]

theorem store4 (A : Vec Ideal S64x1024 .f32) (L : Vec Ideal S1x1024 .f32) (d : Fin 64) (r : Fin 128) :
    k0_pay71 (k0_pay65 A L) (ix3 0 d r) = quot A L d ⟨4 * 128 + r.val, by omega⟩ := by
  have e : quot A L d ⟨4 * 128 + r.val, by omega⟩ = quot A L d ⟨512 + r.val, by omega⟩ := rfl
  rw [e]
  unfold quot
  pointwise [k0_pay71, k0_pay65]

theorem store5 (A : Vec Ideal S64x1024 .f32) (L : Vec Ideal S1x1024 .f32) (d : Fin 64) (r : Fin 128) :
    k0_pay72 (k0_pay65 A L) (ix3 0 d r) = quot A L d ⟨5 * 128 + r.val, by omega⟩ := by
  have e : quot A L d ⟨5 * 128 + r.val, by omega⟩ = quot A L d ⟨640 + r.val, by omega⟩ := rfl
  rw [e]
  unfold quot
  pointwise [k0_pay72, k0_pay65]

theorem store6 (A : Vec Ideal S64x1024 .f32) (L : Vec Ideal S1x1024 .f32) (d : Fin 64) (r : Fin 128) :
    k0_pay73 (k0_pay65 A L) (ix3 0 d r) = quot A L d ⟨6 * 128 + r.val, by omega⟩ := by
  have e : quot A L d ⟨6 * 128 + r.val, by omega⟩ = quot A L d ⟨768 + r.val, by omega⟩ := rfl
  rw [e]
  unfold quot
  pointwise [k0_pay73, k0_pay65]

theorem store7 (A : Vec Ideal S64x1024 .f32) (L : Vec Ideal S1x1024 .f32) (d : Fin 64) (r : Fin 128) :
    k0_pay74 (k0_pay65 A L) (ix3 0 d r) = quot A L d ⟨7 * 128 + r.val, by omega⟩ := by
  have e : quot A L d ⟨7 * 128 + r.val, by omega⟩ = quot A L d ⟨896 + r.val, by omega⟩ := rfl
  rw [e]
  unfold quot
  pointwise [k0_pay74, k0_pay65]

theorem store8 (A : Vec Ideal S64x1024 .f32) (L : Vec Ideal S1x1024 .f32) (d : Fin 64) (r : Fin 128) :
    k0_pay100 A L (ix3 0 d r) = quot A L d ⟨0 * 128 + r.val, by omega⟩ := by
  have e : quot A L d ⟨0 * 128 + r.val, by omega⟩ = quot A L d ⟨0 + r.val, by omega⟩ := rfl
  rw [e]
  unfold quot
  pointwise [k0_pay100, k0_pay99]

theorem store9 (A : Vec Ideal S64x1024 .f32) (L : Vec Ideal S1x1024 .f32) (d : Fin 64) (r : Fin 128) :
    k0_pay101 A L (ix3 0 d r) = quot A L d ⟨1 * 128 + r.val, by omega⟩ := by
  have e : quot A L d ⟨1 * 128 + r.val, by omega⟩ = quot A L d ⟨128 + r.val, by omega⟩ := rfl
  rw [e]
  unfold quot
  pointwise [k0_pay101, k0_pay99]

theorem store10 (A : Vec Ideal S64x1024 .f32) (L : Vec Ideal S1x1024 .f32) (d : Fin 64) (r : Fin 128) :
    k0_pay102 A L (ix3 0 d r) = quot A L d ⟨2 * 128 + r.val, by omega⟩ := by
  have e : quot A L d ⟨2 * 128 + r.val, by omega⟩ = quot A L d ⟨256 + r.val, by omega⟩ := rfl
  rw [e]
  unfold quot
  pointwise [k0_pay102, k0_pay99]

theorem store11 (A : Vec Ideal S64x1024 .f32) (L : Vec Ideal S1x1024 .f32) (d : Fin 64) (r : Fin 128) :
    k0_pay1 (k0_pay103 A L) (ix3 0 d r) = quot A L d ⟨3 * 128 + r.val, by omega⟩ := by
  have e : quot A L d ⟨3 * 128 + r.val, by omega⟩ = quot A L d ⟨384 + r.val, by omega⟩ := rfl
  rw [e]
  unfold quot
  pointwise [k0_pay1, k0_pay103, k0_pay99]

theorem store12 (A : Vec Ideal S64x1024 .f32) (L : Vec Ideal S1x1024 .f32) (d : Fin 64) (r : Fin 128) :
    k0_pay2 (k0_pay99 A L) (ix3 0 d r) = quot A L d ⟨4 * 128 + r.val, by omega⟩ := by
  have e : quot A L d ⟨4 * 128 + r.val, by omega⟩ = quot A L d ⟨512 + r.val, by omega⟩ := rfl
  rw [e]
  unfold quot
  pointwise [k0_pay2, k0_pay99]

theorem store13 (A : Vec Ideal S64x1024 .f32) (L : Vec Ideal S1x1024 .f32) (d : Fin 64) (r : Fin 128) :
    k0_pay3 (k0_pay99 A L) (ix3 0 d r) = quot A L d ⟨5 * 128 + r.val, by omega⟩ := by
  have e : quot A L d ⟨5 * 128 + r.val, by omega⟩ = quot A L d ⟨640 + r.val, by omega⟩ := rfl
  rw [e]
  unfold quot
  pointwise [k0_pay3, k0_pay99]

theorem store14 (A : Vec Ideal S64x1024 .f32) (L : Vec Ideal S1x1024 .f32) (d : Fin 64) (r : Fin 128) :
    k0_pay4 (k0_pay99 A L) (ix3 0 d r) = quot A L d ⟨6 * 128 + r.val, by omega⟩ := by
  have e : quot A L d ⟨6 * 128 + r.val, by omega⟩ = quot A L d ⟨768 + r.val, by omega⟩ := rfl
  rw [e]
  unfold quot
  pointwise [k0_pay4, k0_pay99]

theorem store15 (A : Vec Ideal S64x1024 .f32) (L : Vec Ideal S1x1024 .f32) (d : Fin 64) (r : Fin 128) :
    k0_pay5 (k0_pay99 A L) (ix3 0 d r) = quot A L d ⟨7 * 128 + r.val, by omega⟩ := by
  have e : quot A L d ⟨7 * 128 + r.val, by omega⟩ = quot A L d ⟨896 + r.val, by omega⟩ := rfl
  rw [e]
  unfold quot
  pointwise [k0_pay5, k0_pay99]

/-- A value for every head, feature and query, read at an index of the block. -/
def byHead (f : Fin 16 → Fin 64 → Fin 128 → EReal) : S1x1024x128.Idx → EReal := fun y =>
  f ⟨(y 1).val / 64, by have h : (y 1).val < 1024 := (y 1).isLt; omega⟩ ⟨(y 1).val % 64, Nat.mod_lt _ (by decide)⟩ (y 2)

theorem piece (f : Fin 16 → Fin 64 → Fin 128 → EReal) (p : Vec Ideal S1x64x128 .bf16) (h : Fin 16) (R : Nat) (hR : R = 64 * h.val) (inb)
    (hp : ∀ d r, p (ix3 0 d r) = f h d r) (x : S1x64x128.Idx) :
    p x = byHead f ((Rect.unit (s := S1x1024x128) ![0, R, 0] ![1, 64, 128] inb).emb x) := by
  subst hR
  have hx : x = ix3 0 (x 1) (x 2) := by
    funext a
    match a with
    | ⟨0, _⟩ => exact Subsingleton.elim (α := Fin 1) _ _
    | ⟨1, _⟩ => rfl
    | ⟨2, _⟩ => rfl
  have h1 : (x 1).val < 64 := (x 1).isLt
  refine (congrArg p hx).trans ((hp (x 1) (x 2)).trans ?_)
  unfold byHead
  congr 1
  · apply Fin.ext
    show h.val = (64 * h.val + 1 * (x 1).val) / 64
    omega
  · apply Fin.ext
    show (x 1).val = (64 * h.val + 1 * (x 1).val) % 64
    omega
  · apply Fin.ext
    show (x 2).val = 0 + 1 * (x 2).val
    omega

variable (c : Dev nD) (i : grid0.Coords) (arg2 : Memref sig .tc .smem S16 .f32) (harg2 : arg2.IsWhole)
  (arg3 : Memref sig .tc .smem S16 .f32) (harg3 : arg3.IsWhole) (arg4 : Memref sig .tc .vmem S1x1024x128 .bf16)
  (harg4 : arg4.IsWhole) (arg5 : Memref sig .tc .vmem S1x2x2048x64 .bf16) (harg5 : arg5.IsWhole)
  (arg6 : Memref sig .tc .vmem S1x256x2048 .bf16) (harg6 : arg6.IsWhole) (arg7 : Memref sig .tc .vmem S2x128x1024 .f32)
  (harg7 : arg7.IsWhole) (arg8 : Memref sig .tc .vmem S1x1024x128 .bf16) (harg8 : arg8.IsWhole)
  (arg9 : Memref sig .tc .vmem S1x1024 .f32) (harg9 : arg9.IsWhole) (arg10 : Memref sig .tc .vmem S1x1024 .f32)
  (harg10 : arg10.IsWhole) (arg11 : Memref sig .tc .vmem S64x1024 .f32) (harg11 : arg11.IsWhole)

/-- Every entry of the block a grid point writes. -/
theorem out_apply (x0 : Vec Ideal S16 .f32) (x1 : Vec Ideal S16 .f32) (x2 : Vec Ideal S1x1024x128 .bf16) (x3 : Vec Ideal S1x2x2048x64 .bf16)
    (x4 : Vec Ideal S1x256x2048 .bf16) (x5 : Vec Ideal S2x128x1024 .f32) (f : Fin 16 → Fin 64 → Fin 128 → EReal)
    (h0 : ∀ (H : Fin 8) (d : Fin 64) (r : Fin 128), quot (kernelRun0_A.sl.v83 c i arg2 harg2 arg3 harg3 arg4 harg4 arg5 harg5 arg6 harg6 arg7 harg7 arg8 harg8 arg9 harg9 arg10 harg10 arg11 harg11 x0 x1 x2 x3 x4 x5) (kernelRun0_A.sl.v84 c i arg2 harg2 arg3 harg3 arg4 harg4 arg5 harg5 arg6 harg6 arg7 harg7 arg8 harg8 arg9 harg9 arg10 harg10 arg11 harg11 x0 x1 x2 x3 x4 x5) d ⟨H.val * 128 + r.val, by omega⟩ = f ⟨H.val, by omega⟩ d r)
    (h1 : ∀ (H : Fin 8) (d : Fin 64) (r : Fin 128), quot (kernelRun0_A.sl.v203 c i arg2 harg2 arg3 harg3 arg4 harg4 arg5 harg5 arg6 harg6 arg7 harg7 arg8 harg8 arg9 harg9 arg10 harg10 arg11 harg11 x0 x1 x2 x3 x4 x5) (kernelRun0_A.sl.v204 c i arg2 harg2 arg3 harg3 arg4 harg4 arg5 harg5 arg6 harg6 arg7 harg7 arg8 harg8 arg9 harg9 arg10 harg10 arg11 harg11 x0 x1 x2 x3 x4 x5) d ⟨H.val * 128 + r.val, by omega⟩ = f ⟨H.val + 8, by omega⟩ d r)
    (y : S1x1024x128.Idx) :
    out0_A_6 c i arg2 harg2 arg3 harg3 arg4 harg4 arg5 harg5 arg6 harg6 arg7 harg7 arg8 harg8 arg9 harg9 arg10 harg10 arg11 harg11 x0 x1 x2 x3 x4 x5 y = byHead f y := by
  unfold out0_A_6
  rw [View.read_writes_junk_eq_canon]
  refine View.canon_apply_of_pieces (byHead f) _ (fun p hp x => ?_) y (cover0_A_6 c i arg2 harg2 arg3 harg3 arg4 harg4 arg5 harg5 arg6 harg6 arg7 harg7 arg8 harg8 arg9 harg9 arg10 harg10 arg11 harg11 x0 x1 x2 x3 x4 x5 y)
  unfold kernelRun0_A at hp
  dsimp only at hp
  unfold kernelRun0_A.sl.r_46 kernelRun0_A.sl.r_47 kernelRun0_A.sl.r_19 kernelRun0_A.sl.r_20 at hp
  simp only [List.mem_cons, List.mem_nil_iff, or_false] at hp
  rcases hp with rfl | rfl | rfl | rfl | rfl | rfl | rfl | rfl | rfl | rfl | rfl | rfl | rfl | rfl | rfl | rfl
  · exact piece f _ 15 960 rfl inb_S1x1024x128_S1x64x128_0_960_0 (fun d r => (store15 _ _ d r).trans (h1 7 d r)) x
  · exact piece f _ 14 896 rfl inb_S1x1024x128_S1x64x128_0_896_0 (fun d r => (store14 _ _ d r).trans (h1 6 d r)) x
  · exact piece f _ 13 832 rfl inb_S1x1024x128_S1x64x128_0_832_0 (fun d r => (store13 _ _ d r).trans (h1 5 d r)) x
  · exact piece f _ 12 768 rfl inb_S1x1024x128_S1x64x128_0_768_0 (fun d r => (store12 _ _ d r).trans (h1 4 d r)) x
  · exact piece f _ 11 704 rfl inb_S1x1024x128_S1x64x128_0_704_0 (fun d r => (store11 _ _ d r).trans (h1 3 d r)) x
  · exact piece f _ 10 640 rfl inb_S1x1024x128_S1x64x128_0_640_0 (fun d r => (store10 _ _ d r).trans (h1 2 d r)) x
  · exact piece f _ 9 576 rfl inb_S1x1024x128_S1x64x128_0_576_0 (fun d r => (store9 _ _ d r).trans (h1 1 d r)) x
  · exact piece f _ 8 512 rfl inb_S1x1024x128_S1x64x128_0_512_0 (fun d r => (store8 _ _ d r).trans (h1 0 d r)) x
  · exact piece f _ 7 448 rfl inb_S1x1024x128_S1x64x128_0_448_0 (fun d r => (store7 _ _ d r).trans (h0 7 d r)) x
  · exact piece f _ 6 384 rfl inb_S1x1024x128_S1x64x128_0_384_0 (fun d r => (store6 _ _ d r).trans (h0 6 d r)) x
  · exact piece f _ 5 320 rfl inb_S1x1024x128_S1x64x128_0_320_0 (fun d r => (store5 _ _ d r).trans (h0 5 d r)) x
  · exact piece f _ 4 256 rfl inb_S1x1024x128_S1x64x128_0_256_0 (fun d r => (store4 _ _ d r).trans (h0 4 d r)) x
  · exact piece f _ 3 192 rfl inb_S1x1024x128_S1x64x128_0_192_0 (fun d r => (store3 _ _ d r).trans (h0 3 d r)) x
  · exact piece f _ 2 128 rfl inb_S1x1024x128_S1x64x128_0_128_0 (fun d r => (store2 _ _ d r).trans (h0 2 d r)) x
  · exact piece f _ 1 64 rfl inb_S1x1024x128_S1x64x128_0_64_0 (fun d r => (store1 _ _ d r).trans (h0 1 d r)) x
  · exact piece f _ 0 0 rfl inb_S1x1024x128_S1x64x128_0_0_0 (fun d r => (store0 _ _ d r).trans (h0 0 d r)) x

end Cert.KernelIdeal.Swa
end
-- ==== Proof.SwaRefSteps.lean ====
/-
  The attention reference, read down to one query and one column: the softmax over the keys inside the window and the
  sink, weighted by the values.
-/
module

public import proofs.«01_k».proof.Proof.SwaFlash
public import proofs.«01_k».proof.Proof.Gen.ReferenceIdeal.Run

@[expose] public section

noncomputable section

open Idealize.ShloMosaic Idealize.ShloMosaic.TcCoe Idealize.SL.Sem

namespace Cert.ReferenceIdeal.Value

open Cert.ReferenceIdeal Cert.ReferenceIdeal.Gen Cert.SwaFlash

/-- The heads' slopes. -/
def slopesT : FVec Ideal S16 .f32 :=
  Host.exp (mulf (broadcastInDim S16 ![] bcast_S_S16 (constant S_ .f32 0x3F317218#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32))))

/-- How far each key lies behind each query. -/
def distT : IVec S2048x2048 32 :=
  subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))

/-- The sinks, one for every query. -/
def sinkT (sinks : FVec Ideal S16 .f32) : FVec Ideal S8x2x8x2048x1 .f32 :=
  broadcastInDim S8x2x8x2048x1 ![0, 1, 2, 3, 4] bcast_S1x2x8x1x1_S8x2x8x2048x1_0_1_2_3_4 (broadcastInDim S1x2x8x1x1 ![1, 2, 3, 4] bcast_S2x8x1x1_S1x2x8x1x1_1_2_3_4 (broadcastInDim S2x8x1x1 ![0, 1] bcast_S2x8_S2x8x1x1_0_1 (shapeCast _ sinks shapeCasts_S16_S2x8)))

/-- The scores, minus infinity where the window leaves a key out. -/
def scoresT (q : FVec Ideal S8x2048x16x64 .f32) (k : FVec Ideal S8x2048x2x64 .f32) : FVec Ideal S8x2x8x2048x2048 .f32 :=
  select (broadcastInDim S8x2x8x2048x2048 ![3, 4] bcast_S2048x2048_S8x2x8x2048x2048_3_4 (andi (cmpi .sge distT (broadcastInDim S2048x2048 ![] bcast_S_S2048x2048 (constantI S_ 32 0#32))) (cmpi .slt distT (broadcastInDim S2048x2048 ![] bcast_S_S2048x2048 (constantI S_ 32 128#32))))) (subf (mulf (transpose S8x2x8x2048x2048 [0, 1, 4, 3, 2] (Host.dotGeneral dot_S8x2048x2x64_S8x2048x2x8x64_S8x2x2048x2048x8_3_4_1_13_02_02 none k (shapeCast _ q shapeCasts_S8x2048x16x64_S8x2048x2x8x64)) transposes_S8x2x2048x2048x8_S8x2x8x2048x2048_0_1_4_3_2) (broadcastInDim S8x2x8x2048x2048 ![] bcast_S_S8x2x8x2048x2048 (constant S_ .f32 0x3E000000#32))) (broadcastInDim S8x2x8x2048x2048 ![0, 1, 2, 3, 4] bcast_S1x2x8x2048x2048_S8x2x8x2048x2048_0_1_2_3_4 (broadcastInDim S1x2x8x2048x2048 ![1, 2, 3, 4] bcast_S2x8x2048x2048_S1x2x8x2048x2048_1_2_3_4 (mulf (broadcastInDim S2x8x2048x2048 ![0, 1, 2, 3] bcast_S2x8x1x1_S2x8x2048x2048_0_1_2_3 (broadcastInDim S2x8x1x1 ![0, 1] bcast_S2x8_S2x8x1x1_0_1 (shapeCast _ slopesT shapeCasts_S16_S2x8))) (broadcastInDim S2x8x2048x2048 ![0, 1, 2, 3] bcast_S1x1x2048x2048_S2x8x2048x2048_0_1_2_3 (broadcastInDim S1x1x2048x2048 ![2, 3] bcast_S2048x2048_S1x1x2048x2048_2_3 (sitofp .f32 distT))))))) (broadcastInDim S8x2x8x2048x2048 ![] bcast_S_S8x2x8x2048x2048 (id (constant S_ .f32 0xFF800000#32)))

/-- The greatest score of every query row. -/
def rowT (S : FVec Ideal S8x2x8x2048x2048 .f32) : FVec Ideal S8x2x8x2048 .f32 :=
  Host.reduce FloatOps.maximumf S (constant S_ .f32 0xFF800000#32) reducesTo_S8x2x8x2048x2048_S8x2x8x2048_d4 h_S_

/-- The greatest score of a query, its sink among them. -/
def topT (S : FVec Ideal S8x2x8x2048x2048 .f32) (s : FVec Ideal S8x2x8x2048x1 .f32) : FVec Ideal S8x2x8x2048x1 .f32 :=
  maximumf (broadcastInDim S8x2x8x2048x1 ![0, 1, 2, 3] bcast_S8x2x8x2048_S8x2x8x2048x1_0_1_2_3 (rowT S)) s

/-- That score, or zero where that is not finite. -/
def boundT (t : FVec Ideal S8x2x8x2048x1 .f32) : FVec Ideal S8x2x8x2048x1 .f32 :=
  select (cmpf .olt (Host.absf t) (broadcastInDim S8x2x8x2048x1 ![] bcast_S_S8x2x8x2048x1 (constant S_ .f32 0x7F800000#32))) t (broadcastInDim S8x2x8x2048x1 ![] bcast_S_S8x2x8x2048x1 (id (constant S_ .f32 0x00000000#32)))

/-- The exponentials below the bound. -/
def expT (S : FVec Ideal S8x2x8x2048x2048 .f32) (b : FVec Ideal S8x2x8x2048x1 .f32) : FVec Ideal S8x2x8x2048x2048 .f32 :=
  Host.exp (subf S (broadcastInDim S8x2x8x2048x2048 ![0, 1, 2, 3, 4] bcast_S8x2x8x2048x1_S8x2x8x2048x2048_0_1_2_3_4 b))

/-- The weights. -/
def probT (e : FVec Ideal S8x2x8x2048x2048 .f32) (b s : FVec Ideal S8x2x8x2048x1 .f32) : FVec Ideal S8x2x8x2048x2048 .f32 :=
  Host.divf e (broadcastInDim S8x2x8x2048x2048 ![0, 1, 2, 3, 4] bcast_S8x2x8x2048x1_S8x2x8x2048x2048_0_1_2_3_4 (maximumf (addf (broadcastInDim S8x2x8x2048x1 ![0, 1, 2, 3] bcast_S8x2x8x2048_S8x2x8x2048x1_0_1_2_3 (Host.reduceAdd e (constant S_ .f32 0x00000000#32) reducesTo_S8x2x8x2048x2048_S8x2x8x2048_d4 h_S_)) (Host.exp (subf s b))) (broadcastInDim S8x2x8x2048x1 ![] bcast_S_S8x2x8x2048x1 (constant S_ .f32 0x00800000#32))))

/-- The weighted values, heads and columns as one axis before the queries. -/
def outT (p : FVec Ideal S8x2x8x2048x2048 .f32) (v : FVec Ideal S8x2048x2x64 .f32) : FVec Ideal S8x1024x2048 .bf16 :=
  truncf .bf16 (transpose S8x1024x2048 [0, 2, 1] (shapeCast _ (transpose S8x2048x2x8x64 [0, 4, 1, 3, 2] (Host.dotGeneral dot_S8x2048x2x64_S8x2x8x2048x2048_S8x2x64x8x2048_1_4_3_23_02_01 none v p) transposes_S8x2x64x8x2048_S8x2048x2x8x64_0_4_1_3_2) shapeCasts_S8x2048x2x8x64_S8x2048x1024) transposes_S8x2048x1024_S8x1024x2048_0_2_1) bitsLt_bf16_f32

theorem res_steps (m : (ℓ : Loc nD τ sig) → Buf (Elt Ideal) ℓ) (c : Dev nD) :
    res_main_v66 m c
      = (let S := scoresT (m ((c.tc : Thread nD τ).loc main_arg0)) (m ((c.tc : Thread nD τ).loc main_arg1))
         let s := sinkT (m ((c.tc : Thread nD τ).loc main_arg3))
         outT (probT (expT S (boundT (topT S s))) (boundT (topT S s)) s) (m ((c.tc : Thread nD τ).loc main_arg2))) := by
  unfold res_main_v66 outT probT expT boundT topT rowT scoresT sinkT distT slopesT
  rfl

end Cert.ReferenceIdeal.Value
end
-- ==== Proof.SwaRef.lean ====
/-
  The reference's attention at an entry: the softmax of one query's scores over all keys, weighted by one column of the
  values.
-/
module

public import proofs.«01_k».proof.Proof.SwaRefSteps
public import proofs.«01_k».proof.Proof.SwaMath

@[expose] public section

noncomputable section

open Idealize.ShloMosaic Idealize.ShloMosaic.TcCoe Idealize.SL.Sem

namespace Cert.ReferenceIdeal.Value

open Cert.ReferenceIdeal Cert.ReferenceIdeal.Gen Cert.SwaFlash
theorem slopesT_apply (h : Fin 16) : slopesT (ix1 h)
    = Ideal.exp (Ideal.ofBits .f32 0x3F317218#32 * Ideal.div (Ideal.ofBits .f32 0xC1000000#32
        * (1 + FloatOps.sitofp (F := Ideal) .f32 (BitVec.ofNat 32 h.val))) (Ideal.ofBits .f32 0x41800000#32)) := by
  pointwise [slopesT]

theorem sinkT_apply (sinks : FVec Ideal S16 .f32) (b : Fin 8) (g : Fin 2) (e : Fin 8) (t : Fin 2048) :
    sinkT sinks (ix5 b g e t 0) = sinks (ix1 ⟨g.val * 8 + e.val, by omega⟩) := by
  pointwise [sinkT]

theorem scoresT_apply (q : FVec Ideal S8x2048x16x64 .f32) (k : FVec Ideal S8x2048x2x64 .f32)
    (b : Fin 8) (g : Fin 2) (e : Fin 8) (t j : Fin 2048) :
    scoresT q k (ix5 b g e t j)
      = Scalar.select (IntOp.andi (IntOp.cmpi .sge (IntOp.subi (BitVec.ofNat 32 t.val) (BitVec.ofNat 32 j.val)) 0#32)
            (IntOp.cmpi .slt (IntOp.subi (BitVec.ofNat 32 t.val) (BitVec.ofNat 32 j.val)) 128#32))
          ((∑ x, k (ix4 b j g x) * q (ix4 b t ⟨g.val * 8 + e.val, by omega⟩ x)) * Ideal.ofBits .f32 0x3E000000#32
            - slopesT (ix1 ⟨g.val * 8 + e.val, by omega⟩)
              * FloatOps.sitofp (F := Ideal) .f32 (IntOp.subi (BitVec.ofNat 32 t.val) (BitVec.ofNat 32 j.val)))
          (Ideal.ofBits .f32 0xFF800000#32) := by
  pointwise [scoresT, distT]
  rfl

/-- A maximum along the last of five axes. -/
theorem reduce_last {n0 n1 n2 n3 n4 : Nat} {u : Shape} (h : (⟨5, ![n0, n1, n2, n3, n4]⟩ : Shape).ReducesTo [4] ⟨4, ![n0, n1, n2, n3]⟩)
    (S : FVec Ideal ⟨5, ![n0, n1, n2, n3, n4]⟩ .f32) (init : FVec Ideal u .f32) (hu : 0 < u.numel) (b : Fin n0) (g : Fin n1) (e : Fin n2) (t : Fin n3)
    (hi : init (Shape.Idx.first hu) = (⊥ : EReal)) :
    Host.reduce FloatOps.maximumf S init h hu (ix4 b g e t) = mx (fun x => S (ix5 b g e t x)) := by
  rw [Host.reduce_eq_fold, h.fold_fiber_r5_a4, hi]
  rfl

theorem rowT_apply (S : FVec Ideal S8x2x8x2048x2048 .f32) (b : Fin 8) (g : Fin 2) (e : Fin 8) (t : Fin 2048)
    (hbot : constant (F := Ideal) S_ .f32 0xFF800000#32 (Shape.Idx.first h_S_) = (⊥ : EReal)) :
    rowT S (ix4 b g e t) = mx (fun x => S (ix5 b g e t x)) := by
  unfold rowT
  have h := @reduce_last 8 2 8 2048 2048 S_ reducesTo_S8x2x8x2048x2048_S8x2x8x2048_d4 S (constant (F := Ideal) S_ .f32 0xFF800000#32) h_S_ b g e t hbot
  exact h

/-- The greatest entries of every row, broadcast back. -/
theorem back_apply (R : FVec Ideal S8x2x8x2048 .f32) (s : FVec Ideal S8x2x8x2048x1 .f32) (b : Fin 8) (g : Fin 2) (e : Fin 8) (t : Fin 2048) :
    maximumf (broadcastInDim S8x2x8x2048x1 ![0, 1, 2, 3] bcast_S8x2x8x2048_S8x2x8x2048x1_0_1_2_3 R) s (ix5 b g e t 0) = max (R (ix4 b g e t)) (s (ix5 b g e t 0)) := by
  pointwise []

theorem topT_apply (S : FVec Ideal S8x2x8x2048x2048 .f32) (s : FVec Ideal S8x2x8x2048x1 .f32)
    (b : Fin 8) (g : Fin 2) (e : Fin 8) (t : Fin 2048) : topT S s (ix5 b g e t 0)
      = max (rowT S (ix4 b g e t)) (s (ix5 b g e t 0)) := by
  have h := back_apply (rowT S) s b g e t
  unfold topT
  exact h

theorem boundT_apply (m : FVec Ideal S8x2x8x2048x1 .f32)
    (b : Fin 8) (g : Fin 2) (e : Fin 8) (t : Fin 2048) : boundT m (ix5 b g e t 0)
      = Scalar.select (Ideal.cmp .olt (max (m (ix5 b g e t 0)) (-(m (ix5 b g e t 0)))) (Ideal.ofBits .f32 0x7F800000#32))
         (m (ix5 b g e t 0)) (Ideal.ofBits .f32 0x00000000#32) := by
  rfl

theorem expT_apply (S : FVec Ideal S8x2x8x2048x2048 .f32) (bb : FVec Ideal S8x2x8x2048x1 .f32)
    (b : Fin 8) (g : Fin 2) (e : Fin 8) (t j : Fin 2048) :
    expT S bb (ix5 b g e t j) = Ideal.exp (S (ix5 b g e t j) - bb (ix5 b g e t 0)) := by
  pointwise [expT]

theorem probT_apply (S : FVec Ideal S8x2x8x2048x2048 .f32) (bb s : FVec Ideal S8x2x8x2048x1 .f32)
    (b : Fin 8) (g : Fin 2) (e : Fin 8) (t j : Fin 2048) :
    probT S bb s (ix5 b g e t j) = Ideal.div (S (ix5 b g e t j))
      (max ((∑ x, S (ix5 b g e t x)) + Ideal.exp (s (ix5 b g e t 0) - bb (ix5 b g e t 0))) (Ideal.ofBits .f32 0x00800000#32)) := by
  pointwise [probT]

theorem outT_apply (S : FVec Ideal S8x2x8x2048x2048 .f32) (v : FVec Ideal S8x2048x2x64 .f32)
    (b : Fin 8) (t : Fin 2048) (col : Fin 1024) :
    outT S v (ix3 b col t) = ∑ x, v (ix4 b x ⟨col.val / 512, by omega⟩ ⟨col.val % 64, by omega⟩)
      * S (ix5 b ⟨col.val / 512, by omega⟩ ⟨col.val / 64 % 8, by omega⟩ t x) := by
  pointwise [outT]

/-- The product of a query's head and a key of its group. -/
def dot (q : FVec Ideal S8x2048x16x64 .f32) (k : FVec Ideal S8x2048x2x64 .f32) (b : Fin 8) (t j : Fin 2048) (h : Fin 16) : EReal :=
  ∑ x : Fin 64, k (ix4 b j ⟨h.val / 8, by omega⟩ x) * q (ix4 b t h x)

/-- The attention of one head, one query and one column. -/
def attend (q : FVec Ideal S8x2048x16x64 .f32) (k v : FVec Ideal S8x2048x2x64 .f32) (sinks : FVec Ideal S16 .f32)
    (b : Fin 8) (t : Fin 2048) (h : Fin 16) (d : Fin 64) : EReal :=
  soft (fun j : Fin 2048 => score (dot q k b t j h) (slope h.val) t.val j.val) (fun j => v (ix4 b j ⟨h.val / 8, by omega⟩ d))
    (sinks (ix1 h)) (Ideal.ofBits .f32 0x00800000#32)

theorem scores_eq (q : FVec Ideal S8x2048x16x64 .f32) (k : FVec Ideal S8x2048x2x64 .f32)
    (b : Fin 8) (g : Fin 2) (e : Fin 8) (t j : Fin 2048) (h : Fin 16) (hg : g = ⟨h.val / 8, by omega⟩) (he : h = ⟨g.val * 8 + e.val, by omega⟩) :
    scoresT q k (ix5 b g e t j) = score (dot q k b t j h) (slope h.val) t.val j.val := by
  rw [scoresT_apply, slopesT_apply, ← he, hg]
  exact ref_score _ _ _ _ t.isLt j.isLt

theorem ref_apply (m : (ℓ : Loc nD τ sig) → Buf (Elt Ideal) ℓ) (c : Dev nD) (b : Fin 8) (col : Fin 1024) (t : Fin 2048) :
    res_main_v66 m c (ix3 b col t) = attend (m ((c.tc : Thread nD τ).loc main_arg0)) (m ((c.tc : Thread nD τ).loc main_arg1))
      (m ((c.tc : Thread nD τ).loc main_arg2)) (m ((c.tc : Thread nD τ).loc main_arg3))
      b t ⟨col.val / 64, by omega⟩ ⟨col.val % 64, by omega⟩ := by
  rw [res_steps]
  generalize m ((c.tc : Thread nD τ).loc main_arg0) = q
  generalize m ((c.tc : Thread nD τ).loc main_arg1) = k
  generalize m ((c.tc : Thread nD τ).loc main_arg2) = v
  generalize m ((c.tc : Thread nD τ).loc main_arg3) = sinks
  have hs : ∀ j : Fin 2048, scoresT q k (ix5 b (⟨col.val / 512, by omega⟩ : Fin 2) (⟨col.val / 64 % 8, by omega⟩ : Fin 8) t j)
      = score (dot q k b t j ⟨col.val / 64, by omega⟩) (slope (col.val / 64)) t.val j.val := fun j =>
    scores_eq q k b _ _ t j ⟨col.val / 64, by omega⟩ (Fin.ext (by show col.val / 512 = col.val / 64 / 8; omega))
      (Fin.ext (by show col.val / 64 = col.val / 512 * 8 + col.val / 64 % 8; omega))
  have hk : sinkT sinks (ix5 b (⟨col.val / 512, by omega⟩ : Fin 2) (⟨col.val / 64 % 8, by omega⟩ : Fin 8) t 0)
      = sinks (ix1 ⟨col.val / 64, by omega⟩) := by
    rw [sinkT_apply]
    exact congrArg (fun h : Fin 16 => sinks (ix1 h)) (Fin.ext (by show col.val / 512 * 8 + col.val / 64 % 8 = col.val / 64; omega))
  have hb : boundT (topT (scoresT q k) (sinkT sinks)) (ix5 b (⟨col.val / 512, by omega⟩ : Fin 2) (⟨col.val / 64 % 8, by omega⟩ : Fin 8) t 0)
      = bound (max (mx fun j : Fin 2048 => score (dot q k b t j ⟨col.val / 64, by omega⟩) (slope (col.val / 64)) t.val j.val)
          (sinks (ix1 ⟨col.val / 64, by omega⟩))) := by
    rw [boundT_apply, bound_eq, topT_apply, rowT_apply _ _ _ _ _ bits_bot, hk]
    congr 2
    exact congrArg mx (funext hs)
  dsimp only
  generalize boundT (topT (scoresT q k) (sinkT sinks)) = B at hb ⊢
  generalize hS : scoresT q k = S at hs ⊢
  generalize sinkT sinks = K at hk ⊢
  have hx : ∀ j : Fin 2048, expT S B (ix5 b (⟨col.val / 512, by omega⟩ : Fin 2) (⟨col.val / 64 % 8, by omega⟩ : Fin 8) t j)
      = Ideal.exp (score (dot q k b t j ⟨col.val / 64, by omega⟩) (slope (col.val / 64)) t.val j.val
        - bound (max (mx fun j : Fin 2048 => score (dot q k b t j ⟨col.val / 64, by omega⟩) (slope (col.val / 64)) t.val j.val)
          (sinks (ix1 ⟨col.val / 64, by omega⟩)))) := fun j => by rw [expT_apply, hb, hs]
  generalize expT S B = E at hx ⊢
  have hp : ∀ j : Fin 2048, probT E B K (ix5 b (⟨col.val / 512, by omega⟩ : Fin 2) (⟨col.val / 64 % 8, by omega⟩ : Fin 8) t j) = _ := fun j =>
    (probT_apply E B K _ _ _ _ _).trans (congr (congrArg Ideal.div (hx j)) (congrArg (max · (Ideal.ofBits .f32 0x00800000#32))
      (congr (congrArg (· + ·) (Finset.sum_congr rfl fun x _ => hx x)) (congrArg Ideal.exp (congr (congrArg (· - ·) hk) hb)))))
  refine (outT_apply _ v b t col).trans ?_
  unfold attend soft
  refine Finset.sum_congr rfl fun j _ => ?_
  have hv : v (ix4 b j (⟨col.val / 512, by omega⟩ : Fin 2) (⟨col.val % 64, by omega⟩ : Fin 64))
      = v (ix4 b j (⟨col.val / 64 / 8, by omega⟩ : Fin 2) (⟨col.val % 64, by omega⟩ : Fin 64)) :=
    congrArg (fun g : Fin 2 => v (ix4 b j g (⟨col.val % 64, by omega⟩ : Fin 64))) (Fin.ext (by show col.val / 512 = col.val / 64 / 8; omega))
  rw [hv, hp]

end Cert.ReferenceIdeal.Value
end
-- ==== Proof.SwaValue.lean ====
module
public import proofs.«01_k».proof.Defs
public import proofs.«01_k».proof.Proof.SwaBlock
public import proofs.«01_k».proof.Proof.SwaOut
public import proofs.«01_k».proof.Proof.SwaRef
public import proofs.«01_k».proof.Proof.Gen.KernelIdeal.Value
public import proofs.«01_k».proof.Proof.Gen.ReferenceIdeal.Run

/-!
Sliding-window attention: the kernel's array and the reference's

The arrays the host code prepares, the blocks of them a grid point is given, the entries of the output array, and the
claim beside the reference.
-/

@[expose] public section
noncomputable section
open Idealize.ShloMosaic Idealize.ShloMosaic.TcCoe Idealize.SL.Sem

namespace Cert.KernelIdeal.Swa
open Cert.KernelIdeal Cert.KernelIdeal.Gen Cert.SwaFlash
open Cert.ReferenceIdeal.Value (attend dot)

variable (m : (ℓ : Loc nD τ sig) → Buf (Elt Ideal) ℓ) (c : Dev nD)

/-- The argument arrays, named. -/
abbrev aQ : FVec Ideal S8x2048x16x64 .f32 := m ((c : Thread nD τ).loc main_arg0)
abbrev aK : FVec Ideal S8x2048x2x64 .f32 := m ((c : Thread nD τ).loc main_arg1)
abbrev aV : FVec Ideal S8x2048x2x64 .f32 := m ((c : Thread nD τ).loc main_arg2)
abbrev aS : FVec Ideal S16 .f32 := m ((c : Thread nD τ).loc main_arg3)

/-! ## The arrays the host code prepares -/

theorem slopes_at (h : Fin 16) : (V m c main_v9 : FVec Ideal S16 .f32) (ix1 h) = SwaFlash.slope h.val := by
  unfold_abbrev_sides
  after_results
  unfold SwaFlash.slope
  pointwise []

theorem queries_flat (b : Fin 8) (t : Fin 2048) (R : Fin 1024) :
    (V m c main_v14 : FVec Ideal S8x1024x2048 .bf16) (ix3 b R t)
      = aQ m c (ix4 b t ⟨R.val / 64, by omega⟩ ⟨R.val % 64, by omega⟩) * Ideal.ofBits .f32 0x3E000000#32 := by
  unfold_abbrev_sides
  after_results
  pointwise []
  rfl

theorem queries_at (b : Fin 8) (t : Fin 2048) (h : Fin 16) (x : Fin 64) (R : Fin 1024) (hR : R.val = h.val * 64 + x.val) :
    (V m c main_v14 : FVec Ideal S8x1024x2048 .bf16) (ix3 b R t) = aQ m c (ix4 b t h x) * Ideal.ofBits .f32 0x3E000000#32 := by
  refine (queries_flat m c b t R).trans ?_
  have e1 : (⟨R.val / 64, by omega⟩ : Fin 16) = h := Fin.ext (by show R.val / 64 = h.val; omega)
  have e2 : (⟨R.val % 64, by omega⟩ : Fin 64) = x := Fin.ext (by show R.val % 64 = x.val; omega)
  rw [e1, e2]

theorem keys_at (b : Fin 8) (g : Fin 2) (j : Fin 2048) (x : Fin 64) :
    (V m c main_v16 : FVec Ideal S8x2x2048x64 .bf16) (ix4 b g j x) = aK m c (ix4 b j g x) := by
  unfold_abbrev_sides
  after_results
  pointwise []

theorem values_flat (b : Fin 8) (j : Fin 2048) (R : Fin 256) (hR : 128 ≤ R.val) :
    (V m c main_v21 : FVec Ideal S8x256x2048 .bf16) (ix3 b R j)
      = aV m c (ix4 b j ⟨(R.val - 128) / 64, by omega⟩ ⟨(R.val - 128) % 64, by omega⟩) := by
  unfold_abbrev_sides
  after_results
  pointwise []
  rw [dif_neg (by omega)]

theorem values_at (b : Fin 8) (g : Fin 2) (d : Fin 64) (j : Fin 2048) (R : Fin 256) (hR : R.val = 128 + 64 * g.val + d.val) :
    (V m c main_v21 : FVec Ideal S8x256x2048 .bf16) (ix3 b R j) = aV m c (ix4 b j g d) := by
  refine (values_flat m c b j R (by omega)).trans ?_
  have e1 : (⟨(R.val - 128) / 64, by omega⟩ : Fin 2) = g := Fin.ext (by show (R.val - 128) / 64 = g.val; omega)
  have e2 : (⟨(R.val - 128) % 64, by omega⟩ : Fin 64) = d := Fin.ext (by show (R.val - 128) % 64 = d.val; omega)
  rw [e1, e2]

theorem biases_at (g : Fin 2) (a : Fin 128) (H : Fin 8) (R : Fin 1024) (hR : R.val / 128 = H.val) :
    (V m c main_v30 : FVec Ideal S2x128x1024 .f32) (ix3 g a R)
      = SwaFlash.slope (g.val * 8 + H.val) * FloatOps.sitofp (F := Ideal) .f32 (BitVec.ofNat 32 a.val) := by
  rw [← hR]
  unfold_abbrev_sides
  after_results
  unfold SwaFlash.slope
  pointwise []
  rfl

/-! ## The blocks a grid point is given -/

theorem where_ : ∀ t : Fin cfg0.N, win0_0.index t (0 : Fin 1) = 0 ∧ win0_1.index t (0 : Fin 1) = 0
    ∧ win0_2.index t (0 : Fin 3) = t.val / 16 ∧ win0_2.index t (1 : Fin 3) = 0 ∧ win0_2.index t (2 : Fin 3) = t.val % 16
    ∧ win0_3.index t (0 : Fin 4) = t.val / 16 ∧ win0_3.index t (1 : Fin 4) = 0 ∧ win0_3.index t (2 : Fin 4) = 0 ∧ win0_3.index t (3 : Fin 4) = 0
    ∧ win0_4.index t (0 : Fin 3) = t.val / 16 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 3) = t.val / 16 ∧ win0_6.index t (1 : Fin 3) = 0 ∧ win0_6.index t (2 : Fin 3) = t.val % 16
    ∧ (cfg0.win 6).flush t = true :=
  (by decide +kernel : ∀ t : Fin grid0.N, _)

theorem points (t : Fin cfg0.N) : t.val < 128 := lt_of_lt_of_eq t.isLt (show cfg0.N = 128 from N_0)

/-- The batch entry of a grid point. -/
def batch (t : Fin cfg0.N) : Fin 8 := ⟨t.val / 16, by have := points t; omega⟩
/-- The query position of a grid point's row. -/
def at_ (t : Fin cfg0.N) (r : Fin 128) : Fin 2048 := ⟨t.val % 16 * 128 + r.val, by omega⟩

theorem blk0 (t : Fin cfg0.N) (h : Fin 16) : (iblk m c 0 t : Vec Ideal S16 .f32) (ix1 h) = SwaFlash.slope h.val := by
  obtain ⟨h0, -⟩ := where_ t
  have e : (((cfg0.win 0).blk t).view.emb (ix1 h) : S16.Idx) = ix1 h := by
    funext a; apply Fin.ext
    match a with
    | ⟨0, _⟩ => show win0_0.index t (0 : Fin 1) * 16 + 1 * h.val = h.val; omega
  show (V m c main_v9 : FVec Ideal S16 .f32) (((cfg0.win 0).blk t).view.emb (ix1 h)) = _
  rw [e, slopes_at]

theorem blk1 (t : Fin cfg0.N) (h : Fin 16) : (iblk m c 1 t : Vec Ideal S16 .f32) (ix1 h) = aS m c (ix1 h) := by
  obtain ⟨-, h0, -⟩ := where_ t
  have e : (((cfg0.win 1).blk t).view.emb (ix1 h) : S16.Idx) = ix1 h := by
    funext a; apply Fin.ext
    match a with
    | ⟨0, _⟩ => show win0_1.index t (0 : Fin 1) * 16 + 1 * h.val = h.val; omega
  show (V m c main_arg3 : FVec Ideal S16 .f32) (((cfg0.win 1).blk t).view.emb (ix1 h)) = _
  rw [e, V_main_arg3]

theorem blk2 (t : Fin cfg0.N) (h : Fin 16) (x : Fin 64) (r : Fin 128) (R : Fin 1024) (hR : R.val = h.val * 64 + x.val) :
    (iblk m c 2 t : Vec Ideal S1x1024x128 .bf16) (ix3 0 R r) = aQ m c (ix4 (batch t) (at_ t r) h x) * Ideal.ofBits .f32 0x3E000000#32 := by
  obtain ⟨-, -, h0, h1, h2, -⟩ := where_ t
  have e : (((cfg0.win 2).blk t).view.emb (ix3 0 R r) : S8x1024x2048.Idx) = ix3 (batch t) R (at_ t r) := by
    funext a; apply Fin.ext
    match a with
    | ⟨0, _⟩ => show win0_2.index t (0 : Fin 3) * 1 + 1 * 0 = t.val / 16; omega
    | ⟨1, _⟩ => show win0_2.index t (1 : Fin 3) * 1024 + 1 * R.val = R.val; omega
    | ⟨2, _⟩ => show win0_2.index t (2 : Fin 3) * 128 + 1 * r.val = t.val % 16 * 128 + r.val; omega
  show (V m c main_v14 : FVec Ideal S8x1024x2048 .bf16) (((cfg0.win 2).blk t).view.emb (ix3 0 R r)) = _
  rw [e, queries_at m c _ _ h x R hR]

theorem blk3 (t : Fin cfg0.N) (g : Fin 2) (j : Fin 2048) (x : Fin 64) :
    (iblk m c 3 t : Vec Ideal S1x2x2048x64 .bf16) (ix4 0 g j x) = aK m c (ix4 (batch t) j g x) := by
  obtain ⟨-, -, -, -, -, h0, h1, h2, h3, -⟩ := where_ t
  have e : (((cfg0.win 3).blk t).view.emb (ix4 0 g j x) : S8x2x2048x64.Idx) = ix4 (batch t) g j x := by
    funext a; apply Fin.ext
    match a with
    | ⟨0, _⟩ => show win0_3.index t (0 : Fin 4) * 1 + 1 * 0 = t.val / 16; omega
    | ⟨1, _⟩ => show win0_3.index t (1 : Fin 4) * 2 + 1 * g.val = g.val; omega
    | ⟨2, _⟩ => show win0_3.index t (2 : Fin 4) * 2048 + 1 * j.val = j.val; omega
    | ⟨3, _⟩ => show win0_3.index t (3 : Fin 4) * 64 + 1 * x.val = x.val; omega
  show (V m c main_v16 : FVec Ideal S8x2x2048x64 .bf16) (((cfg0.win 3).blk t).view.emb (ix4 0 g j x)) = _
  rw [e, keys_at]

theorem blk4 (t : Fin cfg0.N) (g : Fin 2) (d : Fin 64) (j : Fin 2048) (R : Fin 256) (hR : R.val = 128 + 64 * g.val + d.val) :
    (iblk m c 4 t : Vec Ideal S1x256x2048 .bf16) (ix3 0 R j) = aV m c (ix4 (batch t) j g d) := by
  obtain ⟨-, -, -, -, -, -, -, -, -, h0, h1, h2, -⟩ := where_ t
  have e : (((cfg0.win 4).blk t).view.emb (ix3 0 R j) : S8x256x2048.Idx) = ix3 (batch t) R j := by
    funext a; apply Fin.ext
    match a with
    | ⟨0, _⟩ => show win0_4.index t (0 : Fin 3) * 1 + 1 * 0 = t.val / 16; omega
    | ⟨1, _⟩ => show win0_4.index t (1 : Fin 3) * 256 + 1 * R.val = R.val; omega
    | ⟨2, _⟩ => show win0_4.index t (2 : Fin 3) * 2048 + 1 * j.val = j.val; omega
  show (V m c main_v21 : FVec Ideal S8x256x2048 .bf16) (((cfg0.win 4).blk t).view.emb (ix3 0 R j)) = _
  rw [e, values_at m c _ g d j R hR]

theorem blk5 (t : Fin cfg0.N) (g : Fin 2) (a : Fin 128) (H : Fin 8) (R : Fin 1024) (hR : R.val / 128 = H.val) :
    (iblk m c 5 t : Vec Ideal S2x128x1024 .f32) (ix3 g a R)
      = SwaFlash.slope (g.val * 8 + H.val) * FloatOps.sitofp (F := Ideal) .f32 (BitVec.ofNat 32 a.val) := by
  obtain ⟨-, -, -, -, -, -, -, -, -, -, -, -, h0, h1, h2, -⟩ := where_ t
  have e : (((cfg0.win 5).blk t).view.emb (ix3 g a R) : S2x128x1024.Idx) = ix3 g a R := by
    funext k; apply Fin.ext
    match k with
    | ⟨0, _⟩ => show win0_5.index t (0 : Fin 3) * 2 + 1 * g.val = g.val; omega
    | ⟨1, _⟩ => show win0_5.index t (1 : Fin 3) * 128 + 1 * a.val = a.val; omega
    | ⟨2, _⟩ => show win0_5.index t (2 : Fin 3) * 1024 + 1 * R.val = R.val; omega
  show (V m c main_v30 : FVec Ideal S2x128x1024 .f32) (((cfg0.win 5).blk t).view.emb (ix3 g a R)) = _
  rw [e, biases_at m c g a H R hR]

/-! ## The output array -/

/-- What the reference holds for a head, feature and row of a grid point. -/
def wanted (t : Fin cfg0.N) : Fin 16 → Fin 64 → Fin 128 → EReal := fun h d r =>
  attend (aQ m c) (aK m c) (aV m c) (aS m c) (batch t) (at_ t r) h d

theorem head0 (t : Fin cfg0.N) (H : Fin 8) (d : Fin 64) (r : Fin 128) :
    quot (kernelRun0_A.sl.v83 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t))
      (kernelRun0_A.sl.v84 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t))
      d ⟨H.val * 128 + r.val, by omega⟩ = wanted m c t ⟨H.val, by omega⟩ d r := by
  have hg : (⟨(H.val) / 8, by omega⟩ : Fin 2) = 0 := Fin.ext (by show (H.val) / 8 = 0; omega)
  have hw : wanted m c t ⟨H.val, by omega⟩ d r = soft (fun j : Fin 2048 => score (∑ x, aK m c (ix4 (batch t) j 0 x) * aQ m c (ix4 (batch t) (at_ t r) ⟨H.val, by omega⟩ x))
      (SwaFlash.slope (H.val)) (t.val % 16 * 128 + r.val) j.val) (fun j => aV m c (ix4 (batch t) j 0 d)) (aS m c (ix1 ⟨H.val, by omega⟩)) (Ideal.ofBits .f32 0x00800000#32) := by
    unfold wanted attend dot
    rw [← hg]
    rfl
  rw [hw]
  refine lane0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) t rfl
    (iblk m c 0 t) (iblk m c 1 t) (iblk m c 2 t) (iblk m c 3 t) (iblk m c 4 t) (iblk m c 5 t) H d r
    (fun j x => aK m c (ix4 (batch t) j 0 x)) (fun x => aQ m c (ix4 (batch t) (at_ t r) ⟨H.val, by omega⟩ x)) (fun j => aV m c (ix4 (batch t) j 0 d)) (H.val) _ ?_ ?_ ?_ ?_ ?_ ?_
  · exact (slopes0 c (ms0_0 t) (hs0_0 t) (iblk m c 0 t) H r).trans (blk0 m c t _)
  · exact (sinks0 c (ms0_1 t) (hs0_1 t) (iblk m c 1 t) H r).trans (blk1 m c t _)
  · exact fun x => (queries0 c (ms0_2 t) (hs0_2 t) (iblk m c 2 t) H x r).trans (blk2 m c t _ x r _ (by dsimp only; omega))
  · exact fun j x => blk3 m c t 0 j x
  · exact fun j => blk4 m c t 0 d j _ rfl
  · intro a
    refine (blk5 m c t 0 a H _ (by dsimp only; omega)).trans ?_
    exact congrArg (fun n => SwaFlash.slope n * _) (by show 0 * 8 + H.val = H.val; omega)

theorem head1 (t : Fin cfg0.N) (H : Fin 8) (d : Fin 64) (r : Fin 128) :
    quot (kernelRun0_A.sl.v203 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t))
      (kernelRun0_A.sl.v204 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t))
      d ⟨H.val * 128 + r.val, by omega⟩ = wanted m c t ⟨H.val + 8, by omega⟩ d r := by
  have hg : (⟨(H.val + 8) / 8, by omega⟩ : Fin 2) = 1 := Fin.ext (by show (H.val + 8) / 8 = 1; omega)
  have hw : wanted m c t ⟨H.val + 8, by omega⟩ d r = soft (fun j : Fin 2048 => score (∑ x, aK m c (ix4 (batch t) j 1 x) * aQ m c (ix4 (batch t) (at_ t r) ⟨H.val + 8, by omega⟩ x))
      (SwaFlash.slope (H.val + 8)) (t.val % 16 * 128 + r.val) j.val) (fun j => aV m c (ix4 (batch t) j 1 d)) (aS m c (ix1 ⟨H.val + 8, by omega⟩)) (Ideal.ofBits .f32 0x00800000#32) := by
    unfold wanted attend dot
    rw [← hg]
    rfl
  rw [hw]
  refine lane1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) t rfl
    (iblk m c 0 t) (iblk m c 1 t) (iblk m c 2 t) (iblk m c 3 t) (iblk m c 4 t) (iblk m c 5 t) H d r
    (fun j x => aK m c (ix4 (batch t) j 1 x)) (fun x => aQ m c (ix4 (batch t) (at_ t r) ⟨H.val + 8, by omega⟩ x)) (fun j => aV m c (ix4 (batch t) j 1 d)) (H.val + 8) _ ?_ ?_ ?_ ?_ ?_ ?_
  · exact (slopes1 c (ms0_0 t) (hs0_0 t) (iblk m c 0 t) H r).trans (blk0 m c t _)
  · exact (sinks1 c (ms0_1 t) (hs0_1 t) (iblk m c 1 t) H r).trans (blk1 m c t _)
  · exact fun x => (queries1 c (ms0_2 t) (hs0_2 t) (iblk m c 2 t) H x r).trans (blk2 m c t _ x r _ (by dsimp only; omega))
  · exact fun j x => blk3 m c t 1 j x
  · exact fun j => blk4 m c t 1 d j _ rfl
  · intro a
    refine (blk5 m c t 1 a H _ (by dsimp only; omega)).trans ?_
    exact congrArg (fun n => SwaFlash.slope n * _) (by show 1 * 8 + H.val = H.val + 8; omega)

/-- Every entry of the array the call returns. -/
theorem array_apply (b : Fin 8) (col : Fin 1024) (tt : Fin 2048) :
    ((dats m 0 c).arrAt 6 cfg0.N : FVec Ideal S8x1024x2048 .bf16) (ix3 b col tt)
      = attend (aQ m c) (aK m c) (aV m c) (aS m c) b tt ⟨col.val / 64, by omega⟩ ⟨col.val % 64, by omega⟩ := by
  have hlt : b.val * 16 + tt.val / 128 < cfg0.N := by rw [show cfg0.N = 128 from N_0]; omega
  obtain ⟨t, ht⟩ : ∃ t : Fin cfg0.N, t.val = b.val * 16 + tt.val / 128 := ⟨⟨_, hlt⟩, rfl⟩
  obtain ⟨-, -, -, -, -, -, -, -, -, -, -, -, -, -, -, h0, h1, h2, hf⟩ := where_ t
  let r : Fin 128 := ⟨tt.val % 128, by omega⟩
  have e : (((cfg0.win 6).blk t).view.emb (ix3 0 col r) : S8x1024x2048.Idx) = ix3 b col tt := by
    funext a; apply Fin.ext
    match a with
    | ⟨0, _⟩ => show win0_6.index t (0 : Fin 3) * 1 + 1 * 0 = b.val; omega
    | ⟨1, _⟩ => show win0_6.index t (1 : Fin 3) * 1024 + 1 * col.val = col.val; omega
    | ⟨2, _⟩ => show win0_6.index t (2 : Fin 3) * 128 + 1 * (tt.val % 128) = tt.val; omega
  have hb := congrFun (Value.blocks6 m c t hf) (ix3 0 col r)
  have hl : ((dats m 0 c).arrAt 6 cfg0.N : FVec Ideal S8x1024x2048 .bf16) (ix3 b col tt)
      = ((cfg0.win 6).blk t).view.read (Elt Ideal) ((dats m 0 c).arrAt 6 cfg0.N) (ix3 0 col r) := by
    show _ = ((dats m 0 c).arrAt 6 cfg0.N : FVec Ideal S8x1024x2048 .bf16) (((cfg0.win 6).blk t).view.emb (ix3 0 col r))
    rw [e]
  rw [hl, hb, Value.flushed6_A]
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (wanted m c t) (head0 m c t) (head1 m c t) (ix3 0 col r)).trans ?_
  have eb : batch t = b := Fin.ext (by show t.val / 16 = b.val; omega)
  have et : at_ t r = tt := Fin.ext (by show t.val % 16 * 128 + tt.val % 128 = tt.val; omega)
  show attend (aQ m c) (aK m c) (aV m c) (aS m c) (batch t) (at_ t r) ⟨col.val / 64, _⟩ ⟨col.val % 64, _⟩ = _
  rw [eb, et]

end Cert.KernelIdeal.Swa

namespace Cert.Proof

/-- Sliding-window attention: kernel and reference end at one array. -/
theorem swa_algebraic : Cert.algebraic_KernelIdeal_ReferenceIdeal := by
  intro m ρ m' ρ' _ hagree
  refine ⟨fun c => (Cert.KernelIdeal.Gen.dats m 0 c).arrAt 6 Cert.KernelIdeal.cfg0.N, Cert.KernelIdeal.Value.run_blocks (F := Ideal) m ρ, ?_⟩
  refine (θ_run _ _ _).mono (fun _ h c => ⟨(h c).1.trans ?_, (h c).2⟩) (Cert.ReferenceIdeal.Value.run (F := Ideal) m' ρ')
  funext y
  idx_vars y
  obtain ⟨e0, e1, e2, e3⟩ := hagree c
  rw [Cert.ReferenceIdeal.Value.ref_apply, e0, e1, e2, e3]
  exact (Cert.KernelIdeal.Swa.array_apply m c _ _ _).symm

end Cert.Proof

end
-- ==== Proof.FramesProj.lean ====
/-
  The projection programs run, leave their arguments as they were and end with every counter at zero.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import Idealize.ShloMosaic.Lib.Claim

@[expose] public section

noncomputable section

namespace Cert.Proof

open Idealize.ShloMosaic Idealize.SL.Sem

theorem frame_Kernel3 : Cert.quiescent_Kernel3 := fun m g _ => Cert.Kernel3.Gen.frame m g
theorem frame_Kernel3Ideal : Cert.quiescent_Kernel3Ideal := fun m g _ => Cert.Kernel3Ideal.Gen.frame m g
theorem frame_Reference3Ideal : Cert.quiescent_Reference3Ideal := by
  intro m g _
  exact (θ_run Cert.Reference3Ideal.defs _ _).mono (fun r h => ⟨fun c => (h c).2.2.2.2.2.2,
    sem_eq_zero_of_no_sems (by decide) r.2⟩) (Cert.Reference3Ideal.Value.run (F := Ideal) m g)

theorem frame_Kernel4 : Cert.quiescent_Kernel4 := fun m g _ => Cert.Kernel4.Gen.frame m g
theorem frame_Kernel4Ideal : Cert.quiescent_Kernel4Ideal := fun m g _ => Cert.Kernel4Ideal.Gen.frame m g
theorem frame_Reference4Ideal : Cert.quiescent_Reference4Ideal := by
  intro m g _
  exact (θ_run Cert.Reference4Ideal.defs _ _).mono (fun r h => ⟨fun c => (h c).2.2.2.2,
    sem_eq_zero_of_no_sems (by decide) r.2⟩) (Cert.Reference4Ideal.Value.run (F := Ideal) m g)

theorem frame_Kernel5 : Cert.quiescent_Kernel5 := fun m g _ => Cert.Kernel5.Gen.frame m g
theorem frame_Kernel5Ideal : Cert.quiescent_Kernel5Ideal := fun m g _ => Cert.Kernel5Ideal.Gen.frame m g
theorem frame_Reference5Ideal : Cert.quiescent_Reference5Ideal := by
  intro m g _
  exact (θ_run Cert.Reference5Ideal.defs _ _).mono (fun r h => ⟨fun c => (h c).2.2.2.2,
    sem_eq_zero_of_no_sems (by decide) r.2⟩) (Cert.Reference5Ideal.Value.run (F := Ideal) m g)

theorem frame_Kernel6 : Cert.quiescent_Kernel6 := fun m g _ => Cert.Kernel6.Gen.frame m g
theorem frame_Kernel6Ideal : Cert.quiescent_Kernel6Ideal := fun m g _ => Cert.Kernel6Ideal.Gen.frame m g
theorem frame_Reference6Ideal : Cert.quiescent_Reference6Ideal := by
  intro m g _
  exact (θ_run Cert.Reference6Ideal.defs _ _).mono (fun r h => ⟨fun c => (h c).2.2.2,
    sem_eq_zero_of_no_sems (by decide) r.2⟩) (Cert.Reference6Ideal.Value.run (F := Ideal) m g)

theorem frame_Kernel7 : Cert.quiescent_Kernel7 := fun m g _ => Cert.Kernel7.Gen.frame m g
theorem frame_Kernel7Ideal : Cert.quiescent_Kernel7Ideal := fun m g _ => Cert.Kernel7Ideal.Gen.frame m g
theorem frame_Reference7Ideal : Cert.quiescent_Reference7Ideal := by
  intro m g _
  exact (θ_run Cert.Reference7Ideal.defs _ _).mono (fun r h => ⟨fun c => (h c).2.2,
    sem_eq_zero_of_no_sems (by decide) r.2⟩) (Cert.Reference7Ideal.Value.run (F := Ideal) m g)

theorem frame_Kernel8 : Cert.quiescent_Kernel8 := fun m g _ => Cert.Kernel8.Gen.frame m g
theorem frame_Kernel8Ideal : Cert.quiescent_Kernel8Ideal := fun m g _ => Cert.Kernel8Ideal.Gen.frame m g
theorem frame_Reference8Ideal : Cert.quiescent_Reference8Ideal := by
  intro m g _
  exact (θ_run Cert.Reference8Ideal.defs _ _).mono (fun r h => ⟨fun c => (h c).2.2,
    sem_eq_zero_of_no_sems (by decide) r.2⟩) (Cert.Reference8Ideal.Value.run (F := Ideal) m g)

theorem frame_Kernel9 : Cert.quiescent_Kernel9 := fun m g _ => Cert.Kernel9.Gen.frame m g
theorem frame_Kernel9Ideal : Cert.quiescent_Kernel9Ideal := fun m g _ => Cert.Kernel9Ideal.Gen.frame m g
theorem frame_Reference9Ideal : Cert.quiescent_Reference9Ideal := by
  intro m g _
  exact (θ_run Cert.Reference9Ideal.defs _ _).mono (fun r h => ⟨fun c => (h c).2,
    sem_eq_zero_of_no_sems (by decide) r.2⟩) (Cert.Reference9Ideal.Value.run (F := Ideal) m g)

end Cert.Proof

end
-- ==== Proof.ProjMath.lean ====
/-
  A projection of normalised rows over the extended reals: a row over its root mean square with a gain, and its sum
  against a column of weights.
-/
module

public import Idealize.ShloMosaic.Lib.Pointwise
public import Idealize.ShloMosaic.Lib.KernelVsHost

@[expose] public section

noncomputable section

open Idealize.ShloMosaic

namespace Cert.ProjMath

/-- A row over its root mean square, times a gain. -/
def unit (v g : Fin 1024 → EReal) (k : Fin 1024) : EReal :=
  v k * Ideal.rsqrt (Ideal.div (∑ j, v j * v j) (Ideal.ofBits .f32 0x44800000#32) + Ideal.ofBits .f32 0x358637BD#32) * g k

/-- The normalised row against a column of weights. -/
def entry (v g w : Fin 1024 → EReal) : EReal := ∑ k, unit v g k * w k

/-- With the factors the other way round. -/
theorem entry_comm (v g w : Fin 1024 → EReal) : entry v g w = ∑ k, w k * unit v g k :=
  Finset.sum_congr rfl fun k _ => mul_comm _ _

theorem entry_congr {v v' g g' w w' : Fin 1024 → EReal} (hv : ∀ k, v k = v' k) (hg : ∀ k, g k = g' k) (hw : ∀ k, w k = w' k) :
    entry v g w = entry v' g' w' := by
  rw [funext hv, funext hg, funext hw]

/-- The integer zero as a float. -/
theorem zero_int : FloatOps.sitofp (F := Ideal) .f32 (0#32) = (0 : EReal) := by
  exact sitofp_zero (φ := .f32)

theorem entry_zero (v g : Fin 1024 → EReal) : entry v g (fun _ => 0) = 0 := by
  unfold entry
  simp only [mul_zero, Finset.sum_const_zero]

/-- The 64-wide column block that holds the `e`-th of the attended keys: those of the second and the third branch. -/
def branch (e : ℕ) : ℕ := if e < 2 then 4 + e else 6 + e

theorem branch_lt (e : Fin 4) : branch e.val < 10 := by
  unfold branch
  split <;> omega

end Cert.ProjMath

end
-- ==== Proof.NsaPromptRef.lean ====
/-
  The reference's input projection (NsaPrompt): the composed terms of its results, by steps, read at an index.
-/
module

public import proofs.«01_k».proof.Proof.ProjMath
public import proofs.«01_k».proof.Proof.Gen.Reference3Ideal.Run
public import Idealize.ShloMosaic.Lib.Pointwise

@[expose] public section

noncomputable section

open Idealize.ShloMosaic Idealize.ShloMosaic.TcCoe Idealize.SL.Sem

namespace Cert.Reference3Ideal.Value

open Cert.Reference3Ideal Cert.Reference3Ideal.Gen Cert.ProjMath

/-- Every row over its root mean square, with a gain, times the weights. -/
def projT (x : FVec Ideal S8x2048x1024 .f32) (g : FVec Ideal S1024 .f32) (w : FVec Ideal S1024x1840 .f32) : FVec Ideal S8x2048x1840 .f32 :=
  Host.dotGeneral dot_S8x2048x1024_S1024x1840_S8x2048x1840_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) w

/-- The scaled queries. -/
def queriesT (p : FVec Ideal S8x2048x1840 .f32) : FVec Ideal S8x1024x2048 .bf16 :=
  truncf .bf16 (transpose S8x1024x2048 [0, 2, 1] (shapeCast _ (mulf (shapeCast _ (extractStridedSlice S8x2048x1024 ![0, 0, 0] p slices_S8x2048x1840_S8x2048x1024_0_0_0) shapeCasts_S8x2048x1024_S8x2048x16x64) (broadcastInDim S8x2048x16x64 ![] bcast_S_S8x2048x16x64 (constant S_ .f32 0x3E000000#32))) shapeCasts_S8x2048x16x64_S8x2048x1024) transposes_S8x2048x1024_S8x1024x2048_0_2_1) bitsLt_bf16_f32

/-- Keys and values. -/
def keyvalsT (p : FVec Ideal S8x2048x1840 .f32) : FVec Ideal S8x768x2048 .f32 :=
  transpose S8x768x2048 [0, 2, 1] (shapeCast _ (shapeCast _ (extractStridedSlice S8x2048x768 ![0, 0, 1024] p slices_S8x2048x1840_S8x2048x768_0_0_1024) shapeCasts_S8x2048x768_S8x2048x6x2x64) shapeCasts_S8x2048x6x2x64_S8x2048x768) transposes_S8x2048x768_S8x768x2048_0_2_1

/-- Keys and values in the short format. -/
def keyvalsCutT (p : FVec Ideal S8x2048x1840 .f32) : FVec Ideal S8x768x2048 .bf16 :=
  truncf .bf16 (transpose S8x768x2048 [0, 2, 1] (shapeCast _ (shapeCast _ (extractStridedSlice S8x2048x768 ![0, 0, 1024] p slices_S8x2048x1840_S8x2048x768_0_0_1024) shapeCasts_S8x2048x768_S8x2048x6x2x64) shapeCasts_S8x2048x6x2x64_S8x2048x768) transposes_S8x2048x768_S8x768x2048_0_2_1) bitsLt_bf16_f32

/-- The keys that are attended, by rows. -/
def keyRowsT (p : FVec Ideal S8x2048x1840 .f32) : FVec Ideal S8x4x2048x64 .bf16 :=
  truncf .bf16 (transpose S8x4x2048x64 [0, 2, 1, 3] (concatenate S8x2048x4x64 2 [⟨S8x2048x2x64, (shapeCast _ (extractStridedSlice S8x2048x1x2x64 ![0, 0, 2, 0, 0] (shapeCast _ (extractStridedSlice S8x2048x768 ![0, 0, 1024] p slices_S8x2048x1840_S8x2048x768_0_0_1024) shapeCasts_S8x2048x768_S8x2048x6x2x64) slices_S8x2048x6x2x64_S8x2048x1x2x64_0_0_2_0_0) shapeCasts_S8x2048x1x2x64_S8x2048x2x64)⟩, ⟨S8x2048x2x64, (shapeCast _ (extractStridedSlice S8x2048x1x2x64 ![0, 0, 4, 0, 0] (shapeCast _ (extractStridedSlice S8x2048x768 ![0, 0, 1024] p slices_S8x2048x1840_S8x2048x768_0_0_1024) shapeCasts_S8x2048x768_S8x2048x6x2x64) slices_S8x2048x6x2x64_S8x2048x1x2x64_0_0_4_0_0) shapeCasts_S8x2048x1x2x64_S8x2048x2x64)⟩] concatenates_S8x2048x2x64_S8x2048x2x64_S8x2048x4x64_d2) transposes_S8x2048x4x64_S8x4x2048x64_0_2_1_3) bitsLt_bf16_f32

/-- The first branch, by rows. -/
def cmpRowsT (p : FVec Ideal S8x2048x1840 .f32) : FVec Ideal S8x2048x256 .f32 :=
  shapeCast _ (extractStridedSlice S8x2048x2x2x64 ![0, 0, 0, 0, 0] (shapeCast _ (extractStridedSlice S8x2048x768 ![0, 0, 1024] p slices_S8x2048x1840_S8x2048x768_0_0_1024) shapeCasts_S8x2048x768_S8x2048x6x2x64) slices_S8x2048x6x2x64_S8x2048x2x2x64_0_0_0_0_0) shapeCasts_S8x2048x2x2x64_S8x2048x256

/-- The gates. -/
def gatesT (p : FVec Ideal S8x2048x1840 .f32) : FVec Ideal S8x128x2048 .f32 :=
  transpose S8x128x2048 [0, 2, 1] (Host.divf (broadcastInDim S8x2048x128 ![] bcast_S_S8x2048x128 (constant S_ .f32 0x3F800000#32)) (addf (broadcastInDim S8x2048x128 ![] bcast_S_S8x2048x128 (constant S_ .f32 0x3F800000#32)) (Host.exp (Host.negf (pad S8x2048x128 ![0, 0, 0] ![0, 0, 80] ![0, 0, 0] (extractStridedSlice S8x2048x48 ![0, 0, 1792] p slices_S8x2048x1840_S8x2048x48_0_0_1792) (sitofp .f32 (constantI S_ 32 0#32)) pads_S8x2048x48_S8x2048x128_000_000_0800 h_S_))))) transposes_S8x2048x128_S8x128x2048_0_2_1

theorem projT_apply (x : FVec Ideal S8x2048x1024 .f32) (g : FVec Ideal S1024 .f32) (w : FVec Ideal S1024x1840 .f32)
    (b : Fin 8) (s : Fin 2048) (l : Fin 1840) :
    projT x g w (ix3 b s l) = entry (fun k => x (ix3 b s k)) (fun k => g (ix1 k)) (fun k => w (ix2 k l)) := by
  unfold entry unit
  pointwise [projT]

theorem queriesT_apply (p : FVec Ideal S8x2048x1840 .f32) (b : Fin 8) (r : Fin 1024) (s : Fin 2048) :
    queriesT p (ix3 b r s) = p (ix3 b s ⟨r.val, by omega⟩) * Ideal.ofBits .f32 0x3E000000#32 := by
  pointwise [queriesT]

theorem keyvalsT_apply (p : FVec Ideal S8x2048x1840 .f32) (b : Fin 8) (r : Fin 768) (s : Fin 2048) :
    keyvalsT p (ix3 b r s) = p (ix3 b s ⟨1024 + r.val, by omega⟩) := by
  pointwise [keyvalsT]

theorem keyvalsCutT_apply (p : FVec Ideal S8x2048x1840 .f32) (b : Fin 8) (r : Fin 768) (s : Fin 2048) :
    keyvalsCutT p (ix3 b r s) = p (ix3 b s ⟨1024 + r.val, by omega⟩) := by
  pointwise [keyvalsCutT]

theorem keyRowsT_apply (p : FVec Ideal S8x2048x1840 .f32) (b : Fin 8) (e : Fin 4) (s : Fin 2048) (d : Fin 64) :
    keyRowsT p (ix4 b e s d) = p (ix3 b s ⟨1024 + 64 * branch e.val + d.val, by have := branch_lt e; omega⟩) := by
  pointwise [keyRowsT]
  split
  · next h => exact congrArg (fun n => p (ix3 b s n)) (Fin.ext (by dsimp only; unfold branch; rw [if_pos h]; omega))
  · next h => exact congrArg (fun n => p (ix3 b s n)) (Fin.ext (by dsimp only; unfold branch; rw [if_neg h]; omega))

theorem cmpRowsT_apply (p : FVec Ideal S8x2048x1840 .f32) (b : Fin 8) (s : Fin 2048) (r : Fin 256) :
    cmpRowsT p (ix3 b s r) = p (ix3 b s ⟨1024 + r.val, by omega⟩) := by
  pointwise [cmpRowsT]
  exact congrArg (fun n => p (ix3 b s n)) (Fin.ext (by dsimp only; omega))

theorem gatesT_apply (p : FVec Ideal S8x2048x1840 .f32) (b : Fin 8) (r : Fin 128) (s : Fin 2048) :
    gatesT p (ix3 b r s) = Ideal.logistic (if h : r.val < 48 then p (ix3 b s ⟨1792 + r.val, by omega⟩) else 0) := by
  unfold Ideal.logistic
  pointwise [gatesT]
  rw [zero_int]

end Cert.Reference3Ideal.Value

end
-- ==== Proof.NsaPromptValue.lean ====
/-
  The prompt batch's input projection (NsaPrompt): the blocks a grid point is given, the block it leaves of each result, the
  entries of the arrays, and the claim beside the reference.
-/
module

public import proofs.«01_k».proof.Defs
public import proofs.«01_k».proof.Proof.ProjMath
public import proofs.«01_k».proof.Proof.NsaPromptRef
public import proofs.«01_k».proof.Proof.Gen.Kernel3Ideal.Value
public import Idealize.ShloMosaic.Lib.Pointwise

@[expose] public section

noncomputable section

open Idealize.ShloMosaic Idealize.ShloMosaic.TcCoe Idealize.SL.Sem

namespace Cert.Kernel3Ideal.Proj

open Cert.Kernel3Ideal Cert.Kernel3Ideal.Gen Cert.ProjMath

theorem zero2 : (![0, 0] : Fin 2 → ℕ) = fun _ => 0 := by funext a; fin_cases a <;> rfl
theorem zero3 : (![0, 0, 0] : Fin 3 → ℕ) = fun _ => 0 := by funext a; fin_cases a <;> rfl

/-! ## What the body computes of its blocks -/

theorem norm_apply (x0 : Vec Ideal S1x128x1024 .f32) (x1 : Vec Ideal S1x1024 .f32) (j : Fin 128) (k : Fin 1024) :
    k0_pay4 x0 x1 (ix2 j k) = unit (fun k => x0 (ix3 0 j k)) (fun k => x1 (ix2 0 k)) k := by
  unfold unit
  pointwise [k0_pay4]

theorem queries_pay (x0 : Vec Ideal S1x128x1024 .f32) (x1 : Vec Ideal S1x1024 .f32) (x2 : Vec Ideal S1024x1024 .bf16) (r : Fin 1024) (j : Fin 128) :
    k0_pay5 x0 x1 x2 (ix3 0 r j) = entry (fun k => x0 (ix3 0 j k)) (fun k => x1 (ix2 0 k)) (fun k => x2 (ix2 r k)) * Ideal.ofBits .f32 0x3E000000#32 := by
  have e : k0_pay5 x0 x1 x2 (ix3 0 r j) = (∑ k, x2 (ix2 r k) * k0_pay4 x0 x1 (ix2 j k)) * Ideal.ofBits .f32 0x3E000000#32 := by
    pointwise [k0_pay5]
  rw [e, entry_comm]
  exact congrArg (· * _) (Finset.sum_congr rfl fun k _ => by rw [norm_apply])

theorem keyvals_pay (x0 : Vec Ideal S1x128x1024 .f32) (x1 : Vec Ideal S1x1024 .f32) (x3 : Vec Ideal S768x1024 .bf16) (r : Fin 768) (j : Fin 128) :
    k0_pay6 x0 x1 x3 (ix2 r j) = entry (fun k => x0 (ix3 0 j k)) (fun k => x1 (ix2 0 k)) (fun k => x3 (ix2 r k)) := by
  have e : k0_pay6 x0 x1 x3 (ix2 r j) = ∑ k, x3 (ix2 r k) * k0_pay4 x0 x1 (ix2 j k) := by
    pointwise [k0_pay6]
  rw [e, entry_comm]
  exact Finset.sum_congr rfl fun k _ => by rw [norm_apply]

/-- A block of the stacked key weights. -/
theorem ld_rows (x4 : Vec Ideal S4x1024x64 .bf16) (e : Fin 4) (R : ℕ) (hR : R = e.val) (inb) (k : Fin 1024) (d : Fin 64) :
    View.ld x4 (Rect.unit (s := S4x1024x64) ![R, 0, 0] ![1, 1024, 64] inb) (ix3 0 k d) = x4 (ix3 e k d) := by
  subst hR
  refine congrArg x4 (funext fun a => Fin.ext ?_)
  match a with
  | ⟨0, _⟩ => show e.val + 1 * 0 = e.val; omega
  | ⟨1, _⟩ => show 0 + 1 * k.val = k.val; omega
  | ⟨2, _⟩ => show 0 + 1 * d.val = d.val; omega

/-- A value for every attended key block, row and feature, read at an index of the block. -/
def byRow (f : Fin 4 → Fin 128 → Fin 64 → EReal) : S1x4x128x64.Idx → EReal := fun y => f (y 1) (y 2) (y 3)

theorem rows_piece (f : Fin 4 → Fin 128 → Fin 64 → EReal) (p : Vec Ideal S1x1x128x64 .bf16) (e : Fin 4) (R : ℕ) (hR : R = e.val) (inb)
    (hp : ∀ j d, p (ix4 0 0 j d) = f e j d) (x : S1x1x128x64.Idx) :
    p x = byRow f ((Rect.unit (s := S1x4x128x64) ![0, R, 0, 0] ![1, 1, 128, 64] inb).emb x) := by
  subst hR
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have h1 : (x 1).val < 1 := (x 1).isLt
  refine (congrArg p hx).trans ((hp (x 2) (x 3)).trans ?_)
  unfold byRow
  congr 1
  · apply Fin.ext
    show e.val = e.val + 1 * (x 1).val
    omega
  · apply Fin.ext
    show (x 2).val = 0 + 1 * (x 2).val
    omega
  · apply Fin.ext
    show (x 3).val = 0 + 1 * (x 3).val
    omega

theorem rows_pay0 (N : FVec Ideal S128x1024 .bf16) (W : Vec Ideal S1x1024x64 .bf16) (j : Fin 128) (d : Fin 64) :
    k0_pay10 N W (ix4 0 0 j d) = ∑ k, N (ix2 j k) * W (ix3 0 k d) := by
  pointwise [k0_pay10]

theorem rows_pay1 (N : FVec Ideal S128x1024 .bf16) (W : Vec Ideal S1x1024x64 .bf16) (j : Fin 128) (d : Fin 64) :
    k0_pay11 N W (ix4 0 0 j d) = ∑ k, N (ix2 j k) * W (ix3 0 k d) := by
  pointwise [k0_pay11]

theorem rows_pay2 (N : FVec Ideal S128x1024 .bf16) (W : Vec Ideal S1x1024x64 .bf16) (j : Fin 128) (d : Fin 64) :
    k0_pay12 N W (ix4 0 0 j d) = ∑ k, N (ix2 j k) * W (ix3 0 k d) := by
  pointwise [k0_pay12]

theorem rows_pay3 (N : FVec Ideal S128x1024 .bf16) (W : Vec Ideal S1x1024x64 .bf16) (j : Fin 128) (d : Fin 64) :
    k0_pay1 (k0_pay13 N W) (ix4 0 0 j d) = ∑ k, N (ix2 j k) * W (ix3 0 k d) := by
  pointwise [k0_pay1, k0_pay13]

/-! ## The block a grid point leaves of each result -/

theorem queries_out (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (r : Fin 1024) (j : Fin 128) :
    out0_7 x0 x1 x2 x3 x4 x5 x6 (ix3 0 r j) = entry (fun k => x0 (ix3 0 j k)) (fun k => x1 (ix2 0 k)) (fun k => x2 (ix2 r k)) * Ideal.ofBits .f32 0x3E000000#32 := by
  have z0 : View.ld x0 r0_0 = x0 := View.ld_unit_zero (S := S1x128x1024) zero3 _ _
  have z1 : View.ld x1 r0_1 = x1 := View.ld_unit_zero (S := S1x1024) zero2 _ _
  have z2 : View.ld x2 r0_2 = x2 := View.ld_unit_zero (S := S1024x1024) zero2 _ _
  unfold out0_7
  rw [z0, z1, z2]
  exact (congrFun (View.canon_unit_zero (S := S1x1024x128) zero3 _ _) _).trans (queries_pay x0 x1 x2 r j)

theorem keyvals_out (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (r : Fin 768) (j : Fin 128) :
    out0_8 x0 x1 x2 x3 x4 x5 x6 (ix3 0 r j) = entry (fun k => x0 (ix3 0 j k)) (fun k => x1 (ix2 0 k)) (fun k => x3 (ix2 r k)) := by
  have z0 : View.ld x0 r0_0 = x0 := View.ld_unit_zero (S := S1x128x1024) zero3 _ _
  have z1 : View.ld x1 r0_1 = x1 := View.ld_unit_zero (S := S1x1024) zero2 _ _
  have z3 : View.ld x3 r0_4 = x3 := View.ld_unit_zero (S := S768x1024) zero2 _ _
  unfold out0_8
  rw [z0, z1, z3]
  refine (congrFun (View.canon_unit_zero (S := S1x768x128) zero3 _ _) _).trans ?_
  have e : k0_pay7 x0 x1 x3 (ix3 0 r j) = k0_pay6 x0 x1 x3 (ix2 r j) := by
    pointwise [k0_pay7]
  exact e.trans (keyvals_pay x0 x1 x3 r j)

theorem keyvalsCut_out (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (r : Fin 768) (j : Fin 128) :
    out0_9 x0 x1 x2 x3 x4 x5 x6 (ix3 0 r j) = entry (fun k => x0 (ix3 0 j k)) (fun k => x1 (ix2 0 k)) (fun k => x3 (ix2 r k)) := by
  have z0 : View.ld x0 r0_0 = x0 := View.ld_unit_zero (S := S1x128x1024) zero3 _ _
  have z1 : View.ld x1 r0_1 = x1 := View.ld_unit_zero (S := S1x1024) zero2 _ _
  have z3 : View.ld x3 r0_4 = x3 := View.ld_unit_zero (S := S768x1024) zero2 _ _
  unfold out0_9
  rw [z0, z1, z3]
  refine (congrFun (View.canon_unit_zero (S := S1x768x128) zero3 _ _) _).trans ?_
  have e : k0_pay9 (k0_pay8 x0 x1 x3) (ix3 0 r j) = k0_pay6 x0 x1 x3 (ix2 r j) := by
    pointwise [k0_pay9, k0_pay8]
  exact e.trans (keyvals_pay x0 x1 x3 r j)

/-- The normalised rows under the name the stores give them. -/
theorem rows_norm (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (j : Fin 128) (k : Fin 1024) :
    k0_pay14 x0 x1 x2 x3 x4 x5 x6 (ix2 j k) = unit (fun k => x0 (ix3 0 j k)) (fun k => x1 (ix2 0 k)) k := by
  have z0 : View.ld x0 r0_0 = x0 := View.ld_unit_zero (S := S1x128x1024) zero3 _ _
  have z1 : View.ld x1 r0_1 = x1 := View.ld_unit_zero (S := S1x1024) zero2 _ _
  unfold k0_pay14
  rw [z0, z1]
  exact norm_apply x0 x1 j k

theorem keyRows_out (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (e : Fin 4) (j : Fin 128) (d : Fin 64) :
    out0_10 x0 x1 x2 x3 x4 x5 x6 (ix4 0 e j d) = entry (fun k => x0 (ix3 0 j k)) (fun k => x1 (ix2 0 k)) (fun k => x4 (ix3 e k d)) := by
  unfold out0_10
  refine View.canon_apply_of_pieces (Val := Elt Ideal) (e := .bf16) (byRow fun e j d => entry (fun k => x0 (ix3 0 j k)) (fun k => x1 (ix2 0 k)) (fun k => x4 (ix3 e k d))) _ (fun p hp x => ?_) (ix4 0 e j d) (cover0_10 _ _ _ _ _)
  simp only [List.mem_cons, List.mem_nil_iff, or_false] at hp
  rcases hp with rfl | rfl | rfl | rfl
  · refine rows_piece _ _ 3 3 rfl inb_S1x4x128x64_S1x1x128x64_0_3_0_0 (fun j d => (rows_pay3 _ _ j d).trans ?_) x
    unfold entry
    exact Finset.sum_congr rfl fun k _ => congrArg₂ (· * ·) (rows_norm x0 x1 x2 x3 x4 x5 x6 j k) (ld_rows x4 3 3 rfl inb_S4x1024x64_S1x1024x64_3_0_0 k d)
  · refine rows_piece _ _ 2 2 rfl inb_S1x4x128x64_S1x1x128x64_0_2_0_0 (fun j d => (rows_pay2 _ _ j d).trans ?_) x
    unfold entry
    exact Finset.sum_congr rfl fun k _ => congrArg₂ (· * ·) (rows_norm x0 x1 x2 x3 x4 x5 x6 j k) (ld_rows x4 2 2 rfl inb_S4x1024x64_S1x1024x64_2_0_0 k d)
  · refine rows_piece _ _ 1 1 rfl inb_S1x4x128x64_S1x1x128x64_0_1_0_0 (fun j d => (rows_pay1 _ _ j d).trans ?_) x
    unfold entry
    exact Finset.sum_congr rfl fun k _ => congrArg₂ (· * ·) (rows_norm x0 x1 x2 x3 x4 x5 x6 j k) (ld_rows x4 1 1 rfl inb_S4x1024x64_S1x1024x64_1_0_0 k d)
  · refine rows_piece _ _ 0 0 rfl inb_S1x4x128x64_S1x1x128x64_0_0_0_0 (fun j d => (rows_pay0 _ _ j d).trans ?_) x
    unfold entry
    exact Finset.sum_congr rfl fun k _ => congrArg₂ (· * ·) (rows_norm x0 x1 x2 x3 x4 x5 x6 j k) (ld_rows x4 0 0 rfl inb_S4x1024x64_S1x1024x64_0_0_0 k d)

theorem cmpRows_out (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (j : Fin 128) (r : Fin 256) :
    out0_11 x0 x1 x2 x3 x4 x5 x6 (ix3 0 j r) = entry (fun k => x0 (ix3 0 j k)) (fun k => x1 (ix2 0 k)) (fun k => x5 (ix2 k r)) := by
  have z5 : View.ld x5 r0_14 = x5 := View.ld_unit_zero (S := S1024x256) zero2 _ _
  unfold out0_11
  rw [z5]
  refine (congrFun (View.canon_unit_zero (S := S1x128x256) zero3 _ _) _).trans ?_
  have e : ∀ N : FVec Ideal S128x1024 .bf16, k0_pay2 N x5 (ix3 0 j r) = ∑ k, N (ix2 j k) * x5 (ix2 k r) := by
    intro N
    pointwise [k0_pay2]
  refine (e _).trans ?_
  unfold entry
  exact Finset.sum_congr rfl fun k _ => congrArg (· * _) (rows_norm x0 x1 x2 x3 x4 x5 x6 j k)

theorem gates_out (x0 : Vec Ideal S1x128x1024 .f32) (x1 : Vec Ideal S1x1024 .f32) (x2 : Vec Ideal S1024x1024 .bf16) (x3 : Vec Ideal S768x1024 .bf16) (x4 : Vec Ideal S4x1024x64 .bf16) (x5 : Vec Ideal S1024x256 .bf16) (x6 : Vec Ideal S128x1024 .bf16) (r : Fin 128) (j : Fin 128) :
    out0_12 x0 x1 x2 x3 x4 x5 x6 (ix3 0 r j) = Ideal.logistic (entry (fun k => x0 (ix3 0 j k)) (fun k => x1 (ix2 0 k)) (fun k => x6 (ix2 r k))) := by
  have z6 : View.ld x6 r0_16 = x6 := View.ld_unit_zero (S := S128x1024) zero2 _ _
  unfold out0_12
  rw [z6]
  refine (congrFun (View.canon_unit_zero (S := S1x128x128) zero3 _ _) _).trans ?_
  have e : ∀ N : FVec Ideal S128x1024 .bf16, k0_pay3 N x6 (ix3 0 r j) = Ideal.logistic (∑ k, x6 (ix2 r k) * N (ix2 j k)) := by
    intro N
    pointwise [k0_pay3]
  rw [entry_comm]
  refine (e _).trans (congrArg Ideal.logistic ?_)
  exact Finset.sum_congr rfl fun k _ => congrArg (_ * ·) (rows_norm x0 x1 x2 x3 x4 x5 x6 j k)

/-! ## The arrays the host code prepares -/

variable (m : (ℓ : Loc nD τ sig) → Buf (Elt Ideal) ℓ) (c : Dev nD)

/-- The argument arrays, named. -/
abbrev aX : FVec Ideal S8x2048x1024 .f32 := m ((c : Thread nD τ).loc main_arg0)
abbrev aG : FVec Ideal S1024 .f32 := m ((c : Thread nD τ).loc main_arg1)
abbrev aW : FVec Ideal S1024x1840 .f32 := m ((c : Thread nD τ).loc main_arg2)

theorem gain_at (k : Fin 1024) : (V m c main_v16 : FVec Ideal S1x1024 .f32) (ix2 0 k) = aG m c (ix1 k) := by
  unfold_abbrev_sides
  simp only [hostOps0, hostOps0_1, hostOps0_2, List.flatten_cons, List.flatten_nil, List.append_nil, List.cons_append, List.nil_append]
  after_results
  pointwise []

theorem wq_at (r k : Fin 1024) : (V m c main_v2 : FVec Ideal S1024x1024 .bf16) (ix2 r k) = aW m c (ix2 k ⟨r.val, by omega⟩) := by
  unfold_abbrev_sides
  simp only [hostOps0, hostOps0_1, hostOps0_2, List.flatten_cons, List.flatten_nil, List.append_nil, List.cons_append, List.nil_append]
  after_results
  pointwise []

theorem wkv_at (r : Fin 768) (k : Fin 1024) : (V m c main_v5 : FVec Ideal S768x1024 .bf16) (ix2 r k) = aW m c (ix2 k ⟨1024 + r.val, by omega⟩) := by
  unfold_abbrev_sides
  simp only [hostOps0, hostOps0_1, hostOps0_2, List.flatten_cons, List.flatten_nil, List.append_nil, List.cons_append, List.nil_append]
  after_results
  pointwise []

set_option maxHeartbeats 4000000 in
theorem wk_at (e : Fin 4) (k : Fin 1024) (d : Fin 64) (R : Fin 1840) (hR : (e.val < 2 ∧ R.val = 1024 + 64 * (4 + e.val) + d.val) ∨ (2 ≤ e.val ∧ R.val = 1024 + 64 * (6 + e.val) + d.val)) :
    (V m c main_v15 : FVec Ideal S4x1024x64 .bf16) (ix3 e k d) = aW m c (ix2 k R) := by
  unfold_abbrev_sides
  simp only [hostOps0, hostOps0_1, hostOps0_2, List.flatten_cons, List.flatten_nil, List.append_nil, List.cons_append, List.nil_append]
  after_results
  pointwise []
  split_ifs <;> first
    | omega
    | exact congrArg (fun n => aW m c (ix2 k n)) (Fin.ext (by first | omega | (dsimp only; omega)))
    | (after_results_simp
       pointwise []
       exact congrArg (fun n => aW m c (ix2 k n)) (Fin.ext (by first | omega | (dsimp only; omega))))

theorem wc_at (k : Fin 1024) (r : Fin 256) : (V m c main_v22 : FVec Ideal S1024x256 .bf16) (ix2 k r) = aW m c (ix2 k ⟨1024 + r.val, by omega⟩) := by
  unfold_abbrev_sides
  simp only [hostOps0, hostOps0_1, hostOps0_2, List.flatten_cons, List.flatten_nil, List.append_nil, List.cons_append, List.nil_append]
  after_results
  pointwise []

theorem wg_flat (r : Fin 128) (k : Fin 1024) : (V m c main_v20 : FVec Ideal S128x1024 .bf16) (ix2 r k)
    = if h : r.val < 48 then aW m c (ix2 k ⟨1792 + r.val, by omega⟩) else FloatOps.sitofp (F := Ideal) .f32 (0#32) := by
  unfold_abbrev_sides
  simp only [hostOps0, hostOps0_1, hostOps0_2, List.flatten_cons, List.flatten_nil, List.append_nil, List.cons_append, List.nil_append]
  after_results
  pointwise []
  show (pad S1024x128 ![0, 0] ![0, 80] ![0, 0] (extractStridedSlice S1024x48 ![0, 1792] (aW m c) slices_S1024x1840_S1024x48_0_1792)
    (sitofp (F := Ideal) .f32 (constantI S_ 32 0#32)) pads_S1024x48_S1024x128_000_0800 h_S_ : FVec Ideal S1024x128 .f32) (ix2 k r) = _
  pointwise []

theorem wg_at (r : Fin 128) (k : Fin 1024) : (V m c main_v20 : FVec Ideal S128x1024 .bf16) (ix2 r k)
    = if h : r.val < 48 then aW m c (ix2 k ⟨1792 + r.val, by omega⟩) else 0 := by
  refine (wg_flat m c r k).trans ?_
  rw [zero_int]

/-! ## The blocks a grid point is given -/

theorem where0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 3) = 0 ∧ win0_4.index t (1 : Fin 3) = 0 ∧ win0_4.index t (2 : Fin 3) = 0 :=
  (by decide +kernel : ∀ t : Fin grid0.N, _)
theorem where5 : ∀ t : Fin cfg0.N, win0_5.index t (0 : Fin 2) = 0 ∧ win0_5.index t (1 : Fin 2) = 0 :=
  (by decide +kernel : ∀ t : Fin grid0.N, _)
theorem where6 : ∀ t : Fin cfg0.N, win0_6.index t (0 : Fin 2) = 0 ∧ win0_6.index t (1 : Fin 2) = 0 :=
  (by decide +kernel : ∀ t : Fin grid0.N, _)
theorem where7 : ∀ t : Fin cfg0.N, win0_7.index t (0 : Fin 3) = t.val / 16 ∧ win0_7.index t (1 : Fin 3) = 0 ∧ win0_7.index t (2 : Fin 3) = t.val % 16 ∧ (cfg0.win 7).flush t = true :=
  (by decide +kernel : ∀ t : Fin grid0.N, _)
theorem where8 : ∀ t : Fin cfg0.N, win0_8.index t (0 : Fin 3) = t.val / 16 ∧ win0_8.index t (1 : Fin 3) = 0 ∧ win0_8.index t (2 : Fin 3) = t.val % 16 ∧ (cfg0.win 8).flush t = true :=
  (by decide +kernel : ∀ t : Fin grid0.N, _)
theorem where9 : ∀ t : Fin cfg0.N, win0_9.index t (0 : Fin 3) = t.val / 16 ∧ win0_9.index t (1 : Fin 3) = 0 ∧ win0_9.index t (2 : Fin 3) = t.val % 16 ∧ (cfg0.win 9).flush t = true :=
  (by decide +kernel : ∀ t : Fin grid0.N, _)
theorem where10 : ∀ t : Fin cfg0.N, win0_10.index t (0 : Fin 4) = t.val / 16 ∧ win0_10.index t (1 : Fin 4) = 0 ∧ win0_10.index t (2 : Fin 4) = t.val % 16 ∧ win0_10.index t (3 : Fin 4) = 0 ∧ (cfg0.win 10).flush t = true :=
  (by decide +kernel : ∀ t : Fin grid0.N, _)
theorem where11 : ∀ t : Fin cfg0.N, win0_11.index t (0 : Fin 3) = t.val / 16 ∧ win0_11.index t (1 : Fin 3) = t.val % 16 ∧ win0_11.index t (2 : Fin 3) = 0 ∧ (cfg0.win 11).flush t = true :=
  (by decide +kernel : ∀ t : Fin grid0.N, _)
theorem where12 : ∀ t : Fin cfg0.N, win0_12.index t (0 : Fin 3) = t.val / 16 ∧ win0_12.index t (1 : Fin 3) = 0 ∧ win0_12.index t (2 : Fin 3) = t.val % 16 ∧ (cfg0.win 12).flush t = true :=
  (by decide +kernel : ∀ t : Fin grid0.N, _)

theorem points (t : Fin cfg0.N) : t.val < 128 := lt_of_lt_of_eq t.isLt (show cfg0.N = 128 from N_0)

/-- The batch entry of a grid point. -/
def batch (t : Fin cfg0.N) : Fin 8 := ⟨t.val / 16, by have := points t; omega⟩
/-- The position of a grid point's row. -/
def at_ (t : Fin cfg0.N) (j : Fin 128) : Fin 2048 := ⟨t.val % 16 * 128 + j.val, by omega⟩

theorem blk0 (t : Fin cfg0.N) (j : Fin 128) (k : Fin 1024) :
    (iblk m c 0 t : Vec Ideal S1x128x1024 .f32) (ix3 0 j k) = aX m c (ix3 (batch t) (at_ t j) k) := by
  obtain ⟨h0, h1, h2⟩ := where0 t
  have e : (((cfg0.win 0).blk t).view.emb (ix3 0 j k) : S8x2048x1024.Idx) = ix3 (batch t) (at_ t j) k := by
    funext a; apply Fin.ext
    match a with
    | ⟨0, _⟩ => show win0_0.index t (0 : Fin 3) * 1 + 1 * 0 = t.val / 16; omega
    | ⟨1, _⟩ => show win0_0.index t (1 : Fin 3) * 128 + 1 * j.val = t.val % 16 * 128 + j.val; omega
    | ⟨2, _⟩ => show win0_0.index t (2 : Fin 3) * 1024 + 1 * k.val = k.val; omega
  show (V m c main_arg0 : FVec Ideal S8x2048x1024 .f32) (((cfg0.win 0).blk t).view.emb (ix3 0 j k)) = _
  rw [e, V_main_arg0]

theorem blk1 (t : Fin cfg0.N) (k : Fin 1024) :
    (iblk m c 1 t : Vec Ideal S1x1024 .f32) (ix2 0 k) = aG m c (ix1 k) := by
  obtain ⟨h0, h1⟩ := where1 t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v16 : FVec Ideal S1x1024 .f32) (((cfg0.win 1).blk t).view.emb (ix2 0 k)) = _
  rw [e]
  exact gain_at m c k

theorem blk2 (t : Fin cfg0.N) (r k : Fin 1024) :
    (iblk m c 2 t : Vec Ideal S1024x1024 .bf16) (ix2 r k) = aW m c (ix2 k ⟨r.val, by omega⟩) := by
  obtain ⟨h0, h1⟩ := where2 t
  have e : (((cfg0.win 2).blk t).view.emb (ix2 r k) : S1024x1024.Idx) = ix2 r k := by
    funext a; apply Fin.ext
    match a with
    | ⟨0, _⟩ => show win0_2.index t (0 : Fin 2) * 1024 + 1 * r.val = r.val; omega
    | ⟨1, _⟩ => show win0_2.index t (1 : Fin 2) * 1024 + 1 * k.val = k.val; omega
  show (V m c main_v2 : FVec Ideal S1024x1024 .bf16) (((cfg0.win 2).blk t).view.emb (ix2 r k)) = _
  rw [e]
  exact wq_at m c r k

theorem blk3 (t : Fin cfg0.N) (r : Fin 768) (k : Fin 1024) :
    (iblk m c 3 t : Vec Ideal S768x1024 .bf16) (ix2 r k) = aW m c (ix2 k ⟨1024 + r.val, by omega⟩) := by
  obtain ⟨h0, h1⟩ := where3 t
  have e : (((cfg0.win 3).blk t).view.emb (ix2 r k) : S768x1024.Idx) = ix2 r k := by
    funext a; apply Fin.ext
    match a with
    | ⟨0, _⟩ => show win0_3.index t (0 : Fin 2) * 768 + 1 * r.val = r.val; omega
    | ⟨1, _⟩ => show win0_3.index t (1 : Fin 2) * 1024 + 1 * k.val = k.val; omega
  show (V m c main_v5 : FVec Ideal S768x1024 .bf16) (((cfg0.win 3).blk t).view.emb (ix2 r k)) = _
  rw [e]
  exact wkv_at m c r k

theorem blk4 (t : Fin cfg0.N) (e : Fin 4) (k : Fin 1024) (d : Fin 64) :
    (iblk m c 4 t : Vec Ideal S4x1024x64 .bf16) (ix3 e k d) = aW m c (ix2 k ⟨1024 + 64 * branch e.val + d.val, by have := branch_lt e; omega⟩) := by
  obtain ⟨h0, h1, h2⟩ := where4 t
  have he : (((cfg0.win 4).blk t).view.emb (ix3 e k d) : S4x1024x64.Idx) = ix3 e k d := by
    funext a; apply Fin.ext
    match a with
    | ⟨0, _⟩ => show win0_4.index t (0 : Fin 3) * 4 + 1 * e.val = e.val; omega
    | ⟨1, _⟩ => show win0_4.index t (1 : Fin 3) * 1024 + 1 * k.val = k.val; omega
    | ⟨2, _⟩ => show win0_4.index t (2 : Fin 3) * 64 + 1 * d.val = d.val; omega
  show (V m c main_v15 : FVec Ideal S4x1024x64 .bf16) (((cfg0.win 4).blk t).view.emb (ix3 e k d)) = _
  rw [he]
  exact wk_at m c e k d _ (by dsimp only; unfold branch; split <;> omega)

theorem blk5 (t : Fin cfg0.N) (k : Fin 1024) (r : Fin 256) :
    (iblk m c 5 t : Vec Ideal S1024x256 .bf16) (ix2 k r) = aW m c (ix2 k ⟨1024 + r.val, by omega⟩) := by
  obtain ⟨h0, h1⟩ := where5 t
  have e : (((cfg0.win 5).blk t).view.emb (ix2 k r) : S1024x256.Idx) = ix2 k r := by
    funext a; apply Fin.ext
    match a with
    | ⟨0, _⟩ => show win0_5.index t (0 : Fin 2) * 1024 + 1 * k.val = k.val; omega
    | ⟨1, _⟩ => show win0_5.index t (1 : Fin 2) * 256 + 1 * r.val = r.val; omega
  show (V m c main_v22 : FVec Ideal S1024x256 .bf16) (((cfg0.win 5).blk t).view.emb (ix2 k r)) = _
  rw [e]
  exact wc_at m c k r

theorem blk6 (t : Fin cfg0.N) (r : Fin 128) (k : Fin 1024) :
    (iblk m c 6 t : Vec Ideal S128x1024 .bf16) (ix2 r k) = if h : r.val < 48 then aW m c (ix2 k ⟨1792 + r.val, by omega⟩) else 0 := by
  obtain ⟨h0, h1⟩ := where6 t
  have e : (((cfg0.win 6).blk t).view.emb (ix2 r k) : S128x1024.Idx) = ix2 r k := by
    funext a; apply Fin.ext
    match a with
    | ⟨0, _⟩ => show win0_6.index t (0 : Fin 2) * 128 + 1 * r.val = r.val; omega
    | ⟨1, _⟩ => show win0_6.index t (1 : Fin 2) * 1024 + 1 * k.val = k.val; omega
  show (V m c main_v20 : FVec Ideal S128x1024 .bf16) (((cfg0.win 6).blk t).view.emb (ix2 r k)) = _
  rw [e]
  exact wg_at m c r k

/-! ## The arrays the call returns -/

theorem queries_array (b : Fin 8) (s : Fin 2048) (r : Fin 1024) :
    ((dats m 0 c).arrAt 7 cfg0.N : FVec Ideal S8x1024x2048 .bf16) (ix3 b r s)
      = entry (fun k => aX m c (ix3 b s k)) (fun k => aG m c (ix1 k)) (fun k => aW m c (ix2 k ⟨r.val, by omega⟩)) * Ideal.ofBits .f32 0x3E000000#32 := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where7 t
  let j : Fin 128 := ⟨s.val % 128, by omega⟩
  have he : (((cfg0.win 7).blk t).view.emb (ix3 0 r j) : S8x1024x2048.Idx) = ix3 b r s := by
    funext a; apply Fin.ext
    match a with
    | ⟨0, _⟩ => show win0_7.index t (0 : Fin 3) * 1 + 1 * 0 = b.val; omega
    | ⟨1, _⟩ => show win0_7.index t (1 : Fin 3) * 1024 + 1 * r.val = r.val; omega
    | ⟨2, _⟩ => show win0_7.index t (2 : Fin 3) * 128 + 1 * (s.val % 128) = s.val; omega
  have hb := congrFun (Value.blocks7 m c t hf) (ix3 0 r j)
  have hl : ((dats m 0 c).arrAt 7 cfg0.N : FVec Ideal S8x1024x2048 .bf16) (ix3 b r s)
      = ((cfg0.win 7).blk t).view.read (Elt Ideal) ((dats m 0 c).arrAt 7 cfg0.N) (ix3 0 r j) := by
    show _ = ((dats m 0 c).arrAt 7 cfg0.N : FVec Ideal S8x1024x2048 .bf16) (((cfg0.win 7).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed7]
  refine (queries_out (iblk m c 0 t) (iblk m c 1 t) (iblk m c 2 t) (iblk m c 3 t) (iblk m c 4 t) (iblk m c 5 t) (iblk m c 6 t) r j).trans ?_
  exact congrArg (· * _) (entry_congr hx (fun k => blk1 m c t k) (fun k => blk2 m c t r k))

theorem keyvals_array (b : Fin 8) (s : Fin 2048) (r : Fin 768) :
    ((dats m 0 c).arrAt 8 cfg0.N : FVec Ideal S8x768x2048 .f32) (ix3 b r s)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where8 t
  let j : Fin 128 := ⟨s.val % 128, by omega⟩
  have he : (((cfg0.win 8).blk t).view.emb (ix3 0 r j) : S8x768x2048.Idx) = ix3 b r s := by
    funext a; apply Fin.ext
    match a with
    | ⟨0, _⟩ => show win0_8.index t (0 : Fin 3) * 1 + 1 * 0 = b.val; omega
    | ⟨1, _⟩ => show win0_8.index t (1 : Fin 3) * 768 + 1 * r.val = r.val; omega
    | ⟨2, _⟩ => show win0_8.index t (2 : Fin 3) * 128 + 1 * (s.val % 128) = s.val; omega
  have hb := congrFun (Value.blocks8 m c t hf) (ix3 0 r j)
  have hl : ((dats m 0 c).arrAt 8 cfg0.N : FVec Ideal S8x768x2048 .f32) (ix3 b r s)
      = ((cfg0.win 8).blk t).view.read (Elt Ideal) ((dats m 0 c).arrAt 8 cfg0.N) (ix3 0 r j) := by
    show _ = ((dats m 0 c).arrAt 8 cfg0.N : FVec Ideal S8x768x2048 .f32) (((cfg0.win 8).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed8]
  refine (keyvals_out (iblk m c 0 t) (iblk m c 1 t) (iblk m c 2 t) (iblk m c 3 t) (iblk m c 4 t) (iblk m c 5 t) (iblk m c 6 t) r j).trans ?_
  exact entry_congr hx (fun k => blk1 m c t k) (fun k => blk3 m c t r k)

theorem keyvalsCut_array (b : Fin 8) (s : Fin 2048) (r : Fin 768) :
    ((dats m 0 c).arrAt 9 cfg0.N : FVec Ideal S8x768x2048 .bf16) (ix3 b r s)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where9 t
  let j : Fin 128 := ⟨s.val % 128, by omega⟩
  have he : (((cfg0.win 9).blk t).view.emb (ix3 0 r j) : S8x768x2048.Idx) = ix3 b r s := by
    funext a; apply Fin.ext
    match a with
    | ⟨0, _⟩ => show win0_9.index t (0 : Fin 3) * 1 + 1 * 0 = b.val; omega
    | ⟨1, _⟩ => show win0_9.index t (1 : Fin 3) * 768 + 1 * r.val = r.val; omega
    | ⟨2, _⟩ => show win0_9.index t (2 : Fin 3) * 128 + 1 * (s.val % 128) = s.val; omega
  have hb := congrFun (Value.blocks9 m c t hf) (ix3 0 r j)
  have hl : ((dats m 0 c).arrAt 9 cfg0.N : FVec Ideal S8x768x2048 .bf16) (ix3 b r s)
      = ((cfg0.win 9).blk t).view.read (Elt Ideal) ((dats m 0 c).arrAt 9 cfg0.N) (ix3 0 r j) := by
    show _ = ((dats m 0 c).arrAt 9 cfg0.N : FVec Ideal S8x768x2048 .bf16) (((cfg0.win 9).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed9]
  refine (keyvalsCut_out (iblk m c 0 t) (iblk m c 1 t) (iblk m c 2 t) (iblk m c 3 t) (iblk m c 4 t) (iblk m c 5 t) (iblk m c 6 t) r j).trans ?_
  exact entry_congr hx (fun k => blk1 m c t k) (fun k => blk3 m c t r k)

theorem keyRows_array (b : Fin 8) (s : Fin 2048) (e : Fin 4) (d : Fin 64) :
    ((dats m 0 c).arrAt 10 cfg0.N : FVec Ideal S8x4x2048x64 .bf16) (ix4 b e s d)
      = entry (fun k => aX m c (ix3 b s k)) (fun k => aG m c (ix1 k)) (fun k => aW m c (ix2 k ⟨1024 + 64 * branch e.val + d.val, by have := branch_lt e; omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, h3, hf⟩ := where10 t
  let j : Fin 128 := ⟨s.val % 128, by omega⟩
  have he : (((cfg0.win 10).blk t).view.emb (ix4 0 e j d) : S8x4x2048x64.Idx) = ix4 b e s d := by
    funext a; apply Fin.ext
    match a with
    | ⟨0, _⟩ => show win0_10.index t (0 : Fin 4) * 1 + 1 * 0 = b.val; omega
    | ⟨1, _⟩ => show win0_10.index t (1 : Fin 4) * 4 + 1 * e.val = e.val; omega
    | ⟨2, _⟩ => show win0_10.index t (2 : Fin 4) * 128 + 1 * (s.val % 128) = s.val; omega
    | ⟨3, _⟩ => show win0_10.index t (3 : Fin 4) * 64 + 1 * d.val = d.val; omega
  have hb := congrFun (Value.blocks10 m c t hf) (ix4 0 e j d)
  have hl : ((dats m 0 c).arrAt 10 cfg0.N : FVec Ideal S8x4x2048x64 .bf16) (ix4 b e s d)
      = ((cfg0.win 10).blk t).view.read (Elt Ideal) ((dats m 0 c).arrAt 10 cfg0.N) (ix4 0 e j d) := by
    show _ = ((dats m 0 c).arrAt 10 cfg0.N : FVec Ideal S8x4x2048x64 .bf16) (((cfg0.win 10).blk t).view.emb (ix4 0 e j d))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed10]
  refine (keyRows_out (iblk m c 0 t) (iblk m c 1 t) (iblk m c 2 t) (iblk m c 3 t) (iblk m c 4 t) (iblk m c 5 t) (iblk m c 6 t) e j d).trans ?_
  exact entry_congr hx (fun k => blk1 m c t k) (fun k => blk4 m c t e k d)

theorem cmpRows_array (b : Fin 8) (s : Fin 2048) (r : Fin 256) :
    ((dats m 0 c).arrAt 11 cfg0.N : FVec Ideal S8x2048x256 .f32) (ix3 b s r)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where11 t
  let j : Fin 128 := ⟨s.val % 128, by omega⟩
  have he : (((cfg0.win 11).blk t).view.emb (ix3 0 j r) : S8x2048x256.Idx) = ix3 b s r := by
    funext a; apply Fin.ext
    match a with
    | ⟨0, _⟩ => show win0_11.index t (0 : Fin 3) * 1 + 1 * 0 = b.val; omega
    | ⟨1, _⟩ => show win0_11.index t (1 : Fin 3) * 128 + 1 * (s.val % 128) = s.val; omega
    | ⟨2, _⟩ => show win0_11.index t (2 : Fin 3) * 256 + 1 * r.val = r.val; omega
  have hb := congrFun (Value.blocks11 m c t hf) (ix3 0 j r)
  have hl : ((dats m 0 c).arrAt 11 cfg0.N : FVec Ideal S8x2048x256 .f32) (ix3 b s r)
      = ((cfg0.win 11).blk t).view.read (Elt Ideal) ((dats m 0 c).arrAt 11 cfg0.N) (ix3 0 j r) := by
    show _ = ((dats m 0 c).arrAt 11 cfg0.N : FVec Ideal S8x2048x256 .f32) (((cfg0.win 11).blk t).view.emb (ix3 0 j r))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed11]
  refine (cmpRows_out (iblk m c 0 t) (iblk m c 1 t) (iblk m c 2 t) (iblk m c 3 t) (iblk m c 4 t) (iblk m c 5 t) (iblk m c 6 t) j r).trans ?_
  exact entry_congr hx (fun k => blk1 m c t k) (fun k => blk5 m c t k r)

theorem gates_array (b : Fin 8) (s : Fin 2048) (r : Fin 128) :
    ((dats m 0 c).arrAt 12 cfg0.N : FVec Ideal S8x128x2048 .f32) (ix3 b r s)
      = Ideal.logistic (if h : r.val < 48 then entry (fun k => aX m c (ix3 b s k)) (fun k => aG m c (ix1 k)) (fun k => aW m c (ix2 k ⟨1792 + r.val, by omega⟩)) else 0) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where12 t
  let j : Fin 128 := ⟨s.val % 128, by omega⟩
  have he : (((cfg0.win 12).blk t).view.emb (ix3 0 r j) : S8x128x2048.Idx) = ix3 b r s := by
    funext a; apply Fin.ext
    match a with
    | ⟨0, _⟩ => show win0_12.index t (0 : Fin 3) * 1 + 1 * 0 = b.val; omega
    | ⟨1, _⟩ => show win0_12.index t (1 : Fin 3) * 128 + 1 * r.val = r.val; omega
    | ⟨2, _⟩ => show win0_12.index t (2 : Fin 3) * 128 + 1 * (s.val % 128) = s.val; omega
  have hb := congrFun (Value.blocks12 m c t hf) (ix3 0 r j)
  have hl : ((dats m 0 c).arrAt 12 cfg0.N : FVec Ideal S8x128x2048 .f32) (ix3 b r s)
      = ((cfg0.win 12).blk t).view.read (Elt Ideal) ((dats m 0 c).arrAt 12 cfg0.N) (ix3 0 r j) := by
    show _ = ((dats m 0 c).arrAt 12 cfg0.N : FVec Ideal S8x128x2048 .f32) (((cfg0.win 12).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed12]
  refine (gates_out (iblk m c 0 t) (iblk m c 1 t) (iblk m c 2 t) (iblk m c 3 t) (iblk m c 4 t) (iblk m c 5 t) (iblk m c 6 t) r j).trans ?_
  exact congrArg Ideal.logistic (by
    by_cases h : r.val < 48
    · rw [dif_pos h]
      exact entry_congr hx (fun k => blk1 m c t k) (fun k => (blk6 m c t r k).trans (dif_pos h))
    · rw [dif_neg h]
      exact (entry_congr (fun _ => rfl) (fun _ => rfl) (fun k => (blk6 m c t r k).trans (dif_neg h))).trans (entry_zero _ _))

end Cert.Kernel3Ideal.Proj

namespace Cert.Proof

/-- The projection: kernel and reference end at the same arrays. -/
theorem nsa_prompt_algebraic : Cert.algebraic_Kernel3Ideal_Reference3Ideal := by
  intro m ρ m' ρ' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, Cert.Kernel3Ideal.Value.run_blocks (F := Ideal) m ρ, ?_⟩
  refine (θ_run _ _ _).mono (fun _ h c => ?_) (Cert.Reference3Ideal.Value.run (F := Ideal) m' ρ')
  obtain ⟨h0, h1, h2, h3, h4, h5, hr⟩ := h c
  obtain ⟨e0, e1, e2⟩ := hagree c
  refine ⟨h0.trans ?_, h1.trans ?_, h2.trans ?_, h3.trans ?_, h4.trans ?_, h5.trans ?_, hr⟩
  · rw [e0, e1, e2]
    funext y
    idx_vars y
    refine Eq.trans (b := Cert.Reference3Ideal.Value.queriesT (Cert.Reference3Ideal.Value.projT (Cert.Kernel3Ideal.Proj.aX m c) (Cert.Kernel3Ideal.Proj.aG m c) (Cert.Kernel3Ideal.Proj.aW m c)) (ix3 y0 y1 y2)) rfl ?_
    rw [Cert.Reference3Ideal.Value.queriesT_apply]
    simp only [Cert.Reference3Ideal.Value.projT_apply]
    exact (Cert.Kernel3Ideal.Proj.queries_array m c y0 y2 y1).symm
  · rw [e0, e1, e2]
    funext y
    idx_vars y
    refine Eq.trans (b := Cert.Reference3Ideal.Value.keyvalsT (Cert.Reference3Ideal.Value.projT (Cert.Kernel3Ideal.Proj.aX m c) (Cert.Kernel3Ideal.Proj.aG m c) (Cert.Kernel3Ideal.Proj.aW m c)) (ix3 y0 y1 y2)) rfl ?_
    rw [Cert.Reference3Ideal.Value.keyvalsT_apply]
    simp only [Cert.Reference3Ideal.Value.projT_apply]
    exact (Cert.Kernel3Ideal.Proj.keyvals_array m c y0 y2 y1).symm
  · rw [e0, e1, e2]
    funext y
    idx_vars y
    refine Eq.trans (b := Cert.Reference3Ideal.Value.keyvalsCutT (Cert.Reference3Ideal.Value.projT (Cert.Kernel3Ideal.Proj.aX m c) (Cert.Kernel3Ideal.Proj.aG m c) (Cert.Kernel3Ideal.Proj.aW m c)) (ix3 y0 y1 y2)) rfl ?_
    rw [Cert.Reference3Ideal.Value.keyvalsCutT_apply]
    simp only [Cert.Reference3Ideal.Value.projT_apply]
    exact (Cert.Kernel3Ideal.Proj.keyvalsCut_array m c y0 y2 y1).symm
  · rw [e0, e1, e2]
    funext y
    idx_vars y
    refine Eq.trans (b := Cert.Reference3Ideal.Value.keyRowsT (Cert.Reference3Ideal.Value.projT (Cert.Kernel3Ideal.Proj.aX m c) (Cert.Kernel3Ideal.Proj.aG m c) (Cert.Kernel3Ideal.Proj.aW m c)) (ix4 y0 y1 y2 y3)) rfl ?_
    rw [Cert.Reference3Ideal.Value.keyRowsT_apply]
    simp only [Cert.Reference3Ideal.Value.projT_apply]
    exact (Cert.Kernel3Ideal.Proj.keyRows_array m c y0 y2 y1 y3).symm
  · rw [e0, e1, e2]
    funext y
    idx_vars y
    refine Eq.trans (b := Cert.Reference3Ideal.Value.cmpRowsT (Cert.Reference3Ideal.Value.projT (Cert.Kernel3Ideal.Proj.aX m c) (Cert.Kernel3Ideal.Proj.aG m c) (Cert.Kernel3Ideal.Proj.aW m c)) (ix3 y0 y1 y2)) rfl ?_
    rw [Cert.Reference3Ideal.Value.cmpRowsT_apply]
    simp only [Cert.Reference3Ideal.Value.projT_apply]
    exact (Cert.Kernel3Ideal.Proj.cmpRows_array m c y0 y1 y2).symm
  · rw [e0, e1, e2]
    funext y
    idx_vars y
    refine Eq.trans (b := Cert.Reference3Ideal.Value.gatesT (Cert.Reference3Ideal.Value.projT (Cert.Kernel3Ideal.Proj.aX m c) (Cert.Kernel3Ideal.Proj.aG m c) (Cert.Kernel3Ideal.Proj.aW m c)) (ix3 y0 y1 y2)) rfl ?_
    rw [Cert.Reference3Ideal.Value.gatesT_apply]
    simp only [Cert.Reference3Ideal.Value.projT_apply]
    exact (Cert.Kernel3Ideal.Proj.gates_array m c y0 y2 y1).symm

end Cert.Proof

end
-- ==== Proof.MobaPromptRef.lean ====
/-
  The reference's input projection (MobaPrompt): the composed terms of its results, by steps, read at an index.
-/
module

public import proofs.«01_k».proof.Proof.ProjMath
public import proofs.«01_k».proof.Proof.Gen.Reference4Ideal.Run
public import Idealize.ShloMosaic.Lib.Pointwise

@[expose] public section

noncomputable section

open Idealize.ShloMosaic Idealize.ShloMosaic.TcCoe Idealize.SL.Sem

namespace Cert.Reference4Ideal.Value

open Cert.Reference4Ideal Cert.Reference4Ideal.Gen Cert.ProjMath

/-- Every row over its root mean square, with a gain, times the weights. -/
def projT (x : FVec Ideal S8x2048x1024 .f32) (g : FVec Ideal S1024 .f32) (w : FVec Ideal S1024x1536 .f32) : FVec Ideal S8x2048x1536 .f32 :=
  Host.dotGeneral dot_S8x2048x1024_S1024x1536_S8x2048x1536_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) w

/-- The scaled queries. -/
def queriesT (p : FVec Ideal S8x2048x1536 .f32) : FVec Ideal S8x1024x2048 .bf16 :=
  truncf .bf16 (transpose S8x1024x2048 [0, 2, 1] (shapeCast _ (mulf (shapeCast _ (extractStridedSlice S8x2048x1024 ![0, 0, 0] p slices_S8x2048x1536_S8x2048x1024_0_0_0) shapeCasts_S8x2048x1024_S8x2048x16x64) (broadcastInDim S8x2048x16x64 ![] bcast_S_S8x2048x16x64 (constant S_ .f32 0x3E000000#32))) shapeCasts_S8x2048x16x64_S8x2048x1024) transposes_S8x2048x1024_S8x1024x2048_0_2_1) bitsLt_bf16_f32

/-- Keys and values. -/
def keyvalsT (p : FVec Ideal S8x2048x1536 .f32) : FVec Ideal S8x512x2048 .f32 :=
  transpose S8x512x2048 [0, 2, 1] (shapeCast _ (shapeCast _ (extractStridedSlice S8x2048x512 ![0, 0, 1024] p slices_S8x2048x1536_S8x2048x512_0_0_1024) shapeCasts_S8x2048x512_S8x2048x2x4x64) shapeCasts_S8x2048x2x4x64_S8x2048x512) transposes_S8x2048x512_S8x512x2048_0_2_1

/-- Keys and values in the short format. -/
def keyvalsCutT (p : FVec Ideal S8x2048x1536 .f32) : FVec Ideal S8x512x2048 .bf16 :=
  truncf .bf16 (transpose S8x512x2048 [0, 2, 1] (shapeCast _ (shapeCast _ (extractStridedSlice S8x2048x512 ![0, 0, 1024] p slices_S8x2048x1536_S8x2048x512_0_0_1024) shapeCasts_S8x2048x512_S8x2048x2x4x64) shapeCasts_S8x2048x2x4x64_S8x2048x512) transposes_S8x2048x512_S8x512x2048_0_2_1) bitsLt_bf16_f32

/-- The keys that are attended, by rows. -/
def keyRowsT (p : FVec Ideal S8x2048x1536 .f32) : FVec Ideal S8x4x2048x64 .bf16 :=
  truncf .bf16 (transpose S8x4x2048x64 [0, 2, 1, 3] (shapeCast _ (extractStridedSlice S8x2048x1x4x64 ![0, 0, 0, 0, 0] (shapeCast _ (extractStridedSlice S8x2048x512 ![0, 0, 1024] p slices_S8x2048x1536_S8x2048x512_0_0_1024) shapeCasts_S8x2048x512_S8x2048x2x4x64) slices_S8x2048x2x4x64_S8x2048x1x4x64_0_0_0_0_0) shapeCasts_S8x2048x1x4x64_S8x2048x4x64) transposes_S8x2048x4x64_S8x4x2048x64_0_2_1_3) bitsLt_bf16_f32

theorem projT_apply (x : FVec Ideal S8x2048x1024 .f32) (g : FVec Ideal S1024 .f32) (w : FVec Ideal S1024x1536 .f32)
    (b : Fin 8) (s : Fin 2048) (l : Fin 1536) :
    projT x g w (ix3 b s l) = entry (fun k => x (ix3 b s k)) (fun k => g (ix1 k)) (fun k => w (ix2 k l)) := by
  unfold entry unit
  pointwise [projT]

theorem queriesT_apply (p : FVec Ideal S8x2048x1536 .f32) (b : Fin 8) (r : Fin 1024) (s : Fin 2048) :
    queriesT p (ix3 b r s) = p (ix3 b s ⟨r.val, by omega⟩) * Ideal.ofBits .f32 0x3E000000#32 := by
  pointwise [queriesT]

theorem keyvalsT_apply (p : FVec Ideal S8x2048x1536 .f32) (b : Fin 8) (r : Fin 512) (s : Fin 2048) :
    keyvalsT p (ix3 b r s) = p (ix3 b s ⟨1024 + r.val, by omega⟩) := by
  pointwise [keyvalsT]

theorem keyvalsCutT_apply (p : FVec Ideal S8x2048x1536 .f32) (b : Fin 8) (r : Fin 512) (s : Fin 2048) :
    keyvalsCutT p (ix3 b r s) = p (ix3 b s ⟨1024 + r.val, by omega⟩) := by
  pointwise [keyvalsCutT]

theorem keyRowsT_apply (p : FVec Ideal S8x2048x1536 .f32) (b : Fin 8) (e : Fin 4) (s : Fin 2048) (d : Fin 64) :
    keyRowsT p (ix4 b e s d) = p (ix3 b s ⟨1024 + 64 * e.val + d.val, by omega⟩) := by
  pointwise [keyRowsT]
  exact congrArg (fun n => p (ix3 b s n)) (Fin.ext (by dsimp only; omega))

end Cert.Reference4Ideal.Value

end
-- ==== Proof.MobaPromptValue.lean ====
/-
  The prompt batch's input projection (MobaPrompt): the blocks a grid point is given, the block it leaves of each result, the
  entries of the arrays, and the claim beside the reference.
-/
module

public import proofs.«01_k».proof.Defs
public import proofs.«01_k».proof.Proof.ProjMath
public import proofs.«01_k».proof.Proof.MobaPromptRef
public import proofs.«01_k».proof.Proof.Gen.Kernel4Ideal.Value
public import Idealize.ShloMosaic.Lib.Pointwise

@[expose] public section

noncomputable section

open Idealize.ShloMosaic Idealize.ShloMosaic.TcCoe Idealize.SL.Sem

namespace Cert.Kernel4Ideal.Proj

open Cert.Kernel4Ideal Cert.Kernel4Ideal.Gen Cert.ProjMath

theorem zero2 : (![0, 0] : Fin 2 → ℕ) = fun _ => 0 := by funext a; fin_cases a <;> rfl
theorem zero3 : (![0, 0, 0] : Fin 3 → ℕ) = fun _ => 0 := by funext a; fin_cases a <;> rfl

/-! ## What the body computes of its blocks -/

theorem norm_apply (x0 : Vec Ideal S1x128x1024 .f32) (x1 : Vec Ideal S1x1024 .f32) (j : Fin 128) (k : Fin 1024) :
    k0_pay2 x0 x1 (ix2 j k) = unit (fun k => x0 (ix3 0 j k)) (fun k => x1 (ix2 0 k)) k := by
  unfold unit
  pointwise [k0_pay2]

theorem queries_pay (x0 : Vec Ideal S1x128x1024 .f32) (x1 : Vec Ideal S1x1024 .f32) (x2 : Vec Ideal S1024x1024 .bf16) (r : Fin 1024) (j : Fin 128) :
    k0_pay3 x0 x1 x2 (ix3 0 r j) = entry (fun k => x0 (ix3 0 j k)) (fun k => x1 (ix2 0 k)) (fun k => x2 (ix2 r k)) * Ideal.ofBits .f32 0x3E000000#32 := by
  have e : k0_pay3 x0 x1 x2 (ix3 0 r j) = (∑ k, x2 (ix2 r k) * k0_pay2 x0 x1 (ix2 j k)) * Ideal.ofBits .f32 0x3E000000#32 := by
    pointwise [k0_pay3]
  rw [e, entry_comm]
  exact congrArg (· * _) (Finset.sum_congr rfl fun k _ => by rw [norm_apply])

theorem keyvals_pay (x0 : Vec Ideal S1x128x1024 .f32) (x1 : Vec Ideal S1x1024 .f32) (x3 : Vec Ideal S512x1024 .bf16) (r : Fin 512) (j : Fin 128) :
    k0_pay4 x0 x1 x3 (ix2 r j) = entry (fun k => x0 (ix3 0 j k)) (fun k => x1 (ix2 0 k)) (fun k => x3 (ix2 r k)) := by
  have e : k0_pay4 x0 x1 x3 (ix2 r j) = ∑ k, x3 (ix2 r k) * k0_pay2 x0 x1 (ix2 j k) := by
    pointwise [k0_pay4]
  rw [e, entry_comm]
  exact Finset.sum_congr rfl fun k _ => by rw [norm_apply]

/-- A block of the stacked key weights. -/
theorem ld_rows (x4 : Vec Ideal S4x1024x64 .bf16) (e : Fin 4) (R : ℕ) (hR : R = e.val) (inb) (k : Fin 1024) (d : Fin 64) :
    View.ld x4 (Rect.unit (s := S4x1024x64) ![R, 0, 0] ![1, 1024, 64] inb) (ix3 0 k d) = x4 (ix3 e k d) := by
  subst hR
  refine congrArg x4 (funext fun a => Fin.ext ?_)
  match a with
  | ⟨0, _⟩ => show e.val + 1 * 0 = e.val; omega
  | ⟨1, _⟩ => show 0 + 1 * k.val = k.val; omega
  | ⟨2, _⟩ => show 0 + 1 * d.val = d.val; omega

/-- A value for every attended key block, row and feature, read at an index of the block. -/
def byRow (f : Fin 4 → Fin 128 → Fin 64 → EReal) : S1x4x128x64.Idx → EReal := fun y => f (y 1) (y 2) (y 3)

theorem rows_piece (f : Fin 4 → Fin 128 → Fin 64 → EReal) (p : Vec Ideal S1x1x128x64 .bf16) (e : Fin 4) (R : ℕ) (hR : R = e.val) (inb)
    (hp : ∀ j d, p (ix4 0 0 j d) = f e j d) (x : S1x1x128x64.Idx) :
    p x = byRow f ((Rect.unit (s := S1x4x128x64) ![0, R, 0, 0] ![1, 1, 128, 64] inb).emb x) := by
  subst hR
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have h1 : (x 1).val < 1 := (x 1).isLt
  refine (congrArg p hx).trans ((hp (x 2) (x 3)).trans ?_)
  unfold byRow
  congr 1
  · apply Fin.ext
    show e.val = e.val + 1 * (x 1).val
    omega
  · apply Fin.ext
    show (x 2).val = 0 + 1 * (x 2).val
    omega
  · apply Fin.ext
    show (x 3).val = 0 + 1 * (x 3).val
    omega

theorem rows_pay0 (N : FVec Ideal S128x1024 .bf16) (W : Vec Ideal S1x1024x64 .bf16) (j : Fin 128) (d : Fin 64) :
    k0_pay8 N W (ix4 0 0 j d) = ∑ k, N (ix2 j k) * W (ix3 0 k d) := by
  pointwise [k0_pay8]

theorem rows_pay1 (N : FVec Ideal S128x1024 .bf16) (W : Vec Ideal S1x1024x64 .bf16) (j : Fin 128) (d : Fin 64) :
    k0_pay9 N W (ix4 0 0 j d) = ∑ k, N (ix2 j k) * W (ix3 0 k d) := by
  pointwise [k0_pay9]

theorem rows_pay2 (N : FVec Ideal S128x1024 .bf16) (W : Vec Ideal S1x1024x64 .bf16) (j : Fin 128) (d : Fin 64) :
    k0_pay10 N W (ix4 0 0 j d) = ∑ k, N (ix2 j k) * W (ix3 0 k d) := by
  pointwise [k0_pay10]

theorem rows_pay3 (N : FVec Ideal S128x1024 .bf16) (W : Vec Ideal S1x1024x64 .bf16) (j : Fin 128) (d : Fin 64) :
    k0_pay1 (k0_pay11 N W) (ix4 0 0 j d) = ∑ k, N (ix2 j k) * W (ix3 0 k d) := by
  pointwise [k0_pay1, k0_pay11]

/-! ## The block a grid point leaves of each result -/

theorem queries_out (x0 : Vec Ideal S1x128x1024 .f32) (x1 : Vec Ideal S1x1024 .f32) (x2 : Vec Ideal S1024x1024 .bf16) (x3 : Vec Ideal S512x1024 .bf16) (x4 : Vec Ideal S4x1024x64 .bf16) (r : Fin 1024) (j : Fin 128) :
    out0_5 x0 x1 x2 x3 x4 (ix3 0 r j) = entry (fun k => x0 (ix3 0 j k)) (fun k => x1 (ix2 0 k)) (fun k => x2 (ix2 r k)) * Ideal.ofBits .f32 0x3E000000#32 := by
  have z0 : View.ld x0 r0_0 = x0 := View.ld_unit_zero (S := S1x128x1024) zero3 _ _
  have z1 : View.ld x1 r0_1 = x1 := View.ld_unit_zero (S := S1x1024) zero2 _ _
  have z2 : View.ld x2 r0_2 = x2 := View.ld_unit_zero (S := S1024x1024) zero2 _ _
  unfold out0_5
  rw [z0, z1, z2]
  exact (congrFun (View.canon_unit_zero (S := S1x1024x128) zero3 _ _) _).trans (queries_pay x0 x1 x2 r j)

theorem keyvals_out (x0 : Vec Ideal S1x128x1024 .f32) (x1 : Vec Ideal S1x1024 .f32) (x2 : Vec Ideal S1024x1024 .bf16) (x3 : Vec Ideal S512x1024 .bf16) (x4 : Vec Ideal S4x1024x64 .bf16) (r : Fin 512) (j : Fin 128) :
    out0_6 x0 x1 x2 x3 x4 (ix3 0 r j) = entry (fun k => x0 (ix3 0 j k)) (fun k => x1 (ix2 0 k)) (fun k => x3 (ix2 r k)) := by
  have z0 : View.ld x0 r0_0 = x0 := View.ld_unit_zero (S := S1x128x1024) zero3 _ _
  have z1 : View.ld x1 r0_1 = x1 := View.ld_unit_zero (S := S1x1024) zero2 _ _
  have z3 : View.ld x3 r0_4 = x3 := View.ld_unit_zero (S := S512x1024) zero2 _ _
  unfold out0_6
  rw [z0, z1, z3]
  refine (congrFun (View.canon_unit_zero (S := S1x512x128) zero3 _ _) _).trans ?_
  have e : k0_pay5 x0 x1 x3 (ix3 0 r j) = k0_pay4 x0 x1 x3 (ix2 r j) := by
    pointwise [k0_pay5]
  exact e.trans (keyvals_pay x0 x1 x3 r j)

theorem keyvalsCut_out (x0 : Vec Ideal S1x128x1024 .f32) (x1 : Vec Ideal S1x1024 .f32) (x2 : Vec Ideal S1024x1024 .bf16) (x3 : Vec Ideal S512x1024 .bf16) (x4 : Vec Ideal S4x1024x64 .bf16) (r : Fin 512) (j : Fin 128) :
    out0_7 x0 x1 x2 x3 x4 (ix3 0 r j) = entry (fun k => x0 (ix3 0 j k)) (fun k => x1 (ix2 0 k)) (fun k => x3 (ix2 r k)) := by
  have z0 : View.ld x0 r0_0 = x0 := View.ld_unit_zero (S := S1x128x1024) zero3 _ _
  have z1 : View.ld x1 r0_1 = x1 := View.ld_unit_zero (S := S1x1024) zero2 _ _
  have z3 : View.ld x3 r0_4 = x3 := View.ld_unit_zero (S := S512x1024) zero2 _ _
  unfold out0_7
  rw [z0, z1, z3]
  refine (congrFun (View.canon_unit_zero (S := S1x512x128) zero3 _ _) _).trans ?_
  have e : k0_pay7 (k0_pay6 x0 x1 x3) (ix3 0 r j) = k0_pay4 x0 x1 x3 (ix2 r j) := by
    pointwise [k0_pay7, k0_pay6]
  exact e.trans (keyvals_pay x0 x1 x3 r j)

/-- The normalised rows under the name the stores give them. -/
theorem rows_norm (x0 : Vec Ideal S1x128x1024 .f32) (x1 : Vec Ideal S1x1024 .f32) (x2 : Vec Ideal S1024x1024 .bf16) (x3 : Vec Ideal S512x1024 .bf16) (x4 : Vec Ideal S4x1024x64 .bf16) (j : Fin 128) (k : Fin 1024) :
    k0_pay12 x0 x1 x2 x3 x4 (ix2 j k) = unit (fun k => x0 (ix3 0 j k)) (fun k => x1 (ix2 0 k)) k := by
  have z0 : View.ld x0 r0_0 = x0 := View.ld_unit_zero (S := S1x128x1024) zero3 _ _
  have z1 : View.ld x1 r0_1 = x1 := View.ld_unit_zero (S := S1x1024) zero2 _ _
  unfold k0_pay12
  rw [z0, z1]
  exact norm_apply x0 x1 j k

theorem keyRows_out (x0 : Vec Ideal S1x128x1024 .f32) (x1 : Vec Ideal S1x1024 .f32) (x2 : Vec Ideal S1024x1024 .bf16) (x3 : Vec Ideal S512x1024 .bf16) (x4 : Vec Ideal S4x1024x64 .bf16) (e : Fin 4) (j : Fin 128) (d : Fin 64) :
    out0_8 x0 x1 x2 x3 x4 (ix4 0 e j d) = entry (fun k => x0 (ix3 0 j k)) (fun k => x1 (ix2 0 k)) (fun k => x4 (ix3 e k d)) := by
  unfold out0_8
  refine View.canon_apply_of_pieces (Val := Elt Ideal) (e := .bf16) (byRow fun e j d => entry (fun k => x0 (ix3 0 j k)) (fun k => x1 (ix2 0 k)) (fun k => x4 (ix3 e k d))) _ (fun p hp x => ?_) (ix4 0 e j d) (cover0_8 _ _ _ _ _)
  simp only [List.mem_cons, List.mem_nil_iff, or_false] at hp
  rcases hp with rfl | rfl | rfl | rfl
  · refine rows_piece _ _ 3 3 rfl inb_S1x4x128x64_S1x1x128x64_0_3_0_0 (fun j d => (rows_pay3 _ _ j d).trans ?_) x
    unfold entry
    exact Finset.sum_congr rfl fun k _ => congrArg₂ (· * ·) (rows_norm x0 x1 x2 x3 x4 j k) (ld_rows x4 3 3 rfl inb_S4x1024x64_S1x1024x64_3_0_0 k d)
  · refine rows_piece _ _ 2 2 rfl inb_S1x4x128x64_S1x1x128x64_0_2_0_0 (fun j d => (rows_pay2 _ _ j d).trans ?_) x
    unfold entry
    exact Finset.sum_congr rfl fun k _ => congrArg₂ (· * ·) (rows_norm x0 x1 x2 x3 x4 j k) (ld_rows x4 2 2 rfl inb_S4x1024x64_S1x1024x64_2_0_0 k d)
  · refine rows_piece _ _ 1 1 rfl inb_S1x4x128x64_S1x1x128x64_0_1_0_0 (fun j d => (rows_pay1 _ _ j d).trans ?_) x
    unfold entry
    exact Finset.sum_congr rfl fun k _ => congrArg₂ (· * ·) (rows_norm x0 x1 x2 x3 x4 j k) (ld_rows x4 1 1 rfl inb_S4x1024x64_S1x1024x64_1_0_0 k d)
  · refine rows_piece _ _ 0 0 rfl inb_S1x4x128x64_S1x1x128x64_0_0_0_0 (fun j d => (rows_pay0 _ _ j d).trans ?_) x
    unfold entry
    exact Finset.sum_congr rfl fun k _ => congrArg₂ (· * ·) (rows_norm x0 x1 x2 x3 x4 j k) (ld_rows x4 0 0 rfl inb_S4x1024x64_S1x1024x64_0_0_0 k d)

/-! ## The arrays the host code prepares -/

variable (m : (ℓ : Loc nD τ sig) → Buf (Elt Ideal) ℓ) (c : Dev nD)

/-- The argument arrays, named. -/
abbrev aX : FVec Ideal S8x2048x1024 .f32 := m ((c : Thread nD τ).loc main_arg0)
abbrev aG : FVec Ideal S1024 .f32 := m ((c : Thread nD τ).loc main_arg1)
abbrev aW : FVec Ideal S1024x1536 .f32 := m ((c : Thread nD τ).loc main_arg2)

theorem gain_at (k : Fin 1024) : (V m c main_v16 : FVec Ideal S1x1024 .f32) (ix2 0 k) = aG m c (ix1 k) := by
  unfold_abbrev_sides
  after_results
  pointwise []

theorem wq_at (r k : Fin 1024) : (V m c main_v2 : FVec Ideal S1024x1024 .bf16) (ix2 r k) = aW m c (ix2 k ⟨r.val, by omega⟩) := by
  unfold_abbrev_sides
  after_results
  pointwise []

theorem wkv_at (r : Fin 512) (k : Fin 1024) : (V m c main_v5 : FVec Ideal S512x1024 .bf16) (ix2 r k) = aW m c (ix2 k ⟨1024 + r.val, by omega⟩) := by
  unfold_abbrev_sides
  after_results
  pointwise []

set_option maxHeartbeats 4000000 in
theorem wk_at (e : Fin 4) (k : Fin 1024) (d : Fin 64) (R : Fin 1536) (hR : R.val = 1024 + 64 * e.val + d.val) :
    (V m c main_v15 : FVec Ideal S4x1024x64 .bf16) (ix3 e k d) = aW m c (ix2 k R) := by
  unfold_abbrev_sides
  after_results
  pointwise []
  split_ifs <;> first
    | omega
    | exact congrArg (fun n => aW m c (ix2 k n)) (Fin.ext (by first | omega | (dsimp only; omega)))
    | (after_results_simp
       pointwise []
       exact congrArg (fun n => aW m c (ix2 k n)) (Fin.ext (by first | omega | (dsimp only; omega))))

/-! ## The blocks a grid point is given -/

theorem where0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 3) = 0 ∧ win0_4.index t (1 : Fin 3) = 0 ∧ win0_4.index t (2 : Fin 3) = 0 :=
  (by decide +kernel : ∀ t : Fin grid0.N, _)
theorem where5 : ∀ t : Fin cfg0.N, win0_5.index t (0 : Fin 3) = t.val / 16 ∧ win0_5.index t (1 : Fin 3) = 0 ∧ win0_5.index t (2 : Fin 3) = t.val % 16 ∧ (cfg0.win 5).flush t = true :=
  (by decide +kernel : ∀ t : Fin grid0.N, _)
theorem where6 : ∀ t : Fin cfg0.N, win0_6.index t (0 : Fin 3) = t.val / 16 ∧ win0_6.index t (1 : Fin 3) = 0 ∧ win0_6.index t (2 : Fin 3) = t.val % 16 ∧ (cfg0.win 6).flush t = true :=
  (by decide +kernel : ∀ t : Fin grid0.N, _)
theorem where7 : ∀ t : Fin cfg0.N, win0_7.index t (0 : Fin 3) = t.val / 16 ∧ win0_7.index t (1 : Fin 3) = 0 ∧ win0_7.index t (2 : Fin 3) = t.val % 16 ∧ (cfg0.win 7).flush t = true :=
  (by decide +kernel : ∀ t : Fin grid0.N, _)
theorem where8 : ∀ t : Fin cfg0.N, win0_8.index t (0 : Fin 4) = t.val / 16 ∧ win0_8.index t (1 : Fin 4) = 0 ∧ win0_8.index t (2 : Fin 4) = t.val % 16 ∧ win0_8.index t (3 : Fin 4) = 0 ∧ (cfg0.win 8).flush t = true :=
  (by decide +kernel : ∀ t : Fin grid0.N, _)

theorem points (t : Fin cfg0.N) : t.val < 128 := lt_of_lt_of_eq t.isLt (show cfg0.N = 128 from N_0)

/-- The batch entry of a grid point. -/
def batch (t : Fin cfg0.N) : Fin 8 := ⟨t.val / 16, by have := points t; omega⟩
/-- The position of a grid point's row. -/
def at_ (t : Fin cfg0.N) (j : Fin 128) : Fin 2048 := ⟨t.val % 16 * 128 + j.val, by omega⟩

theorem blk0 (t : Fin cfg0.N) (j : Fin 128) (k : Fin 1024) :
    (iblk m c 0 t : Vec Ideal S1x128x1024 .f32) (ix3 0 j k) = aX m c (ix3 (batch t) (at_ t j) k) := by
  obtain ⟨h0, h1, h2⟩ := where0 t
  have e : (((cfg0.win 0).blk t).view.emb (ix3 0 j k) : S8x2048x1024.Idx) = ix3 (batch t) (at_ t j) k := by
    funext a; apply Fin.ext
    match a with
    | ⟨0, _⟩ => show win0_0.index t (0 : Fin 3) * 1 + 1 * 0 = t.val / 16; omega
    | ⟨1, _⟩ => show win0_0.index t (1 : Fin 3) * 128 + 1 * j.val = t.val % 16 * 128 + j.val; omega
    | ⟨2, _⟩ => show win0_0.index t (2 : Fin 3) * 1024 + 1 * k.val = k.val; omega
  show (V m c main_arg0 : FVec Ideal S8x2048x1024 .f32) (((cfg0.win 0).blk t).view.emb (ix3 0 j k)) = _
  rw [e, V_main_arg0]

theorem blk1 (t : Fin cfg0.N) (k : Fin 1024) :
    (iblk m c 1 t : Vec Ideal S1x1024 .f32) (ix2 0 k) = aG m c (ix1 k) := by
  obtain ⟨h0, h1⟩ := where1 t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v16 : FVec Ideal S1x1024 .f32) (((cfg0.win 1).blk t).view.emb (ix2 0 k)) = _
  rw [e]
  exact gain_at m c k

theorem blk2 (t : Fin cfg0.N) (r k : Fin 1024) :
    (iblk m c 2 t : Vec Ideal S1024x1024 .bf16) (ix2 r k) = aW m c (ix2 k ⟨r.val, by omega⟩) := by
  obtain ⟨h0, h1⟩ := where2 t
  have e : (((cfg0.win 2).blk t).view.emb (ix2 r k) : S1024x1024.Idx) = ix2 r k := by
    funext a; apply Fin.ext
    match a with
    | ⟨0, _⟩ => show win0_2.index t (0 : Fin 2) * 1024 + 1 * r.val = r.val; omega
    | ⟨1, _⟩ => show win0_2.index t (1 : Fin 2) * 1024 + 1 * k.val = k.val; omega
  show (V m c main_v2 : FVec Ideal S1024x1024 .bf16) (((cfg0.win 2).blk t).view.emb (ix2 r k)) = _
  rw [e]
  exact wq_at m c r k

theorem blk3 (t : Fin cfg0.N) (r : Fin 512) (k : Fin 1024) :
    (iblk m c 3 t : Vec Ideal S512x1024 .bf16) (ix2 r k) = aW m c (ix2 k ⟨1024 + r.val, by omega⟩) := by
  obtain ⟨h0, h1⟩ := where3 t
  have e : (((cfg0.win 3).blk t).view.emb (ix2 r k) : S512x1024.Idx) = ix2 r k := by
    funext a; apply Fin.ext
    match a with
    | ⟨0, _⟩ => show win0_3.index t (0 : Fin 2) * 512 + 1 * r.val = r.val; omega
    | ⟨1, _⟩ => show win0_3.index t (1 : Fin 2) * 1024 + 1 * k.val = k.val; omega
  show (V m c main_v5 : FVec Ideal S512x1024 .bf16) (((cfg0.win 3).blk t).view.emb (ix2 r k)) = _
  rw [e]
  exact wkv_at m c r k

theorem blk4 (t : Fin cfg0.N) (e : Fin 4) (k : Fin 1024) (d : Fin 64) :
    (iblk m c 4 t : Vec Ideal S4x1024x64 .bf16) (ix3 e k d) = aW m c (ix2 k ⟨1024 + 64 * e.val + d.val, by omega⟩) := by
  obtain ⟨h0, h1, h2⟩ := where4 t
  have he : (((cfg0.win 4).blk t).view.emb (ix3 e k d) : S4x1024x64.Idx) = ix3 e k d := by
    funext a; apply Fin.ext
    match a with
    | ⟨0, _⟩ => show win0_4.index t (0 : Fin 3) * 4 + 1 * e.val = e.val; omega
    | ⟨1, _⟩ => show win0_4.index t (1 : Fin 3) * 1024 + 1 * k.val = k.val; omega
    | ⟨2, _⟩ => show win0_4.index t (2 : Fin 3) * 64 + 1 * d.val = d.val; omega
  show (V m c main_v15 : FVec Ideal S4x1024x64 .bf16) (((cfg0.win 4).blk t).view.emb (ix3 e k d)) = _
  rw [he]
  exact wk_at m c e k d _ rfl

/-! ## The arrays the call returns -/

theorem queries_array (b : Fin 8) (s : Fin 2048) (r : Fin 1024) :
    ((dats m 0 c).arrAt 5 cfg0.N : FVec Ideal S8x1024x2048 .bf16) (ix3 b r s)
      = entry (fun k => aX m c (ix3 b s k)) (fun k => aG m c (ix1 k)) (fun k => aW m c (ix2 k ⟨r.val, by omega⟩)) * Ideal.ofBits .f32 0x3E000000#32 := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where5 t
  let j : Fin 128 := ⟨s.val % 128, by omega⟩
  have he : (((cfg0.win 5).blk t).view.emb (ix3 0 r j) : S8x1024x2048.Idx) = ix3 b r s := by
    funext a; apply Fin.ext
    match a with
    | ⟨0, _⟩ => show win0_5.index t (0 : Fin 3) * 1 + 1 * 0 = b.val; omega
    | ⟨1, _⟩ => show win0_5.index t (1 : Fin 3) * 1024 + 1 * r.val = r.val; omega
    | ⟨2, _⟩ => show win0_5.index t (2 : Fin 3) * 128 + 1 * (s.val % 128) = s.val; omega
  have hb := congrFun (Value.blocks5 m c t hf) (ix3 0 r j)
  have hl : ((dats m 0 c).arrAt 5 cfg0.N : FVec Ideal S8x1024x2048 .bf16) (ix3 b r s)
      = ((cfg0.win 5).blk t).view.read (Elt Ideal) ((dats m 0 c).arrAt 5 cfg0.N) (ix3 0 r j) := by
    show _ = ((dats m 0 c).arrAt 5 cfg0.N : FVec Ideal S8x1024x2048 .bf16) (((cfg0.win 5).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed5]
  refine (queries_out (iblk m c 0 t) (iblk m c 1 t) (iblk m c 2 t) (iblk m c 3 t) (iblk m c 4 t) r j).trans ?_
  exact congrArg (· * _) (entry_congr hx (fun k => blk1 m c t k) (fun k => blk2 m c t r k))

theorem keyvals_array (b : Fin 8) (s : Fin 2048) (r : Fin 512) :
    ((dats m 0 c).arrAt 6 cfg0.N : FVec Ideal S8x512x2048 .f32) (ix3 b r s)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where6 t
  let j : Fin 128 := ⟨s.val % 128, by omega⟩
  have he : (((cfg0.win 6).blk t).view.emb (ix3 0 r j) : S8x512x2048.Idx) = ix3 b r s := by
    funext a; apply Fin.ext
    match a with
    | ⟨0, _⟩ => show win0_6.index t (0 : Fin 3) * 1 + 1 * 0 = b.val; omega
    | ⟨1, _⟩ => show win0_6.index t (1 : Fin 3) * 512 + 1 * r.val = r.val; omega
    | ⟨2, _⟩ => show win0_6.index t (2 : Fin 3) * 128 + 1 * (s.val % 128) = s.val; omega
  have hb := congrFun (Value.blocks6 m c t hf) (ix3 0 r j)
  have hl : ((dats m 0 c).arrAt 6 cfg0.N : FVec Ideal S8x512x2048 .f32) (ix3 b r s)
      = ((cfg0.win 6).blk t).view.read (Elt Ideal) ((dats m 0 c).arrAt 6 cfg0.N) (ix3 0 r j) := by
    show _ = ((dats m 0 c).arrAt 6 cfg0.N : FVec Ideal S8x512x2048 .f32) (((cfg0.win 6).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed6]
  refine (keyvals_out (iblk m c 0 t) (iblk m c 1 t) (iblk m c 2 t) (iblk m c 3 t) (iblk m c 4 t) r j).trans ?_
  exact entry_congr hx (fun k => blk1 m c t k) (fun k => blk3 m c t r k)

theorem keyvalsCut_array (b : Fin 8) (s : Fin 2048) (r : Fin 512) :
    ((dats m 0 c).arrAt 7 cfg0.N : FVec Ideal S8x512x2048 .bf16) (ix3 b r s)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where7 t
  let j : Fin 128 := ⟨s.val % 128, by omega⟩
  have he : (((cfg0.win 7).blk t).view.emb (ix3 0 r j) : S8x512x2048.Idx) = ix3 b r s := by
    funext a; apply Fin.ext
    match a with
    | ⟨0, _⟩ => show win0_7.index t (0 : Fin 3) * 1 + 1 * 0 = b.val; omega
    | ⟨1, _⟩ => show win0_7.index t (1 : Fin 3) * 512 + 1 * r.val = r.val; omega
    | ⟨2, _⟩ => show win0_7.index t (2 : Fin 3) * 128 + 1 * (s.val % 128) = s.val; omega
  have hb := congrFun (Value.blocks7 m c t hf) (ix3 0 r j)
  have hl : ((dats m 0 c).arrAt 7 cfg0.N : FVec Ideal S8x512x2048 .bf16) (ix3 b r s)
      = ((cfg0.win 7).blk t).view.read (Elt Ideal) ((dats m 0 c).arrAt 7 cfg0.N) (ix3 0 r j) := by
    show _ = ((dats m 0 c).arrAt 7 cfg0.N : FVec Ideal S8x512x2048 .bf16) (((cfg0.win 7).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed7]
  refine (keyvalsCut_out (iblk m c 0 t) (iblk m c 1 t) (iblk m c 2 t) (iblk m c 3 t) (iblk m c 4 t) r j).trans ?_
  exact entry_congr hx (fun k => blk1 m c t k) (fun k => blk3 m c t r k)

theorem keyRows_array (b : Fin 8) (s : Fin 2048) (e : Fin 4) (d : Fin 64) :
    ((dats m 0 c).arrAt 8 cfg0.N : FVec Ideal S8x4x2048x64 .bf16) (ix4 b e s d)
      = entry (fun k => aX m c (ix3 b s k)) (fun k => aG m c (ix1 k)) (fun k => aW m c (ix2 k ⟨1024 + 64 * e.val + d.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, h3, hf⟩ := where8 t
  let j : Fin 128 := ⟨s.val % 128, by omega⟩
  have he : (((cfg0.win 8).blk t).view.emb (ix4 0 e j d) : S8x4x2048x64.Idx) = ix4 b e s d := by
    funext a; apply Fin.ext
    match a with
    | ⟨0, _⟩ => show win0_8.index t (0 : Fin 4) * 1 + 1 * 0 = b.val; omega
    | ⟨1, _⟩ => show win0_8.index t (1 : Fin 4) * 4 + 1 * e.val = e.val; omega
    | ⟨2, _⟩ => show win0_8.index t (2 : Fin 4) * 128 + 1 * (s.val % 128) = s.val; omega
    | ⟨3, _⟩ => show win0_8.index t (3 : Fin 4) * 64 + 1 * d.val = d.val; omega
  have hb := congrFun (Value.blocks8 m c t hf) (ix4 0 e j d)
  have hl : ((dats m 0 c).arrAt 8 cfg0.N : FVec Ideal S8x4x2048x64 .bf16) (ix4 b e s d)
      = ((cfg0.win 8).blk t).view.read (Elt Ideal) ((dats m 0 c).arrAt 8 cfg0.N) (ix4 0 e j d) := by
    show _ = ((dats m 0 c).arrAt 8 cfg0.N : FVec Ideal S8x4x2048x64 .bf16) (((cfg0.win 8).blk t).view.emb (ix4 0 e j d))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed8]
  refine (keyRows_out (iblk m c 0 t) (iblk m c 1 t) (iblk m c 2 t) (iblk m c 3 t) (iblk m c 4 t) e j d).trans ?_
  exact entry_congr hx (fun k => blk1 m c t k) (fun k => blk4 m c t e k d)

end Cert.Kernel4Ideal.Proj

namespace Cert.Proof

/-- The projection: kernel and reference end at the same arrays. -/
theorem moba_prompt_algebraic : Cert.algebraic_Kernel4Ideal_Reference4Ideal := by
  intro m ρ m' ρ' _ hagree
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, Cert.Kernel4Ideal.Value.run_blocks (F := Ideal) m ρ, ?_⟩
  refine (θ_run _ _ _).mono (fun _ h c => ?_) (Cert.Reference4Ideal.Value.run (F := Ideal) m' ρ')
  obtain ⟨h0, h1, h2, h3, hr⟩ := h c
  obtain ⟨e0, e1, e2⟩ := hagree c
  refine ⟨h0.trans ?_, h1.trans ?_, h2.trans ?_, h3.trans ?_, hr⟩
  · rw [e0, e1, e2]
    funext y
    idx_vars y
    refine Eq.trans (b := Cert.Reference4Ideal.Value.queriesT (Cert.Reference4Ideal.Value.projT (Cert.Kernel4Ideal.Proj.aX m c) (Cert.Kernel4Ideal.Proj.aG m c) (Cert.Kernel4Ideal.Proj.aW m c)) (ix3 y0 y1 y2)) rfl ?_
    rw [Cert.Reference4Ideal.Value.queriesT_apply]
    simp only [Cert.Reference4Ideal.Value.projT_apply]
    exact (Cert.Kernel4Ideal.Proj.queries_array m c y0 y2 y1).symm
  · rw [e0, e1, e2]
    funext y
    idx_vars y
    refine Eq.trans (b := Cert.Reference4Ideal.Value.keyvalsT (Cert.Reference4Ideal.Value.projT (Cert.Kernel4Ideal.Proj.aX m c) (Cert.Kernel4Ideal.Proj.aG m c) (Cert.Kernel4Ideal.Proj.aW m c)) (ix3 y0 y1 y2)) rfl ?_
    rw [Cert.Reference4Ideal.Value.keyvalsT_apply]
    simp only [Cert.Reference4Ideal.Value.projT_apply]
    exact (Cert.Kernel4Ideal.Proj.keyvals_array m c y0 y2 y1).symm
  · rw [e0, e1, e2]
    funext y
    idx_vars y
    refine Eq.trans (b := Cert.Reference4Ideal.Value.keyvalsCutT (Cert.Reference4Ideal.Value.projT (Cert.Kernel4Ideal.Proj.aX m c) (Cert.Kernel4Ideal.Proj.aG m c) (Cert.Kernel4Ideal.Proj.aW m c)) (ix3 y0 y1 y2)) rfl ?_
    rw [Cert.Reference4Ideal.Value.keyvalsCutT_apply]
    simp only [Cert.Reference4Ideal.Value.projT_apply]
    exact (Cert.Kernel4Ideal.Proj.keyvalsCut_array m c y0 y2 y1).symm
  · rw [e0, e1, e2]
    funext y
    idx_vars y
    refine Eq.trans (b := Cert.Reference4Ideal.Value.keyRowsT (Cert.Reference4Ideal.Value.projT (Cert.Kernel4Ideal.Proj.aX m c) (Cert.Kernel4Ideal.Proj.aG m c) (Cert.Kernel4Ideal.Proj.aW m c)) (ix4 y0 y1 y2 y3)) rfl ?_
    rw [Cert.Reference4Ideal.Value.keyRowsT_apply]
    simp only [Cert.Reference4Ideal.Value.projT_apply]
    exact (Cert.Kernel4Ideal.Proj.keyRows_array m c y0 y2 y1 y3).symm

end Cert.Proof

end
-- ==== Proof.SwaPromptRef.lean ====
/-
  The reference's input projection (SwaPrompt): the composed terms of its results, by steps, read at an index.
-/
module

public import proofs.«01_k».proof.Proof.ProjMath
public import proofs.«01_k».proof.Proof.Gen.Reference5Ideal.Run
public import Idealize.ShloMosaic.Lib.Pointwise

@[expose] public section

noncomputable section

open Idealize.ShloMosaic Idealize.ShloMosaic.TcCoe Idealize.SL.Sem

namespace Cert.Reference5Ideal.Value

open Cert.Reference5Ideal Cert.Reference5Ideal.Gen Cert.ProjMath

/-- Every row over its root mean square, with a gain, times the weights. -/
def projT (x : FVec Ideal S8x2048x1024 .f32) (g : FVec Ideal S1024 .f32) (w : FVec Ideal S1024x1280 .f32) : FVec Ideal S8x2048x1280 .f32 :=
  Host.dotGeneral dot_S8x2048x1024_S1024x1280_S8x2048x1280_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) w

/-- The scaled queries. -/
def queriesT (p : FVec Ideal S8x2048x1280 .f32) : FVec Ideal S8x1024x2048 .bf16 :=
  truncf .bf16 (transpose S8x1024x2048 [0, 2, 1] (shapeCast _ (mulf (shapeCast _ (extractStridedSlice S8x2048x1024 ![0, 0, 0] p slices_S8x2048x1280_S8x2048x1024_0_0_0) shapeCasts_S8x2048x1024_S8x2048x16x64) (broadcastInDim S8x2048x16x64 ![] bcast_S_S8x2048x16x64 (constant S_ .f32 0x3E000000#32))) shapeCasts_S8x2048x16x64_S8x2048x1024) transposes_S8x2048x1024_S8x1024x2048_0_2_1) bitsLt_bf16_f32

/-- Keys and values. -/
def keyvalsT (p : FVec Ideal S8x2048x1280 .f32) : FVec Ideal S8x256x2048 .f32 :=
  transpose S8x256x2048 [0, 2, 1] (shapeCast _ (shapeCast _ (extractStridedSlice S8x2048x256 ![0, 0, 1024] p slices_S8x2048x1280_S8x2048x256_0_0_1024) shapeCasts_S8x2048x256_S8x2048x2x2x64) shapeCasts_S8x2048x2x2x64_S8x2048x256) transposes_S8x2048x256_S8x256x2048_0_2_1

/-- Keys and values in the short format. -/
def keyvalsCutT (p : FVec Ideal S8x2048x1280 .f32) : FVec Ideal S8x256x2048 .bf16 :=
  truncf .bf16 (transpose S8x256x2048 [0, 2, 1] (shapeCast _ (shapeCast _ (extractStridedSlice S8x2048x256 ![0, 0, 1024] p slices_S8x2048x1280_S8x2048x256_0_0_1024) shapeCasts_S8x2048x256_S8x2048x2x2x64) shapeCasts_S8x2048x2x2x64_S8x2048x256) transposes_S8x2048x256_S8x256x2048_0_2_1) bitsLt_bf16_f32

/-- The keys that are attended, by rows. -/
def keyRowsT (p : FVec Ideal S8x2048x1280 .f32) : FVec Ideal S8x2x2048x64 .bf16 :=
  truncf .bf16 (transpose S8x2x2048x64 [0, 2, 1, 3] (shapeCast _ (extractStridedSlice S8x2048x1x2x64 ![0, 0, 0, 0, 0] (shapeCast _ (extractStridedSlice S8x2048x256 ![0, 0, 1024] p slices_S8x2048x1280_S8x2048x256_0_0_1024) shapeCasts_S8x2048x256_S8x2048x2x2x64) slices_S8x2048x2x2x64_S8x2048x1x2x64_0_0_0_0_0) shapeCasts_S8x2048x1x2x64_S8x2048x2x64) transposes_S8x2048x2x64_S8x2x2048x64_0_2_1_3) bitsLt_bf16_f32

theorem projT_apply (x : FVec Ideal S8x2048x1024 .f32) (g : FVec Ideal S1024 .f32) (w : FVec Ideal S1024x1280 .f32)
    (b : Fin 8) (s : Fin 2048) (l : Fin 1280) :
    projT x g w (ix3 b s l) = entry (fun k => x (ix3 b s k)) (fun k => g (ix1 k)) (fun k => w (ix2 k l)) := by
  unfold entry unit
  pointwise [projT]

theorem queriesT_apply (p : FVec Ideal S8x2048x1280 .f32) (b : Fin 8) (r : Fin 1024) (s : Fin 2048) :
    queriesT p (ix3 b r s) = p (ix3 b s ⟨r.val, by omega⟩) * Ideal.ofBits .f32 0x3E000000#32 := by
  pointwise [queriesT]

theorem keyvalsT_apply (p : FVec Ideal S8x2048x1280 .f32) (b : Fin 8) (r : Fin 256) (s : Fin 2048) :
    keyvalsT p (ix3 b r s) = p (ix3 b s ⟨1024 + r.val, by omega⟩) := by
  pointwise [keyvalsT]

theorem keyvalsCutT_apply (p : FVec Ideal S8x2048x1280 .f32) (b : Fin 8) (r : Fin 256) (s : Fin 2048) :
    keyvalsCutT p (ix3 b r s) = p (ix3 b s ⟨1024 + r.val, by omega⟩) := by
  pointwise [keyvalsCutT]

theorem keyRowsT_apply (p : FVec Ideal S8x2048x1280 .f32) (b : Fin 8) (e : Fin 2) (s : Fin 2048) (d : Fin 64) :
    keyRowsT p (ix4 b e s d) = p (ix3 b s ⟨1024 + 64 * e.val + d.val, by omega⟩) := by
  pointwise [keyRowsT]
  exact congrArg (fun n => p (ix3 b s n)) (Fin.ext (by dsimp only; omega))

end Cert.Reference5Ideal.Value

end
-- ==== Proof.SwaPromptValue.lean ====
/-
  The prompt batch's input projection (SwaPrompt): the blocks a grid point is given, the block it leaves of each result, the
  entries of the arrays, and the claim beside the reference.
-/
module

public import proofs.«01_k».proof.Defs
public import proofs.«01_k».proof.Proof.ProjMath
public import proofs.«01_k».proof.Proof.SwaPromptRef
public import proofs.«01_k».proof.Proof.Gen.Kernel5Ideal.Value
public import Idealize.ShloMosaic.Lib.Pointwise

@[expose] public section

noncomputable section

open Idealize.ShloMosaic Idealize.ShloMosaic.TcCoe Idealize.SL.Sem

namespace Cert.Kernel5Ideal.Proj

open Cert.Kernel5Ideal Cert.Kernel5Ideal.Gen Cert.ProjMath

theorem zero2 : (![0, 0] : Fin 2 → ℕ) = fun _ => 0 := by funext a; fin_cases a <;> rfl
theorem zero3 : (![0, 0, 0] : Fin 3 → ℕ) = fun _ => 0 := by funext a; fin_cases a <;> rfl

/-! ## What the body computes of its blocks -/

theorem norm_apply (x0 : Vec Ideal S1x128x1024 .f32) (x1 : Vec Ideal S1x1024 .f32) (j : Fin 128) (k : Fin 1024) :
    k0_pay4 x0 x1 (ix2 j k) = unit (fun k => x0 (ix3 0 j k)) (fun k => x1 (ix2 0 k)) k := by
  unfold unit
  pointwise [k0_pay4]

theorem queries_pay (x0 : Vec Ideal S1x128x1024 .f32) (x1 : Vec Ideal S1x1024 .f32) (x2 : Vec Ideal S1024x1024 .bf16) (r : Fin 1024) (j : Fin 128) :
    k0_pay5 x0 x1 x2 (ix3 0 r j) = entry (fun k => x0 (ix3 0 j k)) (fun k => x1 (ix2 0 k)) (fun k => x2 (ix2 r k)) * Ideal.ofBits .f32 0x3E000000#32 := by
  have e : k0_pay5 x0 x1 x2 (ix3 0 r j) = (∑ k, x2 (ix2 r k) * k0_pay4 x0 x1 (ix2 j k)) * Ideal.ofBits .f32 0x3E000000#32 := by
    pointwise [k0_pay5]
  rw [e, entry_comm]
  exact congrArg (· * _) (Finset.sum_congr rfl fun k _ => by rw [norm_apply])

theorem keyvals_pay (x0 : Vec Ideal S1x128x1024 .f32) (x1 : Vec Ideal S1x1024 .f32) (x3 : Vec Ideal S256x1024 .bf16) (r : Fin 256) (j : Fin 128) :
    k0_pay6 x0 x1 x3 (ix2 r j) = entry (fun k => x0 (ix3 0 j k)) (fun k => x1 (ix2 0 k)) (fun k => x3 (ix2 r k)) := by
  have e : k0_pay6 x0 x1 x3 (ix2 r j) = ∑ k, x3 (ix2 r k) * k0_pay4 x0 x1 (ix2 j k) := by
    pointwise [k0_pay6]
  rw [e, entry_comm]
  exact Finset.sum_congr rfl fun k _ => by rw [norm_apply]

/-- A block of the stacked key weights. -/
theorem ld_rows (x4 : Vec Ideal S2x1024x64 .bf16) (e : Fin 2) (R : ℕ) (hR : R = e.val) (inb) (k : Fin 1024) (d : Fin 64) :
    View.ld x4 (Rect.unit (s := S2x1024x64) ![R, 0, 0] ![1, 1024, 64] inb) (ix3 0 k d) = x4 (ix3 e k d) := by
  subst hR
  refine congrArg x4 (funext fun a => Fin.ext ?_)
  match a with
  | ⟨0, _⟩ => show e.val + 1 * 0 = e.val; omega
  | ⟨1, _⟩ => show 0 + 1 * k.val = k.val; omega
  | ⟨2, _⟩ => show 0 + 1 * d.val = d.val; omega

/-- A value for every attended key block, row and feature, read at an index of the block. -/
def byRow (f : Fin 2 → Fin 128 → Fin 64 → EReal) : S1x2x128x64.Idx → EReal := fun y => f (y 1) (y 2) (y 3)

theorem rows_piece (f : Fin 2 → Fin 128 → Fin 64 → EReal) (p : Vec Ideal S1x1x128x64 .bf16) (e : Fin 2) (R : ℕ) (hR : R = e.val) (inb)
    (hp : ∀ j d, p (ix4 0 0 j d) = f e j d) (x : S1x1x128x64.Idx) :
    p x = byRow f ((Rect.unit (s := S1x2x128x64) ![0, R, 0, 0] ![1, 1, 128, 64] inb).emb x) := by
  subst hR
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have h1 : (x 1).val < 1 := (x 1).isLt
  refine (congrArg p hx).trans ((hp (x 2) (x 3)).trans ?_)
  unfold byRow
  congr 1
  · apply Fin.ext
    show e.val = e.val + 1 * (x 1).val
    omega
  · apply Fin.ext
    show (x 2).val = 0 + 1 * (x 2).val
    omega
  · apply Fin.ext
    show (x 3).val = 0 + 1 * (x 3).val
    omega

theorem rows_pay0 (N : FVec Ideal S128x1024 .bf16) (W : Vec Ideal S1x1024x64 .bf16) (j : Fin 128) (d : Fin 64) :
    k0_pay2 N W (ix4 0 0 j d) = ∑ k, N (ix2 j k) * W (ix3 0 k d) := by
  pointwise [k0_pay2]

theorem rows_pay1 (N : FVec Ideal S128x1024 .bf16) (W : Vec Ideal S1x1024x64 .bf16) (j : Fin 128) (d : Fin 64) :
    k0_pay3 N W (ix4 0 0 j d) = ∑ k, N (ix2 j k) * W (ix3 0 k d) := by
  pointwise [k0_pay3]

/-! ## The block a grid point leaves of each result -/

theorem queries_out (x0 : Vec Ideal S1x128x1024 .f32) (x1 : Vec Ideal S1x1024 .f32) (x2 : Vec Ideal S1024x1024 .bf16) (x3 : Vec Ideal S256x1024 .bf16) (x4 : Vec Ideal S2x1024x64 .bf16) (r : Fin 1024) (j : Fin 128) :
    out0_5 x0 x1 x2 x3 x4 (ix3 0 r j) = entry (fun k => x0 (ix3 0 j k)) (fun k => x1 (ix2 0 k)) (fun k => x2 (ix2 r k)) * Ideal.ofBits .f32 0x3E000000#32 := by
  have z0 : View.ld x0 r0_0 = x0 := View.ld_unit_zero (S := S1x128x1024) zero3 _ _
  have z1 : View.ld x1 r0_1 = x1 := View.ld_unit_zero (S := S1x1024) zero2 _ _
  have z2 : View.ld x2 r0_2 = x2 := View.ld_unit_zero (S := S1024x1024) zero2 _ _
  unfold out0_5
  rw [z0, z1, z2]
  exact (congrFun (View.canon_unit_zero (S := S1x1024x128) zero3 _ _) _).trans (queries_pay x0 x1 x2 r j)

theorem keyvals_out (x0 : Vec Ideal S1x128x1024 .f32) (x1 : Vec Ideal S1x1024 .f32) (x2 : Vec Ideal S1024x1024 .bf16) (x3 : Vec Ideal S256x1024 .bf16) (x4 : Vec Ideal S2x1024x64 .bf16) (r : Fin 256) (j : Fin 128) :
    out0_6 x0 x1 x2 x3 x4 (ix3 0 r j) = entry (fun k => x0 (ix3 0 j k)) (fun k => x1 (ix2 0 k)) (fun k => x3 (ix2 r k)) := by
  have z0 : View.ld x0 r0_0 = x0 := View.ld_unit_zero (S := S1x128x1024) zero3 _ _
  have z1 : View.ld x1 r0_1 = x1 := View.ld_unit_zero (S := S1x1024) zero2 _ _
  have z3 : View.ld x3 r0_4 = x3 := View.ld_unit_zero (S := S256x1024) zero2 _ _
  unfold out0_6
  rw [z0, z1, z3]
  refine (congrFun (View.canon_unit_zero (S := S1x256x128) zero3 _ _) _).trans ?_
  have e : k0_pay7 x0 x1 x3 (ix3 0 r j) = k0_pay6 x0 x1 x3 (ix2 r j) := by
    pointwise [k0_pay7]
  exact e.trans (keyvals_pay x0 x1 x3 r j)

theorem keyvalsCut_out (x0 : Vec Ideal S1x128x1024 .f32) (x1 : Vec Ideal S1x1024 .f32) (x2 : Vec Ideal S1024x1024 .bf16) (x3 : Vec Ideal S256x1024 .bf16) (x4 : Vec Ideal S2x1024x64 .bf16) (r : Fin 256) (j : Fin 128) :
    out0_7 x0 x1 x2 x3 x4 (ix3 0 r j) = entry (fun k => x0 (ix3 0 j k)) (fun k => x1 (ix2 0 k)) (fun k => x3 (ix2 r k)) := by
  have z0 : View.ld x0 r0_0 = x0 := View.ld_unit_zero (S := S1x128x1024) zero3 _ _
  have z1 : View.ld x1 r0_1 = x1 := View.ld_unit_zero (S := S1x1024) zero2 _ _
  have z3 : View.ld x3 r0_4 = x3 := View.ld_unit_zero (S := S256x1024) zero2 _ _
  unfold out0_7
  rw [z0, z1, z3]
  refine (congrFun (View.canon_unit_zero (S := S1x256x128) zero3 _ _) _).trans ?_
  have e : k0_pay1 (k0_pay8 x0 x1 x3) (ix3 0 r j) = k0_pay6 x0 x1 x3 (ix2 r j) := by
    pointwise [k0_pay1, k0_pay8]
  exact e.trans (keyvals_pay x0 x1 x3 r j)

/-- The normalised rows under the name the stores give them. -/
theorem rows_norm (x0 : Vec Ideal S1x128x1024 .f32) (x1 : Vec Ideal S1x1024 .f32) (x2 : Vec Ideal S1024x1024 .bf16) (x3 : Vec Ideal S256x1024 .bf16) (x4 : Vec Ideal S2x1024x64 .bf16) (j : Fin 128) (k : Fin 1024) :
    k0_pay9 x0 x1 x2 x3 x4 (ix2 j k) = unit (fun k => x0 (ix3 0 j k)) (fun k => x1 (ix2 0 k)) k := by
  have z0 : View.ld x0 r0_0 = x0 := View.ld_unit_zero (S := S1x128x1024) zero3 _ _
  have z1 : View.ld x1 r0_1 = x1 := View.ld_unit_zero (S := S1x1024) zero2 _ _
  unfold k0_pay9
  rw [z0, z1]
  exact norm_apply x0 x1 j k

theorem keyRows_out (x0 : Vec Ideal S1x128x1024 .f32) (x1 : Vec Ideal S1x1024 .f32) (x2 : Vec Ideal S1024x1024 .bf16) (x3 : Vec Ideal S256x1024 .bf16) (x4 : Vec Ideal S2x1024x64 .bf16) (e : Fin 2) (j : Fin 128) (d : Fin 64) :
    out0_8 x0 x1 x2 x3 x4 (ix4 0 e j d) = entry (fun k => x0 (ix3 0 j k)) (fun k => x1 (ix2 0 k)) (fun k => x4 (ix3 e k d)) := by
  unfold out0_8
  refine View.canon_apply_of_pieces (Val := Elt Ideal) (e := .bf16) (byRow fun e j d => entry (fun k => x0 (ix3 0 j k)) (fun k => x1 (ix2 0 k)) (fun k => x4 (ix3 e k d))) _ (fun p hp x => ?_) (ix4 0 e j d) (cover0_8 _ _ _)
  simp only [List.mem_cons, List.mem_nil_iff, or_false] at hp
  rcases hp with rfl | rfl
  · refine rows_piece _ _ 1 1 rfl inb_S1x2x128x64_S1x1x128x64_0_1_0_0 (fun j d => (rows_pay1 _ _ j d).trans ?_) x
    unfold entry
    exact Finset.sum_congr rfl fun k _ => congrArg₂ (· * ·) (rows_norm x0 x1 x2 x3 x4 j k) (ld_rows x4 1 1 rfl inb_S2x1024x64_S1x1024x64_1_0_0 k d)
  · refine rows_piece _ _ 0 0 rfl inb_S1x2x128x64_S1x1x128x64_0_0_0_0 (fun j d => (rows_pay0 _ _ j d).trans ?_) x
    unfold entry
    exact Finset.sum_congr rfl fun k _ => congrArg₂ (· * ·) (rows_norm x0 x1 x2 x3 x4 j k) (ld_rows x4 0 0 rfl inb_S2x1024x64_S1x1024x64_0_0_0 k d)

/-! ## The arrays the host code prepares -/

variable (m : (ℓ : Loc nD τ sig) → Buf (Elt Ideal) ℓ) (c : Dev nD)

/-- The argument arrays, named. -/
abbrev aX : FVec Ideal S8x2048x1024 .f32 := m ((c : Thread nD τ).loc main_arg0)
abbrev aG : FVec Ideal S1024 .f32 := m ((c : Thread nD τ).loc main_arg1)
abbrev aW : FVec Ideal S1024x1280 .f32 := m ((c : Thread nD τ).loc main_arg2)

theorem gain_at (k : Fin 1024) : (V m c main_v12 : FVec Ideal S1x1024 .f32) (ix2 0 k) = aG m c (ix1 k) := by
  unfold_abbrev_sides
  after_results
  pointwise []

theorem wq_at (r k : Fin 1024) : (V m c main_v2 : FVec Ideal S1024x1024 .bf16) (ix2 r k) = aW m c (ix2 k ⟨r.val, by omega⟩) := by
  unfold_abbrev_sides
  after_results
  pointwise []

theorem wkv_at (r : Fin 256) (k : Fin 1024) : (V m c main_v5 : FVec Ideal S256x1024 .bf16) (ix2 r k) = aW m c (ix2 k ⟨1024 + r.val, by omega⟩) := by
  unfold_abbrev_sides
  after_results
  pointwise []

theorem wk_at (e : Fin 2) (k : Fin 1024) (d : Fin 64) (R : Fin 1280) (hR : R.val = 1024 + 64 * e.val + d.val) :
    (V m c main_v11 : FVec Ideal S2x1024x64 .bf16) (ix3 e k d) = aW m c (ix2 k R) := by
  unfold_abbrev_sides
  after_results
  pointwise []

  split_ifs <;> first | omega | exact congrArg (fun n => aW m c (ix2 k n)) (Fin.ext (by dsimp only; omega))

/-! ## The blocks a grid point is given -/

theorem where0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 3) = 0 ∧ win0_4.index t (1 : Fin 3) = 0 ∧ win0_4.index t (2 : Fin 3) = 0 :=
  (by decide +kernel : ∀ t : Fin grid0.N, _)
theorem where5 : ∀ t : Fin cfg0.N, win0_5.index t (0 : Fin 3) = t.val / 16 ∧ win0_5.index t (1 : Fin 3) = 0 ∧ win0_5.index t (2 : Fin 3) = t.val % 16 ∧ (cfg0.win 5).flush t = true :=
  (by decide +kernel : ∀ t : Fin grid0.N, _)
theorem where6 : ∀ t : Fin cfg0.N, win0_6.index t (0 : Fin 3) = t.val / 16 ∧ win0_6.index t (1 : Fin 3) = 0 ∧ win0_6.index t (2 : Fin 3) = t.val % 16 ∧ (cfg0.win 6).flush t = true :=
  (by decide +kernel : ∀ t : Fin grid0.N, _)
theorem where7 : ∀ t : Fin cfg0.N, win0_7.index t (0 : Fin 3) = t.val / 16 ∧ win0_7.index t (1 : Fin 3) = 0 ∧ win0_7.index t (2 : Fin 3) = t.val % 16 ∧ (cfg0.win 7).flush t = true :=
  (by decide +kernel : ∀ t : Fin grid0.N, _)
theorem where8 : ∀ t : Fin cfg0.N, win0_8.index t (0 : Fin 4) = t.val / 16 ∧ win0_8.index t (1 : Fin 4) = 0 ∧ win0_8.index t (2 : Fin 4) = t.val % 16 ∧ win0_8.index t (3 : Fin 4) = 0 ∧ (cfg0.win 8).flush t = true :=
  (by decide +kernel : ∀ t : Fin grid0.N, _)

theorem points (t : Fin cfg0.N) : t.val < 128 := lt_of_lt_of_eq t.isLt (show cfg0.N = 128 from N_0)

/-- The batch entry of a grid point. -/
def batch (t : Fin cfg0.N) : Fin 8 := ⟨t.val / 16, by have := points t; omega⟩
/-- The position of a grid point's row. -/
def at_ (t : Fin cfg0.N) (j : Fin 128) : Fin 2048 := ⟨t.val % 16 * 128 + j.val, by omega⟩

theorem blk0 (t : Fin cfg0.N) (j : Fin 128) (k : Fin 1024) :
    (iblk m c 0 t : Vec Ideal S1x128x1024 .f32) (ix3 0 j k) = aX m c (ix3 (batch t) (at_ t j) k) := by
  obtain ⟨h0, h1, h2⟩ := where0 t
  have e : (((cfg0.win 0).blk t).view.emb (ix3 0 j k) : S8x2048x1024.Idx) = ix3 (batch t) (at_ t j) k := by
    funext a; apply Fin.ext
    match a with
    | ⟨0, _⟩ => show win0_0.index t (0 : Fin 3) * 1 + 1 * 0 = t.val / 16; omega
    | ⟨1, _⟩ => show win0_0.index t (1 : Fin 3) * 128 + 1 * j.val = t.val % 16 * 128 + j.val; omega
    | ⟨2, _⟩ => show win0_0.index t (2 : Fin 3) * 1024 + 1 * k.val = k.val; omega
  show (V m c main_arg0 : FVec Ideal S8x2048x1024 .f32) (((cfg0.win 0).blk t).view.emb (ix3 0 j k)) = _
  rw [e, V_main_arg0]

theorem blk1 (t : Fin cfg0.N) (k : Fin 1024) :
    (iblk m c 1 t : Vec Ideal S1x1024 .f32) (ix2 0 k) = aG m c (ix1 k) := by
  obtain ⟨h0, h1⟩ := where1 t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v12 : FVec Ideal S1x1024 .f32) (((cfg0.win 1).blk t).view.emb (ix2 0 k)) = _
  rw [e]
  exact gain_at m c k

theorem blk2 (t : Fin cfg0.N) (r k : Fin 1024) :
    (iblk m c 2 t : Vec Ideal S1024x1024 .bf16) (ix2 r k) = aW m c (ix2 k ⟨r.val, by omega⟩) := by
  obtain ⟨h0, h1⟩ := where2 t
  have e : (((cfg0.win 2).blk t).view.emb (ix2 r k) : S1024x1024.Idx) = ix2 r k := by
    funext a; apply Fin.ext
    match a with
    | ⟨0, _⟩ => show win0_2.index t (0 : Fin 2) * 1024 + 1 * r.val = r.val; omega
    | ⟨1, _⟩ => show win0_2.index t (1 : Fin 2) * 1024 + 1 * k.val = k.val; omega
  show (V m c main_v2 : FVec Ideal S1024x1024 .bf16) (((cfg0.win 2).blk t).view.emb (ix2 r k)) = _
  rw [e]
  exact wq_at m c r k

theorem blk3 (t : Fin cfg0.N) (r : Fin 256) (k : Fin 1024) :
    (iblk m c 3 t : Vec Ideal S256x1024 .bf16) (ix2 r k) = aW m c (ix2 k ⟨1024 + r.val, by omega⟩) := by
  obtain ⟨h0, h1⟩ := where3 t
  have e : (((cfg0.win 3).blk t).view.emb (ix2 r k) : S256x1024.Idx) = ix2 r k := by
    funext a; apply Fin.ext
    match a with
    | ⟨0, _⟩ => show win0_3.index t (0 : Fin 2) * 256 + 1 * r.val = r.val; omega
    | ⟨1, _⟩ => show win0_3.index t (1 : Fin 2) * 1024 + 1 * k.val = k.val; omega
  show (V m c main_v5 : FVec Ideal S256x1024 .bf16) (((cfg0.win 3).blk t).view.emb (ix2 r k)) = _
  rw [e]
  exact wkv_at m c r k

theorem blk4 (t : Fin cfg0.N) (e : Fin 2) (k : Fin 1024) (d : Fin 64) :
    (iblk m c 4 t : Vec Ideal S2x1024x64 .bf16) (ix3 e k d) = aW m c (ix2 k ⟨1024 + 64 * e.val + d.val, by omega⟩) := by
  obtain ⟨h0, h1, h2⟩ := where4 t
  have he : (((cfg0.win 4).blk t).view.emb (ix3 e k d) : S2x1024x64.Idx) = ix3 e k d := by
    funext a; apply Fin.ext
    match a with
    | ⟨0, _⟩ => show win0_4.index t (0 : Fin 3) * 2 + 1 * e.val = e.val; omega
    | ⟨1, _⟩ => show win0_4.index t (1 : Fin 3) * 1024 + 1 * k.val = k.val; omega
    | ⟨2, _⟩ => show win0_4.index t (2 : Fin 3) * 64 + 1 * d.val = d.val; omega
  show (V m c main_v11 : FVec Ideal S2x1024x64 .bf16) (((cfg0.win 4).blk t).view.emb (ix3 e k d)) = _
  rw [he]
  exact wk_at m c e k d _ rfl

/-! ## The arrays the call returns -/

theorem queries_array (b : Fin 8) (s : Fin 2048) (r : Fin 1024) :
    ((dats m 0 c).arrAt 5 cfg0.N : FVec Ideal S8x1024x2048 .bf16) (ix3 b r s)
      = entry (fun k => aX m c (ix3 b s k)) (fun k => aG m c (ix1 k)) (fun k => aW m c (ix2 k ⟨r.val, by omega⟩)) * Ideal.ofBits .f32 0x3E000000#32 := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where5 t
  let j : Fin 128 := ⟨s.val % 128, by omega⟩
  have he : (((cfg0.win 5).blk t).view.emb (ix3 0 r j) : S8x1024x2048.Idx) = ix3 b r s := by
    funext a; apply Fin.ext
    match a with
    | ⟨0, _⟩ => show win0_5.index t (0 : Fin 3) * 1 + 1 * 0 = b.val; omega
    | ⟨1, _⟩ => show win0_5.index t (1 : Fin 3) * 1024 + 1 * r.val = r.val; omega
    | ⟨2, _⟩ => show win0_5.index t (2 : Fin 3) * 128 + 1 * (s.val % 128) = s.val; omega
  have hb := congrFun (Value.blocks5 m c t hf) (ix3 0 r j)
  have hl : ((dats m 0 c).arrAt 5 cfg0.N : FVec Ideal S8x1024x2048 .bf16) (ix3 b r s)
      = ((cfg0.win 5).blk t).view.read (Elt Ideal) ((dats m 0 c).arrAt 5 cfg0.N) (ix3 0 r j) := by
    show _ = ((dats m 0 c).arrAt 5 cfg0.N : FVec Ideal S8x1024x2048 .bf16) (((cfg0.win 5).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed5]
  refine (queries_out (iblk m c 0 t) (iblk m c 1 t) (iblk m c 2 t) (iblk m c 3 t) (iblk m c 4 t) r j).trans ?_
  exact congrArg (· * _) (entry_congr hx (fun k => blk1 m c t k) (fun k => blk2 m c t r k))

theorem keyvals_array (b : Fin 8) (s : Fin 2048) (r : Fin 256) :
    ((dats m 0 c).arrAt 6 cfg0.N : FVec Ideal S8x256x2048 .f32) (ix3 b r s)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where6 t
  let j : Fin 128 := ⟨s.val % 128, by omega⟩
  have he : (((cfg0.win 6).blk t).view.emb (ix3 0 r j) : S8x256x2048.Idx) = ix3 b r s := by
    funext a; apply Fin.ext
    match a with
    | ⟨0, _⟩ => show win0_6.index t (0 : Fin 3) * 1 + 1 * 0 = b.val; omega
    | ⟨1, _⟩ => show win0_6.index t (1 : Fin 3) * 256 + 1 * r.val = r.val; omega
    | ⟨2, _⟩ => show win0_6.index t (2 : Fin 3) * 128 + 1 * (s.val % 128) = s.val; omega
  have hb := congrFun (Value.blocks6 m c t hf) (ix3 0 r j)
  have hl : ((dats m 0 c).arrAt 6 cfg0.N : FVec Ideal S8x256x2048 .f32) (ix3 b r s)
      = ((cfg0.win 6).blk t).view.read (Elt Ideal) ((dats m 0 c).arrAt 6 cfg0.N) (ix3 0 r j) := by
    show _ = ((dats m 0 c).arrAt 6 cfg0.N : FVec Ideal S8x256x2048 .f32) (((cfg0.win 6).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed6]
  refine (keyvals_out (iblk m c 0 t) (iblk m c 1 t) (iblk m c 2 t) (iblk m c 3 t) (iblk m c 4 t) r j).trans ?_
  exact entry_congr hx (fun k => blk1 m c t k) (fun k => blk3 m c t r k)

theorem keyvalsCut_array (b : Fin 8) (s : Fin 2048) (r : Fin 256) :
    ((dats m 0 c).arrAt 7 cfg0.N : FVec Ideal S8x256x2048 .bf16) (ix3 b r s)
      = entry (fun k => aX m c (ix3 b s k)) (fun k => aG m c (ix1 k)) (fun k => aW m c (ix2 k ⟨1024 + r.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where7 t
  let j : Fin 128 := ⟨s.val % 128, by omega⟩
  have he : (((cfg0.win 7).blk t).view.emb (ix3 0 r j) : S8x256x2048.Idx) = ix3 b r s := by
    funext a; apply Fin.ext
    match a with
    | ⟨0, _⟩ => show win0_7.index t (0 : Fin 3) * 1 + 1 * 0 = b.val; omega
    | ⟨1, _⟩ => show win0_7.index t (1 : Fin 3) * 256 + 1 * r.val = r.val; omega
    | ⟨2, _⟩ => show win0_7.index t (2 : Fin 3) * 128 + 1 * (s.val % 128) = s.val; omega
  have hb := congrFun (Value.blocks7 m c t hf) (ix3 0 r j)
  have hl : ((dats m 0 c).arrAt 7 cfg0.N : FVec Ideal S8x256x2048 .bf16) (ix3 b r s)
      = ((cfg0.win 7).blk t).view.read (Elt Ideal) ((dats m 0 c).arrAt 7 cfg0.N) (ix3 0 r j) := by
    show _ = ((dats m 0 c).arrAt 7 cfg0.N : FVec Ideal S8x256x2048 .bf16) (((cfg0.win 7).blk t).view.emb (ix3 0 r j))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed7]
  refine (keyvalsCut_out (iblk m c 0 t) (iblk m c 1 t) (iblk m c 2 t) (iblk m c 3 t) (iblk m c 4 t) r j).trans ?_
  exact entry_congr hx (fun k => blk1 m c t k) (fun k => blk3 m c t r k)

theorem keyRows_array (b : Fin 8) (s : Fin 2048) (e : Fin 2) (d : Fin 64) :
    ((dats m 0 c).arrAt 8 cfg0.N : FVec Ideal S8x2x2048x64 .bf16) (ix4 b e s d)
      = entry (fun k => aX m c (ix3 b s k)) (fun k => aG m c (ix1 k)) (fun k => aW m c (ix2 k ⟨1024 + 64 * e.val + d.val, by omega⟩)) := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, h3, hf⟩ := where8 t
  let j : Fin 128 := ⟨s.val % 128, by omega⟩
  have he : (((cfg0.win 8).blk t).view.emb (ix4 0 e j d) : S8x2x2048x64.Idx) = ix4 b e s d := by
    funext a; apply Fin.ext
    match a with
    | ⟨0, _⟩ => show win0_8.index t (0 : Fin 4) * 1 + 1 * 0 = b.val; omega
    | ⟨1, _⟩ => show win0_8.index t (1 : Fin 4) * 2 + 1 * e.val = e.val; omega
    | ⟨2, _⟩ => show win0_8.index t (2 : Fin 4) * 128 + 1 * (s.val % 128) = s.val; omega
    | ⟨3, _⟩ => show win0_8.index t (3 : Fin 4) * 64 + 1 * d.val = d.val; omega
  have hb := congrFun (Value.blocks8 m c t hf) (ix4 0 e j d)
  have hl : ((dats m 0 c).arrAt 8 cfg0.N : FVec Ideal S8x2x2048x64 .bf16) (ix4 b e s d)
      = ((cfg0.win 8).blk t).view.read (Elt Ideal) ((dats m 0 c).arrAt 8 cfg0.N) (ix4 0 e j d) := by
    show _ = ((dats m 0 c).arrAt 8 cfg0.N : FVec Ideal S8x2x2048x64 .bf16) (((cfg0.win 8).blk t).view.emb (ix4 0 e j d))
    rw [he]
  have eb : batch t = b := Fin.ext (by show t.val / 16 = b.val; omega)
  have et : at_ t j = s := Fin.ext (by show t.val % 16 * 128 + s.val % 128 = s.val; omega)
  have hx : ∀ k, (iblk m c 0 t : Vec Ideal S1x128x1024 .f32) (ix3 0 j k) = aX m c (ix3 b s k) := fun k => by
    rw [← eb, ← et]; exact blk0 m c t j k
  rw [hl, hb, Value.flushed8]
  refine (keyRows_out (iblk m c 0 t) (iblk m c 1 t) (iblk m c 2 t) (iblk m c 3 t) (iblk m c 4 t) e j d).trans ?_
  exact entry_congr hx (fun k => blk1 m c t k) (fun k => blk4 m c t e k d)

end Cert.Kernel5Ideal.Proj

namespace Cert.Proof

/-- The projection: kernel and reference end at the same arrays. -/
theorem swa_prompt_algebraic : Cert.algebraic_Kernel5Ideal_Reference5Ideal := by
  intro m ρ m' ρ' _ hagree
  refine ⟨fun c => (Cert.Kernel5Ideal.Gen.dats m 0 c).arrAt 5 Cert.Kernel5Ideal.cfg0.N, fun c => (Cert.Kernel5Ideal.Gen.dats m 0 c).arrAt 6 Cert.Kernel5Ideal.cfg0.N, fun c => (Cert.Kernel5Ideal.Gen.dats m 0 c).arrAt 7 Cert.Kernel5Ideal.cfg0.N, fun c => (Cert.Kernel5Ideal.Gen.dats m 0 c).arrAt 8 Cert.Kernel5Ideal.cfg0.N, Cert.Kernel5Ideal.Value.run_blocks (F := Ideal) m ρ, ?_⟩
  refine (θ_run _ _ _).mono (fun _ h c => ?_) (Cert.Reference5Ideal.Value.run (F := Ideal) m' ρ')
  obtain ⟨h0, h1, h2, h3, hr⟩ := h c
  obtain ⟨e0, e1, e2⟩ := hagree c
  refine ⟨h0.trans ?_, h1.trans ?_, h2.trans ?_, h3.trans ?_, hr⟩
  · rw [e0, e1, e2]
    funext y
    idx_vars y
    refine Eq.trans (b := Cert.Reference5Ideal.Value.queriesT (Cert.Reference5Ideal.Value.projT (Cert.Kernel5Ideal.Proj.aX m c) (Cert.Kernel5Ideal.Proj.aG m c) (Cert.Kernel5Ideal.Proj.aW m c)) (ix3 y0 y1 y2)) rfl ?_
    rw [Cert.Reference5Ideal.Value.queriesT_apply, Cert.Reference5Ideal.Value.projT_apply]
    exact (Cert.Kernel5Ideal.Proj.queries_array m c y0 y2 y1).symm
  · rw [e0, e1, e2]
    funext y
    idx_vars y
    refine Eq.trans (b := Cert.Reference5Ideal.Value.keyvalsT (Cert.Reference5Ideal.Value.projT (Cert.Kernel5Ideal.Proj.aX m c) (Cert.Kernel5Ideal.Proj.aG m c) (Cert.Kernel5Ideal.Proj.aW m c)) (ix3 y0 y1 y2)) rfl ?_
    rw [Cert.Reference5Ideal.Value.keyvalsT_apply, Cert.Reference5Ideal.Value.projT_apply]
    exact (Cert.Kernel5Ideal.Proj.keyvals_array m c y0 y2 y1).symm
  · rw [e0, e1, e2]
    funext y
    idx_vars y
    refine Eq.trans (b := Cert.Reference5Ideal.Value.keyvalsCutT (Cert.Reference5Ideal.Value.projT (Cert.Kernel5Ideal.Proj.aX m c) (Cert.Kernel5Ideal.Proj.aG m c) (Cert.Kernel5Ideal.Proj.aW m c)) (ix3 y0 y1 y2)) rfl ?_
    rw [Cert.Reference5Ideal.Value.keyvalsCutT_apply, Cert.Reference5Ideal.Value.projT_apply]
    exact (Cert.Kernel5Ideal.Proj.keyvalsCut_array m c y0 y2 y1).symm
  · rw [e0, e1, e2]
    funext y
    idx_vars y
    refine Eq.trans (b := Cert.Reference5Ideal.Value.keyRowsT (Cert.Reference5Ideal.Value.projT (Cert.Kernel5Ideal.Proj.aX m c) (Cert.Kernel5Ideal.Proj.aG m c) (Cert.Kernel5Ideal.Proj.aW m c)) (ix4 y0 y1 y2 y3)) rfl ?_
    rw [Cert.Reference5Ideal.Value.keyRowsT_apply, Cert.Reference5Ideal.Value.projT_apply]
    exact (Cert.Kernel5Ideal.Proj.keyRows_array m c y0 y2 y1 y3).symm

end Cert.Proof

end
-- ==== Proof.NsaSampleRef.lean ====
/-
  The reference's input projection (NsaSample): the composed terms of its results, by steps, read at an index.
-/
module

public import proofs.«01_k».proof.Proof.ProjMath
public import proofs.«01_k».proof.Proof.Gen.Reference6Ideal.Run
public import Idealize.ShloMosaic.Lib.Pointwise

@[expose] public section

noncomputable section

open Idealize.ShloMosaic Idealize.ShloMosaic.TcCoe Idealize.SL.Sem

namespace Cert.Reference6Ideal.Value

open Cert.Reference6Ideal Cert.Reference6Ideal.Gen Cert.ProjMath

/-- Every row over its root mean square, with a gain, times the weights. -/
def projT (x : FVec Ideal S128x8x1024 .f32) (g : FVec Ideal S1024 .f32) (w : FVec Ideal S1024x1840 .f32) : FVec Ideal S128x8x1840 .f32 :=
  Host.dotGeneral dot_S128x8x1024_S1024x1840_S128x8x1840_2_0_01_1_n_n none (mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))) w

/-- The scaled queries. -/
def queriesT (p : FVec Ideal S128x8x1840 .f32) : FVec Ideal S1024x1024 .bf16 :=
  truncf .bf16 (shapeCast _ (mulf (shapeCast _ (extractStridedSlice S128x8x1024 ![0, 0, 0] p slices_S128x8x1840_S128x8x1024_0_0_0) shapeCasts_S128x8x1024_S128x8x16x64) (broadcastInDim S128x8x16x64 ![] bcast_S_S128x8x16x64 (constant S_ .f32 0x3E000000#32))) shapeCasts_S128x8x16x64_S1024x1024) bitsLt_bf16_f32

/-- Keys and values. -/
def keyvalsT (p : FVec Ideal S128x8x1840 .f32) : FVec Ideal S1024x768 .f32 :=
  shapeCast _ (shapeCast _ (extractStridedSlice S128x8x768 ![0, 0, 1024] p slices_S128x8x1840_S128x8x768_0_0_1024) shapeCasts_S128x8x768_S128x8x6x2x64) shapeCasts_S128x8x6x2x64_S1024x768

/-- The gates by sequence and sample. -/
def gates3T (p : FVec Ideal S128x8x1840 .f32) : FVec Ideal S128x8x128 .f32 :=
  (Host.divf (broadcastInDim S128x8x128 ![] bcast_S_S128x8x128 (constant S_ .f32 0x3F800000#32)) (addf (broadcastInDim S128x8x128 ![] bcast_S_S128x8x128 (constant S_ .f32 0x3F800000#32)) (Host.exp (Host.negf (pad S128x8x128 ![0, 0, 0] ![0, 0, 80] ![0, 0, 0] (extractStridedSlice S128x8x48 ![0, 0, 1792] p slices_S128x8x1840_S128x8x48_0_0_1792) (sitofp .f32 (constantI S_ 32 0#32)) pads_S128x8x48_S128x8x128_000_000_0800 h_S_)))))

/-- The gates. -/
def gatesT (p : FVec Ideal S128x8x1840 .f32) : FVec Ideal S1024x128 .f32 := shapeCast _ (gates3T p) shapeCasts_S128x8x128_S1024x128

theorem projT_apply (x : FVec Ideal S128x8x1024 .f32) (g : FVec Ideal S1024 .f32) (w : FVec Ideal S1024x1840 .f32)
    (b : Fin 128) (s : Fin 8) (l : Fin 1840) :
    projT x g w (ix3 b s l) = entry (fun k => x (ix3 b s k)) (fun k => g (ix1 k)) (fun k => w (ix2 k l)) := by
  unfold entry unit
  pointwise [projT]

theorem queriesT_apply (p : FVec Ideal S128x8x1840 .f32) (r : Fin 1024) (l : Fin 1024) :
    queriesT p (ix2 r l) = p (ix3 ⟨r.val / 8, by omega⟩ ⟨r.val % 8, by omega⟩ ⟨l.val, by omega⟩) * Ideal.ofBits .f32 0x3E000000#32 := by
  pointwise [queriesT]

theorem keyvalsT_apply (p : FVec Ideal S128x8x1840 .f32) (r : Fin 1024) (l : Fin 768) :
    keyvalsT p (ix2 r l) = p (ix3 ⟨r.val / 8, by omega⟩ ⟨r.val % 8, by omega⟩ ⟨1024 + l.val, by omega⟩) := by
  pointwise [keyvalsT]

theorem gates3T_apply (p : FVec Ideal S128x8x1840 .f32) (b : Fin 128) (q : Fin 8) (l : Fin 128) :
    gates3T p (ix3 b q l) = Ideal.logistic (if h : l.val < 48 then p (ix3 b q ⟨1792 + l.val, by omega⟩) else 0) := by
  unfold Ideal.logistic
  pointwise [gates3T]
  rw [zero_int]

theorem gatesT_apply (p : FVec Ideal S128x8x1840 .f32) (r : Fin 1024) (l : Fin 128) :
    gatesT p (ix2 r l) = Ideal.logistic (if h : l.val < 48 then p (ix3 ⟨r.val / 8, by omega⟩ ⟨r.val % 8, by omega⟩ ⟨1792 + l.val, by omega⟩) else 0) := by
  have e : gatesT p (ix2 r l) = gates3T p (ix3 ⟨r.val / 8, by omega⟩ ⟨r.val % 8, by omega⟩ l) := by
    pointwise [gatesT]
  exact e.trans (gates3T_apply p _ _ l)

end Cert.Reference6Ideal.Value

end
-- ==== Proof.NsaSampleValue.lean ====
/-
  The sample batch's input projection (NsaSample): the blocks a grid point is given, the block it leaves of each result, the
  entries of the arrays, and the claim beside the reference.
-/
module

public import proofs.«01_k».proof.Defs
public import proofs.«01_k».proof.Proof.ProjMath
public import proofs.«01_k».proof.Proof.NsaSampleRef
public import proofs.«01_k».proof.Proof.Gen.Kernel6Ideal.Value
public import Idealize.ShloMosaic.Lib.Pointwise

@[expose] public section

noncomputable section

open Idealize.ShloMosaic Idealize.ShloMosaic.TcCoe Idealize.SL.Sem

namespace Cert.Kernel6Ideal.Proj

open Cert.Kernel6Ideal Cert.Kernel6Ideal.Gen Cert.ProjMath

theorem zero2 : (![0, 0] : Fin 2 → ℕ) = fun _ => 0 := by funext a; fin_cases a <;> rfl

/-! ## What the body computes of its blocks -/

theorem norm_apply (x0 : Vec Ideal S512x1024 .f32) (x1 : Vec Ideal S1x1024 .f32) (j : Fin 512) (k : Fin 1024) :
    k0_pay1 x0 x1 (ix2 j k) = unit (fun k => x0 (ix2 j k)) (fun k => x1 (ix2 0 k)) k := by
  unfold unit
  pointwise [k0_pay1]

theorem queries_pay (x0 : Vec Ideal S512x1024 .f32) (x1 : Vec Ideal S1x1024 .f32) (x2 : Vec Ideal S1024x1024 .bf16) (j : Fin 512) (l : Fin 1024) :
    k0_pay2 x0 x1 x2 (ix2 j l) = entry (fun k => x0 (ix2 j k)) (fun k => x1 (ix2 0 k)) (fun k => x2 (ix2 k l)) * Ideal.ofBits .f32 0x3E000000#32 := by
  have e : k0_pay2 x0 x1 x2 (ix2 j l) = (∑ k, k0_pay1 x0 x1 (ix2 j k) * x2 (ix2 k l)) * Ideal.ofBits .f32 0x3E000000#32 := by
    pointwise [k0_pay2]
  rw [e]
  exact congrArg (· * _) (Finset.sum_congr rfl fun k _ => by rw [norm_apply])

theorem keyvals_pay (x0 : Vec Ideal S512x1024 .f32) (x1 : Vec Ideal S1x1024 .f32) (x3 : Vec Ideal S1024x768 .bf16) (j : Fin 512) (l : Fin 768) :
    k0_pay3 x0 x1 x3 (ix2 j l) = entry (fun k => x0 (ix2 j k)) (fun k => x1 (ix2 0 k)) (fun k => x3 (ix2 k l)) := by
  have e : k0_pay3 x0 x1 x3 (ix2 j l) = ∑ k, k0_pay1 x0 x1 (ix2 j k) * x3 (ix2 k l) := by
    pointwise [k0_pay3]
  rw [e]
  exact Finset.sum_congr rfl fun k _ => by rw [norm_apply]

theorem gates_pay (x0 : Vec Ideal S512x1024 .f32) (x1 : Vec Ideal S1x1024 .f32) (x4 : Vec Ideal S1024x128 .bf16) (j : Fin 512) (l : Fin 128) :
    k0_pay4 x0 x1 x4 (ix2 j l) = Ideal.logistic (entry (fun k => x0 (ix2 j k)) (fun k => x1 (ix2 0 k)) (fun k => x4 (ix2 k l))) := by
  have e : k0_pay4 x0 x1 x4 (ix2 j l) = Ideal.logistic (∑ k, k0_pay1 x0 x1 (ix2 j k) * x4 (ix2 k l)) := by
    pointwise [k0_pay4]
  rw [e]
  exact congrArg Ideal.logistic (Finset.sum_congr rfl fun k _ => by rw [norm_apply])

/-! ## The block a grid point leaves of each result -/

theorem queries_out (x0 : Vec Ideal S512x1024 .f32) (x1 : Vec Ideal S1x1024 .f32) (x2 : Vec Ideal S1024x1024 .bf16) (x3 : Vec Ideal S1024x768 .bf16) (x4 : Vec Ideal S1024x128 .bf16) (j : Fin 512) (l : Fin 1024) :
    out0_5 x0 x1 x2 x3 x4 (ix2 j l) = entry (fun k => x0 (ix2 j k)) (fun k => x1 (ix2 0 k)) (fun k => x2 (ix2 k l)) * Ideal.ofBits .f32 0x3E000000#32 := by
  have z0 : View.ld x0 r0_0 = x0 := View.ld_unit_zero (S := S512x1024) zero2 _ _
  have z1 : View.ld x1 r0_1 = x1 := View.ld_unit_zero (S := S1x1024) zero2 _ _
  have z2 : View.ld x2 r0_2 = x2 := View.ld_unit_zero (S := S1024x1024) zero2 _ _
  unfold out0_5
  rw [z0, z1, z2]
  exact (congrFun (View.canon_unit_zero (S := S512x1024) zero2 _ _) _).trans (queries_pay x0 x1 x2 j l)

theorem keyvals_out (x0 : Vec Ideal S512x1024 .f32) (x1 : Vec Ideal S1x1024 .f32) (x2 : Vec Ideal S1024x1024 .bf16) (x3 : Vec Ideal S1024x768 .bf16) (x4 : Vec Ideal S1024x128 .bf16) (j : Fin 512) (l : Fin 768) :
    out0_6 x0 x1 x2 x3 x4 (ix2 j l) = entry (fun k => x0 (ix2 j k)) (fun k => x1 (ix2 0 k)) (fun k => x3 (ix2 k l)) := by
  have z0 : View.ld x0 r0_0 = x0 := View.ld_unit_zero (S := S512x1024) zero2 _ _
  have z1 : View.ld x1 r0_1 = x1 := View.ld_unit_zero (S := S1x1024) zero2 _ _
  have z3 : View.ld x3 r0_3 = x3 := View.ld_unit_zero (S := S1024x768) zero2 _ _
  unfold out0_6
  rw [z0, z1, z3]
  exact (congrFun (View.canon_unit_zero (S := S512x768) zero2 _ _) _).trans (keyvals_pay x0 x1 x3 j l)

theorem gates_out (x0 : Vec Ideal S512x1024 .f32) (x1 : Vec Ideal S1x1024 .f32) (x2 : Vec Ideal S1024x1024 .bf16) (x3 : Vec Ideal S1024x768 .bf16) (x4 : Vec Ideal S1024x128 .bf16) (j : Fin 512) (l : Fin 128) :
    out0_7 x0 x1 x2 x3 x4 (ix2 j l) = Ideal.logistic (entry (fun k => x0 (ix2 j k)) (fun k => x1 (ix2 0 k)) (fun k => x4 (ix2 k l))) := by
  have z0 : View.ld x0 r0_0 = x0 := View.ld_unit_zero (S := S512x1024) zero2 _ _
  have z1 : View.ld x1 r0_1 = x1 := View.ld_unit_zero (S := S1x1024) zero2 _ _
  have z4 : View.ld x4 r0_5 = x4 := View.ld_unit_zero (S := S1024x128) zero2 _ _
  unfold out0_7
  rw [z0, z1, z4]
  exact (congrFun (View.canon_unit_zero (S := S512x128) zero2 _ _) _).trans (gates_pay x0 x1 x4 j l)

/-! ## The arrays the host code prepares -/

variable (m : (ℓ : Loc nD τ sig) → Buf (Elt Ideal) ℓ) (c : Dev nD)

/-- The argument arrays, named. -/
abbrev aX : FVec Ideal S128x8x1024 .f32 := m ((c : Thread nD τ).loc main_arg0)
abbrev aG : FVec Ideal S1024 .f32 := m ((c : Thread nD τ).loc main_arg1)
abbrev aW : FVec Ideal S1024x1840 .f32 := m ((c : Thread nD τ).loc main_arg2)

theorem x_at (r k : Fin 1024) : (V m c main_v0 : FVec Ideal S1024x1024 .f32) (ix2 r k) = aX m c (ix3 ⟨r.val / 8, by omega⟩ ⟨r.val % 8, by omega⟩ k) := by
  unfold_abbrev_sides
  simp only [hostOps0, hostOps0_1, hostOps0_2, List.flatten_cons, List.flatten_nil, List.append_nil, List.cons_append, List.nil_append]
  after_results
  pointwise []

theorem gain_at (k : Fin 1024) : (V m c main_v1 : FVec Ideal S1x1024 .f32) (ix2 0 k) = aG m c (ix1 k) := by
  unfold_abbrev_sides
  simp only [hostOps0, hostOps0_1, hostOps0_2, List.flatten_cons, List.flatten_nil, List.append_nil, List.cons_append, List.nil_append]
  after_results
  pointwise []

theorem wq_at (k l : Fin 1024) : (V m c main_v3 : FVec Ideal S1024x1024 .bf16) (ix2 k l) = aW m c (ix2 k ⟨l.val, by omega⟩) := by
  unfold_abbrev_sides
  simp only [hostOps0, hostOps0_1, hostOps0_2, List.flatten_cons, List.flatten_nil, List.append_nil, List.cons_append, List.nil_append]
  after_results
  pointwise []

theorem wkv_at (k : Fin 1024) (l : Fin 768) : (V m c main_v5 : FVec Ideal S1024x768 .bf16) (ix2 k l) = aW m c (ix2 k ⟨1024 + l.val, by omega⟩) := by
  unfold_abbrev_sides
  simp only [hostOps0, hostOps0_1, hostOps0_2, List.flatten_cons, List.flatten_nil, List.append_nil, List.cons_append, List.nil_append]
  after_results
  pointwise []

theorem wg_flat (k : Fin 1024) (l : Fin 128) : (V m c main_v8 : FVec Ideal S1024x128 .bf16) (ix2 k l)
    = if h : l.val < 48 then aW m c (ix2 k ⟨1792 + l.val, by omega⟩) else FloatOps.sitofp (F := Ideal) .f32 (0#32) := by
  unfold_abbrev_sides
  simp only [hostOps0, hostOps0_1, hostOps0_2, List.flatten_cons, List.flatten_nil, List.append_nil, List.cons_append, List.nil_append]
  after_results
  pointwise []
  show (pad S1024x128 ![0, 0] ![0, 80] ![0, 0] (extractStridedSlice S1024x48 ![0, 1792] (aW m c) slices_S1024x1840_S1024x48_0_1792)
    (sitofp (F := Ideal) .f32 (constantI S_ 32 0#32)) pads_S1024x48_S1024x128_000_0800 h_S_ : FVec Ideal S1024x128 .f32) (ix2 k l) = _
  pointwise []

theorem wg_at (k : Fin 1024) (l : Fin 128) : (V m c main_v8 : FVec Ideal S1024x128 .bf16) (ix2 k l)
    = if h : l.val < 48 then aW m c (ix2 k ⟨1792 + l.val, by omega⟩) else 0 := by
  refine (wg_flat m c k l).trans ?_
  rw [zero_int]

/-! ## The blocks a grid point is given -/

theorem where0 : ∀ t : Fin cfg0.N, win0_0.index t (0 : Fin 2) = t.val ∧ win0_0.index t (1 : Fin 2) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 2) = 0 ∧ win0_4.index t (1 : Fin 2) = 0 :=
  (by decide +kernel : ∀ t : Fin grid0.N, _)
theorem where5 : ∀ t : Fin cfg0.N, win0_5.index t (0 : Fin 2) = t.val ∧ win0_5.index t (1 : Fin 2) = 0 ∧ (cfg0.win 5).flush t = true :=
  (by decide +kernel : ∀ t : Fin grid0.N, _)
theorem where6 : ∀ t : Fin cfg0.N, win0_6.index t (0 : Fin 2) = t.val ∧ win0_6.index t (1 : Fin 2) = 0 ∧ (cfg0.win 6).flush t = true :=
  (by decide +kernel : ∀ t : Fin grid0.N, _)
theorem where7 : ∀ t : Fin cfg0.N, win0_7.index t (0 : Fin 2) = t.val ∧ win0_7.index t (1 : Fin 2) = 0 ∧ (cfg0.win 7).flush t = true :=
  (by decide +kernel : ∀ t : Fin grid0.N, _)

theorem points (t : Fin cfg0.N) : t.val < 2 := lt_of_lt_of_eq t.isLt (show cfg0.N = 2 from N_0)

/-- The array's row of a grid point's row. -/
def at_ (t : Fin cfg0.N) (j : Fin 512) : Fin 1024 := ⟨t.val * 512 + j.val, by have := points t; omega⟩

theorem blk0 (t : Fin cfg0.N) (j : Fin 512) (k : Fin 1024) :
    (iblk m c 0 t : Vec Ideal S512x1024 .f32) (ix2 j k) = (V m c main_v0 : FVec Ideal S1024x1024 .f32) (ix2 (at_ t j) k) := by
  obtain ⟨h0, h1⟩ := where0 t
  have e : (((cfg0.win 0).blk t).view.emb (ix2 j k) : S1024x1024.Idx) = ix2 (at_ t j) k := by
    funext a; apply Fin.ext
    match a with
    | ⟨0, _⟩ => show win0_0.index t (0 : Fin 2) * 512 + 1 * j.val = t.val * 512 + j.val; omega
    | ⟨1, _⟩ => show win0_0.index t (1 : Fin 2) * 1024 + 1 * k.val = k.val; omega
  show (V m c main_v0 : FVec Ideal S1024x1024 .f32) (((cfg0.win 0).blk t).view.emb (ix2 j k)) = _
  rw [e]

theorem blk1 (t : Fin cfg0.N) (k : Fin 1024) :
    (iblk m c 1 t : Vec Ideal S1x1024 .f32) (ix2 0 k) = aG m c (ix1 k) := by
  obtain ⟨h0, h1⟩ := where1 t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v1 : FVec Ideal S1x1024 .f32) (((cfg0.win 1).blk t).view.emb (ix2 0 k)) = _
  rw [e]
  exact gain_at m c k

theorem blk2 (t : Fin cfg0.N) (k l : Fin 1024) :
    (iblk m c 2 t : Vec Ideal S1024x1024 .bf16) (ix2 k l) = aW m c (ix2 k ⟨l.val, by omega⟩) := by
  obtain ⟨h0, h1⟩ := where2 t
  have e : (((cfg0.win 2).blk t).view.emb (ix2 k l) : S1024x1024.Idx) = ix2 k l := by
    funext a; apply Fin.ext
    match a with
    | ⟨0, _⟩ => show win0_2.index t (0 : Fin 2) * 1024 + 1 * k.val = k.val; omega
    | ⟨1, _⟩ => show win0_2.index t (1 : Fin 2) * 1024 + 1 * l.val = l.val; omega
  show (V m c main_v3 : FVec Ideal S1024x1024 .bf16) (((cfg0.win 2).blk t).view.emb (ix2 k l)) = _
  rw [e]
  exact wq_at m c k l

theorem blk3 (t : Fin cfg0.N) (k : Fin 1024) (l : Fin 768) :
    (iblk m c 3 t : Vec Ideal S1024x768 .bf16) (ix2 k l) = aW m c (ix2 k ⟨1024 + l.val, by omega⟩) := by
  obtain ⟨h0, h1⟩ := where3 t
  have e : (((cfg0.win 3).blk t).view.emb (ix2 k l) : S1024x768.Idx) = ix2 k l := by
    funext a; apply Fin.ext
    match a with
    | ⟨0, _⟩ => show win0_3.index t (0 : Fin 2) * 1024 + 1 * k.val = k.val; omega
    | ⟨1, _⟩ => show win0_3.index t (1 : Fin 2) * 768 + 1 * l.val = l.val; omega
  show (V m c main_v5 : FVec Ideal S1024x768 .bf16) (((cfg0.win 3).blk t).view.emb (ix2 k l)) = _
  rw [e]
  exact wkv_at m c k l

theorem blk4 (t : Fin cfg0.N) (k : Fin 1024) (l : Fin 128) :
    (iblk m c 4 t : Vec Ideal S1024x128 .bf16) (ix2 k l) = if h : l.val < 48 then aW m c (ix2 k ⟨1792 + l.val, by omega⟩) else 0 := by
  obtain ⟨h0, h1⟩ := where4 t
  have e : (((cfg0.win 4).blk t).view.emb (ix2 k l) : S1024x128.Idx) = ix2 k l := by
    funext a; apply Fin.ext
    match a with
    | ⟨0, _⟩ => show win0_4.index t (0 : Fin 2) * 1024 + 1 * k.val = k.val; omega
    | ⟨1, _⟩ => show win0_4.index t (1 : Fin 2) * 128 + 1 * l.val = l.val; omega
  show (V m c main_v8 : FVec Ideal S1024x128 .bf16) (((cfg0.win 4).blk t).view.emb (ix2 k l)) = _
  rw [e]
  exact wg_at m c k l

/-! ## The arrays the call returns -/

theorem queries_array (r : Fin 1024) (l : Fin 1024) :
    ((dats m 0 c).arrAt 5 cfg0.N : FVec Ideal S1024x1024 .bf16) (ix2 r l)
      = entry (fun k => aX m c (ix3 ⟨r.val / 8, by omega⟩ ⟨r.val % 8, by omega⟩ k)) (fun k => aG m c (ix1 k)) (fun k => aW m c (ix2 k ⟨l.val, by omega⟩)) * Ideal.ofBits .f32 0x3E000000#32 := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where5 t
  let j : Fin 512 := ⟨r.val % 512, by omega⟩
  have he : (((cfg0.win 5).blk t).view.emb (ix2 j l) : S1024x1024.Idx) = ix2 r l := by
    funext a; apply Fin.ext
    match a with
    | ⟨0, _⟩ => show win0_5.index t (0 : Fin 2) * 512 + 1 * (r.val % 512) = r.val; omega
    | ⟨1, _⟩ => show win0_5.index t (1 : Fin 2) * 1024 + 1 * l.val = l.val; omega
  have hb := congrFun (Value.blocks5 m c t hf) (ix2 j l)
  have hl : ((dats m 0 c).arrAt 5 cfg0.N : FVec Ideal S1024x1024 .bf16) (ix2 r l)
      = ((cfg0.win 5).blk t).view.read (Elt Ideal) ((dats m 0 c).arrAt 5 cfg0.N) (ix2 j l) := by
    show _ = ((dats m 0 c).arrAt 5 cfg0.N : FVec Ideal S1024x1024 .bf16) (((cfg0.win 5).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed5]
  refine (queries_out (iblk m c 0 t) (iblk m c 1 t) (iblk m c 2 t) (iblk m c 3 t) (iblk m c 4 t) j l).trans ?_
  exact congrArg (· * _) (entry_congr hx (fun k => blk1 m c t k) (fun k => blk2 m c t k l))

theorem keyvals_array (r : Fin 1024) (l : Fin 768) :
    ((dats m 0 c).arrAt 6 cfg0.N : FVec Ideal S1024x768 .f32) (ix2 r l)
      = entry (fun k => aX m c (ix3 ⟨r.val / 8, by omega⟩ ⟨r.val % 8, by omega⟩ k)) (fun k => aG m c (ix1 k)) (fun k => aW m c (ix2 k ⟨1024 + l.val, by omega⟩)) := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where6 t
  let j : Fin 512 := ⟨r.val % 512, by omega⟩
  have he : (((cfg0.win 6).blk t).view.emb (ix2 j l) : S1024x768.Idx) = ix2 r l := by
    funext a; apply Fin.ext
    match a with
    | ⟨0, _⟩ => show win0_6.index t (0 : Fin 2) * 512 + 1 * (r.val % 512) = r.val; omega
    | ⟨1, _⟩ => show win0_6.index t (1 : Fin 2) * 768 + 1 * l.val = l.val; omega
  have hb := congrFun (Value.blocks6 m c t hf) (ix2 j l)
  have hl : ((dats m 0 c).arrAt 6 cfg0.N : FVec Ideal S1024x768 .f32) (ix2 r l)
      = ((cfg0.win 6).blk t).view.read (Elt Ideal) ((dats m 0 c).arrAt 6 cfg0.N) (ix2 j l) := by
    show _ = ((dats m 0 c).arrAt 6 cfg0.N : FVec Ideal S1024x768 .f32) (((cfg0.win 6).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed6]
  refine (keyvals_out (iblk m c 0 t) (iblk m c 1 t) (iblk m c 2 t) (iblk m c 3 t) (iblk m c 4 t) j l).trans ?_
  exact entry_congr hx (fun k => blk1 m c t k) (fun k => blk3 m c t k l)

theorem gates_array (r : Fin 1024) (l : Fin 128) :
    ((dats m 0 c).arrAt 7 cfg0.N : FVec Ideal S1024x128 .f32) (ix2 r l)
      = Ideal.logistic (if h : l.val < 48 then entry (fun k => aX m c (ix3 ⟨r.val / 8, by omega⟩ ⟨r.val % 8, by omega⟩ k)) (fun k => aG m c (ix1 k)) (fun k => aW m c (ix2 k ⟨1792 + l.val, by omega⟩)) else 0) := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where7 t
  let j : Fin 512 := ⟨r.val % 512, by omega⟩
  have he : (((cfg0.win 7).blk t).view.emb (ix2 j l) : S1024x128.Idx) = ix2 r l := by
    funext a; apply Fin.ext
    match a with
    | ⟨0, _⟩ => show win0_7.index t (0 : Fin 2) * 512 + 1 * (r.val % 512) = r.val; omega
    | ⟨1, _⟩ => show win0_7.index t (1 : Fin 2) * 128 + 1 * l.val = l.val; omega
  have hb := congrFun (Value.blocks7 m c t hf) (ix2 j l)
  have hl : ((dats m 0 c).arrAt 7 cfg0.N : FVec Ideal S1024x128 .f32) (ix2 r l)
      = ((cfg0.win 7).blk t).view.read (Elt Ideal) ((dats m 0 c).arrAt 7 cfg0.N) (ix2 j l) := by
    show _ = ((dats m 0 c).arrAt 7 cfg0.N : FVec Ideal S1024x128 .f32) (((cfg0.win 7).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed7]
  refine (gates_out (iblk m c 0 t) (iblk m c 1 t) (iblk m c 2 t) (iblk m c 3 t) (iblk m c 4 t) j l).trans ?_
  exact congrArg Ideal.logistic (by
    by_cases h : l.val < 48
    · rw [dif_pos h]
      exact entry_congr hx (fun k => blk1 m c t k) (fun k => (blk4 m c t k l).trans (dif_pos h))
    · rw [dif_neg h]
      exact (entry_congr (fun _ => rfl) (fun _ => rfl) (fun k => (blk4 m c t k l).trans (dif_neg h))).trans (entry_zero _ _))

end Cert.Kernel6Ideal.Proj

namespace Cert.Proof

/-- The projection: kernel and reference end at the same arrays. -/
theorem nsa_sample_algebraic : Cert.algebraic_Kernel6Ideal_Reference6Ideal := by
  intro m ρ m' ρ' _ hagree
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N, fun c => (Cert.Kernel6Ideal.Gen.dats m 0 c).arrAt 7 Cert.Kernel6Ideal.cfg0.N, Cert.Kernel6Ideal.Value.run_blocks (F := Ideal) m ρ, ?_⟩
  refine (θ_run _ _ _).mono (fun _ h c => ?_) (Cert.Reference6Ideal.Value.run (F := Ideal) m' ρ')
  obtain ⟨h0, h1, h2, hr⟩ := h c
  obtain ⟨e0, e1, e2⟩ := hagree c
  refine ⟨h0.trans ?_, h1.trans ?_, h2.trans ?_, hr⟩
  · rw [e0, e1, e2]
    funext y
    idx_vars y
    refine Eq.trans (b := Cert.Reference6Ideal.Value.queriesT (Cert.Reference6Ideal.Value.projT (Cert.Kernel6Ideal.Proj.aX m c) (Cert.Kernel6Ideal.Proj.aG m c) (Cert.Kernel6Ideal.Proj.aW m c)) (ix2 y0 y1)) rfl ?_
    rw [Cert.Reference6Ideal.Value.queriesT_apply]
    simp only [Cert.Reference6Ideal.Value.projT_apply]
    exact (Cert.Kernel6Ideal.Proj.queries_array m c y0 y1).symm
  · rw [e0, e1, e2]
    funext y
    idx_vars y
    refine Eq.trans (b := Cert.Reference6Ideal.Value.keyvalsT (Cert.Reference6Ideal.Value.projT (Cert.Kernel6Ideal.Proj.aX m c) (Cert.Kernel6Ideal.Proj.aG m c) (Cert.Kernel6Ideal.Proj.aW m c)) (ix2 y0 y1)) rfl ?_
    rw [Cert.Reference6Ideal.Value.keyvalsT_apply]
    simp only [Cert.Reference6Ideal.Value.projT_apply]
    exact (Cert.Kernel6Ideal.Proj.keyvals_array m c y0 y1).symm
  · rw [e0, e1, e2]
    funext y
    idx_vars y
    refine Eq.trans (b := Cert.Reference6Ideal.Value.gatesT (Cert.Reference6Ideal.Value.projT (Cert.Kernel6Ideal.Proj.aX m c) (Cert.Kernel6Ideal.Proj.aG m c) (Cert.Kernel6Ideal.Proj.aW m c)) (ix2 y0 y1)) rfl ?_
    rw [Cert.Reference6Ideal.Value.gatesT_apply]
    simp only [Cert.Reference6Ideal.Value.projT_apply]
    exact (Cert.Kernel6Ideal.Proj.gates_array m c y0 y1).symm

end Cert.Proof

end
-- ==== Proof.MobaSampleRef.lean ====
/-
  The reference's input projection (MobaSample): the composed terms of its results, by steps, read at an index.
-/
module

public import proofs.«01_k».proof.Proof.ProjMath
public import proofs.«01_k».proof.Proof.Gen.Reference7Ideal.Run
public import Idealize.ShloMosaic.Lib.Pointwise

@[expose] public section

noncomputable section

open Idealize.ShloMosaic Idealize.ShloMosaic.TcCoe Idealize.SL.Sem

namespace Cert.Reference7Ideal.Value

open Cert.Reference7Ideal Cert.Reference7Ideal.Gen Cert.ProjMath

/-- Every row over its root mean square, with a gain, times the weights. -/
def projT (x : FVec Ideal S128x8x1024 .f32) (g : FVec Ideal S1024 .f32) (w : FVec Ideal S1024x1536 .f32) : FVec Ideal S128x8x1536 .f32 :=
  Host.dotGeneral dot_S128x8x1024_S1024x1536_S128x8x1536_2_0_01_1_n_n none (mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))) w

/-- The scaled queries. -/
def queriesT (p : FVec Ideal S128x8x1536 .f32) : FVec Ideal S1024x1024 .bf16 :=
  truncf .bf16 (shapeCast _ (mulf (shapeCast _ (extractStridedSlice S128x8x1024 ![0, 0, 0] p slices_S128x8x1536_S128x8x1024_0_0_0) shapeCasts_S128x8x1024_S128x8x16x64) (broadcastInDim S128x8x16x64 ![] bcast_S_S128x8x16x64 (constant S_ .f32 0x3E000000#32))) shapeCasts_S128x8x16x64_S1024x1024) bitsLt_bf16_f32

/-- Keys and values. -/
def keyvalsT (p : FVec Ideal S128x8x1536 .f32) : FVec Ideal S1024x512 .f32 :=
  shapeCast _ (shapeCast _ (extractStridedSlice S128x8x512 ![0, 0, 1024] p slices_S128x8x1536_S128x8x512_0_0_1024) shapeCasts_S128x8x512_S128x8x2x4x64) shapeCasts_S128x8x2x4x64_S1024x512

theorem projT_apply (x : FVec Ideal S128x8x1024 .f32) (g : FVec Ideal S1024 .f32) (w : FVec Ideal S1024x1536 .f32)
    (b : Fin 128) (s : Fin 8) (l : Fin 1536) :
    projT x g w (ix3 b s l) = entry (fun k => x (ix3 b s k)) (fun k => g (ix1 k)) (fun k => w (ix2 k l)) := by
  unfold entry unit
  pointwise [projT]

theorem queriesT_apply (p : FVec Ideal S128x8x1536 .f32) (r : Fin 1024) (l : Fin 1024) :
    queriesT p (ix2 r l) = p (ix3 ⟨r.val / 8, by omega⟩ ⟨r.val % 8, by omega⟩ ⟨l.val, by omega⟩) * Ideal.ofBits .f32 0x3E000000#32 := by
  pointwise [queriesT]

theorem keyvalsT_apply (p : FVec Ideal S128x8x1536 .f32) (r : Fin 1024) (l : Fin 512) :
    keyvalsT p (ix2 r l) = p (ix3 ⟨r.val / 8, by omega⟩ ⟨r.val % 8, by omega⟩ ⟨1024 + l.val, by omega⟩) := by
  pointwise [keyvalsT]

end Cert.Reference7Ideal.Value

end
-- ==== Proof.MobaSampleValue.lean ====
/-
  The sample batch's input projection (MobaSample): the blocks a grid point is given, the block it leaves of each result, the
  entries of the arrays, and the claim beside the reference.
-/
module

public import proofs.«01_k».proof.Defs
public import proofs.«01_k».proof.Proof.ProjMath
public import proofs.«01_k».proof.Proof.MobaSampleRef
public import proofs.«01_k».proof.Proof.Gen.Kernel7Ideal.Value
public import Idealize.ShloMosaic.Lib.Pointwise

@[expose] public section

noncomputable section

open Idealize.ShloMosaic Idealize.ShloMosaic.TcCoe Idealize.SL.Sem

namespace Cert.Kernel7Ideal.Proj

open Cert.Kernel7Ideal Cert.Kernel7Ideal.Gen Cert.ProjMath

theorem zero2 : (![0, 0] : Fin 2 → ℕ) = fun _ => 0 := by funext a; fin_cases a <;> rfl

/-! ## What the body computes of its blocks -/

theorem norm_apply (x0 : Vec Ideal S512x1024 .f32) (x1 : Vec Ideal S1x1024 .f32) (j : Fin 512) (k : Fin 1024) :
    k0_pay1 x0 x1 (ix2 j k) = unit (fun k => x0 (ix2 j k)) (fun k => x1 (ix2 0 k)) k := by
  unfold unit
  pointwise [k0_pay1]

theorem queries_pay (x0 : Vec Ideal S512x1024 .f32) (x1 : Vec Ideal S1x1024 .f32) (x2 : Vec Ideal S1024x1024 .bf16) (j : Fin 512) (l : Fin 1024) :
    k0_pay2 x0 x1 x2 (ix2 j l) = entry (fun k => x0 (ix2 j k)) (fun k => x1 (ix2 0 k)) (fun k => x2 (ix2 k l)) * Ideal.ofBits .f32 0x3E000000#32 := by
  have e : k0_pay2 x0 x1 x2 (ix2 j l) = (∑ k, k0_pay1 x0 x1 (ix2 j k) * x2 (ix2 k l)) * Ideal.ofBits .f32 0x3E000000#32 := by
    pointwise [k0_pay2]
  rw [e]
  exact congrArg (· * _) (Finset.sum_congr rfl fun k _ => by rw [norm_apply])

theorem keyvals_pay (x0 : Vec Ideal S512x1024 .f32) (x1 : Vec Ideal S1x1024 .f32) (x3 : Vec Ideal S1024x512 .bf16) (j : Fin 512) (l : Fin 512) :
    k0_pay3 x0 x1 x3 (ix2 j l) = entry (fun k => x0 (ix2 j k)) (fun k => x1 (ix2 0 k)) (fun k => x3 (ix2 k l)) := by
  have e : k0_pay3 x0 x1 x3 (ix2 j l) = ∑ k, k0_pay1 x0 x1 (ix2 j k) * x3 (ix2 k l) := by
    pointwise [k0_pay3]
  rw [e]
  exact Finset.sum_congr rfl fun k _ => by rw [norm_apply]

/-! ## The block a grid point leaves of each result -/

theorem queries_out (x0 : Vec Ideal S512x1024 .f32) (x1 : Vec Ideal S1x1024 .f32) (x2 : Vec Ideal S1024x1024 .bf16) (x3 : Vec Ideal S1024x512 .bf16) (j : Fin 512) (l : Fin 1024) :
    out0_4 x0 x1 x2 x3 (ix2 j l) = entry (fun k => x0 (ix2 j k)) (fun k => x1 (ix2 0 k)) (fun k => x2 (ix2 k l)) * Ideal.ofBits .f32 0x3E000000#32 := by
  have z0 : View.ld x0 r0_0 = x0 := View.ld_unit_zero (S := S512x1024) zero2 _ _
  have z1 : View.ld x1 r0_1 = x1 := View.ld_unit_zero (S := S1x1024) zero2 _ _
  have z2 : View.ld x2 r0_2 = x2 := View.ld_unit_zero (S := S1024x1024) zero2 _ _
  unfold out0_4
  rw [z0, z1, z2]
  exact (congrFun (View.canon_unit_zero (S := S512x1024) zero2 _ _) _).trans (queries_pay x0 x1 x2 j l)

theorem keyvals_out (x0 : Vec Ideal S512x1024 .f32) (x1 : Vec Ideal S1x1024 .f32) (x2 : Vec Ideal S1024x1024 .bf16) (x3 : Vec Ideal S1024x512 .bf16) (j : Fin 512) (l : Fin 512) :
    out0_5 x0 x1 x2 x3 (ix2 j l) = entry (fun k => x0 (ix2 j k)) (fun k => x1 (ix2 0 k)) (fun k => x3 (ix2 k l)) := by
  have z0 : View.ld x0 r0_0 = x0 := View.ld_unit_zero (S := S512x1024) zero2 _ _
  have z1 : View.ld x1 r0_1 = x1 := View.ld_unit_zero (S := S1x1024) zero2 _ _
  have z3 : View.ld x3 r0_3 = x3 := View.ld_unit_zero (S := S1024x512) zero2 _ _
  unfold out0_5
  rw [z0, z1, z3]
  exact (congrFun (View.canon_unit_zero (S := S512x512) zero2 _ _) _).trans (keyvals_pay x0 x1 x3 j l)

/-! ## The arrays the host code prepares -/

variable (m : (ℓ : Loc nD τ sig) → Buf (Elt Ideal) ℓ) (c : Dev nD)

/-- The argument arrays, named. -/
abbrev aX : FVec Ideal S128x8x1024 .f32 := m ((c : Thread nD τ).loc main_arg0)
abbrev aG : FVec Ideal S1024 .f32 := m ((c : Thread nD τ).loc main_arg1)
abbrev aW : FVec Ideal S1024x1536 .f32 := m ((c : Thread nD τ).loc main_arg2)

theorem x_at (r k : Fin 1024) : (V m c main_v0 : FVec Ideal S1024x1024 .f32) (ix2 r k) = aX m c (ix3 ⟨r.val / 8, by omega⟩ ⟨r.val % 8, by omega⟩ k) := by
  unfold_abbrev_sides
  after_results
  pointwise []

theorem gain_at (k : Fin 1024) : (V m c main_v1 : FVec Ideal S1x1024 .f32) (ix2 0 k) = aG m c (ix1 k) := by
  unfold_abbrev_sides
  after_results
  pointwise []

theorem wq_at (k l : Fin 1024) : (V m c main_v3 : FVec Ideal S1024x1024 .bf16) (ix2 k l) = aW m c (ix2 k ⟨l.val, by omega⟩) := by
  unfold_abbrev_sides
  after_results
  pointwise []

theorem wkv_at (k : Fin 1024) (l : Fin 512) : (V m c main_v5 : FVec Ideal S1024x512 .bf16) (ix2 k l) = aW m c (ix2 k ⟨1024 + l.val, by omega⟩) := by
  unfold_abbrev_sides
  after_results
  pointwise []

/-! ## The blocks a grid point is given -/

theorem where0 : ∀ t : Fin cfg0.N, win0_0.index t (0 : Fin 2) = t.val ∧ win0_0.index t (1 : Fin 2) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 2) = t.val ∧ win0_4.index t (1 : Fin 2) = 0 ∧ (cfg0.win 4).flush t = true :=
  (by decide +kernel : ∀ t : Fin grid0.N, _)
theorem where5 : ∀ t : Fin cfg0.N, win0_5.index t (0 : Fin 2) = t.val ∧ win0_5.index t (1 : Fin 2) = 0 ∧ (cfg0.win 5).flush t = true :=
  (by decide +kernel : ∀ t : Fin grid0.N, _)

theorem points (t : Fin cfg0.N) : t.val < 2 := lt_of_lt_of_eq t.isLt (show cfg0.N = 2 from N_0)

/-- The array's row of a grid point's row. -/
def at_ (t : Fin cfg0.N) (j : Fin 512) : Fin 1024 := ⟨t.val * 512 + j.val, by have := points t; omega⟩

theorem blk0 (t : Fin cfg0.N) (j : Fin 512) (k : Fin 1024) :
    (iblk m c 0 t : Vec Ideal S512x1024 .f32) (ix2 j k) = (V m c main_v0 : FVec Ideal S1024x1024 .f32) (ix2 (at_ t j) k) := by
  obtain ⟨h0, h1⟩ := where0 t
  have e : (((cfg0.win 0).blk t).view.emb (ix2 j k) : S1024x1024.Idx) = ix2 (at_ t j) k := by
    funext a; apply Fin.ext
    match a with
    | ⟨0, _⟩ => show win0_0.index t (0 : Fin 2) * 512 + 1 * j.val = t.val * 512 + j.val; omega
    | ⟨1, _⟩ => show win0_0.index t (1 : Fin 2) * 1024 + 1 * k.val = k.val; omega
  show (V m c main_v0 : FVec Ideal S1024x1024 .f32) (((cfg0.win 0).blk t).view.emb (ix2 j k)) = _
  rw [e]

theorem blk1 (t : Fin cfg0.N) (k : Fin 1024) :
    (iblk m c 1 t : Vec Ideal S1x1024 .f32) (ix2 0 k) = aG m c (ix1 k) := by
  obtain ⟨h0, h1⟩ := where1 t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v1 : FVec Ideal S1x1024 .f32) (((cfg0.win 1).blk t).view.emb (ix2 0 k)) = _
  rw [e]
  exact gain_at m c k

theorem blk2 (t : Fin cfg0.N) (k l : Fin 1024) :
    (iblk m c 2 t : Vec Ideal S1024x1024 .bf16) (ix2 k l) = aW m c (ix2 k ⟨l.val, by omega⟩) := by
  obtain ⟨h0, h1⟩ := where2 t
  have e : (((cfg0.win 2).blk t).view.emb (ix2 k l) : S1024x1024.Idx) = ix2 k l := by
    funext a; apply Fin.ext
    match a with
    | ⟨0, _⟩ => show win0_2.index t (0 : Fin 2) * 1024 + 1 * k.val = k.val; omega
    | ⟨1, _⟩ => show win0_2.index t (1 : Fin 2) * 1024 + 1 * l.val = l.val; omega
  show (V m c main_v3 : FVec Ideal S1024x1024 .bf16) (((cfg0.win 2).blk t).view.emb (ix2 k l)) = _
  rw [e]
  exact wq_at m c k l

theorem blk3 (t : Fin cfg0.N) (k : Fin 1024) (l : Fin 512) :
    (iblk m c 3 t : Vec Ideal S1024x512 .bf16) (ix2 k l) = aW m c (ix2 k ⟨1024 + l.val, by omega⟩) := by
  obtain ⟨h0, h1⟩ := where3 t
  have e : (((cfg0.win 3).blk t).view.emb (ix2 k l) : S1024x512.Idx) = ix2 k l := by
    funext a; apply Fin.ext
    match a with
    | ⟨0, _⟩ => show win0_3.index t (0 : Fin 2) * 1024 + 1 * k.val = k.val; omega
    | ⟨1, _⟩ => show win0_3.index t (1 : Fin 2) * 512 + 1 * l.val = l.val; omega
  show (V m c main_v5 : FVec Ideal S1024x512 .bf16) (((cfg0.win 3).blk t).view.emb (ix2 k l)) = _
  rw [e]
  exact wkv_at m c k l

/-! ## The arrays the call returns -/

theorem queries_array (r : Fin 1024) (l : Fin 1024) :
    ((dats m 0 c).arrAt 4 cfg0.N : FVec Ideal S1024x1024 .bf16) (ix2 r l)
      = entry (fun k => aX m c (ix3 ⟨r.val / 8, by omega⟩ ⟨r.val % 8, by omega⟩ k)) (fun k => aG m c (ix1 k)) (fun k => aW m c (ix2 k ⟨l.val, by omega⟩)) * Ideal.ofBits .f32 0x3E000000#32 := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where4 t
  let j : Fin 512 := ⟨r.val % 512, by omega⟩
  have he : (((cfg0.win 4).blk t).view.emb (ix2 j l) : S1024x1024.Idx) = ix2 r l := by
    funext a; apply Fin.ext
    match a with
    | ⟨0, _⟩ => show win0_4.index t (0 : Fin 2) * 512 + 1 * (r.val % 512) = r.val; omega
    | ⟨1, _⟩ => show win0_4.index t (1 : Fin 2) * 1024 + 1 * l.val = l.val; omega
  have hb := congrFun (Value.blocks4 m c t hf) (ix2 j l)
  have hl : ((dats m 0 c).arrAt 4 cfg0.N : FVec Ideal S1024x1024 .bf16) (ix2 r l)
      = ((cfg0.win 4).blk t).view.read (Elt Ideal) ((dats m 0 c).arrAt 4 cfg0.N) (ix2 j l) := by
    show _ = ((dats m 0 c).arrAt 4 cfg0.N : FVec Ideal S1024x1024 .bf16) (((cfg0.win 4).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed4]
  refine (queries_out (iblk m c 0 t) (iblk m c 1 t) (iblk m c 2 t) (iblk m c 3 t) j l).trans ?_
  exact congrArg (· * _) (entry_congr hx (fun k => blk1 m c t k) (fun k => blk2 m c t k l))

theorem keyvals_array (r : Fin 1024) (l : Fin 512) :
    ((dats m 0 c).arrAt 5 cfg0.N : FVec Ideal S1024x512 .f32) (ix2 r l)
      = entry (fun k => aX m c (ix3 ⟨r.val / 8, by omega⟩ ⟨r.val % 8, by omega⟩ k)) (fun k => aG m c (ix1 k)) (fun k => aW m c (ix2 k ⟨1024 + l.val, by omega⟩)) := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where5 t
  let j : Fin 512 := ⟨r.val % 512, by omega⟩
  have he : (((cfg0.win 5).blk t).view.emb (ix2 j l) : S1024x512.Idx) = ix2 r l := by
    funext a; apply Fin.ext
    match a with
    | ⟨0, _⟩ => show win0_5.index t (0 : Fin 2) * 512 + 1 * (r.val % 512) = r.val; omega
    | ⟨1, _⟩ => show win0_5.index t (1 : Fin 2) * 512 + 1 * l.val = l.val; omega
  have hb := congrFun (Value.blocks5 m c t hf) (ix2 j l)
  have hl : ((dats m 0 c).arrAt 5 cfg0.N : FVec Ideal S1024x512 .f32) (ix2 r l)
      = ((cfg0.win 5).blk t).view.read (Elt Ideal) ((dats m 0 c).arrAt 5 cfg0.N) (ix2 j l) := by
    show _ = ((dats m 0 c).arrAt 5 cfg0.N : FVec Ideal S1024x512 .f32) (((cfg0.win 5).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed5]
  refine (keyvals_out (iblk m c 0 t) (iblk m c 1 t) (iblk m c 2 t) (iblk m c 3 t) j l).trans ?_
  exact entry_congr hx (fun k => blk1 m c t k) (fun k => blk3 m c t k l)

end Cert.Kernel7Ideal.Proj

namespace Cert.Proof

/-- The projection: kernel and reference end at the same arrays. -/
theorem moba_sample_algebraic : Cert.algebraic_Kernel7Ideal_Reference7Ideal := by
  intro m ρ m' ρ' _ hagree
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N, Cert.Kernel7Ideal.Value.run_blocks (F := Ideal) m ρ, ?_⟩
  refine (θ_run _ _ _).mono (fun _ h c => ?_) (Cert.Reference7Ideal.Value.run (F := Ideal) m' ρ')
  obtain ⟨h0, h1, hr⟩ := h c
  obtain ⟨e0, e1, e2⟩ := hagree c
  refine ⟨h0.trans ?_, h1.trans ?_, hr⟩
  · rw [e0, e1, e2]
    funext y
    idx_vars y
    refine Eq.trans (b := Cert.Reference7Ideal.Value.queriesT (Cert.Reference7Ideal.Value.projT (Cert.Kernel7Ideal.Proj.aX m c) (Cert.Kernel7Ideal.Proj.aG m c) (Cert.Kernel7Ideal.Proj.aW m c)) (ix2 y0 y1)) rfl ?_
    rw [Cert.Reference7Ideal.Value.queriesT_apply, Cert.Reference7Ideal.Value.projT_apply]
    exact (Cert.Kernel7Ideal.Proj.queries_array m c y0 y1).symm
  · rw [e0, e1, e2]
    funext y
    idx_vars y
    refine Eq.trans (b := Cert.Reference7Ideal.Value.keyvalsT (Cert.Reference7Ideal.Value.projT (Cert.Kernel7Ideal.Proj.aX m c) (Cert.Kernel7Ideal.Proj.aG m c) (Cert.Kernel7Ideal.Proj.aW m c)) (ix2 y0 y1)) rfl ?_
    rw [Cert.Reference7Ideal.Value.keyvalsT_apply, Cert.Reference7Ideal.Value.projT_apply]
    exact (Cert.Kernel7Ideal.Proj.keyvals_array m c y0 y1).symm

end Cert.Proof

end
-- ==== Proof.SwaSampleRef.lean ====
/-
  The reference's input projection (SwaSample): the composed terms of its results, by steps, read at an index.
-/
module

public import proofs.«01_k».proof.Proof.ProjMath
public import proofs.«01_k».proof.Proof.Gen.Reference8Ideal.Run
public import Idealize.ShloMosaic.Lib.Pointwise

@[expose] public section

noncomputable section

open Idealize.ShloMosaic Idealize.ShloMosaic.TcCoe Idealize.SL.Sem

namespace Cert.Reference8Ideal.Value

open Cert.Reference8Ideal Cert.Reference8Ideal.Gen Cert.ProjMath

/-- Every row over its root mean square, with a gain, times the weights. -/
def projT (x : FVec Ideal S128x8x1024 .f32) (g : FVec Ideal S1024 .f32) (w : FVec Ideal S1024x1280 .f32) : FVec Ideal S128x8x1280 .f32 :=
  Host.dotGeneral dot_S128x8x1024_S1024x1280_S128x8x1280_2_0_01_1_n_n none (mulf (mulf x (broadcastInDim S128x8x1024 ![0, 1, 2] bcast_S128x8x1_S128x8x1024_0_1_2 (Host.rsqrt (addf (Host.divf (broadcastInDim S128x8x1 ![0, 1] bcast_S128x8_S128x8x1_0_1 (Host.reduceAdd (mulf x x) (constant S_ .f32 0x00000000#32) reducesTo_S128x8x1024_S128x8_d2 h_S_)) (broadcastInDim S128x8x1 ![] bcast_S_S128x8x1 (constant S_ .f32 0x44800000#32))) (broadcastInDim S128x8x1 ![] bcast_S_S128x8x1 (constant S_ .f32 0x358637BD#32)))))) (broadcastInDim S128x8x1024 ![0, 1, 2] bcast_S1x1x1024_S128x8x1024_0_1_2 (broadcastInDim S1x1x1024 ![2] bcast_S1024_S1x1x1024_2 g))) w

/-- The scaled queries. -/
def queriesT (p : FVec Ideal S128x8x1280 .f32) : FVec Ideal S1024x1024 .bf16 :=
  truncf .bf16 (shapeCast _ (mulf (shapeCast _ (extractStridedSlice S128x8x1024 ![0, 0, 0] p slices_S128x8x1280_S128x8x1024_0_0_0) shapeCasts_S128x8x1024_S128x8x16x64) (broadcastInDim S128x8x16x64 ![] bcast_S_S128x8x16x64 (constant S_ .f32 0x3E000000#32))) shapeCasts_S128x8x16x64_S1024x1024) bitsLt_bf16_f32

/-- Keys and values. -/
def keyvalsT (p : FVec Ideal S128x8x1280 .f32) : FVec Ideal S1024x256 .f32 :=
  shapeCast _ (shapeCast _ (extractStridedSlice S128x8x256 ![0, 0, 1024] p slices_S128x8x1280_S128x8x256_0_0_1024) shapeCasts_S128x8x256_S128x8x2x2x64) shapeCasts_S128x8x2x2x64_S1024x256

theorem projT_apply (x : FVec Ideal S128x8x1024 .f32) (g : FVec Ideal S1024 .f32) (w : FVec Ideal S1024x1280 .f32)
    (b : Fin 128) (s : Fin 8) (l : Fin 1280) :
    projT x g w (ix3 b s l) = entry (fun k => x (ix3 b s k)) (fun k => g (ix1 k)) (fun k => w (ix2 k l)) := by
  unfold entry unit
  pointwise [projT]

theorem queriesT_apply (p : FVec Ideal S128x8x1280 .f32) (r : Fin 1024) (l : Fin 1024) :
    queriesT p (ix2 r l) = p (ix3 ⟨r.val / 8, by omega⟩ ⟨r.val % 8, by omega⟩ ⟨l.val, by omega⟩) * Ideal.ofBits .f32 0x3E000000#32 := by
  pointwise [queriesT]

theorem keyvalsT_apply (p : FVec Ideal S128x8x1280 .f32) (r : Fin 1024) (l : Fin 256) :
    keyvalsT p (ix2 r l) = p (ix3 ⟨r.val / 8, by omega⟩ ⟨r.val % 8, by omega⟩ ⟨1024 + l.val, by omega⟩) := by
  pointwise [keyvalsT]

end Cert.Reference8Ideal.Value

end
-- ==== Proof.SwaSampleValue.lean ====
/-
  The sample batch's input projection (SwaSample): the blocks a grid point is given, the block it leaves of each result, the
  entries of the arrays, and the claim beside the reference.
-/
module

public import proofs.«01_k».proof.Defs
public import proofs.«01_k».proof.Proof.ProjMath
public import proofs.«01_k».proof.Proof.SwaSampleRef
public import proofs.«01_k».proof.Proof.Gen.Kernel8Ideal.Value
public import Idealize.ShloMosaic.Lib.Pointwise

@[expose] public section

noncomputable section

open Idealize.ShloMosaic Idealize.ShloMosaic.TcCoe Idealize.SL.Sem

namespace Cert.Kernel8Ideal.Proj

open Cert.Kernel8Ideal Cert.Kernel8Ideal.Gen Cert.ProjMath

theorem zero2 : (![0, 0] : Fin 2 → ℕ) = fun _ => 0 := by funext a; fin_cases a <;> rfl

/-! ## What the body computes of its blocks -/

theorem norm_apply (x0 : Vec Ideal S512x1024 .f32) (x1 : Vec Ideal S1x1024 .f32) (j : Fin 512) (k : Fin 1024) :
    k0_pay1 x0 x1 (ix2 j k) = unit (fun k => x0 (ix2 j k)) (fun k => x1 (ix2 0 k)) k := by
  unfold unit
  pointwise [k0_pay1]

theorem queries_pay (x0 : Vec Ideal S512x1024 .f32) (x1 : Vec Ideal S1x1024 .f32) (x2 : Vec Ideal S1024x1024 .bf16) (j : Fin 512) (l : Fin 1024) :
    k0_pay2 x0 x1 x2 (ix2 j l) = entry (fun k => x0 (ix2 j k)) (fun k => x1 (ix2 0 k)) (fun k => x2 (ix2 k l)) * Ideal.ofBits .f32 0x3E000000#32 := by
  have e : k0_pay2 x0 x1 x2 (ix2 j l) = (∑ k, k0_pay1 x0 x1 (ix2 j k) * x2 (ix2 k l)) * Ideal.ofBits .f32 0x3E000000#32 := by
    pointwise [k0_pay2]
  rw [e]
  exact congrArg (· * _) (Finset.sum_congr rfl fun k _ => by rw [norm_apply])

theorem keyvals_pay (x0 : Vec Ideal S512x1024 .f32) (x1 : Vec Ideal S1x1024 .f32) (x3 : Vec Ideal S1024x256 .bf16) (j : Fin 512) (l : Fin 256) :
    k0_pay3 x0 x1 x3 (ix2 j l) = entry (fun k => x0 (ix2 j k)) (fun k => x1 (ix2 0 k)) (fun k => x3 (ix2 k l)) := by
  have e : k0_pay3 x0 x1 x3 (ix2 j l) = ∑ k, k0_pay1 x0 x1 (ix2 j k) * x3 (ix2 k l) := by
    pointwise [k0_pay3]
  rw [e]
  exact Finset.sum_congr rfl fun k _ => by rw [norm_apply]

/-! ## The block a grid point leaves of each result -/

theorem queries_out (x0 : Vec Ideal S512x1024 .f32) (x1 : Vec Ideal S1x1024 .f32) (x2 : Vec Ideal S1024x1024 .bf16) (x3 : Vec Ideal S1024x256 .bf16) (j : Fin 512) (l : Fin 1024) :
    out0_4 x0 x1 x2 x3 (ix2 j l) = entry (fun k => x0 (ix2 j k)) (fun k => x1 (ix2 0 k)) (fun k => x2 (ix2 k l)) * Ideal.ofBits .f32 0x3E000000#32 := by
  have z0 : View.ld x0 r0_0 = x0 := View.ld_unit_zero (S := S512x1024) zero2 _ _
  have z1 : View.ld x1 r0_1 = x1 := View.ld_unit_zero (S := S1x1024) zero2 _ _
  have z2 : View.ld x2 r0_2 = x2 := View.ld_unit_zero (S := S1024x1024) zero2 _ _
  unfold out0_4
  rw [z0, z1, z2]
  exact (congrFun (View.canon_unit_zero (S := S512x1024) zero2 _ _) _).trans (queries_pay x0 x1 x2 j l)

theorem keyvals_out (x0 : Vec Ideal S512x1024 .f32) (x1 : Vec Ideal S1x1024 .f32) (x2 : Vec Ideal S1024x1024 .bf16) (x3 : Vec Ideal S1024x256 .bf16) (j : Fin 512) (l : Fin 256) :
    out0_5 x0 x1 x2 x3 (ix2 j l) = entry (fun k => x0 (ix2 j k)) (fun k => x1 (ix2 0 k)) (fun k => x3 (ix2 k l)) := by
  have z0 : View.ld x0 r0_0 = x0 := View.ld_unit_zero (S := S512x1024) zero2 _ _
  have z1 : View.ld x1 r0_1 = x1 := View.ld_unit_zero (S := S1x1024) zero2 _ _
  have z3 : View.ld x3 r0_3 = x3 := View.ld_unit_zero (S := S1024x256) zero2 _ _
  unfold out0_5
  rw [z0, z1, z3]
  exact (congrFun (View.canon_unit_zero (S := S512x256) zero2 _ _) _).trans (keyvals_pay x0 x1 x3 j l)

/-! ## The arrays the host code prepares -/

variable (m : (ℓ : Loc nD τ sig) → Buf (Elt Ideal) ℓ) (c : Dev nD)

/-- The argument arrays, named. -/
abbrev aX : FVec Ideal S128x8x1024 .f32 := m ((c : Thread nD τ).loc main_arg0)
abbrev aG : FVec Ideal S1024 .f32 := m ((c : Thread nD τ).loc main_arg1)
abbrev aW : FVec Ideal S1024x1280 .f32 := m ((c : Thread nD τ).loc main_arg2)

theorem x_at (r k : Fin 1024) : (V m c main_v0 : FVec Ideal S1024x1024 .f32) (ix2 r k) = aX m c (ix3 ⟨r.val / 8, by omega⟩ ⟨r.val % 8, by omega⟩ k) := by
  unfold_abbrev_sides
  after_results
  pointwise []

theorem gain_at (k : Fin 1024) : (V m c main_v1 : FVec Ideal S1x1024 .f32) (ix2 0 k) = aG m c (ix1 k) := by
  unfold_abbrev_sides
  after_results
  pointwise []

theorem wq_at (k l : Fin 1024) : (V m c main_v3 : FVec Ideal S1024x1024 .bf16) (ix2 k l) = aW m c (ix2 k ⟨l.val, by omega⟩) := by
  unfold_abbrev_sides
  after_results
  pointwise []

theorem wkv_at (k : Fin 1024) (l : Fin 256) : (V m c main_v5 : FVec Ideal S1024x256 .bf16) (ix2 k l) = aW m c (ix2 k ⟨1024 + l.val, by omega⟩) := by
  unfold_abbrev_sides
  after_results
  pointwise []

/-! ## The blocks a grid point is given -/

theorem where0 : ∀ t : Fin cfg0.N, win0_0.index t (0 : Fin 2) = t.val ∧ win0_0.index t (1 : Fin 2) = 0 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 2) = 0 ∧ win0_3.index t (1 : Fin 2) = 0 :=
  (by decide +kernel : ∀ t : Fin grid0.N, _)
theorem where4 : ∀ t : Fin cfg0.N, win0_4.index t (0 : Fin 2) = t.val ∧ win0_4.index t (1 : Fin 2) = 0 ∧ (cfg0.win 4).flush t = true :=
  (by decide +kernel : ∀ t : Fin grid0.N, _)
theorem where5 : ∀ t : Fin cfg0.N, win0_5.index t (0 : Fin 2) = t.val ∧ win0_5.index t (1 : Fin 2) = 0 ∧ (cfg0.win 5).flush t = true :=
  (by decide +kernel : ∀ t : Fin grid0.N, _)

theorem points (t : Fin cfg0.N) : t.val < 2 := lt_of_lt_of_eq t.isLt (show cfg0.N = 2 from N_0)

/-- The array's row of a grid point's row. -/
def at_ (t : Fin cfg0.N) (j : Fin 512) : Fin 1024 := ⟨t.val * 512 + j.val, by have := points t; omega⟩

theorem blk0 (t : Fin cfg0.N) (j : Fin 512) (k : Fin 1024) :
    (iblk m c 0 t : Vec Ideal S512x1024 .f32) (ix2 j k) = (V m c main_v0 : FVec Ideal S1024x1024 .f32) (ix2 (at_ t j) k) := by
  obtain ⟨h0, h1⟩ := where0 t
  have e : (((cfg0.win 0).blk t).view.emb (ix2 j k) : S1024x1024.Idx) = ix2 (at_ t j) k := by
    funext a; apply Fin.ext
    match a with
    | ⟨0, _⟩ => show win0_0.index t (0 : Fin 2) * 512 + 1 * j.val = t.val * 512 + j.val; omega
    | ⟨1, _⟩ => show win0_0.index t (1 : Fin 2) * 1024 + 1 * k.val = k.val; omega
  show (V m c main_v0 : FVec Ideal S1024x1024 .f32) (((cfg0.win 0).blk t).view.emb (ix2 j k)) = _
  rw [e]

theorem blk1 (t : Fin cfg0.N) (k : Fin 1024) :
    (iblk m c 1 t : Vec Ideal S1x1024 .f32) (ix2 0 k) = aG m c (ix1 k) := by
  obtain ⟨h0, h1⟩ := where1 t
  have e : (((cfg0.win 1).blk t).view.emb (ix2 0 k) : S1x1024.Idx) = ix2 0 k := by
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  show (V m c main_v1 : FVec Ideal S1x1024 .f32) (((cfg0.win 1).blk t).view.emb (ix2 0 k)) = _
  rw [e]
  exact gain_at m c k

theorem blk2 (t : Fin cfg0.N) (k l : Fin 1024) :
    (iblk m c 2 t : Vec Ideal S1024x1024 .bf16) (ix2 k l) = aW m c (ix2 k ⟨l.val, by omega⟩) := by
  obtain ⟨h0, h1⟩ := where2 t
  have e : (((cfg0.win 2).blk t).view.emb (ix2 k l) : S1024x1024.Idx) = ix2 k l := by
    funext a; apply Fin.ext
    match a with
    | ⟨0, _⟩ => show win0_2.index t (0 : Fin 2) * 1024 + 1 * k.val = k.val; omega
    | ⟨1, _⟩ => show win0_2.index t (1 : Fin 2) * 1024 + 1 * l.val = l.val; omega
  show (V m c main_v3 : FVec Ideal S1024x1024 .bf16) (((cfg0.win 2).blk t).view.emb (ix2 k l)) = _
  rw [e]
  exact wq_at m c k l

theorem blk3 (t : Fin cfg0.N) (k : Fin 1024) (l : Fin 256) :
    (iblk m c 3 t : Vec Ideal S1024x256 .bf16) (ix2 k l) = aW m c (ix2 k ⟨1024 + l.val, by omega⟩) := by
  obtain ⟨h0, h1⟩ := where3 t
  have e : (((cfg0.win 3).blk t).view.emb (ix2 k l) : S1024x256.Idx) = ix2 k l := by
    funext a; apply Fin.ext
    match a with
    | ⟨0, _⟩ => show win0_3.index t (0 : Fin 2) * 1024 + 1 * k.val = k.val; omega
    | ⟨1, _⟩ => show win0_3.index t (1 : Fin 2) * 256 + 1 * l.val = l.val; omega
  show (V m c main_v5 : FVec Ideal S1024x256 .bf16) (((cfg0.win 3).blk t).view.emb (ix2 k l)) = _
  rw [e]
  exact wkv_at m c k l

/-! ## The arrays the call returns -/

theorem queries_array (r : Fin 1024) (l : Fin 1024) :
    ((dats m 0 c).arrAt 4 cfg0.N : FVec Ideal S1024x1024 .bf16) (ix2 r l)
      = entry (fun k => aX m c (ix3 ⟨r.val / 8, by omega⟩ ⟨r.val % 8, by omega⟩ k)) (fun k => aG m c (ix1 k)) (fun k => aW m c (ix2 k ⟨l.val, by omega⟩)) * Ideal.ofBits .f32 0x3E000000#32 := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where4 t
  let j : Fin 512 := ⟨r.val % 512, by omega⟩
  have he : (((cfg0.win 4).blk t).view.emb (ix2 j l) : S1024x1024.Idx) = ix2 r l := by
    funext a; apply Fin.ext
    match a with
    | ⟨0, _⟩ => show win0_4.index t (0 : Fin 2) * 512 + 1 * (r.val % 512) = r.val; omega
    | ⟨1, _⟩ => show win0_4.index t (1 : Fin 2) * 1024 + 1 * l.val = l.val; omega
  have hb := congrFun (Value.blocks4 m c t hf) (ix2 j l)
  have hl : ((dats m 0 c).arrAt 4 cfg0.N : FVec Ideal S1024x1024 .bf16) (ix2 r l)
      = ((cfg0.win 4).blk t).view.read (Elt Ideal) ((dats m 0 c).arrAt 4 cfg0.N) (ix2 j l) := by
    show _ = ((dats m 0 c).arrAt 4 cfg0.N : FVec Ideal S1024x1024 .bf16) (((cfg0.win 4).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed4]
  refine (queries_out (iblk m c 0 t) (iblk m c 1 t) (iblk m c 2 t) (iblk m c 3 t) j l).trans ?_
  exact congrArg (· * _) (entry_congr hx (fun k => blk1 m c t k) (fun k => blk2 m c t k l))

theorem keyvals_array (r : Fin 1024) (l : Fin 256) :
    ((dats m 0 c).arrAt 5 cfg0.N : FVec Ideal S1024x256 .f32) (ix2 r l)
      = entry (fun k => aX m c (ix3 ⟨r.val / 8, by omega⟩ ⟨r.val % 8, by omega⟩ k)) (fun k => aG m c (ix1 k)) (fun k => aW m c (ix2 k ⟨1024 + l.val, by omega⟩)) := by
  have hlt : r.val / 512 < cfg0.N := by rw [show cfg0.N = 2 from N_0]; omega
  obtain ⟨t, ht⟩ : ∃ t : Fin cfg0.N, t.val = r.val / 512 := ⟨⟨_, hlt⟩, rfl⟩
  obtain ⟨h0, h1, hf⟩ := where5 t
  let j : Fin 512 := ⟨r.val % 512, by omega⟩
  have he : (((cfg0.win 5).blk t).view.emb (ix2 j l) : S1024x256.Idx) = ix2 r l := by
    funext a; apply Fin.ext
    match a with
    | ⟨0, _⟩ => show win0_5.index t (0 : Fin 2) * 512 + 1 * (r.val % 512) = r.val; omega
    | ⟨1, _⟩ => show win0_5.index t (1 : Fin 2) * 256 + 1 * l.val = l.val; omega
  have hb := congrFun (Value.blocks5 m c t hf) (ix2 j l)
  have hl : ((dats m 0 c).arrAt 5 cfg0.N : FVec Ideal S1024x256 .f32) (ix2 r l)
      = ((cfg0.win 5).blk t).view.read (Elt Ideal) ((dats m 0 c).arrAt 5 cfg0.N) (ix2 j l) := by
    show _ = ((dats m 0 c).arrAt 5 cfg0.N : FVec Ideal S1024x256 .f32) (((cfg0.win 5).blk t).view.emb (ix2 j l))
    rw [he]
  have et : at_ t j = r := Fin.ext (by show t.val * 512 + r.val % 512 = r.val; omega)
  have hx : ∀ k, (iblk m c 0 t : Vec Ideal S512x1024 .f32) (ix2 j k) = aX m c (ix3 ⟨r.val / 8, by omega⟩ ⟨r.val % 8, by omega⟩ k) := fun k => by
    refine (blk0 m c t j k).trans ?_
    rw [et]; exact x_at m c r k
  rw [hl, hb, Value.flushed5]
  refine (keyvals_out (iblk m c 0 t) (iblk m c 1 t) (iblk m c 2 t) (iblk m c 3 t) j l).trans ?_
  exact entry_congr hx (fun k => blk1 m c t k) (fun k => blk3 m c t k l)

end Cert.Kernel8Ideal.Proj

namespace Cert.Proof

/-- The projection: kernel and reference end at the same arrays. -/
theorem swa_sample_algebraic : Cert.algebraic_Kernel8Ideal_Reference8Ideal := by
  intro m ρ m' ρ' _ hagree
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N, Cert.Kernel8Ideal.Value.run_blocks (F := Ideal) m ρ, ?_⟩
  refine (θ_run _ _ _).mono (fun _ h c => ?_) (Cert.Reference8Ideal.Value.run (F := Ideal) m' ρ')
  obtain ⟨h0, h1, hr⟩ := h c
  obtain ⟨e0, e1, e2⟩ := hagree c
  refine ⟨h0.trans ?_, h1.trans ?_, hr⟩
  · rw [e0, e1, e2]
    funext y
    idx_vars y
    refine Eq.trans (b := Cert.Reference8Ideal.Value.queriesT (Cert.Reference8Ideal.Value.projT (Cert.Kernel8Ideal.Proj.aX m c) (Cert.Kernel8Ideal.Proj.aG m c) (Cert.Kernel8Ideal.Proj.aW m c)) (ix2 y0 y1)) rfl ?_
    rw [Cert.Reference8Ideal.Value.queriesT_apply, Cert.Reference8Ideal.Value.projT_apply]
    exact (Cert.Kernel8Ideal.Proj.queries_array m c y0 y1).symm
  · rw [e0, e1, e2]
    funext y
    idx_vars y
    refine Eq.trans (b := Cert.Reference8Ideal.Value.keyvalsT (Cert.Reference8Ideal.Value.projT (Cert.Kernel8Ideal.Proj.aX m c) (Cert.Kernel8Ideal.Proj.aG m c) (Cert.Kernel8Ideal.Proj.aW m c)) (ix2 y0 y1)) rfl ?_
    rw [Cert.Reference8Ideal.Value.keyvalsT_apply, Cert.Reference8Ideal.Value.projT_apply]
    exact (Cert.Kernel8Ideal.Proj.keyvals_array m c y0 y1).symm

end Cert.Proof

end
-- ==== Proof.OutValue.lean ====
/-
  The output projection of the prompt batch: the reference's composed term at an index, the kernel's blocks and the array it
  leaves, and the claim.
-/
module

public import proofs.«01_k».proof.Defs
public import proofs.«01_k».proof.Proof.ProjMath
public import proofs.«01_k».proof.Proof.Gen.Reference9Ideal.Run
public import proofs.«01_k».proof.Proof.Gen.Kernel9Ideal.Value
public import Idealize.ShloMosaic.Lib.Pointwise

@[expose] public section

noncomputable section

open Idealize.ShloMosaic Idealize.ShloMosaic.TcCoe Idealize.SL.Sem

/-! ## The reference -/

namespace Cert.Reference9Ideal.Value

open Cert.Reference9Ideal Cert.Reference9Ideal.Gen Cert.ProjMath

/-- The projected heads. -/
def mixT (o : FVec Ideal S8x1024x2048 .f32) (w : FVec Ideal S1024x1024 .f32) : FVec Ideal S8x2048x1024 .f32 :=
  Host.dotGeneral dot_S8x2048x1024_S1024x1024_S8x2048x1024_2_0_01_1_n_n none (transpose S8x2048x1024 [0, 2, 1] o transposes_S8x1024x2048_S8x2048x1024_0_2_1) w

/-- The result: the residual plus the normalised projection. -/
def resT (p : FVec Ideal S8x2048x1024 .f32) (g : FVec Ideal S1024 .f32) (x : FVec Ideal S8x2048x1024 .f32) : FVec Ideal S8x2048x1024 .f32 :=
  addf x (mulf (mulf p (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf p p) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g)))

theorem mixT_apply (o : FVec Ideal S8x1024x2048 .f32) (w : FVec Ideal S1024x1024 .f32) (b : Fin 8) (s : Fin 2048) (l : Fin 1024) :
    mixT o w (ix3 b s l) = ∑ k : Fin 1024, o (ix3 b k s) * w (ix2 k l) := by
  pointwise [mixT]

theorem resT_apply (p : FVec Ideal S8x2048x1024 .f32) (g : FVec Ideal S1024 .f32) (x : FVec Ideal S8x2048x1024 .f32) (b : Fin 8) (s : Fin 2048) (l : Fin 1024) :
    resT p g x (ix3 b s l) = x (ix3 b s l) + unit (fun l => p (ix3 b s l)) (fun l => g (ix1 l)) l := by
  unfold unit
  pointwise [resT]

end Cert.Reference9Ideal.Value

/-! ## The kernel -/

namespace Cert.Kernel9Ideal.Proj

open Cert.Kernel9Ideal Cert.Kernel9Ideal.Gen Cert.ProjMath

theorem zero2 : (![0, 0] : Fin 2 → ℕ) = fun _ => 0 := by funext a; fin_cases a <;> rfl
theorem zero3 : (![0, 0, 0] : Fin 3 → ℕ) = fun _ => 0 := by funext a; fin_cases a <;> rfl

theorem out_pay (x0 : Vec Ideal S1x1024x128 .bf16) (x1 : Vec Ideal S1024x1024 .bf16) (x3 : Vec Ideal S1x128x1024 .f32) (x2 : Vec Ideal S1x1024 .f32)
    (j : Fin 128) (l : Fin 1024) :
    k0_pay1 x0 x1 x3 x2 (ix3 0 j l)
      = x3 (ix3 0 j l) + unit (fun l => ∑ k : Fin 1024, x0 (ix3 0 k j) * x1 (ix2 k l)) (fun l => x2 (ix2 0 l)) l := by
  unfold unit
  pointwise [k0_pay1]

theorem out_out (x0 : Vec Ideal S1x1024x128 .bf16) (x1 : Vec Ideal S1024x1024 .bf16) (x2 : Vec Ideal S1x1024 .f32) (x3 : Vec Ideal S1x128x1024 .f32)
    (j : Fin 128) (l : Fin 1024) :
    out0_4 x0 x1 x2 x3 (ix3 0 j l)
      = x3 (ix3 0 j l) + unit (fun l => ∑ k : Fin 1024, x0 (ix3 0 k j) * x1 (ix2 k l)) (fun l => x2 (ix2 0 l)) l := by
  have z0 : View.ld x0 r0_0 = x0 := View.ld_unit_zero (S := S1x1024x128) zero3 _ _
  have z1 : View.ld x1 r0_1 = x1 := View.ld_unit_zero (S := S1024x1024) zero2 _ _
  have z2 : View.ld x2 r0_3 = x2 := View.ld_unit_zero (S := S1x1024) zero2 _ _
  have z3 : View.ld x3 r0_2 = x3 := View.ld_unit_zero (S := S1x128x1024) zero3 _ _
  unfold out0_4
  rw [z0, z1, z2, z3]
  exact (congrFun (View.canon_unit_zero (S := S1x128x1024) zero3 _ _) _).trans (out_pay x0 x1 x3 x2 j l)

variable (m : (ℓ : Loc nD τ sig) → Buf (Elt Ideal) ℓ) (c : Dev nD)

/-- The argument arrays, named. -/
abbrev aO : FVec Ideal S8x1024x2048 .f32 := m ((c : Thread nD τ).loc main_arg0)
abbrev aW : FVec Ideal S1024x1024 .f32 := m ((c : Thread nD τ).loc main_arg1)
abbrev aG : FVec Ideal S1024 .f32 := m ((c : Thread nD τ).loc main_arg2)
abbrev aX : FVec Ideal S8x2048x1024 .f32 := m ((c : Thread nD τ).loc main_arg3)

theorem o_at (b : Fin 8) (k : Fin 1024) (s : Fin 2048) : (V m c main_v0 : FVec Ideal S8x1024x2048 .bf16) (ix3 b k s) = aO m c (ix3 b k s) := by
  unfold_abbrev_sides
  after_results
  pointwise []

theorem w_at (k l : Fin 1024) : (V m c main_v1 : FVec Ideal S1024x1024 .bf16) (ix2 k l) = aW m c (ix2 k l) := by
  unfold_abbrev_sides
  after_results
  pointwise []

theorem gain_at (l : Fin 1024) : (V m c main_v2 : FVec Ideal S1x1024 .f32) (ix2 0 l) = aG m c (ix1 l) := by
  unfold_abbrev_sides
  after_results
  pointwise []

theorem where0 : ∀ t : Fin cfg0.N, win0_0.index t (0 : Fin 3) = t.val / 16 ∧ win0_0.index t (1 : Fin 3) = 0 ∧ win0_0.index t (2 : Fin 3) = t.val % 16 :=
  (by decide +kernel : ∀ t : Fin grid0.N, _)
theorem where1 : ∀ t : Fin cfg0.N, win0_1.index t (0 : Fin 2) = 0 ∧ win0_1.index t (1 : Fin 2) = 0 :=
  (by decide +kernel : ∀ t : Fin grid0.N, _)
theorem where2 : ∀ t : Fin cfg0.N, win0_2.index t (0 : Fin 2) = 0 ∧ win0_2.index t (1 : Fin 2) = 0 :=
  (by decide +kernel : ∀ t : Fin grid0.N, _)
theorem where3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)
theorem where4 : ∀ t : Fin cfg0.N, win0_4.index t (0 : Fin 3) = t.val / 16 ∧ win0_4.index t (1 : Fin 3) = t.val % 16 ∧ win0_4.index t (2 : Fin 3) = 0 ∧ (cfg0.win 4).flush t = true :=
  (by decide +kernel : ∀ t : Fin grid0.N, _)

theorem points (t : Fin cfg0.N) : t.val < 128 := lt_of_lt_of_eq t.isLt (show cfg0.N = 128 from N_0)

/-- The batch entry of a grid point. -/
def batch (t : Fin cfg0.N) : Fin 8 := ⟨t.val / 16, by have := points t; omega⟩
/-- The position of a grid point's row. -/
def at_ (t : Fin cfg0.N) (j : Fin 128) : Fin 2048 := ⟨t.val % 16 * 128 + j.val, by omega⟩

theorem blk0 (t : Fin cfg0.N) (k : Fin 1024) (j : Fin 128) :
    (iblk m c 0 t : Vec Ideal S1x1024x128 .bf16) (ix3 0 k j) = aO m c (ix3 (batch t) k (at_ t j)) := by
  obtain ⟨h0, h1, h2⟩ := where0 t
  have e : (((cfg0.win 0).blk t).view.emb (ix3 0 k j) : S8x1024x2048.Idx) = ix3 (batch t) k (at_ t j) := by
    funext a; apply Fin.ext
    match a with
    | ⟨0, _⟩ => show win0_0.index t (0 : Fin 3) * 1 + 1 * 0 = t.val / 16; omega
    | ⟨1, _⟩ => show win0_0.index t (1 : Fin 3) * 1024 + 1 * k.val = k.val; omega
    | ⟨2, _⟩ => show win0_0.index t (2 : Fin 3) * 128 + 1 * j.val = t.val % 16 * 128 + j.val; omega
  show (V m c main_v0 : FVec Ideal S8x1024x2048 .bf16) (((cfg0.win 0).blk t).view.emb (ix3 0 k j)) = _
  rw [e]
  exact o_at m c _ _ _

theorem blk1 (t : Fin cfg0.N) (k l : Fin 1024) : (iblk m c 1 t : Vec Ideal S1024x1024 .bf16) (ix2 k l) = aW m c (ix2 k l) := by
  obtain ⟨h0, h1⟩ := where1 t
  have e : (((cfg0.win 1).blk t).view.emb (ix2 k l) : S1024x1024.Idx) = ix2 k l := by
    funext a; apply Fin.ext
    match a with
    | ⟨0, _⟩ => show win0_1.index t (0 : Fin 2) * 1024 + 1 * k.val = k.val; omega
    | ⟨1, _⟩ => show win0_1.index t (1 : Fin 2) * 1024 + 1 * l.val = l.val; omega
  show (V m c main_v1 : FVec Ideal S1024x1024 .bf16) (((cfg0.win 1).blk t).view.emb (ix2 k l)) = _
  rw [e]
  exact w_at m c k l

theorem blk2 (t : Fin cfg0.N) (l : Fin 1024) : (iblk m c 2 t : Vec Ideal S1x1024 .f32) (ix2 0 l) = aG m c (ix1 l) := by
  obtain ⟨h0, h1⟩ := where2 t
  have e : (((cfg0.win 2).blk t).view.emb (ix2 0 l) : S1x1024.Idx) = ix2 0 l := by
    funext a; apply Fin.ext
    match a with
    | ⟨0, _⟩ => show win0_2.index t (0 : Fin 2) * 1 + 1 * 0 = 0; omega
    | ⟨1, _⟩ => show win0_2.index t (1 : Fin 2) * 1024 + 1 * l.val = l.val; omega
  show (V m c main_v2 : FVec Ideal S1x1024 .f32) (((cfg0.win 2).blk t).view.emb (ix2 0 l)) = _
  rw [e]
  exact gain_at m c l

theorem blk3 (t : Fin cfg0.N) (j : Fin 128) (l : Fin 1024) :
    (iblk m c 3 t : Vec Ideal S1x128x1024 .f32) (ix3 0 j l) = aX m c (ix3 (batch t) (at_ t j) l) := by
  obtain ⟨h0, h1, h2⟩ := where3 t
  have e : (((cfg0.win 3).blk t).view.emb (ix3 0 j l) : S8x2048x1024.Idx) = ix3 (batch t) (at_ t j) l := by
    funext a; apply Fin.ext
    match a with
    | ⟨0, _⟩ => show win0_3.index t (0 : Fin 3) * 1 + 1 * 0 = t.val / 16; omega
    | ⟨1, _⟩ => show win0_3.index t (1 : Fin 3) * 128 + 1 * j.val = t.val % 16 * 128 + j.val; omega
    | ⟨2, _⟩ => show win0_3.index t (2 : Fin 3) * 1024 + 1 * l.val = l.val; omega
  show (V m c main_arg3 : FVec Ideal S8x2048x1024 .f32) (((cfg0.win 3).blk t).view.emb (ix3 0 j l)) = _
  rw [e, V_main_arg3]

theorem out_array (b : Fin 8) (s : Fin 2048) (l : Fin 1024) :
    ((dats m 0 c).arrAt 4 cfg0.N : FVec Ideal S8x2048x1024 .f32) (ix3 b s l)
      = aX m c (ix3 b s l) + unit (fun l => ∑ k : Fin 1024, aO m c (ix3 b k s) * aW m c (ix2 k l)) (fun l => aG m c (ix1 l)) l := by
  have hlt : b.val * 16 + s.val / 128 < cfg0.N := by rw [show cfg0.N = 128 from N_0]; omega
  obtain ⟨t, ht⟩ : ∃ t : Fin cfg0.N, t.val = b.val * 16 + s.val / 128 := ⟨⟨_, hlt⟩, rfl⟩
  obtain ⟨h0, h1, h2, hf⟩ := where4 t
  let j : Fin 128 := ⟨s.val % 128, by omega⟩
  have he : (((cfg0.win 4).blk t).view.emb (ix3 0 j l) : S8x2048x1024.Idx) = ix3 b s l := by
    funext a; apply Fin.ext
    match a with
    | ⟨0, _⟩ => show win0_4.index t (0 : Fin 3) * 1 + 1 * 0 = b.val; omega
    | ⟨1, _⟩ => show win0_4.index t (1 : Fin 3) * 128 + 1 * (s.val % 128) = s.val; omega
    | ⟨2, _⟩ => show win0_4.index t (2 : Fin 3) * 1024 + 1 * l.val = l.val; omega
  have hb := congrFun (Value.blocks4 m c t hf) (ix3 0 j l)
  have hl : ((dats m 0 c).arrAt 4 cfg0.N : FVec Ideal S8x2048x1024 .f32) (ix3 b s l)
      = ((cfg0.win 4).blk t).view.read (Elt Ideal) ((dats m 0 c).arrAt 4 cfg0.N) (ix3 0 j l) := by
    show _ = ((dats m 0 c).arrAt 4 cfg0.N : FVec Ideal S8x2048x1024 .f32) (((cfg0.win 4).blk t).view.emb (ix3 0 j l))
    rw [he]
  have eb : batch t = b := Fin.ext (by show t.val / 16 = b.val; omega)
  have et : at_ t j = s := Fin.ext (by show t.val % 16 * 128 + s.val % 128 = s.val; omega)
  rw [hl, hb, Value.flushed4]
  refine (out_out (iblk m c 0 t) (iblk m c 1 t) (iblk m c 2 t) (iblk m c 3 t) j l).trans ?_
  rw [blk3 m c t j l, eb, et]
  exact congrArg (_ + ·) (congrArg₂ (fun p g => unit p g l)
    (funext fun l => Finset.sum_congr rfl fun k _ => congrArg₂ (· * ·) ((blk0 m c t k j).trans (by rw [eb, et])) (blk1 m c t k l))
    (funext fun l => blk2 m c t l))

end Cert.Kernel9Ideal.Proj

namespace Cert.Proof

/-- The output projection: kernel and reference end at the same array. -/
theorem out_algebraic : Cert.algebraic_Kernel9Ideal_Reference9Ideal := by
  intro m ρ m' ρ' _ hagree
  refine ⟨fun c => (Cert.Kernel9Ideal.Gen.dats m 0 c).arrAt 4 Cert.Kernel9Ideal.cfg0.N, Cert.Kernel9Ideal.Value.run_blocks (F := Ideal) m ρ, ?_⟩
  refine (θ_run _ _ _).mono (fun _ h c => ?_) (Cert.Reference9Ideal.Value.run (F := Ideal) m' ρ')
  obtain ⟨h0, hr⟩ := h c
  obtain ⟨e0, e1, e2, e3⟩ := hagree c
  refine ⟨h0.trans ?_, hr⟩
  rw [e0, e1, e2, e3]
  funext y
  idx_vars y
  refine Eq.trans (b := Cert.Reference9Ideal.Value.resT (Cert.Reference9Ideal.Value.mixT (Cert.Kernel9Ideal.Proj.aO m c) (Cert.Kernel9Ideal.Proj.aW m c))
    (Cert.Kernel9Ideal.Proj.aG m c) (Cert.Kernel9Ideal.Proj.aX m c) (ix3 y0 y1 y2)) rfl ?_
  rw [Cert.Reference9Ideal.Value.resT_apply]
  simp only [Cert.Reference9Ideal.Value.mixT_apply]
  exact (Cert.Kernel9Ideal.Proj.out_array m c y0 y1 y2).symm

end Cert.Proof

end
-- ==== Proof.lean ====
module

public import proofs.«01_k».proof.Defs
public import proofs.«01_k».proof.Proof.FramesFfn
public import proofs.«01_k».proof.Proof.FfnValue
public import proofs.«01_k».proof.Proof.FramesSwa
public import proofs.«01_k».proof.Proof.SwaValue
public import proofs.«01_k».proof.Proof.FramesProj
public import proofs.«01_k».proof.Proof.NsaPromptValue
public import proofs.«01_k».proof.Proof.MobaPromptValue
public import proofs.«01_k».proof.Proof.SwaPromptValue
public import proofs.«01_k».proof.Proof.NsaSampleValue
public import proofs.«01_k».proof.Proof.MobaSampleValue
public import proofs.«01_k».proof.Proof.SwaSampleValue
public import proofs.«01_k».proof.Proof.OutValue
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  trivial, swa_algebraic, trivial, ffn_algebraic,
  trivial, nsa_prompt_algebraic,
  trivial, moba_prompt_algebraic,
  trivial, swa_prompt_algebraic,
  trivial, nsa_sample_algebraic,
  trivial, moba_sample_algebraic,
  trivial, swa_sample_algebraic,
  trivial, out_algebraic⟩

end Cert.Proof

end
